-- ==== Defs.lean ====
def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjIdeal_finite_inputs [hPre_finite_inputs : Cert.Pre_finite_inputs.Facts] (m : (ℓ : Loc Cert.ProjIdeal.nD Cert.ProjIdeal.τ Cert.ProjIdeal.sig) → Buf (Elt Ideal) ℓ) : Prop :=
  ∀ c : Dev Cert.ProjIdeal.nD,
    (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.1 = (fun _ => 1#1)
    ∧ (Cert.Pre_finite_inputs.fn (F := Ideal) (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (m ((c.tc : Thread Cert.ProjIdeal.nD Cert.ProjIdeal.τ).loc Cert.ProjIdeal.main_arg2)) (m ((c.tc : Thread Cert.ProjIdeal.nD Cert.ProjIdeal.τ).loc Cert.ProjIdeal.main_arg3)) (m ((c.tc : Thread Cert.ProjIdeal.nD Cert.ProjIdeal.τ).loc Cert.ProjIdeal.main_arg4)) (m ((c.tc : Thread Cert.ProjIdeal.nD Cert.ProjIdeal.τ).loc Cert.ProjIdeal.main_arg5)) (m ((c.tc : Thread Cert.ProjIdeal.nD Cert.ProjIdeal.τ).loc Cert.ProjIdeal.main_arg6)) (m ((c.tc : Thread Cert.ProjIdeal.nD Cert.ProjIdeal.τ).loc Cert.ProjIdeal.main_arg7))).2.2 = (fun _ => 1#1)

def Pre_ProjRefIdeal (m : (ℓ : Loc Cert.ProjRefIdeal.nD Cert.ProjRefIdeal.τ Cert.ProjRefIdeal.sig) → Buf (Elt Ideal) ℓ) : Prop :=
  True

def Pre_ProjRefIdeal_finite_inputs [hPre_finite_inputs : Cert.Pre_finite_inputs.Facts] (m : (ℓ : Loc Cert.ProjRefIdeal.nD Cert.ProjRefIdeal.τ Cert.ProjRefIdeal.sig) → Buf (Elt Ideal) ℓ) : Prop :=
  ∀ c : Dev Cert.ProjRefIdeal.nD,
    (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).1 = (fun _ => 1#1)
    ∧ (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).2.1 = (fun _ => 1#1)
    ∧ (Cert.Pre_finite_inputs.fn (F := Ideal) (m ((c.tc : Thread Cert.ProjRefIdeal.nD Cert.ProjRefIdeal.τ).loc Cert.ProjRefIdeal.main_arg0)) (m ((c.tc : Thread Cert.ProjRefIdeal.nD Cert.ProjRefIdeal.τ).loc Cert.ProjRefIdeal.main_arg1)) (m ((c.tc : Thread Cert.ProjRefIdeal.nD Cert.ProjRefIdeal.τ).loc Cert.ProjRefIdeal.main_arg2)) (m ((c.tc : Thread Cert.ProjRefIdeal.nD Cert.ProjRefIdeal.τ).loc Cert.ProjRefIdeal.main_arg3)) (m ((c.tc : Thread Cert.ProjRefIdeal.nD Cert.ProjRefIdeal.τ).loc Cert.ProjRefIdeal.main_arg4)) (m ((c.tc : Thread Cert.ProjRefIdeal.nD Cert.ProjRefIdeal.τ).loc Cert.ProjRefIdeal.main_arg5)) (m ((c.tc : Thread Cert.ProjRefIdeal.nD Cert.ProjRefIdeal.τ).loc Cert.ProjRefIdeal.main_arg6)) (m ((c.tc : Thread Cert.ProjRefIdeal.nD Cert.ProjRefIdeal.τ).loc Cert.ProjRefIdeal.main_arg7))).2.2 = (fun _ => 1#1)

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def Pre_ScanRefIdeal (m : (ℓ : Loc Cert.ScanRefIdeal.nD Cert.ScanRefIdeal.τ Cert.ScanRefIdeal.sig) → Buf (Elt Ideal) ℓ) : Prop :=
  True

def Pre_Mod (m : (ℓ : Loc Cert.Mod.nD Cert.Mod.τ Cert.Mod.sig) → Buf (Elt Bits) ℓ) : Prop :=
  True

def Pre_ModIdeal (m : (ℓ : Loc Cert.ModIdeal.nD Cert.ModIdeal.τ Cert.ModIdeal.sig) → Buf (Elt Ideal) ℓ) : Prop :=
  True

def Pre_ModRefIdeal (m : (ℓ : Loc Cert.ModRefIdeal.nD Cert.ModRefIdeal.τ Cert.ModRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepRefIdeal (m : (ℓ : Loc Cert.PrepRefIdeal.nD Cert.PrepRefIdeal.τ Cert.PrepRefIdeal.sig) → Buf (Elt Ideal) ℓ) : Prop :=
  True

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12)
      ∧ r.2.mem ((c.tc : Thread Cert.Merge.nD Cert.Merge.τ).loc Cert.Merge.main_arg13) = m ((c.tc : Thread Cert.Merge.nD Cert.Merge.τ).loc Cert.Merge.main_arg13)
      ∧ r.2.mem ((c.tc : Thread Cert.Merge.nD Cert.Merge.τ).loc Cert.Merge.main_arg14) = m ((c.tc : Thread Cert.Merge.nD Cert.Merge.τ).loc Cert.Merge.main_arg14))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
      ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
      ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5)
      ∧ r.2.mem ((c.tc : Thread Cert.MergeRefIdeal.nD Cert.MergeRefIdeal.τ).loc Cert.MergeRefIdeal.main_arg6) = m ((c.tc : Thread Cert.MergeRefIdeal.nD Cert.MergeRefIdeal.τ).loc Cert.MergeRefIdeal.main_arg6)
      ∧ r.2.mem ((c.tc : Thread Cert.MergeRefIdeal.nD Cert.MergeRefIdeal.τ).loc Cert.MergeRefIdeal.main_arg7) = m ((c.tc : Thread Cert.MergeRefIdeal.nD Cert.MergeRefIdeal.τ).loc Cert.MergeRefIdeal.main_arg7)
      ∧ r.2.mem ((c.tc : Thread Cert.MergeRefIdeal.nD Cert.MergeRefIdeal.τ).loc Cert.MergeRefIdeal.main_arg8) = m ((c.tc : Thread Cert.MergeRefIdeal.nD Cert.MergeRefIdeal.τ).loc Cert.MergeRefIdeal.main_arg8)
      ∧ r.2.mem ((c.tc : Thread Cert.MergeRefIdeal.nD Cert.MergeRefIdeal.τ).loc Cert.MergeRefIdeal.main_arg9) = m ((c.tc : Thread Cert.MergeRefIdeal.nD Cert.MergeRefIdeal.τ).loc Cert.MergeRefIdeal.main_arg9)
      ∧ r.2.mem ((c.tc : Thread Cert.MergeRefIdeal.nD Cert.MergeRefIdeal.τ).loc Cert.MergeRefIdeal.main_arg10) = m ((c.tc : Thread Cert.MergeRefIdeal.nD Cert.MergeRefIdeal.τ).loc Cert.MergeRefIdeal.main_arg10)
      ∧ r.2.mem ((c.tc : Thread Cert.MergeRefIdeal.nD Cert.MergeRefIdeal.τ).loc Cert.MergeRefIdeal.main_arg11) = m ((c.tc : Thread Cert.MergeRefIdeal.nD Cert.MergeRefIdeal.τ).loc Cert.MergeRefIdeal.main_arg11)
      ∧ r.2.mem ((c.tc : Thread Cert.MergeRefIdeal.nD Cert.MergeRefIdeal.τ).loc Cert.MergeRefIdeal.main_arg12) = m ((c.tc : Thread Cert.MergeRefIdeal.nD Cert.MergeRefIdeal.τ).loc Cert.MergeRefIdeal.main_arg12)
      ∧ r.2.mem ((c.tc : Thread Cert.MergeRefIdeal.nD Cert.MergeRefIdeal.τ).loc Cert.MergeRefIdeal.main_arg13) = m ((c.tc : Thread Cert.MergeRefIdeal.nD Cert.MergeRefIdeal.τ).loc Cert.MergeRefIdeal.main_arg13)
      ∧ r.2.mem ((c.tc : Thread Cert.MergeRefIdeal.nD Cert.MergeRefIdeal.τ).loc Cert.MergeRefIdeal.main_arg14) = m ((c.tc : Thread Cert.MergeRefIdeal.nD Cert.MergeRefIdeal.τ).loc Cert.MergeRefIdeal.main_arg14))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjIdeal_pre_finite_inputs [hProjIdeal : Cert.ProjIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal_finite_inputs m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_ProjRefIdeal_pre_finite_inputs [hProjRefIdeal : Cert.ProjRefIdeal.Facts] [hPre_finite_inputs : Cert.Pre_finite_inputs.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal_finite_inputs m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1)
      ∧ r.2.mem ((c.tc : Thread Cert.ProjRefIdeal.nD Cert.ProjRefIdeal.τ).loc Cert.ProjRefIdeal.main_arg2) = m ((c.tc : Thread Cert.ProjRefIdeal.nD Cert.ProjRefIdeal.τ).loc Cert.ProjRefIdeal.main_arg2)
      ∧ r.2.mem ((c.tc : Thread Cert.ProjRefIdeal.nD Cert.ProjRefIdeal.τ).loc Cert.ProjRefIdeal.main_arg3) = m ((c.tc : Thread Cert.ProjRefIdeal.nD Cert.ProjRefIdeal.τ).loc Cert.ProjRefIdeal.main_arg3)
      ∧ r.2.mem ((c.tc : Thread Cert.ProjRefIdeal.nD Cert.ProjRefIdeal.τ).loc Cert.ProjRefIdeal.main_arg4) = m ((c.tc : Thread Cert.ProjRefIdeal.nD Cert.ProjRefIdeal.τ).loc Cert.ProjRefIdeal.main_arg4)
      ∧ r.2.mem ((c.tc : Thread Cert.ProjRefIdeal.nD Cert.ProjRefIdeal.τ).loc Cert.ProjRefIdeal.main_arg5) = m ((c.tc : Thread Cert.ProjRefIdeal.nD Cert.ProjRefIdeal.τ).loc Cert.ProjRefIdeal.main_arg5)
      ∧ r.2.mem ((c.tc : Thread Cert.ProjRefIdeal.nD Cert.ProjRefIdeal.τ).loc Cert.ProjRefIdeal.main_arg6) = m ((c.tc : Thread Cert.ProjRefIdeal.nD Cert.ProjRefIdeal.τ).loc Cert.ProjRefIdeal.main_arg6)
      ∧ r.2.mem ((c.tc : Thread Cert.ProjRefIdeal.nD Cert.ProjRefIdeal.τ).loc Cert.ProjRefIdeal.main_arg7) = m ((c.tc : Thread Cert.ProjRefIdeal.nD Cert.ProjRefIdeal.τ).loc Cert.ProjRefIdeal.main_arg7))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ r.2.sem = fun _ => 0)

def quiescent_ScanRefIdeal [hScanRefIdeal : Cert.ScanRefIdeal.Facts] : Prop :=
  ∀ (m : (ℓ : Loc Cert.ScanRefIdeal.nD Cert.ScanRefIdeal.τ Cert.ScanRefIdeal.sig) → Buf (Elt Ideal) ℓ) (g : Dev Cert.ScanRefIdeal.nD → PrngReg), Pre_ScanRefIdeal m →
    θ_run (Cert.ScanRefIdeal.defs (F := Ideal)) (onTc (τ := Cert.ScanRefIdeal.τ) (Cert.ScanRefIdeal.main (F := Ideal))) ⟨m, fun _ => 0, g⟩ (fun r => (∀ c : Dev Cert.ScanRefIdeal.nD,
      r.2.mem ((c.tc : Thread Cert.ScanRefIdeal.nD Cert.ScanRefIdeal.τ).loc Cert.ScanRefIdeal.main_arg0) = m ((c.tc : Thread Cert.ScanRefIdeal.nD Cert.ScanRefIdeal.τ).loc Cert.ScanRefIdeal.main_arg0)
      ∧ r.2.mem ((c.tc : Thread Cert.ScanRefIdeal.nD Cert.ScanRefIdeal.τ).loc Cert.ScanRefIdeal.main_arg1) = m ((c.tc : Thread Cert.ScanRefIdeal.nD Cert.ScanRefIdeal.τ).loc Cert.ScanRefIdeal.main_arg1)
      ∧ r.2.mem ((c.tc : Thread Cert.ScanRefIdeal.nD Cert.ScanRefIdeal.τ).loc Cert.ScanRefIdeal.main_arg2) = m ((c.tc : Thread Cert.ScanRefIdeal.nD Cert.ScanRefIdeal.τ).loc Cert.ScanRefIdeal.main_arg2)
      ∧ r.2.mem ((c.tc : Thread Cert.ScanRefIdeal.nD Cert.ScanRefIdeal.τ).loc Cert.ScanRefIdeal.main_arg3) = m ((c.tc : Thread Cert.ScanRefIdeal.nD Cert.ScanRefIdeal.τ).loc Cert.ScanRefIdeal.main_arg3)
      ∧ r.2.mem ((c.tc : Thread Cert.ScanRefIdeal.nD Cert.ScanRefIdeal.τ).loc Cert.ScanRefIdeal.main_arg4) = m ((c.tc : Thread Cert.ScanRefIdeal.nD Cert.ScanRefIdeal.τ).loc Cert.ScanRefIdeal.main_arg4))
      ∧ r.2.sem = fun _ => 0)

def quiescent_Mod [hMod : Cert.Mod.Facts] : Prop :=
  ∀ (m : (ℓ : Loc Cert.Mod.nD Cert.Mod.τ Cert.Mod.sig) → Buf (Elt Bits) ℓ) (g : Dev Cert.Mod.nD → PrngReg), Pre_Mod m →
    θ_run (Cert.Mod.defs (F := Bits)) (onTc (τ := Cert.Mod.τ) (Cert.Mod.main (F := Bits))) ⟨m, fun _ => 0, g⟩ (fun r => (∀ c : Dev Cert.Mod.nD,
      r.2.mem ((c.tc : Thread Cert.Mod.nD Cert.Mod.τ).loc Cert.Mod.main_arg0) = m ((c.tc : Thread Cert.Mod.nD Cert.Mod.τ).loc Cert.Mod.main_arg0)
      ∧ r.2.mem ((c.tc : Thread Cert.Mod.nD Cert.Mod.τ).loc Cert.Mod.main_arg1) = m ((c.tc : Thread Cert.Mod.nD Cert.Mod.τ).loc Cert.Mod.main_arg1)
      ∧ r.2.mem ((c.tc : Thread Cert.Mod.nD Cert.Mod.τ).loc Cert.Mod.main_arg2) = m ((c.tc : Thread Cert.Mod.nD Cert.Mod.τ).loc Cert.Mod.main_arg2)
      ∧ r.2.mem ((c.tc : Thread Cert.Mod.nD Cert.Mod.τ).loc Cert.Mod.main_arg3) = m ((c.tc : Thread Cert.Mod.nD Cert.Mod.τ).loc Cert.Mod.main_arg3))
      ∧ r.2.sem = fun _ => 0)

def quiescent_ModIdeal [hModIdeal : Cert.ModIdeal.Facts] : Prop :=
  ∀ (m : (ℓ : Loc Cert.ModIdeal.nD Cert.ModIdeal.τ Cert.ModIdeal.sig) → Buf (Elt Ideal) ℓ) (g : Dev Cert.ModIdeal.nD → PrngReg), Pre_ModIdeal m →
    θ_run (Cert.ModIdeal.defs (F := Ideal)) (onTc (τ := Cert.ModIdeal.τ) (Cert.ModIdeal.main (F := Ideal))) ⟨m, fun _ => 0, g⟩ (fun r => (∀ c : Dev Cert.ModIdeal.nD,
      r.2.mem ((c.tc : Thread Cert.ModIdeal.nD Cert.ModIdeal.τ).loc Cert.ModIdeal.main_arg0) = m ((c.tc : Thread Cert.ModIdeal.nD Cert.ModIdeal.τ).loc Cert.ModIdeal.main_arg0)
      ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
      ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
      ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ r.2.sem = fun _ => 0)

def quiescent_ModRefIdeal [hModRefIdeal : Cert.ModRefIdeal.Facts] : Prop :=
  ∀ (m : (ℓ : Loc Cert.ModRefIdeal.nD Cert.ModRefIdeal.τ Cert.ModRefIdeal.sig) → Buf (Elt Ideal) ℓ) (g : Dev Cert.ModRefIdeal.nD → PrngReg), Pre_ModRefIdeal m →
    θ_run (Cert.ModRefIdeal.defs (F := Ideal)) (onTc (τ := Cert.ModRefIdeal.τ) (Cert.ModRefIdeal.main (F := Ideal))) ⟨m, fun _ => 0, g⟩ (fun r => (∀ c : Dev Cert.ModRefIdeal.nD,
      r.2.mem ((c.tc : Thread Cert.ModRefIdeal.nD Cert.ModRefIdeal.τ).loc Cert.ModRefIdeal.main_arg0) = m ((c.tc : Thread Cert.ModRefIdeal.nD Cert.ModRefIdeal.τ).loc Cert.ModRefIdeal.main_arg0)
      ∧ r.2.mem ((c.tc : Thread Cert.ModRefIdeal.nD Cert.ModRefIdeal.τ).loc Cert.ModRefIdeal.main_arg1) = m ((c.tc : Thread Cert.ModRefIdeal.nD Cert.ModRefIdeal.τ).loc Cert.ModRefIdeal.main_arg1)
      ∧ r.2.mem ((c.tc : Thread Cert.ModRefIdeal.nD Cert.ModRefIdeal.τ).loc Cert.ModRefIdeal.main_arg2) = m ((c.tc : Thread Cert.ModRefIdeal.nD Cert.ModRefIdeal.τ).loc Cert.ModRefIdeal.main_arg2)
      ∧ r.2.mem ((c.tc : Thread Cert.ModRefIdeal.nD Cert.ModRefIdeal.τ).loc Cert.ModRefIdeal.main_arg3) = m ((c.tc : Thread Cert.ModRefIdeal.nD Cert.ModRefIdeal.τ).loc Cert.ModRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3))
      ∧ r.2.sem = fun _ => 0)

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)) →
    ∃ (v0 : (c : Dev Cert.FfnIdeal.nD) → Buf (Elt Ideal) ((c.tc : Thread Cert.FfnIdeal.nD Cert.FfnIdeal.τ).loc Cert.FfnIdeal.main_v0)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v0) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v17) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)
      ∧ m' ((c.tc : Thread Cert.MergeRefIdeal.nD Cert.MergeRefIdeal.τ).loc Cert.MergeRefIdeal.main_arg6) = m ((c.tc : Thread Cert.MergeIdeal.nD Cert.MergeIdeal.τ).loc Cert.MergeIdeal.main_arg6)
      ∧ m' ((c.tc : Thread Cert.MergeRefIdeal.nD Cert.MergeRefIdeal.τ).loc Cert.MergeRefIdeal.main_arg7) = m ((c.tc : Thread Cert.MergeIdeal.nD Cert.MergeIdeal.τ).loc Cert.MergeIdeal.main_arg7)
      ∧ m' ((c.tc : Thread Cert.MergeRefIdeal.nD Cert.MergeRefIdeal.τ).loc Cert.MergeRefIdeal.main_arg8) = m ((c.tc : Thread Cert.MergeIdeal.nD Cert.MergeIdeal.τ).loc Cert.MergeIdeal.main_arg8)
      ∧ m' ((c.tc : Thread Cert.MergeRefIdeal.nD Cert.MergeRefIdeal.τ).loc Cert.MergeRefIdeal.main_arg9) = m ((c.tc : Thread Cert.MergeIdeal.nD Cert.MergeIdeal.τ).loc Cert.MergeIdeal.main_arg9)
      ∧ m' ((c.tc : Thread Cert.MergeRefIdeal.nD Cert.MergeRefIdeal.τ).loc Cert.MergeRefIdeal.main_arg10) = m ((c.tc : Thread Cert.MergeIdeal.nD Cert.MergeIdeal.τ).loc Cert.MergeIdeal.main_arg10)
      ∧ m' ((c.tc : Thread Cert.MergeRefIdeal.nD Cert.MergeRefIdeal.τ).loc Cert.MergeRefIdeal.main_arg11) = m ((c.tc : Thread Cert.MergeIdeal.nD Cert.MergeIdeal.τ).loc Cert.MergeIdeal.main_arg11)
      ∧ m' ((c.tc : Thread Cert.MergeRefIdeal.nD Cert.MergeRefIdeal.τ).loc Cert.MergeRefIdeal.main_arg12) = m ((c.tc : Thread Cert.MergeIdeal.nD Cert.MergeIdeal.τ).loc Cert.MergeIdeal.main_arg12)
      ∧ m' ((c.tc : Thread Cert.MergeRefIdeal.nD Cert.MergeRefIdeal.τ).loc Cert.MergeRefIdeal.main_arg13) = m ((c.tc : Thread Cert.MergeIdeal.nD Cert.MergeIdeal.τ).loc Cert.MergeIdeal.main_arg13)
      ∧ m' ((c.tc : Thread Cert.MergeRefIdeal.nD Cert.MergeRefIdeal.τ).loc Cert.MergeRefIdeal.main_arg14) = m ((c.tc : Thread Cert.MergeIdeal.nD Cert.MergeIdeal.τ).loc Cert.MergeIdeal.main_arg14)) →
    ∃ (v0 : (c : Dev Cert.MergeIdeal.nD) → Buf (Elt Ideal) ((c.tc : Thread Cert.MergeIdeal.nD Cert.MergeIdeal.τ).loc Cert.MergeIdeal.main_v8_0)) (v1 : (c : Dev Cert.MergeIdeal.nD) → Buf (Elt Ideal) ((c.tc : Thread Cert.MergeIdeal.nD Cert.MergeIdeal.τ).loc Cert.MergeIdeal.main_v8_1)) (v2 : (c : Dev Cert.MergeIdeal.nD) → Buf (Elt Ideal) ((c.tc : Thread Cert.MergeIdeal.nD Cert.MergeIdeal.τ).loc Cert.MergeIdeal.main_v8_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v8_0) = v0 c
          ∧ r.2.mem ((c.tc : Thread Cert.MergeIdeal.nD Cert.MergeIdeal.τ).loc Cert.MergeIdeal.main_v8_1) = v1 c
          ∧ r.2.mem ((c.tc : Thread Cert.MergeIdeal.nD Cert.MergeIdeal.τ).loc Cert.MergeIdeal.main_v8_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12)
          ∧ r.2.mem ((c.tc : Thread Cert.MergeIdeal.nD Cert.MergeIdeal.τ).loc Cert.MergeIdeal.main_arg13) = m ((c.tc : Thread Cert.MergeIdeal.nD Cert.MergeIdeal.τ).loc Cert.MergeIdeal.main_arg13)
          ∧ r.2.mem ((c.tc : Thread Cert.MergeIdeal.nD Cert.MergeIdeal.τ).loc Cert.MergeIdeal.main_arg14) = m ((c.tc : Thread Cert.MergeIdeal.nD Cert.MergeIdeal.τ).loc Cert.MergeIdeal.main_arg14))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v69) = v0 c
          ∧ r.2.mem ((c.tc : Thread Cert.MergeRefIdeal.nD Cert.MergeRefIdeal.τ).loc Cert.MergeRefIdeal.main_v99) = v1 c
          ∧ r.2.mem ((c.tc : Thread Cert.MergeRefIdeal.nD Cert.MergeRefIdeal.τ).loc Cert.MergeRefIdeal.main_v100) = v2 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5)
          ∧ r.2.mem ((c.tc : Thread Cert.MergeRefIdeal.nD Cert.MergeRefIdeal.τ).loc Cert.MergeRefIdeal.main_arg6) = m' ((c.tc : Thread Cert.MergeRefIdeal.nD Cert.MergeRefIdeal.τ).loc Cert.MergeRefIdeal.main_arg6)
          ∧ r.2.mem ((c.tc : Thread Cert.MergeRefIdeal.nD Cert.MergeRefIdeal.τ).loc Cert.MergeRefIdeal.main_arg7) = m' ((c.tc : Thread Cert.MergeRefIdeal.nD Cert.MergeRefIdeal.τ).loc Cert.MergeRefIdeal.main_arg7)
          ∧ r.2.mem ((c.tc : Thread Cert.MergeRefIdeal.nD Cert.MergeRefIdeal.τ).loc Cert.MergeRefIdeal.main_arg8) = m' ((c.tc : Thread Cert.MergeRefIdeal.nD Cert.MergeRefIdeal.τ).loc Cert.MergeRefIdeal.main_arg8)
          ∧ r.2.mem ((c.tc : Thread Cert.MergeRefIdeal.nD Cert.MergeRefIdeal.τ).loc Cert.MergeRefIdeal.main_arg9) = m' ((c.tc : Thread Cert.MergeRefIdeal.nD Cert.MergeRefIdeal.τ).loc Cert.MergeRefIdeal.main_arg9)
          ∧ r.2.mem ((c.tc : Thread Cert.MergeRefIdeal.nD Cert.MergeRefIdeal.τ).loc Cert.MergeRefIdeal.main_arg10) = m' ((c.tc : Thread Cert.MergeRefIdeal.nD Cert.MergeRefIdeal.τ).loc Cert.MergeRefIdeal.main_arg10)
          ∧ r.2.mem ((c.tc : Thread Cert.MergeRefIdeal.nD Cert.MergeRefIdeal.τ).loc Cert.MergeRefIdeal.main_arg11) = m' ((c.tc : Thread Cert.MergeRefIdeal.nD Cert.MergeRefIdeal.τ).loc Cert.MergeRefIdeal.main_arg11)
          ∧ r.2.mem ((c.tc : Thread Cert.MergeRefIdeal.nD Cert.MergeRefIdeal.τ).loc Cert.MergeRefIdeal.main_arg12) = m' ((c.tc : Thread Cert.MergeRefIdeal.nD Cert.MergeRefIdeal.τ).loc Cert.MergeRefIdeal.main_arg12)
          ∧ r.2.mem ((c.tc : Thread Cert.MergeRefIdeal.nD Cert.MergeRefIdeal.τ).loc Cert.MergeRefIdeal.main_arg13) = m' ((c.tc : Thread Cert.MergeRefIdeal.nD Cert.MergeRefIdeal.τ).loc Cert.MergeRefIdeal.main_arg13)
          ∧ r.2.mem ((c.tc : Thread Cert.MergeRefIdeal.nD Cert.MergeRefIdeal.τ).loc Cert.MergeRefIdeal.main_arg14) = m' ((c.tc : Thread Cert.MergeRefIdeal.nD Cert.MergeRefIdeal.τ).loc Cert.MergeRefIdeal.main_arg14))

def preserves_Proj_ProjIdeal : Prop :=
  True

def algebraic_ProjIdeal_ProjRefIdeal_pre_finite_inputs [hProjIdeal : Cert.ProjIdeal.Facts] [hProjRefIdeal : Cert.ProjRefIdeal.Facts] [hPre_finite_inputs : Cert.Pre_finite_inputs.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal_finite_inputs m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)
      ∧ m' ((c.tc : Thread Cert.ProjRefIdeal.nD Cert.ProjRefIdeal.τ).loc Cert.ProjRefIdeal.main_arg2) = m ((c.tc : Thread Cert.ProjIdeal.nD Cert.ProjIdeal.τ).loc Cert.ProjIdeal.main_arg2)
      ∧ m' ((c.tc : Thread Cert.ProjRefIdeal.nD Cert.ProjRefIdeal.τ).loc Cert.ProjRefIdeal.main_arg3) = m ((c.tc : Thread Cert.ProjIdeal.nD Cert.ProjIdeal.τ).loc Cert.ProjIdeal.main_arg3)
      ∧ m' ((c.tc : Thread Cert.ProjRefIdeal.nD Cert.ProjRefIdeal.τ).loc Cert.ProjRefIdeal.main_arg4) = m ((c.tc : Thread Cert.ProjIdeal.nD Cert.ProjIdeal.τ).loc Cert.ProjIdeal.main_arg4)
      ∧ m' ((c.tc : Thread Cert.ProjRefIdeal.nD Cert.ProjRefIdeal.τ).loc Cert.ProjRefIdeal.main_arg5) = m ((c.tc : Thread Cert.ProjIdeal.nD Cert.ProjIdeal.τ).loc Cert.ProjIdeal.main_arg5)
      ∧ m' ((c.tc : Thread Cert.ProjRefIdeal.nD Cert.ProjRefIdeal.τ).loc Cert.ProjRefIdeal.main_arg6) = m ((c.tc : Thread Cert.ProjIdeal.nD Cert.ProjIdeal.τ).loc Cert.ProjIdeal.main_arg6)
      ∧ m' ((c.tc : Thread Cert.ProjRefIdeal.nD Cert.ProjRefIdeal.τ).loc Cert.ProjRefIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v38_0)) (v1 : (c : Dev Cert.ProjIdeal.nD) → Buf (Elt Ideal) ((c.tc : Thread Cert.ProjIdeal.nD Cert.ProjIdeal.τ).loc Cert.ProjIdeal.main_v38_1)) (v2 : (c : Dev Cert.ProjIdeal.nD) → Buf (Elt Ideal) ((c.tc : Thread Cert.ProjIdeal.nD Cert.ProjIdeal.τ).loc Cert.ProjIdeal.main_v38_2)) (v3 : (c : Dev Cert.ProjIdeal.nD) → Buf (Elt Ideal) ((c.tc : Thread Cert.ProjIdeal.nD Cert.ProjIdeal.τ).loc Cert.ProjIdeal.main_v38_3)) (v4 : (c : Dev Cert.ProjIdeal.nD) → Buf (Elt Ideal) ((c.tc : Thread Cert.ProjIdeal.nD Cert.ProjIdeal.τ).loc Cert.ProjIdeal.main_v38_4)) (v5 : (c : Dev Cert.ProjIdeal.nD) → Buf (Elt Ideal) ((c.tc : Thread Cert.ProjIdeal.nD Cert.ProjIdeal.τ).loc Cert.ProjIdeal.main_v38_5)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v38_0) = v0 c
          ∧ r.2.mem ((c.tc : Thread Cert.ProjIdeal.nD Cert.ProjIdeal.τ).loc Cert.ProjIdeal.main_v38_1) = v1 c
          ∧ r.2.mem ((c.tc : Thread Cert.ProjIdeal.nD Cert.ProjIdeal.τ).loc Cert.ProjIdeal.main_v38_2) = v2 c
          ∧ r.2.mem ((c.tc : Thread Cert.ProjIdeal.nD Cert.ProjIdeal.τ).loc Cert.ProjIdeal.main_v38_3) = v3 c
          ∧ r.2.mem ((c.tc : Thread Cert.ProjIdeal.nD Cert.ProjIdeal.τ).loc Cert.ProjIdeal.main_v38_4) = v4 c
          ∧ r.2.mem ((c.tc : Thread Cert.ProjIdeal.nD Cert.ProjIdeal.τ).loc Cert.ProjIdeal.main_v38_5) = v5 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v99) = v0 c
          ∧ r.2.mem ((c.tc : Thread Cert.ProjRefIdeal.nD Cert.ProjRefIdeal.τ).loc Cert.ProjRefIdeal.main_v100) = v1 c
          ∧ r.2.mem ((c.tc : Thread Cert.ProjRefIdeal.nD Cert.ProjRefIdeal.τ).loc Cert.ProjRefIdeal.main_v101) = v2 c
          ∧ r.2.mem ((c.tc : Thread Cert.ProjRefIdeal.nD Cert.ProjRefIdeal.τ).loc Cert.ProjRefIdeal.main_v105) = v3 c
          ∧ r.2.mem ((c.tc : Thread Cert.ProjRefIdeal.nD Cert.ProjRefIdeal.τ).loc Cert.ProjRefIdeal.main_v106) = v4 c
          ∧ r.2.mem ((c.tc : Thread Cert.ProjRefIdeal.nD Cert.ProjRefIdeal.τ).loc Cert.ProjRefIdeal.main_v97) = v5 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1)
          ∧ r.2.mem ((c.tc : Thread Cert.ProjRefIdeal.nD Cert.ProjRefIdeal.τ).loc Cert.ProjRefIdeal.main_arg2) = m' ((c.tc : Thread Cert.ProjRefIdeal.nD Cert.ProjRefIdeal.τ).loc Cert.ProjRefIdeal.main_arg2)
          ∧ r.2.mem ((c.tc : Thread Cert.ProjRefIdeal.nD Cert.ProjRefIdeal.τ).loc Cert.ProjRefIdeal.main_arg3) = m' ((c.tc : Thread Cert.ProjRefIdeal.nD Cert.ProjRefIdeal.τ).loc Cert.ProjRefIdeal.main_arg3)
          ∧ r.2.mem ((c.tc : Thread Cert.ProjRefIdeal.nD Cert.ProjRefIdeal.τ).loc Cert.ProjRefIdeal.main_arg4) = m' ((c.tc : Thread Cert.ProjRefIdeal.nD Cert.ProjRefIdeal.τ).loc Cert.ProjRefIdeal.main_arg4)
          ∧ r.2.mem ((c.tc : Thread Cert.ProjRefIdeal.nD Cert.ProjRefIdeal.τ).loc Cert.ProjRefIdeal.main_arg5) = m' ((c.tc : Thread Cert.ProjRefIdeal.nD Cert.ProjRefIdeal.τ).loc Cert.ProjRefIdeal.main_arg5)
          ∧ r.2.mem ((c.tc : Thread Cert.ProjRefIdeal.nD Cert.ProjRefIdeal.τ).loc Cert.ProjRefIdeal.main_arg6) = m' ((c.tc : Thread Cert.ProjRefIdeal.nD Cert.ProjRefIdeal.τ).loc Cert.ProjRefIdeal.main_arg6)
          ∧ r.2.mem ((c.tc : Thread Cert.ProjRefIdeal.nD Cert.ProjRefIdeal.τ).loc Cert.ProjRefIdeal.main_arg7) = m' ((c.tc : Thread Cert.ProjRefIdeal.nD Cert.ProjRefIdeal.τ).loc Cert.ProjRefIdeal.main_arg7))

def preserves_Scan_ScanIdeal : Prop :=
  True

def algebraic_ScanIdeal_ScanRefIdeal [hScanIdeal : Cert.ScanIdeal.Facts] [hScanRefIdeal : Cert.ScanRefIdeal.Facts] : Prop :=
  ∀ (m : (ℓ : Loc Cert.ScanIdeal.nD Cert.ScanIdeal.τ Cert.ScanIdeal.sig) → Buf (Elt Ideal) ℓ) (g : Dev Cert.ScanIdeal.nD → PrngReg)
    (m' : (ℓ : Loc Cert.ScanRefIdeal.nD Cert.ScanRefIdeal.τ Cert.ScanRefIdeal.sig) → Buf (Elt Ideal) ℓ) (g' : Dev Cert.ScanRefIdeal.nD → PrngReg), Pre_ScanIdeal m →
    (∀ c : Dev Cert.ScanIdeal.nD,
      m' ((c.tc : Thread Cert.ScanRefIdeal.nD Cert.ScanRefIdeal.τ).loc Cert.ScanRefIdeal.main_arg0) = m ((c.tc : Thread Cert.ScanIdeal.nD Cert.ScanIdeal.τ).loc Cert.ScanIdeal.main_arg0)
      ∧ m' ((c.tc : Thread Cert.ScanRefIdeal.nD Cert.ScanRefIdeal.τ).loc Cert.ScanRefIdeal.main_arg1) = m ((c.tc : Thread Cert.ScanIdeal.nD Cert.ScanIdeal.τ).loc Cert.ScanIdeal.main_arg1)
      ∧ m' ((c.tc : Thread Cert.ScanRefIdeal.nD Cert.ScanRefIdeal.τ).loc Cert.ScanRefIdeal.main_arg2) = m ((c.tc : Thread Cert.ScanIdeal.nD Cert.ScanIdeal.τ).loc Cert.ScanIdeal.main_arg2)
      ∧ m' ((c.tc : Thread Cert.ScanRefIdeal.nD Cert.ScanRefIdeal.τ).loc Cert.ScanRefIdeal.main_arg3) = m ((c.tc : Thread Cert.ScanIdeal.nD Cert.ScanIdeal.τ).loc Cert.ScanIdeal.main_arg3)
      ∧ m' ((c.tc : Thread Cert.ScanRefIdeal.nD Cert.ScanRefIdeal.τ).loc Cert.ScanRefIdeal.main_arg4) = m ((c.tc : Thread Cert.ScanIdeal.nD Cert.ScanIdeal.τ).loc Cert.ScanIdeal.main_arg4)) →
    ∃ (v0 : (c : Dev Cert.ScanIdeal.nD) → Buf (Elt Ideal) ((c.tc : Thread Cert.ScanIdeal.nD Cert.ScanIdeal.τ).loc Cert.ScanIdeal.main_v0_0)) (v1 : (c : Dev Cert.ScanIdeal.nD) → Buf (Elt Ideal) ((c.tc : Thread Cert.ScanIdeal.nD Cert.ScanIdeal.τ).loc Cert.ScanIdeal.main_v0_1)),
      θ_run (Cert.ScanIdeal.defs (F := Ideal)) (onTc (τ := Cert.ScanIdeal.τ) (Cert.ScanIdeal.main (F := Ideal))) ⟨m, fun _ => 0, g⟩ (fun r => ∀ c : Dev Cert.ScanIdeal.nD,
          r.2.mem ((c.tc : Thread Cert.ScanIdeal.nD Cert.ScanIdeal.τ).loc Cert.ScanIdeal.main_v0_0) = v0 c
          ∧ r.2.mem ((c.tc : Thread Cert.ScanIdeal.nD Cert.ScanIdeal.τ).loc Cert.ScanIdeal.main_v0_1) = v1 c
          ∧ r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
          ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
          ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
          ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
          ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4))
      ∧ θ_run (Cert.ScanRefIdeal.defs (F := Ideal)) (onTc (τ := Cert.ScanRefIdeal.τ) (Cert.ScanRefIdeal.main (F := Ideal))) ⟨m', fun _ => 0, g'⟩ (fun r => ∀ c : Dev Cert.ScanRefIdeal.nD,
          r.2.mem ((c.tc : Thread Cert.ScanRefIdeal.nD Cert.ScanRefIdeal.τ).loc Cert.ScanRefIdeal.main_v69) = v0 c
          ∧ r.2.mem ((c.tc : Thread Cert.ScanRefIdeal.nD Cert.ScanRefIdeal.τ).loc Cert.ScanRefIdeal.main_v73) = v1 c
          ∧ r.2.mem ((c.tc : Thread Cert.ScanRefIdeal.nD Cert.ScanRefIdeal.τ).loc Cert.ScanRefIdeal.main_arg0) = m' ((c.tc : Thread Cert.ScanRefIdeal.nD Cert.ScanRefIdeal.τ).loc Cert.ScanRefIdeal.main_arg0)
          ∧ r.2.mem ((c.tc : Thread Cert.ScanRefIdeal.nD Cert.ScanRefIdeal.τ).loc Cert.ScanRefIdeal.main_arg1) = m' ((c.tc : Thread Cert.ScanRefIdeal.nD Cert.ScanRefIdeal.τ).loc Cert.ScanRefIdeal.main_arg1)
          ∧ r.2.mem ((c.tc : Thread Cert.ScanRefIdeal.nD Cert.ScanRefIdeal.τ).loc Cert.ScanRefIdeal.main_arg2) = m' ((c.tc : Thread Cert.ScanRefIdeal.nD Cert.ScanRefIdeal.τ).loc Cert.ScanRefIdeal.main_arg2)
          ∧ r.2.mem ((c.tc : Thread Cert.ScanRefIdeal.nD Cert.ScanRefIdeal.τ).loc Cert.ScanRefIdeal.main_arg3) = m' ((c.tc : Thread Cert.ScanRefIdeal.nD Cert.ScanRefIdeal.τ).loc Cert.ScanRefIdeal.main_arg3)
          ∧ r.2.mem ((c.tc : Thread Cert.ScanRefIdeal.nD Cert.ScanRefIdeal.τ).loc Cert.ScanRefIdeal.main_arg4) = m' ((c.tc : Thread Cert.ScanRefIdeal.nD Cert.ScanRefIdeal.τ).loc Cert.ScanRefIdeal.main_arg4))

def preserves_Mod_ModIdeal : Prop :=
  True

def algebraic_ModIdeal_ModRefIdeal [hModIdeal : Cert.ModIdeal.Facts] [hModRefIdeal : Cert.ModRefIdeal.Facts] : Prop :=
  ∀ (m : (ℓ : Loc Cert.ModIdeal.nD Cert.ModIdeal.τ Cert.ModIdeal.sig) → Buf (Elt Ideal) ℓ) (g : Dev Cert.ModIdeal.nD → PrngReg)
    (m' : (ℓ : Loc Cert.ModRefIdeal.nD Cert.ModRefIdeal.τ Cert.ModRefIdeal.sig) → Buf (Elt Ideal) ℓ) (g' : Dev Cert.ModRefIdeal.nD → PrngReg), Pre_ModIdeal m →
    (∀ c : Dev Cert.ModIdeal.nD,
      m' ((c.tc : Thread Cert.ModRefIdeal.nD Cert.ModRefIdeal.τ).loc Cert.ModRefIdeal.main_arg0) = m ((c.tc : Thread Cert.ModIdeal.nD Cert.ModIdeal.τ).loc Cert.ModIdeal.main_arg0)
      ∧ m' ((c.tc : Thread Cert.ModRefIdeal.nD Cert.ModRefIdeal.τ).loc Cert.ModRefIdeal.main_arg1) = m ((c.tc : Thread Cert.ModIdeal.nD Cert.ModIdeal.τ).loc Cert.ModIdeal.main_arg1)
      ∧ m' ((c.tc : Thread Cert.ModRefIdeal.nD Cert.ModRefIdeal.τ).loc Cert.ModRefIdeal.main_arg2) = m ((c.tc : Thread Cert.ModIdeal.nD Cert.ModIdeal.τ).loc Cert.ModIdeal.main_arg2)
      ∧ m' ((c.tc : Thread Cert.ModRefIdeal.nD Cert.ModRefIdeal.τ).loc Cert.ModRefIdeal.main_arg3) = m ((c.tc : Thread Cert.ModIdeal.nD Cert.ModIdeal.τ).loc Cert.ModIdeal.main_arg3)) →
    ∃ (v0 : (c : Dev Cert.ModIdeal.nD) → Buf (Elt Ideal) ((c.tc : Thread Cert.ModIdeal.nD Cert.ModIdeal.τ).loc Cert.ModIdeal.main_v7)),
      θ_run (Cert.ModIdeal.defs (F := Ideal)) (onTc (τ := Cert.ModIdeal.τ) (Cert.ModIdeal.main (F := Ideal))) ⟨m, fun _ => 0, g⟩ (fun r => ∀ c : Dev Cert.ModIdeal.nD,
          r.2.mem ((c.tc : Thread Cert.ModIdeal.nD Cert.ModIdeal.τ).loc Cert.ModIdeal.main_v7) = v0 c
          ∧ r.2.mem ((c.tc : Thread Cert.ModIdeal.nD Cert.ModIdeal.τ).loc Cert.ModIdeal.main_arg0) = m ((c.tc : Thread Cert.ModIdeal.nD Cert.ModIdeal.τ).loc Cert.ModIdeal.main_arg0)
          ∧ r.2.mem ((c.tc : Thread Cert.ModIdeal.nD Cert.ModIdeal.τ).loc Cert.ModIdeal.main_arg1) = m ((c.tc : Thread Cert.ModIdeal.nD Cert.ModIdeal.τ).loc Cert.ModIdeal.main_arg1)
          ∧ r.2.mem ((c.tc : Thread Cert.ModIdeal.nD Cert.ModIdeal.τ).loc Cert.ModIdeal.main_arg2) = m ((c.tc : Thread Cert.ModIdeal.nD Cert.ModIdeal.τ).loc Cert.ModIdeal.main_arg2)
          ∧ r.2.mem ((c.tc : Thread Cert.ModIdeal.nD Cert.ModIdeal.τ).loc Cert.ModIdeal.main_arg3) = m ((c.tc : Thread Cert.ModIdeal.nD Cert.ModIdeal.τ).loc Cert.ModIdeal.main_arg3))
      ∧ θ_run (Cert.ModRefIdeal.defs (F := Ideal)) (onTc (τ := Cert.ModRefIdeal.τ) (Cert.ModRefIdeal.main (F := Ideal))) ⟨m', fun _ => 0, g'⟩ (fun r => ∀ c : Dev Cert.ModRefIdeal.nD,
          r.2.mem ((c.tc : Thread Cert.ModRefIdeal.nD Cert.ModRefIdeal.τ).loc Cert.ModRefIdeal.main_v88) = v0 c
          ∧ r.2.mem ((c.tc : Thread Cert.ModRefIdeal.nD Cert.ModRefIdeal.τ).loc Cert.ModRefIdeal.main_arg0) = m' ((c.tc : Thread Cert.ModRefIdeal.nD Cert.ModRefIdeal.τ).loc Cert.ModRefIdeal.main_arg0)
          ∧ r.2.mem ((c.tc : Thread Cert.ModRefIdeal.nD Cert.ModRefIdeal.τ).loc Cert.ModRefIdeal.main_arg1) = m' ((c.tc : Thread Cert.ModRefIdeal.nD Cert.ModRefIdeal.τ).loc Cert.ModRefIdeal.main_arg1)
          ∧ r.2.mem ((c.tc : Thread Cert.ModRefIdeal.nD Cert.ModRefIdeal.τ).loc Cert.ModRefIdeal.main_arg2) = m' ((c.tc : Thread Cert.ModRefIdeal.nD Cert.ModRefIdeal.τ).loc Cert.ModRefIdeal.main_arg2)
          ∧ r.2.mem ((c.tc : Thread Cert.ModRefIdeal.nD Cert.ModRefIdeal.τ).loc Cert.ModRefIdeal.main_arg3) = m' ((c.tc : Thread Cert.ModRefIdeal.nD Cert.ModRefIdeal.τ).loc Cert.ModRefIdeal.main_arg3))

def preserves_Prep_PrepIdeal : Prop :=
  True

def algebraic_PrepIdeal_PrepRefIdeal [hPrepIdeal : Cert.PrepIdeal.Facts] [hPrepRefIdeal : Cert.PrepRefIdeal.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)) →
    ∃ (v0 : (c : Dev Cert.PrepIdeal.nD) → Buf (Elt Ideal) ((c.tc : Thread Cert.PrepIdeal.nD Cert.PrepIdeal.τ).loc Cert.PrepIdeal.main_v20)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v20) = v0 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v173) = v0 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3))

def Claim : Prop :=
  ∃ (hFfn : Cert.Ffn.Facts) (hFfnIdeal : Cert.FfnIdeal.Facts) (hFfnRefIdeal : Cert.FfnRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hScan : Cert.Scan.Facts) (hScanIdeal : Cert.ScanIdeal.Facts) (hScanRefIdeal : Cert.ScanRefIdeal.Facts) (hMod : Cert.Mod.Facts) (hModIdeal : Cert.ModIdeal.Facts) (hModRefIdeal : Cert.ModRefIdeal.Facts) (hPrep : Cert.Prep.Facts) (hPrepIdeal : Cert.PrepIdeal.Facts) (hPrepRefIdeal : Cert.PrepRefIdeal.Facts) (hPre_finite_inputs : Cert.Pre_finite_inputs.Facts),
    quiescent_Ffn (hFfn := hFfn)
    ∧ quiescent_FfnIdeal (hFfnIdeal := hFfnIdeal)
    ∧ quiescent_FfnRefIdeal (hFfnRefIdeal := hFfnRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjIdeal_pre_finite_inputs (hProjIdeal := hProjIdeal) (hPre_finite_inputs := hPre_finite_inputs)
    ∧ quiescent_ProjRefIdeal (hProjRefIdeal := hProjRefIdeal)
    ∧ quiescent_ProjRefIdeal_pre_finite_inputs (hProjRefIdeal := hProjRefIdeal) (hPre_finite_inputs := hPre_finite_inputs)
    ∧ quiescent_Scan (hScan := hScan)
    ∧ quiescent_ScanIdeal (hScanIdeal := hScanIdeal)
    ∧ quiescent_ScanRefIdeal (hScanRefIdeal := hScanRefIdeal)
    ∧ quiescent_Mod (hMod := hMod)
    ∧ quiescent_ModIdeal (hModIdeal := hModIdeal)
    ∧ quiescent_ModRefIdeal (hModRefIdeal := hModRefIdeal)
    ∧ quiescent_Prep (hPrep := hPrep)
    ∧ quiescent_PrepIdeal (hPrepIdeal := hPrepIdeal)
    ∧ quiescent_PrepRefIdeal (hPrepRefIdeal := hPrepRefIdeal)
    ∧ preserves_Ffn_FfnIdeal
    ∧ algebraic_FfnIdeal_FfnRefIdeal (hFfnIdeal := hFfnIdeal) (hFfnRefIdeal := hFfnRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal_pre_finite_inputs (hProjIdeal := hProjIdeal) (hProjRefIdeal := hProjRefIdeal) (hPre_finite_inputs := hPre_finite_inputs)
    ∧ preserves_Scan_ScanIdeal
    ∧ algebraic_ScanIdeal_ScanRefIdeal (hScanIdeal := hScanIdeal) (hScanRefIdeal := hScanRefIdeal)
    ∧ preserves_Mod_ModIdeal
    ∧ algebraic_ModIdeal_ModRefIdeal (hModIdeal := hModIdeal) (hModRefIdeal := hModRefIdeal)
    ∧ preserves_Prep_PrepIdeal
    ∧ algebraic_PrepIdeal_PrepRefIdeal (hPrepIdeal := hPrepIdeal) (hPrepRefIdeal := hPrepRefIdeal)
-- ==== Pre_finite_inputs.lean ====
abbrev S16x4352x1024 : Shape := ⟨3, ![16, 4352, 1024]⟩
abbrev S16x2x6x1024 : Shape := ⟨4, ![16, 2, 6, 1024]⟩
abbrev S1024 : Shape := ⟨1, ![1024]⟩
abbrev S1024x6160 : Shape := ⟨2, ![1024, 6160]⟩
abbrev S2x4 : Shape := ⟨2, ![2, 4]⟩
abbrev S64 : Shape := ⟨1, ![64]⟩
abbrev S16x2x2x1024 : Shape := ⟨4, ![16, 2, 2, 1024]⟩
abbrev S_ : Shape := ⟨0, ![]⟩
abbrev S1024x512 : Shape := ⟨2, ![1024, 512]⟩

class Facts : Prop where
  slices_S16x2x6x1024_S16x2x2x1024_0_0_0_0 : S16x2x6x1024.Slices ![0, 0, 0, 0] S16x2x2x1024
  bcast_S_S16x2x2x1024 : S_.BroadcastsInDim S16x2x2x1024 (![] : Fin 0 → Fin S16x2x2x1024.rank)
  bcast_S_S1024 : S_.BroadcastsInDim S1024 (![] : Fin 0 → Fin S1024.rank)
  slices_S1024x6160_S1024x512_0_2320 : S1024x6160.Slices ![0, 2320] S1024x512
  bcast_S_S1024x512 : S_.BroadcastsInDim S1024x512 (![] : Fin 0 → Fin S1024x512.rank)

variable [Facts]

def fn {F : FTy → Type} [FloatOps F] (main_arg0 : FVec F S16x4352x1024 .f32) (main_arg1 : FVec F S16x2x6x1024 .f32) (main_arg2 : FVec F S1024 .f32) (main_arg3 : FVec F S1024x6160 .f32) (main_arg4 : FVec F S2x4 .f32) (main_arg5 : FVec F S2x4 .f32) (main_arg6 : FVec F S64 .f32) (main_arg7 : FVec F S64 .f32) : IVec S16x2x2x1024 1 × IVec S1024 1 × IVec S1024x512 1 :=
  let main_v0 : FVec F S16x2x2x1024 .f32 := (extractStridedSlice S16x2x2x1024 ![0, 0, 0, 0] · slices_S16x2x6x1024_S16x2x2x1024_0_0_0_0) main_arg1
  let main_v1 : FVec F S16x2x2x1024 .f32 := Host.absf main_v0
  let main_cst : FVec F S_ .f32 := constant S_ .f32 0x7F800000#32
  let main_v2 : FVec F S16x2x2x1024 .f32 := broadcastInDim S16x2x2x1024 ![] bcast_S_S16x2x2x1024 main_cst
  let main_v3 : IVec S16x2x2x1024 1 := cmpf .olt main_v1 main_v2
  let main_v4 : FVec F S1024 .f32 := Host.absf main_arg2
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_v7 : FVec F S1024x512 .f32 := (extractStridedSlice S1024x512 ![0, 2320] · slices_S1024x6160_S1024x512_0_2320) main_arg3
  let main_v8 : FVec F S1024x512 .f32 := Host.absf main_v7
  let main_cst_1 : FVec F S_ .f32 := constant S_ .f32 0x7F800000#32
  let main_v9 : FVec F S1024x512 .f32 := broadcastInDim S1024x512 ![] bcast_S_S1024x512 main_cst_1
  let main_v10 : IVec S1024x512 1 := cmpf .olt main_v8 main_v9
  (main_v3, main_v6, main_v10)
-- ==== Ffn.lean ====
abbrev S16x16x608x1024 : Shape := ⟨4, ![16, 16, 608, 1024]⟩
abbrev S4x16x1024x1024 : Shape := ⟨4, ![4, 16, 1024, 1024]⟩
abbrev S1x1x608x1024 : Shape := ⟨4, ![1, 1, 608, 1024]⟩
abbrev S1x1x1024x1024 : Shape := ⟨4, ![1, 1, 1024, 1024]⟩
abbrev S1024x1024 : Shape := ⟨2, ![1024, 1024]⟩
abbrev S1x1x544x1024 : Shape := ⟨4, ![1, 1, 544, 1024]⟩
abbrev S544x1024 : Shape := ⟨2, ![544, 1024]⟩
abbrev S1024x512 : Shape := ⟨2, ![1024, 512]⟩
abbrev S544x512 : Shape := ⟨2, ![544, 512]⟩
abbrev S512x1024 : Shape := ⟨2, ![512, 1024]⟩
abbrev S64x1024 : Shape := ⟨2, ![64, 1024]⟩
abbrev S1x1x64x1024 : Shape := ⟨4, ![1, 1, 64, 1024]⟩

abbrev nBuf : Space → Nat
  | .hbm => 5
  | .vmem => 13
  | .smem => 0
  | _ => 0

abbrev bufTy : (tb : Table) → Fin (tcTables nBuf tb) → BufTy
  | .hbm, ⟨0, _⟩ => ⟨S16x16x608x1024, .bf16⟩
  | .hbm, ⟨1, _⟩ => ⟨S4x16x1024x1024, .f32⟩
  | .hbm, ⟨2, _⟩ => ⟨S4x16x1024x1024, .f32⟩
  | .hbm, ⟨3, _⟩ => ⟨S4x16x1024x1024, .f32⟩
  | .hbm, ⟨4, _⟩ => ⟨S16x16x608x1024, .bf16⟩
  | .local _ .vmem, ⟨0, _⟩ => ⟨S1x1x608x1024, .bf16⟩
  | .local _ .vmem, ⟨1, _⟩ => ⟨S1x1x608x1024, .bf16⟩
  | .local _ .vmem, ⟨2, _⟩ => ⟨S1x1x1024x1024, .f32⟩
  | .local _ .vmem, ⟨3, _⟩ => ⟨S1x1x1024x1024, .f32⟩
  | .local _ .vmem, ⟨4, _⟩ => ⟨S1x1x1024x1024, .f32⟩
  | .local _ .vmem, ⟨5, _⟩ => ⟨S1x1x1024x1024, .f32⟩
  | .local _ .vmem, ⟨6, _⟩ => ⟨S1x1x1024x1024, .f32⟩
  | .local _ .vmem, ⟨7, _⟩ => ⟨S1x1x1024x1024, .f32⟩
  | .local _ .vmem, ⟨8, _⟩ => ⟨S1x1x608x1024, .bf16⟩
  | .local _ .vmem, ⟨9, _⟩ => ⟨S1x1x608x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S16x16x608x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 16], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x608x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x608x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== FfnRefIdeal.lean ====
abbrev S16x16x608x1024 : Shape := ⟨4, ![16, 16, 608, 1024]⟩
abbrev S4x16x1024x1024 : Shape := ⟨4, ![4, 16, 1024, 1024]⟩
abbrev S16x16x544x1024 : Shape := ⟨4, ![16, 16, 544, 1024]⟩
abbrev S1x16x1024x1024 : Shape := ⟨4, ![1, 16, 1024, 1024]⟩
abbrev S16x1024x1024 : Shape := ⟨3, ![16, 1024, 1024]⟩
abbrev S16x1024x16x544 : Shape := ⟨4, ![16, 1024, 16, 544]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S16x16x608x1024, .bf16⟩
  | .hbm, ⟨1, _⟩ => ⟨S4x16x1024x1024, .f32⟩
  | .hbm, ⟨2, _⟩ => ⟨S4x16x1024x1024, .f32⟩
  | .hbm, ⟨3, _⟩ => ⟨S4x16x1024x1024, .f32⟩
  | .hbm, ⟨4, _⟩ => ⟨S16x16x544x1024, .bf16⟩
  | .hbm, ⟨5, _⟩ => ⟨S16x16x544x1024, .f32⟩
  | .hbm, ⟨6, _⟩ => ⟨S1x16x1024x1024, .f32⟩
  | .hbm, ⟨7, _⟩ => ⟨S16x1024x1024, .f32⟩
  | .hbm, ⟨8, _⟩ => ⟨S16x1024x16x544, .f32⟩
  | .hbm, ⟨9, _⟩ => ⟨S16x16x544x1024, .f32⟩
  | .hbm, ⟨10, _⟩ => ⟨S16x16x544x1024, .f32⟩
  | .hbm, ⟨11, _⟩ => ⟨S16x16x544x1024, .f32⟩
  | .hbm, ⟨12, _⟩ => ⟨S_, .f32⟩
  | .hbm, ⟨13, _⟩ => ⟨S16x16x544x1024, .f32⟩
  | .hbm, ⟨14, _⟩ => ⟨S16x16x544x1024, .f32⟩
  | .hbm, ⟨15, _⟩ => ⟨S_, .f32⟩
  | .hbm, ⟨16, _⟩ => ⟨S16x16x544x1024, .f32⟩
  | .hbm, ⟨17, _⟩ => ⟨S16x16x544x1024, .f32⟩
  | .hbm, ⟨18, _⟩ => ⟨S16x16x544x1024, .f32⟩
  | .hbm, ⟨19, _⟩ => ⟨S1x16x1024x1024, .f32⟩
  | .hbm, ⟨20, _⟩ => ⟨S16x1024x1024, .f32⟩
  | .hbm, ⟨21, _⟩ => ⟨S16x1024x16x544, .f32⟩
  | .hbm, ⟨22, _⟩ => ⟨S16x16x544x1024, .f32⟩
  | .hbm, ⟨23, _⟩ => ⟨S16x16x544x1024, .f32⟩
  | .hbm, ⟨24, _⟩ => ⟨S1x16x1024x1024, .f32⟩
  | .hbm, ⟨25, _⟩ => ⟨S16x1024x1024, .f32⟩
  | .hbm, ⟨26, _⟩ => ⟨S16x1024x16x544, .f32⟩
  | .hbm, ⟨27, _⟩ => ⟨S16x16x544x1024, .f32⟩
  | .hbm, ⟨28, _⟩ => ⟨S_, .i32⟩
  | .hbm, ⟨29, _⟩ => ⟨S_, .f32⟩
  | .hbm, ⟨30, _⟩ => ⟨S16x16x608x1024, .f32⟩
  | .hbm, ⟨31, _⟩ => ⟨S16x16x608x1024, .bf16⟩
  | _, _ => ⟨S16x16x608x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_call0_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_call1_v0 : Ref sig .tc := ⟨.hbm, 29, rfl⟩
abbrev main_v16 : Ref sig .tc := ⟨.hbm, 30, rfl⟩
abbrev main_v17 : Ref sig .tc := ⟨.hbm, 31, rfl⟩

abbrev nD : Nat := 1
abbrev τ : Topo := Topo.v7x

variable {F : FTy → Type} [FloatOps F]
-- ==== Merge.lean ====
abbrev S16x4352x512 : Shape := ⟨3, ![16, 4352, 512]⟩
abbrev S16x4352x256 : Shape := ⟨3, ![16, 4352, 256]⟩
abbrev S16x4352x3072 : Shape := ⟨3, ![16, 4352, 3072]⟩
abbrev S16x4352x1024 : Shape := ⟨3, ![16, 4352, 1024]⟩
abbrev S16x2x6x1024 : Shape := ⟨4, ![16, 2, 6, 1024]⟩
abbrev S128 : Shape := ⟨1, ![128]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x16 : Shape := ⟨2, ![1024, 16]⟩
abbrev S1x128 : Shape := ⟨2, ![1, 128]⟩
abbrev S1x1024 : Shape := ⟨2, ![1, 1024]⟩
abbrev S16x1024 : Shape := ⟨2, ![16, 1024]⟩
abbrev S16x16x4352 : Shape := ⟨3, ![16, 16, 4352]⟩
abbrev S1x256x512 : Shape := ⟨3, ![1, 256, 512]⟩
abbrev S1x256x256 : Shape := ⟨3, ![1, 256, 256]⟩
abbrev S1x256x3072 : Shape := ⟨3, ![1, 256, 3072]⟩
abbrev S1x256x1024 : Shape := ⟨3, ![1, 256, 1024]⟩
abbrev S1x1x6x1024 : Shape := ⟨4, ![1, 1, 6, 1024]⟩
abbrev S1x16x256 : Shape := ⟨3, ![1, 16, 256]⟩
abbrev S256x512 : Shape := ⟨2, ![256, 512]⟩
abbrev S256x128 : Shape := ⟨2, ![256, 128]⟩
abbrev S256 : Shape := ⟨1, ![256]⟩
abbrev S256x1 : Shape := ⟨2, ![256, 1]⟩
abbrev S128x1024 : Shape := ⟨2, ![128, 1024]⟩
abbrev S256x256 : Shape := ⟨2, ![256, 256]⟩
abbrev S1x1x1x1024 : Shape := ⟨4, ![1, 1, 1, 1024]⟩
abbrev S16x256 : Shape := ⟨2, ![16, 256]⟩
abbrev S1x256 : Shape := ⟨2, ![1, 256]⟩

abbrev nBuf : Space → Nat
  | .hbm => 26
  | .vmem => 29
  | .smem => 0
  | _ => 0

abbrev bufTy : (tb : Table) → Fin (tcTables nBuf tb) → BufTy
  | .hbm, ⟨0, _⟩ => ⟨S16x4352x512, .f32⟩
  | .hbm, ⟨1, _⟩ => ⟨S16x4352x512, .f32⟩
  | .hbm, ⟨2, _⟩ => ⟨S16x4352x512, .bf16⟩
  | .hbm, ⟨3, _⟩ => ⟨S16x4352x256, .bf16⟩
  | .hbm, ⟨4, _⟩ => ⟨S16x4352x256, .bf16⟩
  | .hbm, ⟨5, _⟩ => ⟨S16x4352x3072, .bf16⟩
  | .hbm, ⟨6, _⟩ => ⟨S16x4352x1024, .f32⟩
  | .hbm, ⟨7, _⟩ => ⟨S16x2x6x1024, .f32⟩
  | .hbm, ⟨8, _⟩ => ⟨S128, .f32⟩
  | .hbm, ⟨9, _⟩ => ⟨S1024, .f32⟩
  | .hbm, ⟨10, _⟩ => ⟨S512x1024, .f32⟩
  | .hbm, ⟨11, _⟩ => ⟨S256x1024, .f32⟩
  | .hbm, ⟨12, _⟩ => ⟨S256x1024, .f32⟩
  | .hbm, ⟨13, _⟩ => ⟨S1024x1024, .f32⟩
  | .hbm, ⟨14, _⟩ => ⟨S1024x16, .f32⟩
  | .hbm, ⟨15, _⟩ => ⟨S1x128, .f32⟩
  | .hbm, ⟨16, _⟩ => ⟨S1x1024, .f32⟩
  | .hbm, ⟨17, _⟩ => ⟨S512x1024, .bf16⟩
  | .hbm, ⟨18, _⟩ => ⟨S256x1024, .bf16⟩
  | .hbm, ⟨19, _⟩ => ⟨S256x1024, .bf16⟩
  | .hbm, ⟨20, _⟩ => ⟨S1024x1024, .bf16⟩
  | .hbm, ⟨21, _⟩ => ⟨S16x1024, .f32⟩
  | .hbm, ⟨22, _⟩ => ⟨S16x1024, .bf16⟩
  | .hbm, ⟨23, _⟩ => ⟨S16x4352x1024, .f32⟩
  | .hbm, ⟨24, _⟩ => ⟨S16x4352x1024, .bf16⟩
  | .hbm, ⟨25, _⟩ => ⟨S16x16x4352, .f32⟩
  | .local _ .vmem, ⟨0, _⟩ => ⟨S1x256x512, .f32⟩
  | .local _ .vmem, ⟨1, _⟩ => ⟨S1x256x512, .f32⟩
  | .local _ .vmem, ⟨2, _⟩ => ⟨S1x256x512, .f32⟩
  | .local _ .vmem, ⟨3, _⟩ => ⟨S1x256x512, .f32⟩
  | .local _ .vmem, ⟨4, _⟩ => ⟨S1x256x512, .bf16⟩
  | .local _ .vmem, ⟨5, _⟩ => ⟨S1x256x512, .bf16⟩
  | .local _ .vmem, ⟨6, _⟩ => ⟨S1x256x256, .bf16⟩
  | .local _ .vmem, ⟨7, _⟩ => ⟨S1x256x256, .bf16⟩
  | .local _ .vmem, ⟨8, _⟩ => ⟨S1x256x256, .bf16⟩
  | .local _ .vmem, ⟨9, _⟩ => ⟨S1x256x256, .bf16⟩
  | .local _ .vmem, ⟨10, _⟩ => ⟨S1x256x3072, .bf16⟩
  | .local _ .vmem, ⟨11, _⟩ => ⟨S1x256x3072, .bf16⟩
  | .local _ .vmem, ⟨12, _⟩ => ⟨S1x256x1024, .f32⟩
  | .local _ .vmem, ⟨13, _⟩ => ⟨S1x256x1024, .f32⟩
  | .local _ .vmem, ⟨14, _⟩ => ⟨S1x1x6x1024, .f32⟩
  | .local _ .vmem, ⟨15, _⟩ => ⟨S1x1x6x1024, .f32⟩
  | .local _ .vmem, ⟨16, _⟩ => ⟨S1x128, .f32⟩
  | .local _ .vmem, ⟨17, _⟩ => ⟨S1x1024, .f32⟩
  | .local _ .vmem, ⟨18, _⟩ => ⟨S512x1024, .bf16⟩
  | .local _ .vmem, ⟨19, _⟩ => ⟨S256x1024, .bf16⟩
  | .local _ .vmem, ⟨20, _⟩ => ⟨S256x1024, .bf16⟩
  | .local _ .vmem, ⟨21, _⟩ => ⟨S1024x1024, .bf16⟩
  | .local _ .vmem, ⟨22, _⟩ => ⟨S16x1024, .bf16⟩
  | .local _ .vmem, ⟨23, _⟩ => ⟨S1x256x1024, .f32⟩
  | .local _ .vmem, ⟨24, _⟩ => ⟨S1x256x1024, .f32⟩
  | .local _ .vmem, ⟨25, _⟩ => ⟨S1x256x1024, .bf16⟩
  | .local _ .vmem, ⟨26, _⟩ => ⟨S1x256x1024, .bf16⟩
  | .local _ .vmem, ⟨27, _⟩ => ⟨S1x16x256, .f32⟩
  | .local _ .vmem, ⟨28, _⟩ => ⟨S1x16x256, .f32⟩
  | _, _ => ⟨S16x4352x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8_0 : Ref sig .tc := ⟨.hbm, 23, rfl⟩
abbrev main_v8_1 : Ref sig .tc := ⟨.hbm, 24, rfl⟩
abbrev main_v8_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg12_0 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem10_0 : DmaSem sig := 18
abbrev cc0_sem11_0 : DmaSem sig := 19
abbrev cc0_sem12_0 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x6x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S256x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S256x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1024x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S16x1024 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x16x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]
-- ==== MergeRefIdeal.lean ====
abbrev S16x4352x512 : Shape := ⟨3, ![16, 4352, 512]⟩
abbrev S16x4352x256 : Shape := ⟨3, ![16, 4352, 256]⟩
abbrev S16x4352x3072 : Shape := ⟨3, ![16, 4352, 3072]⟩
abbrev S16x4352x1024 : Shape := ⟨3, ![16, 4352, 1024]⟩
abbrev S16x2x6x1024 : Shape := ⟨4, ![16, 2, 6, 1024]⟩
abbrev S128 : Shape := ⟨1, ![128]⟩
abbrev S1024 : Shape := ⟨1, ![1024]⟩
abbrev S512x1024 : Shape := ⟨2, ![512, 1024]⟩
abbrev S256x1024 : Shape := ⟨2, ![256, 1024]⟩
abbrev S1024x1024 : Shape := ⟨2, ![1024, 1024]⟩
abbrev S1024x16 : Shape := ⟨2, ![1024, 16]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x4096x1024 : Shape := ⟨3, ![16, 4096, 1024]⟩
abbrev S16x256x1024 : Shape := ⟨3, ![16, 256, 1024]⟩
abbrev S16x4352x4x128 : Shape := ⟨4, ![16, 4352, 4, 128]⟩
abbrev S_ : Shape := ⟨0, ![]⟩
abbrev S16x4352x4 : Shape := ⟨3, ![16, 4352, 4]⟩
abbrev S16x4352x4x1 : Shape := ⟨4, ![16, 4352, 4, 1]⟩
abbrev S1x1x1x128 : Shape := ⟨4, ![1, 1, 1, 128]⟩
abbrev S16x4352 : Shape := ⟨2, ![16, 4352]⟩
abbrev S16x4352x1 : Shape := ⟨3, ![16, 4352, 1]⟩
abbrev S1x1x1024 : Shape := ⟨3, ![1, 1, 1024]⟩
abbrev S16x4352x16 : Shape := ⟨3, ![16, 4352, 16]⟩
abbrev S16x16x4352 : Shape := ⟨3, ![16, 16, 4352]⟩

abbrev nBuf : Space → Nat
  | .hbm => 136
  | .vmem => 0
  | .smem => 0
  | _ => 0

abbrev hbmTy0_0 (i : Nat) : BufTy := match i % 128 with
  | 0 => ⟨S16x4352x512, .f32⟩
  | 1 => ⟨S16x4352x512, .f32⟩
  | 2 => ⟨S16x4352x512, .bf16⟩
  | 3 => ⟨S16x4352x256, .bf16⟩
  | 4 => ⟨S16x4352x256, .bf16⟩
  | 5 => ⟨S16x4352x3072, .bf16⟩
  | 6 => ⟨S16x4352x1024, .f32⟩
  | 7 => ⟨S16x2x6x1024, .f32⟩
  | 8 => ⟨S128, .f32⟩
  | 9 => ⟨S1024, .f32⟩
  | 10 => ⟨S512x1024, .f32⟩
  | 11 => ⟨S256x1024, .f32⟩
  | 12 => ⟨S256x1024, .f32⟩
  | 13 => ⟨S1024x1024, .f32⟩
  | 14 => ⟨S1024x16, .f32⟩
  | 15 => ⟨S16x1x1x1024, .f32⟩
  | 16 => ⟨S16x1024, .f32⟩
  | 17 => ⟨S16x1x1024, .f32⟩
  | 18 => ⟨S16x4096x1024, .f32⟩
  | 19 => ⟨S16x1x1x1024, .f32⟩
  | 20 => ⟨S16x1024, .f32⟩
  | 21 => ⟨S16x1x1024, .f32⟩
  | 22 => ⟨S16x256x1024, .f32⟩
  | 23 => ⟨S16x4352x1024, .f32⟩
  | 24 => ⟨S16x1x1x1024, .f32⟩
  | 25 => ⟨S16x1024, .f32⟩
  | 26 => ⟨S16x1x1024, .f32⟩
  | 27 => ⟨S16x4096x1024, .f32⟩
  | 28 => ⟨S16x1x1x1024, .f32⟩
  | 29 => ⟨S16x1024, .f32⟩
  | 30 => ⟨S16x1x1024, .f32⟩
  | 31 => ⟨S16x256x1024, .f32⟩
  | 32 => ⟨S16x4352x1024, .f32⟩
  | 33 => ⟨S16x1x1x1024, .f32⟩
  | 34 => ⟨S16x1024, .f32⟩
  | 35 => ⟨S16x1x1024, .f32⟩
  | 36 => ⟨S16x4096x1024, .f32⟩
  | 37 => ⟨S16x1x1x1024, .f32⟩
  | 38 => ⟨S16x1024, .f32⟩
  | 39 => ⟨S16x1x1024, .f32⟩
  | 40 => ⟨S16x256x1024, .f32⟩
  | 41 => ⟨S16x4352x1024, .f32⟩
  | 42 => ⟨S16x4352x512, .f32⟩
  | 43 => ⟨S16x4352x4x128, .f32⟩
  | 44 => ⟨S16x4352x512, .f32⟩
  | 45 => ⟨S16x4352x4x128, .f32⟩
  | 46 => ⟨S16x4352x4x128, .f32⟩
  | 47 => ⟨S_, .f32⟩
  | 48 => ⟨S16x4352x4, .f32⟩
  | 49 => ⟨S16x4352x4x1, .f32⟩
  | 50 => ⟨S_, .f32⟩
  | 51 => ⟨S16x4352x4x1, .f32⟩
  | 52 => ⟨S16x4352x4x1, .f32⟩
  | 53 => ⟨S_, .f32⟩
  | 54 => ⟨S16x4352x4x1, .f32⟩
  | 55 => ⟨S16x4352x4x1, .f32⟩
  | 56 => ⟨S16x4352x4x1, .f32⟩
  | 57 => ⟨S16x4352x4x128, .f32⟩
  | 58 => ⟨S16x4352x4x128, .f32⟩
  | 59 => ⟨S1x1x1x128, .f32⟩
  | 60 => ⟨S16x4352x4x128, .f32⟩
  | 61 => ⟨S16x4352x4x128, .f32⟩
  | 62 => ⟨S16x4352x4x128, .f32⟩
  | 63 => ⟨S16x4352x4x128, .f32⟩
  | 64 => ⟨S_, .f32⟩
  | 65 => ⟨S16x4352x4x128, .f32⟩
  | 66 => ⟨S16x4352x4x128, .f32⟩
  | 67 => ⟨S_, .f32⟩
  | 68 => ⟨S16x4352x4x128, .f32⟩
  | 69 => ⟨S16x4352x4x128, .f32⟩
  | 70 => ⟨S16x4352x4x128, .f32⟩
  | 71 => ⟨S16x4352x4x128, .f32⟩
  | 72 => ⟨S16x4352x512, .f32⟩
  | 73 => ⟨S16x4352x3072, .f32⟩
  | 74 => ⟨S16x4352x3072, .f32⟩
  | 75 => ⟨S16x4352x3072, .f32⟩
  | 76 => ⟨S_, .f32⟩
  | 77 => ⟨S16x4352x3072, .f32⟩
  | 78 => ⟨S16x4352x3072, .f32⟩
  | 79 => ⟨S_, .f32⟩
  | 80 => ⟨S16x4352x3072, .f32⟩
  | 81 => ⟨S16x4352x3072, .f32⟩
  | 82 => ⟨S16x4352x1024, .f32⟩
  | 83 => ⟨S16x4352x1024, .f32⟩
  | 84 => ⟨S16x4352x1024, .f32⟩
  | 85 => ⟨S16x4352x1024, .f32⟩
  | 86 => ⟨S16x4352x1024, .f32⟩
  | 87 => ⟨S16x4352x256, .f32⟩
  | 88 => ⟨S16x4352x1024, .f32⟩
  | 89 => ⟨S16x4352x1024, .f32⟩
  | 90 => ⟨S16x4352x1024, .f32⟩
  | 91 => ⟨S16x4352x256, .f32⟩
  | 92 => ⟨S16x4352x1024, .f32⟩
  | 93 => ⟨S16x4352x1024, .f32⟩
  | 94 => ⟨S16x4352x1024, .f32⟩
  | 95 => ⟨S16x4352x1024, .f32⟩
  | 96 => ⟨S16x4352x1024, .f32⟩
  | 97 => ⟨S16x4352x1024, .f32⟩
  | 98 => ⟨S16x4352x1024, .f32⟩
  | 99 => ⟨S_, .f32⟩
  | 100 => ⟨S16x4352, .f32⟩
  | 101 => ⟨S16x4352x1, .f32⟩
  | 102 => ⟨S_, .f32⟩
  | 103 => ⟨S16x4352x1, .f32⟩
  | 104 => ⟨S16x4352x1, .f32⟩
  | 105 => ⟨S_, .f32⟩
  | 106 => ⟨S16x4352x1, .f32⟩
  | 107 => ⟨S16x4352x1, .f32⟩
  | 108 => ⟨S16x4352x1, .f32⟩
  | 109 => ⟨S16x4352x1024, .f32⟩
  | 110 => ⟨S16x4352x1024, .f32⟩
  | 111 => ⟨S1x1x1024, .f32⟩
  | 112 => ⟨S16x4352x1024, .f32⟩
  | 113 => ⟨S16x4352x1024, .f32⟩
  | 114 => ⟨S_, .f32⟩
  | 115 => ⟨S16x4352x1024, .f32⟩
  | 116 => ⟨S16x4352x1024, .f32⟩
  | 117 => ⟨S16x4352x1024, .f32⟩
  | 118 => ⟨S16x4352x1024, .f32⟩
  | 119 => ⟨S16x4352x16, .f32⟩
  | 120 => ⟨S_, .f32⟩
  | 121 => ⟨S16x4352, .f32⟩
  | 122 => ⟨S_, .f32⟩
  | 123 => ⟨S16x4352, .f32⟩
  | 124 => ⟨S16x4352, .f32⟩
  | 125 => ⟨S16x4352x1, .f32⟩
  | 126 => ⟨S16x4352x16, .f32⟩
  | 127 => ⟨S16x4352x16, .f32⟩
  | _ => ⟨S16x4352x512, .f32⟩

abbrev hbmTy0_1 (i : Nat) : BufTy := match i % 128 with
  | 0 => ⟨S16x4352x16, .f32⟩
  | 1 => ⟨S_, .f32⟩
  | 2 => ⟨S16x4352, .f32⟩
  | 3 => ⟨S16x4352x1, .f32⟩
  | 4 => ⟨S16x4352x16, .f32⟩
  | 5 => ⟨S16x4352x16, .f32⟩
  | 6 => ⟨S16x4352x1024, .bf16⟩
  | 7 => ⟨S16x16x4352, .f32⟩
  | _ => ⟨S16x4352x512, .f32⟩

abbrev hbmTy (i : Nat) : BufTy := match i / 128 with
  | 0 => hbmTy0_0 i
  | 1 => hbmTy0_1 i
  | _ => ⟨S16x4352x512, .f32⟩

abbrev bufTy : (tb : Table) → Fin (tcTables nBuf tb) → BufTy
  | .hbm, ⟨i, _⟩ => hbmTy i
  | _, _ => ⟨S16x4352x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_cst_0 : Ref sig .tc := ⟨.hbm, 50, rfl⟩
abbrev main_v34 : Ref sig .tc := ⟨.hbm, 51, rfl⟩
abbrev main_v35 : Ref sig .tc := ⟨.hbm, 52, rfl⟩
abbrev main_cst_1 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_call0_v0 : Ref sig .tc := ⟨.hbm, 62, rfl⟩
abbrev main_call0_v1 : Ref sig .tc := ⟨.hbm, 63, rfl⟩
abbrev main_call0_cst : Ref sig .tc := ⟨.hbm, 64, rfl⟩
abbrev main_call0_v2 : Ref sig .tc := ⟨.hbm, 65, rfl⟩
abbrev main_call0_v3 : Ref sig .tc := ⟨.hbm, 66, rfl⟩
abbrev main_call0_cst_0 : Ref sig .tc := ⟨.hbm, 67, rfl⟩
abbrev main_call0_v4 : Ref sig .tc := ⟨.hbm, 68, rfl⟩
abbrev main_call0_v5 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_cst_2 : Ref sig .tc := ⟨.hbm, 76, rfl⟩
abbrev main_v50 : Ref sig .tc := ⟨.hbm, 77, rfl⟩
abbrev main_v51 : Ref sig .tc := ⟨.hbm, 78, rfl⟩
abbrev main_cst_3 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_cst_4 : Ref sig .tc := ⟨.hbm, 99, rfl⟩
abbrev main_v71 : Ref sig .tc := ⟨.hbm, 100, rfl⟩
abbrev main_v72 : Ref sig .tc := ⟨.hbm, 101, rfl⟩
abbrev main_cst_5 : Ref sig .tc := ⟨.hbm, 102, rfl⟩
abbrev main_v73 : Ref sig .tc := ⟨.hbm, 103, rfl⟩
abbrev main_v74 : Ref sig .tc := ⟨.hbm, 104, rfl⟩
abbrev main_cst_6 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_cst_7 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_cst_8 : Ref sig .tc := ⟨.hbm, 120, rfl⟩
abbrev main_v88 : Ref sig .tc := ⟨.hbm, 121, rfl⟩
abbrev main_cst_9 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_10 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩

abbrev nD : Nat := 1
abbrev τ : Topo := Topo.v7x

variable {F : FTy → Type} [FloatOps F]
-- ==== Proj.lean ====
abbrev S16x4352x1024 : Shape := ⟨3, ![16, 4352, 1024]⟩
abbrev S16x2x6x1024 : Shape := ⟨4, ![16, 2, 6, 1024]⟩
abbrev S1024 : Shape := ⟨1, ![1024]⟩
abbrev S1024x6160 : Shape := ⟨2, ![1024, 6160]⟩
abbrev S2x4 : Shape := ⟨2, ![2, 4]⟩
abbrev S64 : Shape := ⟨1, ![64]⟩
abbrev S1x8 : Shape := ⟨2, ![1, 8]⟩
abbrev S_ : Shape := ⟨0, ![]⟩
abbrev S1x128 : Shape := ⟨2, ![1, 128]⟩
abbrev S1x64 : Shape := ⟨2, ![1, 64]⟩
abbrev S1x1x1x64 : Shape := ⟨4, ![1, 1, 1, 64]⟩
abbrev S1x1x4x64 : Shape := ⟨4, ![1, 1, 4, 64]⟩
abbrev S1x256 : Shape := ⟨2, ![1, 256]⟩
abbrev S256 : Shape := ⟨1, ![256]⟩
abbrev S256x1 : Shape := ⟨2, ![256, 1]⟩
abbrev S256x256 : Shape := ⟨2, ![256, 256]⟩
abbrev S1x1024 : Shape := ⟨2, ![1, 1024]⟩
abbrev S1024x512 : Shape := ⟨2, ![1024, 512]⟩
abbrev S1024x8 : Shape := ⟨2, ![1024, 8]⟩
abbrev S1024x256 : Shape := ⟨2, ![1024, 256]⟩
abbrev S1024x3072 : Shape := ⟨2, ![1024, 3072]⟩
abbrev S1024x112 : Shape := ⟨2, ![1024, 112]⟩
abbrev S1024x6272 : Shape := ⟨2, ![1024, 6272]⟩
abbrev S16x4352x1536 : Shape := ⟨3, ![16, 4352, 1536]⟩
abbrev S16x4352x512 : Shape := ⟨3, ![16, 4352, 512]⟩
abbrev S16x4352x256 : Shape := ⟨3, ![16, 4352, 256]⟩
abbrev S16x4352x768 : Shape := ⟨3, ![16, 4352, 768]⟩
abbrev S16x4352x3072 : Shape := ⟨3, ![16, 4352, 3072]⟩
abbrev S16x4352x128 : Shape := ⟨3, ![16, 4352, 128]⟩
abbrev S1x256x1024 : Shape := ⟨3, ![1, 256, 1024]⟩
abbrev S1x1x6x1024 : Shape := ⟨4, ![1, 1, 6, 1024]⟩
abbrev S1x256x1536 : Shape := ⟨3, ![1, 256, 1536]⟩
abbrev S1x256x512 : Shape := ⟨3, ![1, 256, 512]⟩
abbrev S1x256x256 : Shape := ⟨3, ![1, 256, 256]⟩
abbrev S1x256x768 : Shape := ⟨3, ![1, 256, 768]⟩
abbrev S1x256x3072 : Shape := ⟨3, ![1, 256, 3072]⟩
abbrev S1x256x128 : Shape := ⟨3, ![1, 256, 128]⟩
abbrev S256x1024 : Shape := ⟨2, ![256, 1024]⟩
abbrev S1x1x1x1024 : Shape := ⟨4, ![1, 1, 1, 1024]⟩
abbrev S256x512 : Shape := ⟨2, ![256, 512]⟩
abbrev S1024x128 : Shape := ⟨2, ![1024, 128]⟩
abbrev S256x128 : Shape := ⟨2, ![256, 128]⟩

abbrev nBuf : Space → Nat
  | .hbm => 75
  | .vmem => 23
  | .smem => 0
  | _ => 0

abbrev bufTy : (tb : Table) → Fin (tcTables nBuf tb) → BufTy
  | .hbm, ⟨0, _⟩ => ⟨S16x4352x1024, .f32⟩
  | .hbm, ⟨1, _⟩ => ⟨S16x2x6x1024, .f32⟩
  | .hbm, ⟨2, _⟩ => ⟨S1024, .f32⟩
  | .hbm, ⟨3, _⟩ => ⟨S1024x6160, .f32⟩
  | .hbm, ⟨4, _⟩ => ⟨S2x4, .f32⟩
  | .hbm, ⟨5, _⟩ => ⟨S2x4, .f32⟩
  | .hbm, ⟨6, _⟩ => ⟨S64, .f32⟩
  | .hbm, ⟨7, _⟩ => ⟨S64, .f32⟩
  | .hbm, ⟨8, _⟩ => ⟨S1x8, .f32⟩
  | .hbm, ⟨9, _⟩ => ⟨S_, .i32⟩
  | .hbm, ⟨10, _⟩ => ⟨S_, .f32⟩
  | .hbm, ⟨11, _⟩ => ⟨S1x128, .f32⟩
  | .hbm, ⟨12, _⟩ => ⟨S1x8, .f32⟩
  | .hbm, ⟨13, _⟩ => ⟨S_, .i32⟩
  | .hbm, ⟨14, _⟩ => ⟨S_, .f32⟩
  | .hbm, ⟨15, _⟩ => ⟨S1x128, .f32⟩
  | .hbm, ⟨16, _⟩ => ⟨S1x64, .f32⟩
  | .hbm, ⟨17, _⟩ => ⟨S1x1x1x64, .f32⟩
  | .hbm, ⟨18, _⟩ => ⟨S1x1x4x64, .f32⟩
  | .hbm, ⟨19, _⟩ => ⟨S1x256, .f32⟩
  | .hbm, ⟨20, _⟩ => ⟨S1x64, .f32⟩
  | .hbm, ⟨21, _⟩ => ⟨S1x1x1x64, .f32⟩
  | .hbm, ⟨22, _⟩ => ⟨S1x1x4x64, .f32⟩
  | .hbm, ⟨23, _⟩ => ⟨S1x256, .f32⟩
  | .hbm, ⟨24, _⟩ => ⟨S256, .i32⟩
  | .hbm, ⟨25, _⟩ => ⟨S_, .i32⟩
  | .hbm, ⟨26, _⟩ => ⟨S_, .i32⟩
  | .hbm, ⟨27, _⟩ => ⟨S256, .i32⟩
  | .hbm, ⟨28, _⟩ => ⟨S256, .i32⟩
  | .hbm, ⟨29, _⟩ => ⟨S256, .i32⟩
  | .hbm, ⟨30, _⟩ => ⟨S_, .i32⟩
  | .hbm, ⟨31, _⟩ => ⟨S256, .i32⟩
  | .hbm, ⟨32, _⟩ => ⟨S256, .i1⟩
  | .hbm, ⟨33, _⟩ => ⟨S256, .i32⟩
  | .hbm, ⟨34, _⟩ => ⟨S256, .i32⟩
  | .hbm, ⟨35, _⟩ => ⟨S_, .i32⟩
  | .hbm, ⟨36, _⟩ => ⟨S256, .i32⟩
  | .hbm, ⟨37, _⟩ => ⟨S256, .i1⟩
  | .hbm, ⟨38, _⟩ => ⟨S256, .i1⟩
  | .hbm, ⟨39, _⟩ => ⟨S_, .i32⟩
  | .hbm, ⟨40, _⟩ => ⟨S256, .i32⟩
  | .hbm, ⟨41, _⟩ => ⟨S256, .i32⟩
  | .hbm, ⟨42, _⟩ => ⟨S256, .i32⟩
  | .hbm, ⟨43, _⟩ => ⟨S256x1, .i32⟩
  | .hbm, ⟨44, _⟩ => ⟨S1x256, .i32⟩
  | .hbm, ⟨45, _⟩ => ⟨S256x256, .i32⟩
  | .hbm, ⟨46, _⟩ => ⟨S256x256, .i32⟩
  | .hbm, ⟨47, _⟩ => ⟨S256x256, .i1⟩
  | .hbm, ⟨48, _⟩ => ⟨S256x256, .f32⟩
  | .hbm, ⟨49, _⟩ => ⟨S_, .f32⟩
  | .hbm, ⟨50, _⟩ => ⟨S256x256, .f32⟩
  | .hbm, ⟨51, _⟩ => ⟨S256x256, .f32⟩
  | .hbm, ⟨52, _⟩ => ⟨S256x256, .bf16⟩
  | .hbm, ⟨53, _⟩ => ⟨S1x1024, .f32⟩
  | .hbm, ⟨54, _⟩ => ⟨S1024x512, .f32⟩
  | .hbm, ⟨55, _⟩ => ⟨S1024x512, .f32⟩
  | .hbm, ⟨56, _⟩ => ⟨S1024x512, .f32⟩
  | .hbm, ⟨57, _⟩ => ⟨S1024x512, .f32⟩
  | .hbm, ⟨58, _⟩ => ⟨S1024x8, .f32⟩
  | .hbm, ⟨59, _⟩ => ⟨S1024x8, .f32⟩
  | .hbm, ⟨60, _⟩ => ⟨S1024x256, .f32⟩
  | .hbm, ⟨61, _⟩ => ⟨S1024x256, .f32⟩
  | .hbm, ⟨62, _⟩ => ⟨S1024x256, .f32⟩
  | .hbm, ⟨63, _⟩ => ⟨S1024x256, .f32⟩
  | .hbm, ⟨64, _⟩ => ⟨S1024x3072, .f32⟩
  | .hbm, ⟨65, _⟩ => ⟨S_, .f32⟩
  | .hbm, ⟨66, _⟩ => ⟨S1024x112, .f32⟩
  | .hbm, ⟨67, _⟩ => ⟨S1024x6272, .f32⟩
  | .hbm, ⟨68, _⟩ => ⟨S1024x6272, .bf16⟩
  | .hbm, ⟨69, _⟩ => ⟨S16x4352x1536, .bf16⟩
  | .hbm, ⟨70, _⟩ => ⟨S16x4352x512, .bf16⟩
  | .hbm, ⟨71, _⟩ => ⟨S16x4352x256, .bf16⟩
  | .hbm, ⟨72, _⟩ => ⟨S16x4352x768, .bf16⟩
  | .hbm, ⟨73, _⟩ => ⟨S16x4352x3072, .bf16⟩
  | .hbm, ⟨74, _⟩ => ⟨S16x4352x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S1x1024, .f32⟩
  | .local _ .vmem, ⟨5, _⟩ => ⟨S1024x6272, .bf16⟩
  | .local _ .vmem, ⟨6, _⟩ => ⟨S1x128, .f32⟩
  | .local _ .vmem, ⟨7, _⟩ => ⟨S1x128, .f32⟩
  | .local _ .vmem, ⟨8, _⟩ => ⟨S1x256, .f32⟩
  | .local _ .vmem, ⟨9, _⟩ => ⟨S1x256, .f32⟩
  | .local _ .vmem, ⟨10, _⟩ => ⟨S256x256, .bf16⟩
  | .local _ .vmem, ⟨11, _⟩ => ⟨S1x256x1536, .bf16⟩
  | .local _ .vmem, ⟨12, _⟩ => ⟨S1x256x1536, .bf16⟩
  | .local _ .vmem, ⟨13, _⟩ => ⟨S1x256x512, .bf16⟩
  | .local _ .vmem, ⟨14, _⟩ => ⟨S1x256x512, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x768, .bf16⟩
  | .local _ .vmem, ⟨18, _⟩ => ⟨S1x256x768, .bf16⟩
  | .local _ .vmem, ⟨19, _⟩ => ⟨S1x256x3072, .bf16⟩
  | .local _ .vmem, ⟨20, _⟩ => ⟨S1x256x3072, .bf16⟩
  | .local _ .vmem, ⟨21, _⟩ => ⟨S1x256x128, .f32⟩
  | .local _ .vmem, ⟨22, _⟩ => ⟨S1x256x128, .f32⟩
  | _, _ => ⟨S16x4352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_call2_v0 : Ref sig .tc := ⟨.hbm, 26, rfl⟩
abbrev main_call2_v1 : Ref sig .tc := ⟨.hbm, 27, rfl⟩
abbrev main_call2_v2 : Ref sig .tc := ⟨.hbm, 28, rfl⟩
abbrev main_call2_v3 : Ref sig .tc := ⟨.hbm, 29, rfl⟩
abbrev main_call2_v4 : Ref sig .tc := ⟨.hbm, 30, rfl⟩
abbrev main_call2_v5 : Ref sig .tc := ⟨.hbm, 31, rfl⟩
abbrev main_call2_v6 : Ref sig .tc := ⟨.hbm, 32, rfl⟩
abbrev main_call2_v7 : Ref sig .tc := ⟨.hbm, 33, rfl⟩
abbrev main_call2_v8 : Ref sig .tc := ⟨.hbm, 34, rfl⟩
abbrev main_call2_c : Ref sig .tc := ⟨.hbm, 35, rfl⟩
abbrev main_call2_v9 : Ref sig .tc := ⟨.hbm, 36, rfl⟩
abbrev main_call2_v10 : Ref sig .tc := ⟨.hbm, 37, rfl⟩
abbrev main_call2_v11 : Ref sig .tc := ⟨.hbm, 38, rfl⟩
abbrev main_call2_c_0 : Ref sig .tc := ⟨.hbm, 39, rfl⟩
abbrev main_call2_v12 : Ref sig .tc := ⟨.hbm, 40, rfl⟩
abbrev main_call2_v13 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_cst : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_v24 : Ref sig .tc := ⟨.hbm, 54, rfl⟩
abbrev main_v25 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_2 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38_0 : Ref sig .tc := ⟨.hbm, 69, rfl⟩
abbrev main_v38_1 : Ref sig .tc := ⟨.hbm, 70, rfl⟩
abbrev main_v38_2 : Ref sig .tc := ⟨.hbm, 71, rfl⟩
abbrev main_v38_3 : Ref sig .tc := ⟨.hbm, 72, rfl⟩
abbrev main_v38_4 : Ref sig .tc := ⟨.hbm, 73, rfl⟩
abbrev main_v38_5 : Ref sig .tc := ⟨.hbm, 74, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_stg14_0 : Ref sig .tc := ⟨.vmem, 21, rfl⟩
abbrev cc0_stg14_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12
abbrev cc0_sem10_0 : DmaSem sig := 13
abbrev cc0_sem10_1 : DmaSem sig := 14
abbrev cc0_sem11_0 : DmaSem sig := 15
abbrev cc0_sem11_1 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.divsi arg1 c16_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg1 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![arg0.toNat, v16.toNat, c0_i32_4.toNat, c0_i32_5.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x6272 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x1536 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x768 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x3072 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x128 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]
-- ==== ProjRefIdeal.lean ====
abbrev S16x4352x1024 : Shape := ⟨3, ![16, 4352, 1024]⟩
abbrev S16x2x6x1024 : Shape := ⟨4, ![16, 2, 6, 1024]⟩
abbrev S1024 : Shape := ⟨1, ![1024]⟩
abbrev S1024x6160 : Shape := ⟨2, ![1024, 6160]⟩
abbrev S2x4 : Shape := ⟨2, ![2, 4]⟩
abbrev S64 : Shape := ⟨1, ![64]⟩
abbrev S_ : Shape := ⟨0, ![]⟩
abbrev S16x4352 : Shape := ⟨2, ![16, 4352]⟩
abbrev S16x4352x1 : Shape := ⟨3, ![16, 4352, 1]⟩
abbrev S1x1x1024 : Shape := ⟨3, ![1, 1, 1024]⟩
abbrev S16x1x1x1024 : Shape := ⟨4, ![16, 1, 1, 1024]⟩
abbrev S16x1024 : Shape := ⟨2, ![16, 1024]⟩
abbrev S16x1x1024 : Shape := ⟨3, ![16, 1, 1024]⟩
abbrev S16x4096x1024 : Shape := ⟨3, ![16, 4096, 1024]⟩
abbrev S16x256x1024 : Shape := ⟨3, ![16, 256, 1024]⟩
abbrev S16x4352x6160 : Shape := ⟨3, ![16, 4352, 6160]⟩
abbrev S16x4352x512 : Shape := ⟨3, ![16, 4352, 512]⟩
abbrev S16x4352x8 : Shape := ⟨3, ![16, 4352, 8]⟩
abbrev S16x4352x256 : Shape := ⟨3, ![16, 4352, 256]⟩
abbrev S16x4352x3072 : Shape := ⟨3, ![16, 4352, 3072]⟩
abbrev S16x4352x2x4 : Shape := ⟨4, ![16, 4352, 2, 4]⟩
abbrev S1x1x2x4 : Shape := ⟨4, ![1, 1, 2, 4]⟩
abbrev S16x4352x4x64 : Shape := ⟨4, ![16, 4352, 4, 64]⟩
abbrev S16x4352x4 : Shape := ⟨3, ![16, 4352, 4]⟩
abbrev S16x4352x4x1 : Shape := ⟨4, ![16, 4352, 4, 1]⟩
abbrev S1x1x1x64 : Shape := ⟨4, ![1, 1, 1, 64]⟩
abbrev S16x4352x112 : Shape := ⟨3, ![16, 4352, 112]⟩
abbrev S16x4352x128 : Shape := ⟨3, ![16, 4352, 128]⟩
abbrev S16x4352x1536 : Shape := ⟨3, ![16, 4352, 1536]⟩
abbrev S16x4352x768 : Shape := ⟨3, ![16, 4352, 768]⟩

abbrev nBuf : Space → Nat
  | .hbm => 142
  | .vmem => 0
  | .smem => 0
  | _ => 0

abbrev hbmTy0_0 (i : Nat) : BufTy := match i % 128 with
  | 0 => ⟨S16x4352x1024, .f32⟩
  | 1 => ⟨S16x2x6x1024, .f32⟩
  | 2 => ⟨S1024, .f32⟩
  | 3 => ⟨S1024x6160, .f32⟩
  | 4 => ⟨S2x4, .f32⟩
  | 5 => ⟨S2x4, .f32⟩
  | 6 => ⟨S64, .f32⟩
  | 7 => ⟨S64, .f32⟩
  | 8 => ⟨S16x4352x1024, .f32⟩
  | 9 => ⟨S_, .f32⟩
  | 10 => ⟨S16x4352, .f32⟩
  | 11 => ⟨S16x4352x1, .f32⟩
  | 12 => ⟨S_, .f32⟩
  | 13 => ⟨S16x4352x1, .f32⟩
  | 14 => ⟨S16x4352x1, .f32⟩
  | 15 => ⟨S_, .f32⟩
  | 16 => ⟨S16x4352x1, .f32⟩
  | 17 => ⟨S16x4352x1, .f32⟩
  | 18 => ⟨S16x4352x1, .f32⟩
  | 19 => ⟨S16x4352x1024, .f32⟩
  | 20 => ⟨S16x4352x1024, .f32⟩
  | 21 => ⟨S1x1x1024, .f32⟩
  | 22 => ⟨S16x4352x1024, .f32⟩
  | 23 => ⟨S16x4352x1024, .f32⟩
  | 24 => ⟨S16x1x1x1024, .f32⟩
  | 25 => ⟨S16x1024, .f32⟩
  | 26 => ⟨S16x1x1024, .f32⟩
  | 27 => ⟨S16x4096x1024, .f32⟩
  | 28 => ⟨S16x1x1x1024, .f32⟩
  | 29 => ⟨S16x1024, .f32⟩
  | 30 => ⟨S16x1x1024, .f32⟩
  | 31 => ⟨S16x256x1024, .f32⟩
  | 32 => ⟨S16x4352x1024, .f32⟩
  | 33 => ⟨S_, .f32⟩
  | 34 => ⟨S16x4352x1024, .f32⟩
  | 35 => ⟨S16x4352x1024, .f32⟩
  | 36 => ⟨S16x4352x1024, .f32⟩
  | 37 => ⟨S16x1x1x1024, .f32⟩
  | 38 => ⟨S16x1024, .f32⟩
  | 39 => ⟨S16x1x1024, .f32⟩
  | 40 => ⟨S16x4096x1024, .f32⟩
  | 41 => ⟨S16x1x1x1024, .f32⟩
  | 42 => ⟨S16x1024, .f32⟩
  | 43 => ⟨S16x1x1024, .f32⟩
  | 44 => ⟨S16x256x1024, .f32⟩
  | 45 => ⟨S16x4352x1024, .f32⟩
  | 46 => ⟨S16x4352x1024, .f32⟩
  | 47 => ⟨S16x4352x6160, .f32⟩
  | 48 => ⟨S16x4352x512, .f32⟩
  | 49 => ⟨S16x4352x512, .f32⟩
  | 50 => ⟨S16x4352x512, .f32⟩
  | 51 => ⟨S16x4352x512, .f32⟩
  | 52 => ⟨S16x4352x8, .f32⟩
  | 53 => ⟨S16x4352x8, .f32⟩
  | 54 => ⟨S16x4352x256, .f32⟩
  | 55 => ⟨S16x4352x256, .f32⟩
  | 56 => ⟨S16x4352x256, .f32⟩
  | 57 => ⟨S16x4352x256, .f32⟩
  | 58 => ⟨S16x4352x3072, .f32⟩
  | 59 => ⟨S16x4352x2x4, .f32⟩
  | 60 => ⟨S2x4, .f32⟩
  | 61 => ⟨S2x4, .f32⟩
  | 62 => ⟨S1x1x2x4, .f32⟩
  | 63 => ⟨S16x4352x2x4, .f32⟩
  | 64 => ⟨S16x4352x2x4, .f32⟩
  | 65 => ⟨S_, .f32⟩
  | 66 => ⟨S16x4352x2x4, .f32⟩
  | 67 => ⟨S16x4352x2x4, .f32⟩
  | 68 => ⟨S16x4352x2x4, .f32⟩
  | 69 => ⟨S16x4352x2x4, .f32⟩
  | 70 => ⟨S16x4352x2x4, .i1⟩
  | 71 => ⟨S16x4352x2x4, .f32⟩
  | 72 => ⟨S16x4352x2x4, .f32⟩
  | 73 => ⟨S16x4352x2x4, .f32⟩
  | 74 => ⟨S16x4352x2x4, .f32⟩
  | 75 => ⟨S16x4352x2x4, .f32⟩
  | 76 => ⟨S16x4352x2x4, .f32⟩
  | 77 => ⟨S16x4352x2x4, .f32⟩
  | 78 => ⟨S16x4352x2x4, .f32⟩
  | 79 => ⟨S1x1x2x4, .f32⟩
  | 80 => ⟨S16x4352x2x4, .f32⟩
  | 81 => ⟨S16x4352x2x4, .f32⟩
  | 82 => ⟨S16x4352x2x4, .f32⟩
  | 83 => ⟨S16x4352x2x4, .f32⟩
  | 84 => ⟨S16x4352x2x4, .f32⟩
  | 85 => ⟨S_, .f32⟩
  | 86 => ⟨S16x4352x2x4, .f32⟩
  | 87 => ⟨S16x4352x2x4, .f32⟩
  | 88 => ⟨S_, .f32⟩
  | 89 => ⟨S16x4352x2x4, .f32⟩
  | 90 => ⟨S16x4352x2x4, .f32⟩
  | 91 => ⟨S16x4352x4x64, .f32⟩
  | 92 => ⟨S16x4352x4x64, .f32⟩
  | 93 => ⟨S_, .f32⟩
  | 94 => ⟨S16x4352x4, .f32⟩
  | 95 => ⟨S16x4352x4x1, .f32⟩
  | 96 => ⟨S_, .f32⟩
  | 97 => ⟨S16x4352x4x1, .f32⟩
  | 98 => ⟨S16x4352x4x1, .f32⟩
  | 99 => ⟨S_, .f32⟩
  | 100 => ⟨S16x4352x4x1, .f32⟩
  | 101 => ⟨S16x4352x4x1, .f32⟩
  | 102 => ⟨S16x4352x4x1, .f32⟩
  | 103 => ⟨S16x4352x4x64, .f32⟩
  | 104 => ⟨S16x4352x4x64, .f32⟩
  | 105 => ⟨S1x1x1x64, .f32⟩
  | 106 => ⟨S16x4352x4x64, .f32⟩
  | 107 => ⟨S16x4352x4x64, .f32⟩
  | 108 => ⟨S_, .f32⟩
  | 109 => ⟨S16x4352x4x64, .f32⟩
  | 110 => ⟨S16x4352x4x64, .f32⟩
  | 111 => ⟨S16x4352x4x64, .f32⟩
  | 112 => ⟨S16x4352x4x64, .f32⟩
  | 113 => ⟨S_, .f32⟩
  | 114 => ⟨S16x4352x4, .f32⟩
  | 115 => ⟨S16x4352x4x1, .f32⟩
  | 116 => ⟨S_, .f32⟩
  | 117 => ⟨S16x4352x4x1, .f32⟩
  | 118 => ⟨S16x4352x4x1, .f32⟩
  | 119 => ⟨S_, .f32⟩
  | 120 => ⟨S16x4352x4x1, .f32⟩
  | 121 => ⟨S16x4352x4x1, .f32⟩
  | 122 => ⟨S16x4352x4x1, .f32⟩
  | 123 => ⟨S16x4352x4x64, .f32⟩
  | 124 => ⟨S16x4352x4x64, .f32⟩
  | 125 => ⟨S1x1x1x64, .f32⟩
  | 126 => ⟨S16x4352x4x64, .f32⟩
  | 127 => ⟨S16x4352x4x64, .f32⟩
  | _ => ⟨S16x4352x1024, .f32⟩

abbrev hbmTy0_1 (i : Nat) : BufTy := match i % 128 with
  | 0 => ⟨S16x4352x8, .f32⟩
  | 1 => ⟨S16x4352x8, .f32⟩
  | 2 => ⟨S_, .f32⟩
  | 3 => ⟨S16x4352x112, .f32⟩
  | 4 => ⟨S16x4352x128, .f32⟩
  | 5 => ⟨S16x4352x1536, .f32⟩
  | 6 => ⟨S16x4352x1536, .bf16⟩
  | 7 => ⟨S16x4352x512, .bf16⟩
  | 8 => ⟨S16x4352x256, .bf16⟩
  | 9 => ⟨S16x4352x256, .f32⟩
  | 10 => ⟨S16x4352x256, .f32⟩
  | 11 => ⟨S16x4352x768, .f32⟩
  | 12 => ⟨S16x4352x768, .bf16⟩
  | 13 => ⟨S16x4352x3072, .bf16⟩
  | _ => ⟨S16x4352x1024, .f32⟩

abbrev hbmTy (i : Nat) : BufTy := match i / 128 with
  | 0 => hbmTy0_0 i
  | 1 => hbmTy0_1 i
  | _ => ⟨S16x4352x1024, .f32⟩

abbrev bufTy : (tb : Table) → Fin (tcTables nBuf tb) → BufTy
  | .hbm, ⟨i, _⟩ => hbmTy i
  | _, _ => ⟨S16x4352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_2 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_3 : Ref sig .tc := ⟨.hbm, 85, rfl⟩
abbrev main_v60 : Ref sig .tc := ⟨.hbm, 86, rfl⟩
abbrev main_v61 : Ref sig .tc := ⟨.hbm, 87, rfl⟩
abbrev main_cst_4 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_5 : Ref sig .tc := ⟨.hbm, 93, rfl⟩
abbrev main_v66 : Ref sig .tc := ⟨.hbm, 94, rfl⟩
abbrev main_v67 : Ref sig .tc := ⟨.hbm, 95, rfl⟩
abbrev main_cst_6 : Ref sig .tc := ⟨.hbm, 96, rfl⟩
abbrev main_v68 : Ref sig .tc := ⟨.hbm, 97, rfl⟩
abbrev main_v69 : Ref sig .tc := ⟨.hbm, 98, rfl⟩
abbrev main_cst_7 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_8 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_9 : Ref sig .tc := ⟨.hbm, 113, rfl⟩
abbrev main_v82 : Ref sig .tc := ⟨.hbm, 114, rfl⟩
abbrev main_v83 : Ref sig .tc := ⟨.hbm, 115, rfl⟩
abbrev main_cst_10 : Ref sig .tc := ⟨.hbm, 116, rfl⟩
abbrev main_v84 : Ref sig .tc := ⟨.hbm, 117, rfl⟩
abbrev main_v85 : Ref sig .tc := ⟨.hbm, 118, rfl⟩
abbrev main_cst_11 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_cst_12 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩

abbrev nD : Nat := 1
abbrev τ : Topo := Topo.v7x

variable {F : FTy → Type} [FloatOps F]
-- ==== Scan.lean ====
abbrev S16x8704x1024 : Shape := ⟨3, ![16, 8704, 1024]⟩
abbrev S16x4352x1024 : Shape := ⟨3, ![16, 4352, 1024]⟩
abbrev S16x4352x512 : Shape := ⟨3, ![16, 4352, 512]⟩
abbrev S16x4352x128 : Shape := ⟨3, ![16, 4352, 128]⟩
abbrev S1x512x512 : Shape := ⟨3, ![1, 512, 512]⟩
abbrev S1x256x512 : Shape := ⟨3, ![1, 256, 512]⟩
abbrev S1x256x256 : Shape := ⟨3, ![1, 256, 256]⟩
abbrev S1x256x128 : Shape := ⟨3, ![1, 256, 128]⟩
abbrev S4x256x256 : Shape := ⟨3, ![4, 256, 256]⟩
abbrev S256x256 : Shape := ⟨2, ![256, 256]⟩
abbrev S64x256 : Shape := ⟨2, ![64, 256]⟩
abbrev S1x256 : Shape := ⟨2, ![1, 256]⟩
abbrev S1x128x256 : Shape := ⟨3, ![1, 128, 256]⟩
abbrev S128x256 : Shape := ⟨2, ![128, 256]⟩
abbrev S1x64x256 : Shape := ⟨3, ![1, 64, 256]⟩
abbrev S1x64x128 : Shape := ⟨3, ![1, 64, 128]⟩
abbrev S64x128 : Shape := ⟨2, ![64, 128]⟩
abbrev S1x1x128 : Shape := ⟨3, ![1, 1, 128]⟩
abbrev S1x128 : Shape := ⟨2, ![1, 128]⟩
abbrev S1x1 : Shape := ⟨2, ![1, 1]⟩

abbrev nBuf : Space → Nat
  | .hbm => 7
  | .vmem => 25
  | .smem => 0
  | _ => 0

abbrev bufTy : (tb : Table) → Fin (tcTables nBuf tb) → BufTy
  | .hbm, ⟨0, _⟩ => ⟨S16x8704x1024, .bf16⟩
  | .hbm, ⟨1, _⟩ => ⟨S16x4352x1024, .bf16⟩
  | .hbm, ⟨2, _⟩ => ⟨S16x4352x1024, .f32⟩
  | .hbm, ⟨3, _⟩ => ⟨S16x4352x512, .bf16⟩
  | .hbm, ⟨4, _⟩ => ⟨S16x4352x128, .f32⟩
  | .hbm, ⟨5, _⟩ => ⟨S16x4352x512, .f32⟩
  | .hbm, ⟨6, _⟩ => ⟨S16x4352x512, .f32⟩
  | .local _ .vmem, ⟨0, _⟩ => ⟨S1x512x512, .bf16⟩
  | .local _ .vmem, ⟨1, _⟩ => ⟨S1x512x512, .bf16⟩
  | .local _ .vmem, ⟨2, _⟩ => ⟨S1x256x512, .bf16⟩
  | .local _ .vmem, ⟨3, _⟩ => ⟨S1x256x512, .bf16⟩
  | .local _ .vmem, ⟨4, _⟩ => ⟨S1x256x512, .f32⟩
  | .local _ .vmem, ⟨5, _⟩ => ⟨S1x256x512, .f32⟩
  | .local _ .vmem, ⟨6, _⟩ => ⟨S1x256x256, .bf16⟩
  | .local _ .vmem, ⟨7, _⟩ => ⟨S1x256x256, .bf16⟩
  | .local _ .vmem, ⟨8, _⟩ => ⟨S1x256x128, .f32⟩
  | .local _ .vmem, ⟨9, _⟩ => ⟨S1x256x128, .f32⟩
  | .local _ .vmem, ⟨10, _⟩ => ⟨S1x512x512, .bf16⟩
  | .local _ .vmem, ⟨11, _⟩ => ⟨S1x512x512, .bf16⟩
  | .local _ .vmem, ⟨12, _⟩ => ⟨S1x256x512, .bf16⟩
  | .local _ .vmem, ⟨13, _⟩ => ⟨S1x256x512, .bf16⟩
  | .local _ .vmem, ⟨14, _⟩ => ⟨S1x256x512, .f32⟩
  | .local _ .vmem, ⟨15, _⟩ => ⟨S1x256x512, .f32⟩
  | .local _ .vmem, ⟨16, _⟩ => ⟨S1x256x256, .bf16⟩
  | .local _ .vmem, ⟨17, _⟩ => ⟨S1x256x256, .bf16⟩
  | .local _ .vmem, ⟨18, _⟩ => ⟨S1x256x128, .f32⟩
  | .local _ .vmem, ⟨19, _⟩ => ⟨S1x256x128, .f32⟩
  | .local _ .vmem, ⟨20, _⟩ => ⟨S1x256x512, .f32⟩
  | .local _ .vmem, ⟨21, _⟩ => ⟨S1x256x512, .f32⟩
  | .local _ .vmem, ⟨22, _⟩ => ⟨S1x256x512, .f32⟩
  | .local _ .vmem, ⟨23, _⟩ => ⟨S1x256x512, .f32⟩
  | .local _ .vmem, ⟨24, _⟩ => ⟨S4x256x256, .f32⟩
  | _, _ => ⟨S16x8704x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![16, 17], ![false, false]⟩

def cc0_transform_0 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_3 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_5 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_7 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_8 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c1_i32 : BitVec 32 := 1#32
  let c0_i32 : BitVec 32 := 0#32
  ![arg0.toNat, v0.toNat, c1_i32.toNat]

def cc0_transform_9 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 1 := Scalar.cmpi .slt arg1 c1_i32
  let c16_i32 : BitVec 32 := 16#32
  let v1 : BitVec 32 := Scalar.addi c16_i32 arg1
  let c1_i32_0 : BitVec 32 := 1#32
  let v2 : BitVec 32 := Scalar.subi arg1 c1_i32_0
  let v3 : BitVec 32 := Scalar.select v0 v1 v2
  let c0_i32 : BitVec 32 := 0#32
  let c0_i32_1 : BitVec 32 := 0#32
  ![arg0.toNat, v3.toNat, c0_i32.toNat]

def cc0_transform_11 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.subi c16_i32 arg1
  let c0_i32 : BitVec 32 := 0#32
  let c0_i32_0 : BitVec 32 := 0#32
  ![arg0.toNat, v0.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ScanRefIdeal.lean ====
abbrev S16x8704x1024 : Shape := ⟨3, ![16, 8704, 1024]⟩
abbrev S16x4352x1024 : Shape := ⟨3, ![16, 4352, 1024]⟩
abbrev S16x4352x512 : Shape := ⟨3, ![16, 4352, 512]⟩
abbrev S16x4352x128 : Shape := ⟨3, ![16, 4352, 128]⟩
abbrev S16x68x2x64x1024 : Shape := ⟨5, ![16, 68, 2, 64, 1024]⟩
abbrev S16x68x1x64x1024 : Shape := ⟨5, ![16, 68, 1, 64, 1024]⟩
abbrev S16x68x64x1024 : Shape := ⟨4, ![16, 68, 64, 1024]⟩
abbrev S16x68x64x8x128 : Shape := ⟨5, ![16, 68, 64, 8, 128]⟩
abbrev S68x16x8x64x128 : Shape := ⟨5, ![68, 16, 8, 64, 128]⟩
abbrev S4x16x4x64x128 : Shape := ⟨5, ![4, 16, 4, 64, 128]⟩
abbrev S64x16x4x64x128 : Shape := ⟨5, ![64, 16, 4, 64, 128]⟩
abbrev S68x16x4x64x128 : Shape := ⟨5, ![68, 16, 4, 64, 128]⟩
abbrev S16x68x64x8x64 : Shape := ⟨5, ![16, 68, 64, 8, 64]⟩
abbrev S68x16x8x64x64 : Shape := ⟨5, ![68, 16, 8, 64, 64]⟩
abbrev S4x16x4x64x64 : Shape := ⟨5, ![4, 16, 4, 64, 64]⟩
abbrev S64x16x4x64x64 : Shape := ⟨5, ![64, 16, 4, 64, 64]⟩
abbrev S68x16x4x64x64 : Shape := ⟨5, ![68, 16, 4, 64, 64]⟩
abbrev S16x4352x8 : Shape := ⟨3, ![16, 4352, 8]⟩
abbrev S16x68x64x8x1 : Shape := ⟨5, ![16, 68, 64, 8, 1]⟩
abbrev S68x16x8x64x1 : Shape := ⟨5, ![68, 16, 8, 64, 1]⟩
abbrev S4x16x4x64x1 : Shape := ⟨5, ![4, 16, 4, 64, 1]⟩
abbrev S64x16x4x64x1 : Shape := ⟨5, ![64, 16, 4, 64, 1]⟩
abbrev S68x16x4x64x1 : Shape := ⟨5, ![68, 16, 4, 64, 1]⟩
abbrev S68x16x8x1x1 : Shape := ⟨5, ![68, 16, 8, 1, 1]⟩
abbrev S68x16x8 : Shape := ⟨3, ![68, 16, 8]⟩
abbrev S_ : Shape := ⟨0, ![]⟩
abbrev S16x8x128x128 : Shape := ⟨4, ![16, 8, 128, 128]⟩
abbrev S1x16x8x64x128 : Shape := ⟨5, ![1, 16, 8, 64, 128]⟩
abbrev S16x8x64x128 : Shape := ⟨4, ![16, 8, 64, 128]⟩
abbrev S1x16x8x64x64 : Shape := ⟨5, ![1, 16, 8, 64, 64]⟩
abbrev S16x8x64x64 : Shape := ⟨4, ![16, 8, 64, 64]⟩
abbrev S1x16x8 : Shape := ⟨3, ![1, 16, 8]⟩
abbrev S16x8 : Shape := ⟨2, ![16, 8]⟩
abbrev S16x8x1x1 : Shape := ⟨4, ![16, 8, 1, 1]⟩
abbrev S16x68x64x4x128 : Shape := ⟨5, ![16, 68, 64, 4, 128]⟩

abbrev nBuf : Space → Nat
  | .hbm => 144
  | .vmem => 0
  | .smem => 0
  | _ => 0

abbrev hbmTy0_0 (i : Nat) : BufTy := match i % 128 with
  | 0 => ⟨S16x8704x1024, .bf16⟩
  | 1 => ⟨S16x4352x1024, .bf16⟩
  | 2 => ⟨S16x4352x1024, .f32⟩
  | 3 => ⟨S16x4352x512, .bf16⟩
  | 4 => ⟨S16x4352x128, .f32⟩
  | 5 => ⟨S16x68x2x64x1024, .bf16⟩
  | 6 => ⟨S16x68x1x64x1024, .bf16⟩
  | 7 => ⟨S16x68x64x1024, .bf16⟩
  | 8 => ⟨S16x4352x1024, .bf16⟩
  | 9 => ⟨S16x4352x1024, .f32⟩
  | 10 => ⟨S16x68x64x8x128, .f32⟩
  | 11 => ⟨S68x16x8x64x128, .f32⟩
  | 12 => ⟨S4x16x4x64x128, .f32⟩
  | 13 => ⟨S64x16x4x64x128, .f32⟩
  | 14 => ⟨S68x16x4x64x128, .f32⟩
  | 15 => ⟨S68x16x4x64x128, .f32⟩
  | 16 => ⟨S68x16x4x64x128, .f32⟩
  | 17 => ⟨S68x16x8x64x128, .f32⟩
  | 18 => ⟨S16x68x1x64x1024, .bf16⟩
  | 19 => ⟨S16x68x64x1024, .bf16⟩
  | 20 => ⟨S16x4352x1024, .bf16⟩
  | 21 => ⟨S16x4352x1024, .f32⟩
  | 22 => ⟨S16x68x64x8x128, .f32⟩
  | 23 => ⟨S68x16x8x64x128, .f32⟩
  | 24 => ⟨S4x16x4x64x128, .f32⟩
  | 25 => ⟨S64x16x4x64x128, .f32⟩
  | 26 => ⟨S68x16x4x64x128, .f32⟩
  | 27 => ⟨S68x16x4x64x128, .f32⟩
  | 28 => ⟨S68x16x4x64x128, .f32⟩
  | 29 => ⟨S68x16x8x64x128, .f32⟩
  | 30 => ⟨S16x4352x1024, .f32⟩
  | 31 => ⟨S16x68x64x8x128, .f32⟩
  | 32 => ⟨S68x16x8x64x128, .f32⟩
  | 33 => ⟨S4x16x4x64x128, .f32⟩
  | 34 => ⟨S64x16x4x64x128, .f32⟩
  | 35 => ⟨S68x16x4x64x128, .f32⟩
  | 36 => ⟨S68x16x4x64x128, .f32⟩
  | 37 => ⟨S68x16x4x64x128, .f32⟩
  | 38 => ⟨S68x16x8x64x128, .f32⟩
  | 39 => ⟨S16x68x64x8x128, .f32⟩
  | 40 => ⟨S68x16x8x64x128, .f32⟩
  | 41 => ⟨S4x16x4x64x128, .f32⟩
  | 42 => ⟨S64x16x4x64x128, .f32⟩
  | 43 => ⟨S68x16x4x64x128, .f32⟩
  | 44 => ⟨S68x16x4x64x128, .f32⟩
  | 45 => ⟨S68x16x4x64x128, .f32⟩
  | 46 => ⟨S68x16x8x64x128, .f32⟩
  | 47 => ⟨S16x4352x512, .f32⟩
  | 48 => ⟨S16x68x64x8x64, .f32⟩
  | 49 => ⟨S68x16x8x64x64, .f32⟩
  | 50 => ⟨S4x16x4x64x64, .f32⟩
  | 51 => ⟨S64x16x4x64x64, .f32⟩
  | 52 => ⟨S68x16x4x64x64, .f32⟩
  | 53 => ⟨S68x16x4x64x64, .f32⟩
  | 54 => ⟨S68x16x4x64x64, .f32⟩
  | 55 => ⟨S68x16x8x64x64, .f32⟩
  | 56 => ⟨S16x4352x8, .f32⟩
  | 57 => ⟨S16x68x64x8x1, .f32⟩
  | 58 => ⟨S68x16x8x64x1, .f32⟩
  | 59 => ⟨S4x16x4x64x1, .f32⟩
  | 60 => ⟨S64x16x4x64x1, .f32⟩
  | 61 => ⟨S68x16x4x64x1, .f32⟩
  | 62 => ⟨S68x16x4x64x1, .f32⟩
  | 63 => ⟨S68x16x4x64x1, .f32⟩
  | 64 => ⟨S68x16x8x64x1, .f32⟩
  | 65 => ⟨S68x16x8x1x1, .f32⟩
  | 66 => ⟨S68x16x8, .f32⟩
  | 67 => ⟨S_, .f32⟩
  | 68 => ⟨S16x8x128x128, .f32⟩
  | 69 => ⟨S_, .f32⟩
  | 70 => ⟨S68x16x8x64x128, .f32⟩
  | 71 => ⟨S_, .i32⟩
  | 72 => ⟨S68x16x8x64x128, .f32⟩
  | 73 => ⟨S68x16x8x64x128, .f32⟩
  | 74 => ⟨S68x16x8x64x128, .f32⟩
  | 75 => ⟨S68x16x8x64x128, .f32⟩
  | 76 => ⟨S68x16x8x64x64, .f32⟩
  | 77 => ⟨S68x16x8, .f32⟩
  | 78 => ⟨S_, .i32⟩
  | 79 => ⟨S16x8x128x128, .f32⟩
  | 80 => ⟨S68x16x8x64x128, .f32⟩
  | 81 => ⟨S_, .i32⟩
  | 82 => ⟨S_, .i1⟩
  | 83 => ⟨S_, .i32⟩
  | 84 => ⟨S_, .i32⟩
  | 85 => ⟨S_, .i32⟩
  | 86 => ⟨S_, .i32⟩
  | 87 => ⟨S1x16x8x64x128, .f32⟩
  | 88 => ⟨S16x8x64x128, .f32⟩
  | 89 => ⟨S_, .i32⟩
  | 90 => ⟨S_, .i32⟩
  | 91 => ⟨S_, .i32⟩
  | 92 => ⟨S_, .i32⟩
  | 93 => ⟨S1x16x8x64x128, .f32⟩
  | 94 => ⟨S16x8x64x128, .f32⟩
  | 95 => ⟨S_, .i32⟩
  | 96 => ⟨S_, .i32⟩
  | 97 => ⟨S_, .i32⟩
  | 98 => ⟨S_, .i32⟩
  | 99 => ⟨S1x16x8x64x128, .f32⟩
  | 100 => ⟨S16x8x64x128, .f32⟩
  | 101 => ⟨S_, .i32⟩
  | 102 => ⟨S_, .i32⟩
  | 103 => ⟨S_, .i32⟩
  | 104 => ⟨S_, .i32⟩
  | 105 => ⟨S1x16x8x64x128, .f32⟩
  | 106 => ⟨S16x8x64x128, .f32⟩
  | 107 => ⟨S_, .i32⟩
  | 108 => ⟨S_, .i32⟩
  | 109 => ⟨S_, .i32⟩
  | 110 => ⟨S_, .i32⟩
  | 111 => ⟨S1x16x8x64x64, .f32⟩
  | 112 => ⟨S16x8x64x64, .f32⟩
  | 113 => ⟨S_, .i32⟩
  | 114 => ⟨S_, .i32⟩
  | 115 => ⟨S1x16x8, .f32⟩
  | 116 => ⟨S16x8, .f32⟩
  | 117 => ⟨S16x8x64x128, .f32⟩
  | 118 => ⟨S16x8x64x128, .f32⟩
  | 119 => ⟨S16x8x64x128, .f32⟩
  | 120 => ⟨S16x8x64x128, .f32⟩
  | 121 => ⟨S16x8x64x128, .f32⟩
  | 122 => ⟨S16x8x1x1, .f32⟩
  | 123 => ⟨S16x8x128x128, .f32⟩
  | 124 => ⟨S16x8x128x128, .f32⟩
  | 125 => ⟨S16x8x128x128, .f32⟩
  | 126 => ⟨S16x8x128x128, .f32⟩
  | 127 => ⟨S1x16x8x64x128, .f32⟩
  | _ => ⟨S16x8704x1024, .bf16⟩

abbrev hbmTy0_1 (i : Nat) : BufTy := match i % 128 with
  | 0 => ⟨S_, .i32⟩
  | 1 => ⟨S_, .i32⟩
  | 2 => ⟨S_, .i32⟩
  | 3 => ⟨S_, .i32⟩
  | 4 => ⟨S68x16x8x64x128, .f32⟩
  | 5 => ⟨S_, .i32⟩
  | 6 => ⟨S_, .i32⟩
  | 7 => ⟨S64x16x4x64x128, .f32⟩
  | 8 => ⟨S4x16x4x64x128, .f32⟩
  | 9 => ⟨S68x16x4x64x128, .f32⟩
  | 10 => ⟨S16x68x64x4x128, .f32⟩
  | 11 => ⟨S16x4352x512, .f32⟩
  | 12 => ⟨S68x16x4x64x128, .f32⟩
  | 13 => ⟨S68x16x4x64x128, .f32⟩
  | 14 => ⟨S16x68x64x4x128, .f32⟩
  | 15 => ⟨S16x4352x512, .f32⟩
  | _ => ⟨S16x8704x1024, .bf16⟩

abbrev hbmTy (i : Nat) : BufTy := match i / 128 with
  | 0 => hbmTy0_0 i
  | 1 => hbmTy0_1 i
  | _ => ⟨S16x8704x1024, .bf16⟩

abbrev bufTy : (tb : Table) → Fin (tcTables nBuf tb) → BufTy
  | .hbm, ⟨i, _⟩ => hbmTy i
  | _, _ => ⟨S16x8704x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩
abbrev main_v35 : Ref sig .tc := ⟨.hbm, 40, rfl⟩
abbrev main_v36 : Ref sig .tc := ⟨.hbm, 41, rfl⟩
abbrev main_v37 : Ref sig .tc := ⟨.hbm, 42, rfl⟩
abbrev main_v38 : Ref sig .tc := ⟨.hbm, 43, rfl⟩
abbrev main_v39 : Ref sig .tc := ⟨.hbm, 44, rfl⟩
abbrev main_v40 : Ref sig .tc := ⟨.hbm, 45, rfl⟩
abbrev main_v41 : Ref sig .tc := ⟨.hbm, 46, rfl⟩
abbrev main_v42 : Ref sig .tc := ⟨.hbm, 47, rfl⟩
abbrev main_v43 : Ref sig .tc := ⟨.hbm, 48, rfl⟩
abbrev main_v44 : Ref sig .tc := ⟨.hbm, 49, rfl⟩
abbrev main_v45 : Ref sig .tc := ⟨.hbm, 50, rfl⟩
abbrev main_v46 : Ref sig .tc := ⟨.hbm, 51, rfl⟩
abbrev main_v47 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_v61 : Ref sig .tc := ⟨.hbm, 66, rfl⟩
abbrev main_cst : Ref sig .tc := ⟨.hbm, 67, rfl⟩
abbrev main_v62 : Ref sig .tc := ⟨.hbm, 68, rfl⟩
abbrev main_cst_0 : Ref sig .tc := ⟨.hbm, 69, rfl⟩
abbrev main_v63 : Ref sig .tc := ⟨.hbm, 70, rfl⟩
abbrev main_c : Ref sig .tc := ⟨.hbm, 71, rfl⟩
abbrev main_v64_0 : Ref sig .tc := ⟨.hbm, 72, rfl⟩
abbrev main_v64_1 : Ref sig .tc := ⟨.hbm, 73, rfl⟩
abbrev main_v64_2 : Ref sig .tc := ⟨.hbm, 74, rfl⟩
abbrev main_v64_3 : Ref sig .tc := ⟨.hbm, 75, rfl⟩
abbrev main_v64_4 : Ref sig .tc := ⟨.hbm, 76, rfl⟩
abbrev main_v64_5 : Ref sig .tc := ⟨.hbm, 77, rfl⟩
abbrev main_v64_6 : Ref sig .tc := ⟨.hbm, 78, rfl⟩
abbrev main_v64_7 : Ref sig .tc := ⟨.hbm, 79, rfl⟩
abbrev main_v64_8 : Ref sig .tc := ⟨.hbm, 80, rfl⟩
abbrev main_while0c_c_9 : Ref sig .tc := ⟨.hbm, 81, rfl⟩
abbrev main_while0c_v74 : Ref sig .tc := ⟨.hbm, 82, rfl⟩
abbrev main_while0b_call6_c : Ref sig .tc := ⟨.hbm, 83, rfl⟩
abbrev main_while0b_call6_c_0 : Ref sig .tc := ⟨.hbm, 84, rfl⟩
abbrev main_while0b_call6_c_1 : Ref sig .tc := ⟨.hbm, 85, rfl⟩
abbrev main_while0b_call6_c_2 : Ref sig .tc := ⟨.hbm, 86, rfl⟩
abbrev main_while0b_call6_v0 : Ref sig .tc := ⟨.hbm, 87, rfl⟩
abbrev main_while0b_v74 : Ref sig .tc := ⟨.hbm, 88, rfl⟩
abbrev main_while0b_call7_c : Ref sig .tc := ⟨.hbm, 89, rfl⟩
abbrev main_while0b_call7_c_0 : Ref sig .tc := ⟨.hbm, 90, rfl⟩
abbrev main_while0b_call7_c_1 : Ref sig .tc := ⟨.hbm, 91, rfl⟩
abbrev main_while0b_call7_c_2 : Ref sig .tc := ⟨.hbm, 92, rfl⟩
abbrev main_while0b_call7_v0 : Ref sig .tc := ⟨.hbm, 93, rfl⟩
abbrev main_while0b_v75 : Ref sig .tc := ⟨.hbm, 94, rfl⟩
abbrev main_while0b_call8_c : Ref sig .tc := ⟨.hbm, 95, rfl⟩
abbrev main_while0b_call8_c_0 : Ref sig .tc := ⟨.hbm, 96, rfl⟩
abbrev main_while0b_call8_c_1 : Ref sig .tc := ⟨.hbm, 97, rfl⟩
abbrev main_while0b_call8_c_2 : Ref sig .tc := ⟨.hbm, 98, rfl⟩
abbrev main_while0b_call8_v0 : Ref sig .tc := ⟨.hbm, 99, rfl⟩
abbrev main_while0b_v76 : Ref sig .tc := ⟨.hbm, 100, rfl⟩
abbrev main_while0b_call9_c : Ref sig .tc := ⟨.hbm, 101, rfl⟩
abbrev main_while0b_call9_c_0 : Ref sig .tc := ⟨.hbm, 102, rfl⟩
abbrev main_while0b_call9_c_1 : Ref sig .tc := ⟨.hbm, 103, rfl⟩
abbrev main_while0b_call9_c_2 : Ref sig .tc := ⟨.hbm, 104, rfl⟩
abbrev main_while0b_call9_v0 : Ref sig .tc := ⟨.hbm, 105, rfl⟩
abbrev main_while0b_v77 : Ref sig .tc := ⟨.hbm, 106, rfl⟩
abbrev main_while0b_call10_c : Ref sig .tc := ⟨.hbm, 107, rfl⟩
abbrev main_while0b_call10_c_0 : Ref sig .tc := ⟨.hbm, 108, rfl⟩
abbrev main_while0b_call10_c_1 : Ref sig .tc := ⟨.hbm, 109, rfl⟩
abbrev main_while0b_call10_c_2 : Ref sig .tc := ⟨.hbm, 110, rfl⟩
abbrev main_while0b_call10_v0 : Ref sig .tc := ⟨.hbm, 111, rfl⟩
abbrev main_while0b_v78 : Ref sig .tc := ⟨.hbm, 112, rfl⟩
abbrev main_while0b_call11_c : Ref sig .tc := ⟨.hbm, 113, rfl⟩
abbrev main_while0b_call11_c_0 : Ref sig .tc := ⟨.hbm, 114, rfl⟩
abbrev main_while0b_call11_v0 : Ref sig .tc := ⟨.hbm, 115, rfl⟩
abbrev main_while0b_v79 : Ref sig .tc := ⟨.hbm, 116, rfl⟩
abbrev main_while0b_v80 : Ref sig .tc := ⟨.hbm, 117, rfl⟩
abbrev main_while0b_v81 : Ref sig .tc := ⟨.hbm, 118, rfl⟩
abbrev main_while0b_v82 : Ref sig .tc := ⟨.hbm, 119, rfl⟩
abbrev main_while0b_v83 : Ref sig .tc := ⟨.hbm, 120, rfl⟩
abbrev main_while0b_v84 : Ref sig .tc := ⟨.hbm, 121, rfl⟩
abbrev main_while0b_v85 : Ref sig .tc := ⟨.hbm, 122, rfl⟩
abbrev main_while0b_v86 : Ref sig .tc := ⟨.hbm, 123, rfl⟩
abbrev main_while0b_v87 : Ref sig .tc := ⟨.hbm, 124, rfl⟩
abbrev main_while0b_v88 : Ref sig .tc := ⟨.hbm, 125, rfl⟩
abbrev main_while0b_v89 : Ref sig .tc := ⟨.hbm, 126, rfl⟩
abbrev main_while0b_call12_v0 : Ref sig .tc := ⟨.hbm, 127, rfl⟩
abbrev main_while0b_call12_c : Ref sig .tc := ⟨.hbm, 128, rfl⟩
abbrev main_while0b_call12_c_0 : Ref sig .tc := ⟨.hbm, 129, rfl⟩
abbrev main_while0b_call12_c_1 : Ref sig .tc := ⟨.hbm, 130, rfl⟩
abbrev main_while0b_call12_c_2 : Ref sig .tc := ⟨.hbm, 131, rfl⟩
abbrev main_while0b_v90 : Ref sig .tc := ⟨.hbm, 132, rfl⟩
abbrev main_while0b_c_9 : Ref sig .tc := ⟨.hbm, 133, rfl⟩
abbrev main_while0b_v91 : Ref sig .tc := ⟨.hbm, 134, rfl⟩
abbrev main_v65 : Ref sig .tc := ⟨.hbm, 135, rfl⟩
abbrev main_v66 : Ref sig .tc := ⟨.hbm, 136, rfl⟩
abbrev main_v67 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71 : Ref sig .tc := ⟨.hbm, 141, rfl⟩
abbrev main_v72 : Ref sig .tc := ⟨.hbm, 142, rfl⟩
abbrev main_v73 : Ref sig .tc := ⟨.hbm, 143, rfl⟩

abbrev nD : Nat := 1
abbrev τ : Topo := Topo.v7x

variable {F : FTy → Type} [FloatOps F]

abbrev main_while0_count : Scf.Loop 32 := ⟨0#32, 68#32, 1#32⟩
-- ==== Mod.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S24x1024 : Shape := ⟨2, ![24, 1024]⟩
abbrev S1 : Shape := ⟨1, ![1]⟩
abbrev S4x1x6144 : Shape := ⟨3, ![4, 1, 6144]⟩
abbrev S4x24x6144 : Shape := ⟨3, ![4, 24, 6144]⟩
abbrev S1x1024x1536 : Shape := ⟨3, ![1, 1024, 1536]⟩
abbrev S1x1x1536 : Shape := ⟨3, ![1, 1, 1536]⟩
abbrev S1x24x1536 : Shape := ⟨3, ![1, 24, 1536]⟩
abbrev S1024x1536 : Shape := ⟨2, ![1024, 1536]⟩
abbrev S24x1536 : Shape := ⟨2, ![24, 1536]⟩
abbrev S1x1536 : Shape := ⟨2, ![1, 1536]⟩

abbrev nBuf : Space → Nat
  | .hbm => 15
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024, .f32⟩
  | .hbm, ⟨2, _⟩ => ⟨S4x1024x6144, .f32⟩
  | .hbm, ⟨3, _⟩ => ⟨S4x6144, .f32⟩
  | .hbm, ⟨4, _⟩ => ⟨S4x1024x6144, .bf16⟩
  | .hbm, ⟨5, _⟩ => ⟨S_, .f32⟩
  | .hbm, ⟨6, _⟩ => ⟨S24x1024, .f32⟩
  | .hbm, ⟨7, _⟩ => ⟨S_, .i32⟩
  | .hbm, ⟨8, _⟩ => ⟨S1, .i32⟩
  | .hbm, ⟨9, _⟩ => ⟨S24x1024, .f32⟩
  | .hbm, ⟨10, _⟩ => ⟨S_, .i32⟩
  | .hbm, ⟨11, _⟩ => ⟨S1, .i32⟩
  | .hbm, ⟨12, _⟩ => ⟨S24x1024, .f32⟩
  | .hbm, ⟨13, _⟩ => ⟨S4x1x6144, .f32⟩
  | .hbm, ⟨14, _⟩ => ⟨S4x24x6144, .f32⟩
  | .local _ .vmem, ⟨0, _⟩ => ⟨S24x1024, .f32⟩
  | .local _ .vmem, ⟨1, _⟩ => ⟨S1x1024x1536, .bf16⟩
  | .local _ .vmem, ⟨2, _⟩ => ⟨S1x1024x1536, .bf16⟩
  | .local _ .vmem, ⟨3, _⟩ => ⟨S1x1x1536, .f32⟩
  | .local _ .vmem, ⟨4, _⟩ => ⟨S1x1x1536, .f32⟩
  | .local _ .vmem, ⟨5, _⟩ => ⟨S1x24x1536, .f32⟩
  | .local _ .vmem, ⟨6, _⟩ => ⟨S1x24x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S24x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x24x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModRefIdeal.lean ====
abbrev S16x1024 : Shape := ⟨2, ![16, 1024]⟩
abbrev S1024 : Shape := ⟨1, ![1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S7x6144 : Shape := ⟨2, ![7, 6144]⟩
abbrev S24x6144 : Shape := ⟨2, ![24, 6144]⟩
abbrev S1x24x6144 : Shape := ⟨3, ![1, 24, 6144]⟩
abbrev S4x24x6144 : Shape := ⟨3, ![4, 24, 6144]⟩

abbrev nBuf : Space → Nat
  | .hbm => 157
  | .vmem => 0
  | .smem => 0
  | _ => 0

abbrev hbmTy0_0 (i : Nat) : BufTy := match i % 128 with
  | 0 => ⟨S16x1024, .f32⟩
  | 1 => ⟨S1024, .f32⟩
  | 2 => ⟨S4x1024x6144, .f32⟩
  | 3 => ⟨S4x6144, .f32⟩
  | 4 => ⟨S16x1024, .f32⟩
  | 5 => ⟨S16x1024, .f32⟩
  | 6 => ⟨S_, .f32⟩
  | 7 => ⟨S16x1024, .f32⟩
  | 8 => ⟨S16x1024, .f32⟩
  | 9 => ⟨S_, .f32⟩
  | 10 => ⟨S16x1024, .f32⟩
  | 11 => ⟨S16x1024, .f32⟩
  | 12 => ⟨S16x1024, .f32⟩
  | 13 => ⟨S1x1024x6144, .f32⟩
  | 14 => ⟨S1024x6144, .f32⟩
  | 15 => ⟨S16x6144, .f32⟩
  | 16 => ⟨S1x6144, .f32⟩
  | 17 => ⟨S6144, .f32⟩
  | 18 => ⟨S1x6144, .f32⟩
  | 19 => ⟨S16x6144, .f32⟩
  | 20 => ⟨S16x6144, .f32⟩
  | 21 => ⟨S1024, .f32⟩
  | 22 => ⟨S1024, .f32⟩
  | 23 => ⟨S_, .f32⟩
  | 24 => ⟨S1024, .f32⟩
  | 25 => ⟨S1024, .f32⟩
  | 26 => ⟨S_, .f32⟩
  | 27 => ⟨S1024, .f32⟩
  | 28 => ⟨S1024, .f32⟩
  | 29 => ⟨S1024, .f32⟩
  | 30 => ⟨S1x1024x6144, .f32⟩
  | 31 => ⟨S1024x6144, .f32⟩
  | 32 => ⟨S6144, .f32⟩
  | 33 => ⟨S1x6144, .f32⟩
  | 34 => ⟨S6144, .f32⟩
  | 35 => ⟨S6144, .f32⟩
  | 36 => ⟨S1x6144, .f32⟩
  | 37 => ⟨S1x6144, .f32⟩
  | 38 => ⟨S6144, .f32⟩
  | 39 => ⟨S7x6144, .f32⟩
  | 40 => ⟨S24x6144, .f32⟩
  | 41 => ⟨S16x1024, .f32⟩
  | 42 => ⟨S16x1024, .f32⟩
  | 43 => ⟨S_, .f32⟩
  | 44 => ⟨S16x1024, .f32⟩
  | 45 => ⟨S16x1024, .f32⟩
  | 46 => ⟨S_, .f32⟩
  | 47 => ⟨S16x1024, .f32⟩
  | 48 => ⟨S16x1024, .f32⟩
  | 49 => ⟨S16x1024, .f32⟩
  | 50 => ⟨S1x1024x6144, .f32⟩
  | 51 => ⟨S1024x6144, .f32⟩
  | 52 => ⟨S16x6144, .f32⟩
  | 53 => ⟨S1x6144, .f32⟩
  | 54 => ⟨S6144, .f32⟩
  | 55 => ⟨S1x6144, .f32⟩
  | 56 => ⟨S16x6144, .f32⟩
  | 57 => ⟨S16x6144, .f32⟩
  | 58 => ⟨S1024, .f32⟩
  | 59 => ⟨S1024, .f32⟩
  | 60 => ⟨S_, .f32⟩
  | 61 => ⟨S1024, .f32⟩
  | 62 => ⟨S1024, .f32⟩
  | 63 => ⟨S_, .f32⟩
  | 64 => ⟨S1024, .f32⟩
  | 65 => ⟨S1024, .f32⟩
  | 66 => ⟨S1024, .f32⟩
  | 67 => ⟨S1x1024x6144, .f32⟩
  | 68 => ⟨S1024x6144, .f32⟩
  | 69 => ⟨S6144, .f32⟩
  | 70 => ⟨S1x6144, .f32⟩
  | 71 => ⟨S6144, .f32⟩
  | 72 => ⟨S6144, .f32⟩
  | 73 => ⟨S1x6144, .f32⟩
  | 74 => ⟨S1x6144, .f32⟩
  | 75 => ⟨S6144, .f32⟩
  | 76 => ⟨S7x6144, .f32⟩
  | 77 => ⟨S24x6144, .f32⟩
  | 78 => ⟨S16x1024, .f32⟩
  | 79 => ⟨S16x1024, .f32⟩
  | 80 => ⟨S_, .f32⟩
  | 81 => ⟨S16x1024, .f32⟩
  | 82 => ⟨S16x1024, .f32⟩
  | 83 => ⟨S_, .f32⟩
  | 84 => ⟨S16x1024, .f32⟩
  | 85 => ⟨S16x1024, .f32⟩
  | 86 => ⟨S16x1024, .f32⟩
  | 87 => ⟨S1x1024x6144, .f32⟩
  | 88 => ⟨S1024x6144, .f32⟩
  | 89 => ⟨S16x6144, .f32⟩
  | 90 => ⟨S1x6144, .f32⟩
  | 91 => ⟨S6144, .f32⟩
  | 92 => ⟨S1x6144, .f32⟩
  | 93 => ⟨S16x6144, .f32⟩
  | 94 => ⟨S16x6144, .f32⟩
  | 95 => ⟨S1024, .f32⟩
  | 96 => ⟨S1024, .f32⟩
  | 97 => ⟨S_, .f32⟩
  | 98 => ⟨S1024, .f32⟩
  | 99 => ⟨S1024, .f32⟩
  | 100 => ⟨S_, .f32⟩
  | 101 => ⟨S1024, .f32⟩
  | 102 => ⟨S1024, .f32⟩
  | 103 => ⟨S1024, .f32⟩
  | 104 => ⟨S1x1024x6144, .f32⟩
  | 105 => ⟨S1024x6144, .f32⟩
  | 106 => ⟨S6144, .f32⟩
  | 107 => ⟨S1x6144, .f32⟩
  | 108 => ⟨S6144, .f32⟩
  | 109 => ⟨S6144, .f32⟩
  | 110 => ⟨S1x6144, .f32⟩
  | 111 => ⟨S1x6144, .f32⟩
  | 112 => ⟨S6144, .f32⟩
  | 113 => ⟨S7x6144, .f32⟩
  | 114 => ⟨S24x6144, .f32⟩
  | 115 => ⟨S16x1024, .f32⟩
  | 116 => ⟨S16x1024, .f32⟩
  | 117 => ⟨S_, .f32⟩
  | 118 => ⟨S16x1024, .f32⟩
  | 119 => ⟨S16x1024, .f32⟩
  | 120 => ⟨S_, .f32⟩
  | 121 => ⟨S16x1024, .f32⟩
  | 122 => ⟨S16x1024, .f32⟩
  | 123 => ⟨S16x1024, .f32⟩
  | 124 => ⟨S1x1024x6144, .f32⟩
  | 125 => ⟨S1024x6144, .f32⟩
  | 126 => ⟨S16x6144, .f32⟩
  | 127 => ⟨S1x6144, .f32⟩
  | _ => ⟨S16x1024, .f32⟩

abbrev hbmTy0_1 (i : Nat) : BufTy := match i % 128 with
  | 0 => ⟨S6144, .f32⟩
  | 1 => ⟨S1x6144, .f32⟩
  | 2 => ⟨S16x6144, .f32⟩
  | 3 => ⟨S16x6144, .f32⟩
  | 4 => ⟨S1024, .f32⟩
  | 5 => ⟨S1024, .f32⟩
  | 6 => ⟨S_, .f32⟩
  | 7 => ⟨S1024, .f32⟩
  | 8 => ⟨S1024, .f32⟩
  | 9 => ⟨S_, .f32⟩
  | 10 => ⟨S1024, .f32⟩
  | 11 => ⟨S1024, .f32⟩
  | 12 => ⟨S1024, .f32⟩
  | 13 => ⟨S1x1024x6144, .f32⟩
  | 14 => ⟨S1024x6144, .f32⟩
  | 15 => ⟨S6144, .f32⟩
  | 16 => ⟨S1x6144, .f32⟩
  | 17 => ⟨S6144, .f32⟩
  | 18 => ⟨S6144, .f32⟩
  | 19 => ⟨S1x6144, .f32⟩
  | 20 => ⟨S1x6144, .f32⟩
  | 21 => ⟨S6144, .f32⟩
  | 22 => ⟨S7x6144, .f32⟩
  | 23 => ⟨S24x6144, .f32⟩
  | 24 => ⟨S1x24x6144, .f32⟩
  | 25 => ⟨S1x24x6144, .f32⟩
  | 26 => ⟨S1x24x6144, .f32⟩
  | 27 => ⟨S1x24x6144, .f32⟩
  | 28 => ⟨S4x24x6144, .f32⟩
  | _ => ⟨S16x1024, .f32⟩

abbrev hbmTy (i : Nat) : BufTy := match i / 128 with
  | 0 => hbmTy0_0 i
  | 1 => hbmTy0_1 i
  | _ => ⟨S16x1024, .f32⟩

abbrev bufTy : (tb : Table) → Fin (tcTables nBuf tb) → BufTy
  | .hbm, ⟨i, _⟩ => hbmTy i
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_call2_v0 : Ref sig .tc := ⟨.hbm, 41, rfl⟩
abbrev main_call2_v1 : Ref sig .tc := ⟨.hbm, 42, rfl⟩
abbrev main_call2_cst : Ref sig .tc := ⟨.hbm, 43, rfl⟩
abbrev main_call2_v2 : Ref sig .tc := ⟨.hbm, 44, rfl⟩
abbrev main_call2_v3 : Ref sig .tc := ⟨.hbm, 45, rfl⟩
abbrev main_call2_cst_0 : Ref sig .tc := ⟨.hbm, 46, rfl⟩
abbrev main_call2_v4 : Ref sig .tc := ⟨.hbm, 47, rfl⟩
abbrev main_call2_v5 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_call3_v0 : Ref sig .tc := ⟨.hbm, 58, rfl⟩
abbrev main_call3_v1 : Ref sig .tc := ⟨.hbm, 59, rfl⟩
abbrev main_call3_cst : Ref sig .tc := ⟨.hbm, 60, rfl⟩
abbrev main_call3_v2 : Ref sig .tc := ⟨.hbm, 61, rfl⟩
abbrev main_call3_v3 : Ref sig .tc := ⟨.hbm, 62, rfl⟩
abbrev main_call3_cst_0 : Ref sig .tc := ⟨.hbm, 63, rfl⟩
abbrev main_call3_v4 : Ref sig .tc := ⟨.hbm, 64, rfl⟩
abbrev main_call3_v5 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_call4_v0 : Ref sig .tc := ⟨.hbm, 78, rfl⟩
abbrev main_call4_v1 : Ref sig .tc := ⟨.hbm, 79, rfl⟩
abbrev main_call4_cst : Ref sig .tc := ⟨.hbm, 80, rfl⟩
abbrev main_call4_v2 : Ref sig .tc := ⟨.hbm, 81, rfl⟩
abbrev main_call4_v3 : Ref sig .tc := ⟨.hbm, 82, rfl⟩
abbrev main_call4_cst_0 : Ref sig .tc := ⟨.hbm, 83, rfl⟩
abbrev main_call4_v4 : Ref sig .tc := ⟨.hbm, 84, rfl⟩
abbrev main_call4_v5 : Ref sig .tc := ⟨.hbm, 85, rfl⟩
abbrev main_v42 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_call5_v0 : Ref sig .tc := ⟨.hbm, 95, rfl⟩
abbrev main_call5_v1 : Ref sig .tc := ⟨.hbm, 96, rfl⟩
abbrev main_call5_cst : Ref sig .tc := ⟨.hbm, 97, rfl⟩
abbrev main_call5_v2 : Ref sig .tc := ⟨.hbm, 98, rfl⟩
abbrev main_call5_v3 : Ref sig .tc := ⟨.hbm, 99, rfl⟩
abbrev main_call5_cst_0 : Ref sig .tc := ⟨.hbm, 100, rfl⟩
abbrev main_call5_v4 : Ref sig .tc := ⟨.hbm, 101, rfl⟩
abbrev main_call5_v5 : Ref sig .tc := ⟨.hbm, 102, rfl⟩
abbrev main_v51 : Ref sig .tc := ⟨.hbm, 103, rfl⟩
abbrev main_v52 : Ref sig .tc := ⟨.hbm, 104, rfl⟩
abbrev main_v53 : Ref sig .tc := ⟨.hbm, 105, rfl⟩
abbrev main_v54 : Ref sig .tc := ⟨.hbm, 106, rfl⟩
abbrev main_v55 : Ref sig .tc := ⟨.hbm, 107, rfl⟩
abbrev main_v56 : Ref sig .tc := ⟨.hbm, 108, rfl⟩
abbrev main_v57 : Ref sig .tc := ⟨.hbm, 109, rfl⟩
abbrev main_v58 : Ref sig .tc := ⟨.hbm, 110, rfl⟩
abbrev main_v59 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_call6_v0 : Ref sig .tc := ⟨.hbm, 115, rfl⟩
abbrev main_call6_v1 : Ref sig .tc := ⟨.hbm, 116, rfl⟩
abbrev main_call6_cst : Ref sig .tc := ⟨.hbm, 117, rfl⟩
abbrev main_call6_v2 : Ref sig .tc := ⟨.hbm, 118, rfl⟩
abbrev main_call6_v3 : Ref sig .tc := ⟨.hbm, 119, rfl⟩
abbrev main_call6_cst_0 : Ref sig .tc := ⟨.hbm, 120, rfl⟩
abbrev main_call6_v4 : Ref sig .tc := ⟨.hbm, 121, rfl⟩
abbrev main_call6_v5 : Ref sig .tc := ⟨.hbm, 122, rfl⟩
abbrev main_v63 : Ref sig .tc := ⟨.hbm, 123, rfl⟩
abbrev main_v64 : Ref sig .tc := ⟨.hbm, 124, rfl⟩
abbrev main_v65 : Ref sig .tc := ⟨.hbm, 125, rfl⟩
abbrev main_v66 : Ref sig .tc := ⟨.hbm, 126, rfl⟩
abbrev main_v67 : Ref sig .tc := ⟨.hbm, 127, rfl⟩
abbrev main_v68 : Ref sig .tc := ⟨.hbm, 128, rfl⟩
abbrev main_v69 : Ref sig .tc := ⟨.hbm, 129, rfl⟩
abbrev main_v70 : Ref sig .tc := ⟨.hbm, 130, rfl⟩
abbrev main_v71 : Ref sig .tc := ⟨.hbm, 131, rfl⟩
abbrev main_call7_v0 : Ref sig .tc := ⟨.hbm, 132, rfl⟩
abbrev main_call7_v1 : Ref sig .tc := ⟨.hbm, 133, rfl⟩
abbrev main_call7_cst : Ref sig .tc := ⟨.hbm, 134, rfl⟩
abbrev main_call7_v2 : Ref sig .tc := ⟨.hbm, 135, rfl⟩
abbrev main_call7_v3 : Ref sig .tc := ⟨.hbm, 136, rfl⟩
abbrev main_call7_cst_0 : Ref sig .tc := ⟨.hbm, 137, rfl⟩
abbrev main_call7_v4 : Ref sig .tc := ⟨.hbm, 138, rfl⟩
abbrev main_call7_v5 : Ref sig .tc := ⟨.hbm, 139, rfl⟩
abbrev main_v72 : Ref sig .tc := ⟨.hbm, 140, rfl⟩
abbrev main_v73 : Ref sig .tc := ⟨.hbm, 141, rfl⟩
abbrev main_v74 : Ref sig .tc := ⟨.hbm, 142, rfl⟩
abbrev main_v75 : Ref sig .tc := ⟨.hbm, 143, rfl⟩
abbrev main_v76 : Ref sig .tc := ⟨.hbm, 144, rfl⟩
abbrev main_v77 : Ref sig .tc := ⟨.hbm, 145, rfl⟩
abbrev main_v78 : Ref sig .tc := ⟨.hbm, 146, rfl⟩
abbrev main_v79 : Ref sig .tc := ⟨.hbm, 147, rfl⟩
abbrev main_v80 : Ref sig .tc := ⟨.hbm, 148, rfl⟩
abbrev main_v81 : Ref sig .tc := ⟨.hbm, 149, rfl⟩
abbrev main_v82 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩

abbrev nD : Nat := 1
abbrev τ : Topo := Topo.v7x

variable {F : FTy → Type} [FloatOps F]
-- ==== Prep.lean ====
abbrev S16x4352x1536 : Shape := ⟨3, ![16, 4352, 1536]⟩
abbrev S5x1536 : Shape := ⟨2, ![5, 1536]⟩
abbrev S4096x2x32 : Shape := ⟨3, ![4096, 2, 32]⟩
abbrev S4096x1x32 : Shape := ⟨3, ![4096, 1, 32]⟩
abbrev S4096x32 : Shape := ⟨2, ![4096, 32]⟩
abbrev S4096x128 : Shape := ⟨2, ![4096, 128]⟩
abbrev S_ : Shape := ⟨0, ![]⟩
abbrev S256x128 : Shape := ⟨2, ![256, 128]⟩
abbrev S4352x128 : Shape := ⟨2, ![4352, 128]⟩
abbrev S1x4352x128 : Shape := ⟨3, ![1, 4352, 128]⟩
abbrev S5x128 : Shape := ⟨2, ![5, 128]⟩
abbrev S288x128 : Shape := ⟨2, ![288, 128]⟩
abbrev S1x16x128 : Shape := ⟨3, ![1, 16, 128]⟩
abbrev S16x128 : Shape := ⟨2, ![16, 128]⟩
abbrev S1x256x128 : Shape := ⟨3, ![1, 256, 128]⟩
abbrev S1x128 : Shape := ⟨2, ![1, 128]⟩
abbrev S256 : Shape := ⟨1, ![256]⟩
abbrev S256x1 : Shape := ⟨2, ![256, 1]⟩

abbrev nBuf : Space → Nat
  | .hbm => 27
  | .vmem => 8
  | .smem => 0
  | _ => 0

abbrev bufTy : (tb : Table) → Fin (tcTables nBuf tb) → BufTy
  | .hbm, ⟨0, _⟩ => ⟨S16x4352x1536, .bf16⟩
  | .hbm, ⟨1, _⟩ => ⟨S5x1536, .f32⟩
  | .hbm, ⟨2, _⟩ => ⟨S4096x2x32, .f32⟩
  | .hbm, ⟨3, _⟩ => ⟨S4096x2x32, .f32⟩
  | .hbm, ⟨4, _⟩ => ⟨S4096x1x32, .f32⟩
  | .hbm, ⟨5, _⟩ => ⟨S4096x32, .f32⟩
  | .hbm, ⟨6, _⟩ => ⟨S4096x1x32, .f32⟩
  | .hbm, ⟨7, _⟩ => ⟨S4096x32, .f32⟩
  | .hbm, ⟨8, _⟩ => ⟨S4096x128, .f32⟩
  | .hbm, ⟨9, _⟩ => ⟨S4096x1x32, .f32⟩
  | .hbm, ⟨10, _⟩ => ⟨S4096x32, .f32⟩
  | .hbm, ⟨11, _⟩ => ⟨S4096x32, .f32⟩
  | .hbm, ⟨12, _⟩ => ⟨S4096x1x32, .f32⟩
  | .hbm, ⟨13, _⟩ => ⟨S4096x32, .f32⟩
  | .hbm, ⟨14, _⟩ => ⟨S4096x1x32, .f32⟩
  | .hbm, ⟨15, _⟩ => ⟨S4096x32, .f32⟩
  | .hbm, ⟨16, _⟩ => ⟨S4096x32, .f32⟩
  | .hbm, ⟨17, _⟩ => ⟨S4096x1x32, .f32⟩
  | .hbm, ⟨18, _⟩ => ⟨S4096x32, .f32⟩
  | .hbm, ⟨19, _⟩ => ⟨S4096x128, .f32⟩
  | .hbm, ⟨20, _⟩ => ⟨S_, .f32⟩
  | .hbm, ⟨21, _⟩ => ⟨S256x128, .f32⟩
  | .hbm, ⟨22, _⟩ => ⟨S4352x128, .f32⟩
  | .hbm, ⟨23, _⟩ => ⟨S_, .f32⟩
  | .hbm, ⟨24, _⟩ => ⟨S256x128, .f32⟩
  | .hbm, ⟨25, _⟩ => ⟨S4352x128, .f32⟩
  | .hbm, ⟨26, _⟩ => ⟨S16x4352x1536, .f32⟩
  | .local _ .vmem, ⟨0, _⟩ => ⟨S1x4352x128, .bf16⟩
  | .local _ .vmem, ⟨1, _⟩ => ⟨S1x4352x128, .bf16⟩
  | .local _ .vmem, ⟨2, _⟩ => ⟨S5x128, .f32⟩
  | .local _ .vmem, ⟨3, _⟩ => ⟨S5x128, .f32⟩
  | .local _ .vmem, ⟨4, _⟩ => ⟨S4352x128, .f32⟩
  | .local _ .vmem, ⟨5, _⟩ => ⟨S4352x128, .f32⟩
  | .local _ .vmem, ⟨6, _⟩ => ⟨S1x4352x128, .f32⟩
  | .local _ .vmem, ⟨7, _⟩ => ⟨S1x4352x128, .f32⟩
  | _, _ => ⟨S16x4352x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst : Ref sig .tc := ⟨.hbm, 20, rfl⟩
abbrev main_v16 : Ref sig .tc := ⟨.hbm, 21, rfl⟩
abbrev main_v17 : Ref sig .tc := ⟨.hbm, 22, rfl⟩
abbrev main_cst_0 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![16, 12], ![false, false]⟩

def k0_cond1 (i : grid0.Coords) : BitVec 1 :=
  let arg1 : BitVec 32 := BitVec.ofNat 32 (i 1).val
  let c8_i32 : BitVec 32 := 8#32
  let v5 : BitVec 1 := Scalar.cmpi .slt arg1 c8_i32
  let v6 : BitVec 32 := Scalar.extui v5
  let c0_i32 : BitVec 32 := 0#32
  let v7 : BitVec 1 := Scalar.cmpi .ne v6 c0_i32
  v7

def k0_mult1 : BitVec 32 :=
  let c0_i32_4 : BitVec 32 := 0#32
  let c256_i32 : BitVec 32 := 256#32
  let v11 : BitVec 32 := Scalar.muli c0_i32_4 c256_i32
  v11
def k0_mult2 : BitVec 32 :=
  let c0_i32_4 : BitVec 32 := 0#32
  let c256_i32 : BitVec 32 := 256#32
  let v11 : BitVec 32 := Scalar.muli c0_i32_4 c256_i32
  let v12 : BitVec 32 := v11
  let c16_i32 : BitVec 32 := 16#32
  let v13 : BitVec 32 := Scalar.subi v12 c16_i32
  let c0_i32_5 : BitVec 32 := 0#32
  let v14 : BitVec 32 := Scalar.maxsi v13 c0_i32_5
  v14
def k0_mult3 : BitVec 32 :=
  let c0_i32_4 : BitVec 32 := 0#32
  let c256_i32 : BitVec 32 := 256#32
  let v11 : BitVec 32 := Scalar.muli c0_i32_4 c256_i32
  let v12 : BitVec 32 := v11
  let c256_i32_6 : BitVec 32 := 256#32
  let v16 : BitVec 32 := Scalar.addi v12 c256_i32_6
  let c4336_i32 : BitVec 32 := 4336#32
  let v17 : BitVec 32 := Scalar.minsi v16 c4336_i32
  v17
def k0_off1 (c0_i32_4 : BitVec 32) : Fin 3 → Nat :=
  let c0_7 : Index := 0#32
  let c256_i32 : BitVec 32 := 256#32
  let v11 : BitVec 32 := Scalar.muli c0_i32_4 c256_i32
  let v12 : BitVec 32 := v11
  let c16_i32 : BitVec 32 := 16#32
  let v13 : BitVec 32 := Scalar.subi v12 c16_i32
  let c0_i32_5 : BitVec 32 := 0#32
  let v14 : BitVec 32 := Scalar.maxsi v13 c0_i32_5
  let v15 : BitVec 32 := v14
  let v19 : Index := Scalar.indexCast v15
  let c0_8 : Index := 0#32
  ![0, v19.toNat, 0]
def k0_off2 (c0_i32_4 : BitVec 32) : Fin 3 → Nat :=
  let c0_9 : Index := 0#32
  let c256_i32 : BitVec 32 := 256#32
  let v11 : BitVec 32 := Scalar.muli c0_i32_4 c256_i32
  let v12 : BitVec 32 := v11
  let v23 : Index := Scalar.indexCast v12
  let c0_10 : Index := 0#32
  ![0, v23.toNat, 0]
def k0_off3 (c0_i32_4 : BitVec 32) : Fin 3 → Nat :=
  let c0_11 : Index := 0#32
  let c256_i32 : BitVec 32 := 256#32
  let v11 : BitVec 32 := Scalar.muli c0_i32_4 c256_i32
  let v12 : BitVec 32 := v11
  let c256_i32_6 : BitVec 32 := 256#32
  let v16 : BitVec 32 := Scalar.addi v12 c256_i32_6
  let c4336_i32 : BitVec 32 := 4336#32
  let v17 : BitVec 32 := Scalar.minsi v16 c4336_i32
  let v18 : BitVec 32 := v17
  let v27 : Index := Scalar.indexCast v18
  let c0_12 : Index := 0#32
  ![0, v27.toNat, 0]
def k0_off4 (c0_i32_4 : BitVec 32) : Fin 2 → Nat :=
  let c256_i32 : BitVec 32 := 256#32
  let v11 : BitVec 32 := Scalar.muli c0_i32_4 c256_i32
  let v12 : BitVec 32 := v11
  let v89 : Index := Scalar.indexCast v12
  let c0_24 : Index := 0#32
  ![v89.toNat, 0]
def k0_mult4 : BitVec 32 :=
  let c1_i32 : BitVec 32 := 1#32
  let c256_i32_28 : BitVec 32 := 256#32
  let v104 : BitVec 32 := Scalar.muli c1_i32 c256_i32_28
  v104
def k0_mult5 : BitVec 32 :=
  let c1_i32 : BitVec 32 := 1#32
  let c256_i32_28 : BitVec 32 := 256#32
  let v104 : BitVec 32 := Scalar.muli c1_i32 c256_i32_28
  let v105 : BitVec 32 := v104
  let c16_i32_29 : BitVec 32 := 16#32
  let v106 : BitVec 32 := Scalar.subi v105 c16_i32_29
  let c0_i32_30 : BitVec 32 := 0#32
  let v107 : BitVec 32 := Scalar.maxsi v106 c0_i32_30
  v107
def k0_mult6 : BitVec 32 :=
  let c1_i32 : BitVec 32 := 1#32
  let c256_i32_28 : BitVec 32 := 256#32
  let v104 : BitVec 32 := Scalar.muli c1_i32 c256_i32_28
  let v105 : BitVec 32 := v104
  let c256_i32_31 : BitVec 32 := 256#32
  let v109 : BitVec 32 := Scalar.addi v105 c256_i32_31
  let c4336_i32_32 : BitVec 32 := 4336#32
  let v110 : BitVec 32 := Scalar.minsi v109 c4336_i32_32
  v110
def k0_mult7 : BitVec 32 :=
  let c2_i32 : BitVec 32 := 2#32
  let c256_i32_58 : BitVec 32 := 256#32
  let v197 : BitVec 32 := Scalar.muli c2_i32 c256_i32_58
  v197
def k0_mult8 : BitVec 32 :=
  let c2_i32 : BitVec 32 := 2#32
  let c256_i32_58 : BitVec 32 := 256#32
  let v197 : BitVec 32 := Scalar.muli c2_i32 c256_i32_58
  let v198 : BitVec 32 := v197
  let c16_i32_59 : BitVec 32 := 16#32
  let v199 : BitVec 32 := Scalar.subi v198 c16_i32_59
  let c0_i32_60 : BitVec 32 := 0#32
  let v200 : BitVec 32 := Scalar.maxsi v199 c0_i32_60
  v200
def k0_mult9 : BitVec 32 :=
  let c2_i32 : BitVec 32 := 2#32
  let c256_i32_58 : BitVec 32 := 256#32
  let v197 : BitVec 32 := Scalar.muli c2_i32 c256_i32_58
  let v198 : BitVec 32 := v197
  let c256_i32_61 : BitVec 32 := 256#32
  let v202 : BitVec 32 := Scalar.addi v198 c256_i32_61
  let c4336_i32_62 : BitVec 32 := 4336#32
  let v203 : BitVec 32 := Scalar.minsi v202 c4336_i32_62
  v203
def k0_mult10 : BitVec 32 :=
  let c3_i32 : BitVec 32 := 3#32
  let c256_i32_88 : BitVec 32 := 256#32
  let v290 : BitVec 32 := Scalar.muli c3_i32 c256_i32_88
  v290
def k0_mult11 : BitVec 32 :=
  let c3_i32 : BitVec 32 := 3#32
  let c256_i32_88 : BitVec 32 := 256#32
  let v290 : BitVec 32 := Scalar.muli c3_i32 c256_i32_88
  let v291 : BitVec 32 := v290
  let c16_i32_89 : BitVec 32 := 16#32
  let v292 : BitVec 32 := Scalar.subi v291 c16_i32_89
  let c0_i32_90 : BitVec 32 := 0#32
  let v293 : BitVec 32 := Scalar.maxsi v292 c0_i32_90
  v293
def k0_mult12 : BitVec 32 :=
  let c3_i32 : BitVec 32 := 3#32
  let c256_i32_88 : BitVec 32 := 256#32
  let v290 : BitVec 32 := Scalar.muli c3_i32 c256_i32_88
  let v291 : BitVec 32 := v290
  let c256_i32_91 : BitVec 32 := 256#32
  let v295 : BitVec 32 := Scalar.addi v291 c256_i32_91
  let c4336_i32_92 : BitVec 32 := 4336#32
  let v296 : BitVec 32 := Scalar.minsi v295 c4336_i32_92
  v296
def k0_mult13 : BitVec 32 :=
  let c4_i32_118 : BitVec 32 := 4#32
  let c256_i32_119 : BitVec 32 := 256#32
  let v383 : BitVec 32 := Scalar.muli c4_i32_118 c256_i32_119
  v383
def k0_mult14 : BitVec 32 :=
  let c4_i32_118 : BitVec 32 := 4#32
  let c256_i32_119 : BitVec 32 := 256#32
  let v383 : BitVec 32 := Scalar.muli c4_i32_118 c256_i32_119
  let v384 : BitVec 32 := v383
  let c16_i32_120 : BitVec 32 := 16#32
  let v385 : BitVec 32 := Scalar.subi v384 c16_i32_120
  let c0_i32_121 : BitVec 32 := 0#32
  let v386 : BitVec 32 := Scalar.maxsi v385 c0_i32_121
  v386
def k0_mult15 : BitVec 32 :=
  let c4_i32_118 : BitVec 32 := 4#32
  let c256_i32_119 : BitVec 32 := 256#32
  let v383 : BitVec 32 := Scalar.muli c4_i32_118 c256_i32_119
  let v384 : BitVec 32 := v383
  let c256_i32_122 : BitVec 32 := 256#32
  let v388 : BitVec 32 := Scalar.addi v384 c256_i32_122
  let c4336_i32_123 : BitVec 32 := 4336#32
  let v389 : BitVec 32 := Scalar.minsi v388 c4336_i32_123
  v389
def k0_mult16 : BitVec 32 :=
  let c5_i32 : BitVec 32 := 5#32
  let c256_i32_149 : BitVec 32 := 256#32
  let v476 : BitVec 32 := Scalar.muli c5_i32 c256_i32_149
  v476
def k0_mult17 : BitVec 32 :=
  let c5_i32 : BitVec 32 := 5#32
  let c256_i32_149 : BitVec 32 := 256#32
  let v476 : BitVec 32 := Scalar.muli c5_i32 c256_i32_149
  let v477 : BitVec 32 := v476
  let c16_i32_150 : BitVec 32 := 16#32
  let v478 : BitVec 32 := Scalar.subi v477 c16_i32_150
  let c0_i32_151 : BitVec 32 := 0#32
  let v479 : BitVec 32 := Scalar.maxsi v478 c0_i32_151
  v479
def k0_mult18 : BitVec 32 :=
  let c5_i32 : BitVec 32 := 5#32
  let c256_i32_149 : BitVec 32 := 256#32
  let v476 : BitVec 32 := Scalar.muli c5_i32 c256_i32_149
  let v477 : BitVec 32 := v476
  let c256_i32_152 : BitVec 32 := 256#32
  let v481 : BitVec 32 := Scalar.addi v477 c256_i32_152
  let c4336_i32_153 : BitVec 32 := 4336#32
  let v482 : BitVec 32 := Scalar.minsi v481 c4336_i32_153
  v482
def k0_mult19 : BitVec 32 :=
  let c6_i32 : BitVec 32 := 6#32
  let c256_i32_179 : BitVec 32 := 256#32
  let v569 : BitVec 32 := Scalar.muli c6_i32 c256_i32_179
  v569
def k0_mult20 : BitVec 32 :=
  let c6_i32 : BitVec 32 := 6#32
  let c256_i32_179 : BitVec 32 := 256#32
  let v569 : BitVec 32 := Scalar.muli c6_i32 c256_i32_179
  let v570 : BitVec 32 := v569
  let c16_i32_180 : BitVec 32 := 16#32
  let v571 : BitVec 32 := Scalar.subi v570 c16_i32_180
  let c0_i32_181 : BitVec 32 := 0#32
  let v572 : BitVec 32 := Scalar.maxsi v571 c0_i32_181
  v572
def k0_mult21 : BitVec 32 :=
  let c6_i32 : BitVec 32 := 6#32
  let c256_i32_179 : BitVec 32 := 256#32
  let v569 : BitVec 32 := Scalar.muli c6_i32 c256_i32_179
  let v570 : BitVec 32 := v569
  let c256_i32_182 : BitVec 32 := 256#32
  let v574 : BitVec 32 := Scalar.addi v570 c256_i32_182
  let c4336_i32_183 : BitVec 32 := 4336#32
  let v575 : BitVec 32 := Scalar.minsi v574 c4336_i32_183
  v575
def k0_mult22 : BitVec 32 :=
  let c7_i32 : BitVec 32 := 7#32
  let c256_i32_209 : BitVec 32 := 256#32
  let v662 : BitVec 32 := Scalar.muli c7_i32 c256_i32_209
  v662
def k0_mult23 : BitVec 32 :=
  let c7_i32 : BitVec 32 := 7#32
  let c256_i32_209 : BitVec 32 := 256#32
  let v662 : BitVec 32 := Scalar.muli c7_i32 c256_i32_209
  let v663 : BitVec 32 := v662
  let c16_i32_210 : BitVec 32 := 16#32
  let v664 : BitVec 32 := Scalar.subi v663 c16_i32_210
  let c0_i32_211 : BitVec 32 := 0#32
  let v665 : BitVec 32 := Scalar.maxsi v664 c0_i32_211
  v665
def k0_mult24 : BitVec 32 :=
  let c7_i32 : BitVec 32 := 7#32
  let c256_i32_209 : BitVec 32 := 256#32
  let v662 : BitVec 32 := Scalar.muli c7_i32 c256_i32_209
  let v663 : BitVec 32 := v662
  let c256_i32_212 : BitVec 32 := 256#32
  let v667 : BitVec 32 := Scalar.addi v663 c256_i32_212
  let c4336_i32_213 : BitVec 32 := 4336#32
  let v668 : BitVec 32 := Scalar.minsi v667 c4336_i32_213
  v668
def k0_mult25 : BitVec 32 :=
  let c8_i32_239 : BitVec 32 := 8#32
  let c256_i32_240 : BitVec 32 := 256#32
  let v755 : BitVec 32 := Scalar.muli c8_i32_239 c256_i32_240
  v755
def k0_mult26 : BitVec 32 :=
  let c8_i32_239 : BitVec 32 := 8#32
  let c256_i32_240 : BitVec 32 := 256#32
  let v755 : BitVec 32 := Scalar.muli c8_i32_239 c256_i32_240
  let v756 : BitVec 32 := v755
  let c16_i32_241 : BitVec 32 := 16#32
  let v757 : BitVec 32 := Scalar.subi v756 c16_i32_241
  let c0_i32_242 : BitVec 32 := 0#32
  let v758 : BitVec 32 := Scalar.maxsi v757 c0_i32_242
  v758
def k0_mult27 : BitVec 32 :=
  let c8_i32_239 : BitVec 32 := 8#32
  let c256_i32_240 : BitVec 32 := 256#32
  let v755 : BitVec 32 := Scalar.muli c8_i32_239 c256_i32_240
  let v756 : BitVec 32 := v755
  let c256_i32_243 : BitVec 32 := 256#32
  let v760 : BitVec 32 := Scalar.addi v756 c256_i32_243
  let c4336_i32_244 : BitVec 32 := 4336#32
  let v761 : BitVec 32 := Scalar.minsi v760 c4336_i32_244
  v761
def k0_mult28 : BitVec 32 :=
  let c9_i32 : BitVec 32 := 9#32
  let c256_i32_270 : BitVec 32 := 256#32
  let v848 : BitVec 32 := Scalar.muli c9_i32 c256_i32_270
  v848
def k0_mult29 : BitVec 32 :=
  let c9_i32 : BitVec 32 := 9#32
  let c256_i32_270 : BitVec 32 := 256#32
  let v848 : BitVec 32 := Scalar.muli c9_i32 c256_i32_270
  let v849 : BitVec 32 := v848
  let c16_i32_271 : BitVec 32 := 16#32
  let v850 : BitVec 32 := Scalar.subi v849 c16_i32_271
  let c0_i32_272 : BitVec 32 := 0#32
  let v851 : BitVec 32 := Scalar.maxsi v850 c0_i32_272
  v851
def k0_mult30 : BitVec 32 :=
  let c9_i32 : BitVec 32 := 9#32
  let c256_i32_270 : BitVec 32 := 256#32
  let v848 : BitVec 32 := Scalar.muli c9_i32 c256_i32_270
  let v849 : BitVec 32 := v848
  let c256_i32_273 : BitVec 32 := 256#32
  let v853 : BitVec 32 := Scalar.addi v849 c256_i32_273
  let c4336_i32_274 : BitVec 32 := 4336#32
  let v854 : BitVec 32 := Scalar.minsi v853 c4336_i32_274
  v854
def k0_mult31 : BitVec 32 :=
  let c10_i32 : BitVec 32 := 10#32
  let c256_i32_300 : BitVec 32 := 256#32
  let v941 : BitVec 32 := Scalar.muli c10_i32 c256_i32_300
  v941
def k0_mult32 : BitVec 32 :=
  let c10_i32 : BitVec 32 := 10#32
  let c256_i32_300 : BitVec 32 := 256#32
  let v941 : BitVec 32 := Scalar.muli c10_i32 c256_i32_300
  let v942 : BitVec 32 := v941
  let c16_i32_301 : BitVec 32 := 16#32
  let v943 : BitVec 32 := Scalar.subi v942 c16_i32_301
  let c0_i32_302 : BitVec 32 := 0#32
  let v944 : BitVec 32 := Scalar.maxsi v943 c0_i32_302
  v944
def k0_mult33 : BitVec 32 :=
  let c10_i32 : BitVec 32 := 10#32
  let c256_i32_300 : BitVec 32 := 256#32
  let v941 : BitVec 32 := Scalar.muli c10_i32 c256_i32_300
  let v942 : BitVec 32 := v941
  let c256_i32_303 : BitVec 32 := 256#32
  let v946 : BitVec 32 := Scalar.addi v942 c256_i32_303
  let c4336_i32_304 : BitVec 32 := 4336#32
  let v947 : BitVec 32 := Scalar.minsi v946 c4336_i32_304
  v947
def k0_mult34 : BitVec 32 :=
  let c11_i32 : BitVec 32 := 11#32
  let c256_i32_330 : BitVec 32 := 256#32
  let v1034 : BitVec 32 := Scalar.muli c11_i32 c256_i32_330
  v1034
def k0_mult35 : BitVec 32 :=
  let c11_i32 : BitVec 32 := 11#32
  let c256_i32_330 : BitVec 32 := 256#32
  let v1034 : BitVec 32 := Scalar.muli c11_i32 c256_i32_330
  let v1035 : BitVec 32 := v1034
  let c16_i32_331 : BitVec 32 := 16#32
  let v1036 : BitVec 32 := Scalar.subi v1035 c16_i32_331
  let c0_i32_332 : BitVec 32 := 0#32
  let v1037 : BitVec 32 := Scalar.maxsi v1036 c0_i32_332
  v1037
def k0_mult36 : BitVec 32 :=
  let c11_i32 : BitVec 32 := 11#32
  let c256_i32_330 : BitVec 32 := 256#32
  let v1034 : BitVec 32 := Scalar.muli c11_i32 c256_i32_330
  let v1035 : BitVec 32 := v1034
  let c256_i32_333 : BitVec 32 := 256#32
  let v1039 : BitVec 32 := Scalar.addi v1035 c256_i32_333
  let c4336_i32_334 : BitVec 32 := 4336#32
  let v1040 : BitVec 32 := Scalar.minsi v1039 c4336_i32_334
  v1040
def k0_mult37 : BitVec 32 :=
  let c12_i32 : BitVec 32 := 12#32
  let c256_i32_360 : BitVec 32 := 256#32
  let v1127 : BitVec 32 := Scalar.muli c12_i32 c256_i32_360
  v1127
def k0_mult38 : BitVec 32 :=
  let c12_i32 : BitVec 32 := 12#32
  let c256_i32_360 : BitVec 32 := 256#32
  let v1127 : BitVec 32 := Scalar.muli c12_i32 c256_i32_360
  let v1128 : BitVec 32 := v1127
  let c16_i32_361 : BitVec 32 := 16#32
  let v1129 : BitVec 32 := Scalar.subi v1128 c16_i32_361
  let c0_i32_362 : BitVec 32 := 0#32
  let v1130 : BitVec 32 := Scalar.maxsi v1129 c0_i32_362
  v1130
def k0_mult39 : BitVec 32 :=
  let c12_i32 : BitVec 32 := 12#32
  let c256_i32_360 : BitVec 32 := 256#32
  let v1127 : BitVec 32 := Scalar.muli c12_i32 c256_i32_360
  let v1128 : BitVec 32 := v1127
  let c256_i32_363 : BitVec 32 := 256#32
  let v1132 : BitVec 32 := Scalar.addi v1128 c256_i32_363
  let c4336_i32_364 : BitVec 32 := 4336#32
  let v1133 : BitVec 32 := Scalar.minsi v1132 c4336_i32_364
  v1133
def k0_mult40 : BitVec 32 :=
  let c13_i32 : BitVec 32 := 13#32
  let c256_i32_390 : BitVec 32 := 256#32
  let v1220 : BitVec 32 := Scalar.muli c13_i32 c256_i32_390
  v1220
def k0_mult41 : BitVec 32 :=
  let c13_i32 : BitVec 32 := 13#32
  let c256_i32_390 : BitVec 32 := 256#32
  let v1220 : BitVec 32 := Scalar.muli c13_i32 c256_i32_390
  let v1221 : BitVec 32 := v1220
  let c16_i32_391 : BitVec 32 := 16#32
  let v1222 : BitVec 32 := Scalar.subi v1221 c16_i32_391
  let c0_i32_392 : BitVec 32 := 0#32
  let v1223 : BitVec 32 := Scalar.maxsi v1222 c0_i32_392
  v1223
def k0_mult42 : BitVec 32 :=
  let c13_i32 : BitVec 32 := 13#32
  let c256_i32_390 : BitVec 32 := 256#32
  let v1220 : BitVec 32 := Scalar.muli c13_i32 c256_i32_390
  let v1221 : BitVec 32 := v1220
  let c256_i32_393 : BitVec 32 := 256#32
  let v1225 : BitVec 32 := Scalar.addi v1221 c256_i32_393
  let c4336_i32_394 : BitVec 32 := 4336#32
  let v1226 : BitVec 32 := Scalar.minsi v1225 c4336_i32_394
  v1226
def k0_mult43 : BitVec 32 :=
  let c14_i32 : BitVec 32 := 14#32
  let c256_i32_420 : BitVec 32 := 256#32
  let v1313 : BitVec 32 := Scalar.muli c14_i32 c256_i32_420
  v1313
def k0_mult44 : BitVec 32 :=
  let c14_i32 : BitVec 32 := 14#32
  let c256_i32_420 : BitVec 32 := 256#32
  let v1313 : BitVec 32 := Scalar.muli c14_i32 c256_i32_420
  let v1314 : BitVec 32 := v1313
  let c16_i32_421 : BitVec 32 := 16#32
  let v1315 : BitVec 32 := Scalar.subi v1314 c16_i32_421
  let c0_i32_422 : BitVec 32 := 0#32
  let v1316 : BitVec 32 := Scalar.maxsi v1315 c0_i32_422
  v1316
def k0_mult45 : BitVec 32 :=
  let c14_i32 : BitVec 32 := 14#32
  let c256_i32_420 : BitVec 32 := 256#32
  let v1313 : BitVec 32 := Scalar.muli c14_i32 c256_i32_420
  let v1314 : BitVec 32 := v1313
  let c256_i32_423 : BitVec 32 := 256#32
  let v1318 : BitVec 32 := Scalar.addi v1314 c256_i32_423
  let c4336_i32_424 : BitVec 32 := 4336#32
  let v1319 : BitVec 32 := Scalar.minsi v1318 c4336_i32_424
  v1319
def k0_mult46 : BitVec 32 :=
  let c15_i32 : BitVec 32 := 15#32
  let c256_i32_450 : BitVec 32 := 256#32
  let v1406 : BitVec 32 := Scalar.muli c15_i32 c256_i32_450
  v1406
def k0_mult47 : BitVec 32 :=
  let c15_i32 : BitVec 32 := 15#32
  let c256_i32_450 : BitVec 32 := 256#32
  let v1406 : BitVec 32 := Scalar.muli c15_i32 c256_i32_450
  let v1407 : BitVec 32 := v1406
  let c16_i32_451 : BitVec 32 := 16#32
  let v1408 : BitVec 32 := Scalar.subi v1407 c16_i32_451
  let c0_i32_452 : BitVec 32 := 0#32
  let v1409 : BitVec 32 := Scalar.maxsi v1408 c0_i32_452
  v1409
def k0_mult48 : BitVec 32 :=
  let c15_i32 : BitVec 32 := 15#32
  let c256_i32_450 : BitVec 32 := 256#32
  let v1406 : BitVec 32 := Scalar.muli c15_i32 c256_i32_450
  let v1407 : BitVec 32 := v1406
  let c256_i32_453 : BitVec 32 := 256#32
  let v1411 : BitVec 32 := Scalar.addi v1407 c256_i32_453
  let c4336_i32_454 : BitVec 32 := 4336#32
  let v1412 : BitVec 32 := Scalar.minsi v1411 c4336_i32_454
  v1412
def k0_mult49 : BitVec 32 :=
  let c16_i32_480 : BitVec 32 := 16#32
  let c256_i32_481 : BitVec 32 := 256#32
  let v1499 : BitVec 32 := Scalar.muli c16_i32_480 c256_i32_481
  v1499
def k0_mult50 : BitVec 32 :=
  let c16_i32_480 : BitVec 32 := 16#32
  let c256_i32_481 : BitVec 32 := 256#32
  let v1499 : BitVec 32 := Scalar.muli c16_i32_480 c256_i32_481
  let v1500 : BitVec 32 := v1499
  let c16_i32_482 : BitVec 32 := 16#32
  let v1501 : BitVec 32 := Scalar.subi v1500 c16_i32_482
  let c0_i32_483 : BitVec 32 := 0#32
  let v1502 : BitVec 32 := Scalar.maxsi v1501 c0_i32_483
  v1502
def k0_mult51 : BitVec 32 :=
  let c16_i32_480 : BitVec 32 := 16#32
  let c256_i32_481 : BitVec 32 := 256#32
  let v1499 : BitVec 32 := Scalar.muli c16_i32_480 c256_i32_481
  let v1500 : BitVec 32 := v1499
  let c256_i32_484 : BitVec 32 := 256#32
  let v1504 : BitVec 32 := Scalar.addi v1500 c256_i32_484
  let c4336_i32_485 : BitVec 32 := 4336#32
  let v1505 : BitVec 32 := Scalar.minsi v1504 c4336_i32_485
  v1505
def k0_cond2 (i : grid0.Coords) : BitVec 1 :=
  let arg1 : BitVec 32 := BitVec.ofNat 32 (i 1).val
  let c8_i32_2 : BitVec 32 := 8#32
  let v8 : BitVec 1 := Scalar.cmpi .sge arg1 c8_i32_2
  let v9 : BitVec 32 := Scalar.extui v8
  let c0_i32_3 : BitVec 32 := 0#32
  let v10 : BitVec 1 := Scalar.cmpi .ne v9 c0_i32_3
  v10

def k0_mult52 : BitVec 32 :=
  let c0_i32_4 : BitVec 32 := 0#32
  let c256_i32 : BitVec 32 := 256#32
  let v11 : BitVec 32 := Scalar.muli c0_i32_4 c256_i32
  v11
def k0_mult53 : BitVec 32 :=
  let c0_i32_4 : BitVec 32 := 0#32
  let c256_i32 : BitVec 32 := 256#32
  let v11 : BitVec 32 := Scalar.muli c0_i32_4 c256_i32
  let v12 : BitVec 32 := v11
  let c16_i32 : BitVec 32 := 16#32
  let v13 : BitVec 32 := Scalar.subi v12 c16_i32
  let c0_i32_5 : BitVec 32 := 0#32
  let v14 : BitVec 32 := Scalar.maxsi v13 c0_i32_5
  v14
def k0_mult54 : BitVec 32 :=
  let c0_i32_4 : BitVec 32 := 0#32
  let c256_i32 : BitVec 32 := 256#32
  let v11 : BitVec 32 := Scalar.muli c0_i32_4 c256_i32
  let v12 : BitVec 32 := v11
  let c256_i32_6 : BitVec 32 := 256#32
  let v16 : BitVec 32 := Scalar.addi v12 c256_i32_6
  let c4336_i32 : BitVec 32 := 4336#32
  let v17 : BitVec 32 := Scalar.minsi v16 c4336_i32
  v17
def k0_off5 (c0_i32_4 : BitVec 32) : Fin 3 → Nat :=
  let c0_7 : Index := 0#32
  let c256_i32 : BitVec 32 := 256#32
  let v11 : BitVec 32 := Scalar.muli c0_i32_4 c256_i32
  let v12 : BitVec 32 := v11
  let c16_i32 : BitVec 32 := 16#32
  let v13 : BitVec 32 := Scalar.subi v12 c16_i32
  let c0_i32_5 : BitVec 32 := 0#32
  let v14 : BitVec 32 := Scalar.maxsi v13 c0_i32_5
  let v15 : BitVec 32 := v14
  let v19 : Index := Scalar.indexCast v15
  let c0_8 : Index := 0#32
  ![0, v19.toNat, 0]
def k0_off6 (c0_i32_4 : BitVec 32) : Fin 3 → Nat :=
  let c0_9 : Index := 0#32
  let c256_i32 : BitVec 32 := 256#32
  let v11 : BitVec 32 := Scalar.muli c0_i32_4 c256_i32
  let v12 : BitVec 32 := v11
  let v23 : Index := Scalar.indexCast v12
  let c0_10 : Index := 0#32
  ![0, v23.toNat, 0]
def k0_off7 (c0_i32_4 : BitVec 32) : Fin 3 → Nat :=
  let c0_11 : Index := 0#32
  let c256_i32 : BitVec 32 := 256#32
  let v11 : BitVec 32 := Scalar.muli c0_i32_4 c256_i32
  let v12 : BitVec 32 := v11
  let c256_i32_6 : BitVec 32 := 256#32
  let v16 : BitVec 32 := Scalar.addi v12 c256_i32_6
  let c4336_i32 : BitVec 32 := 4336#32
  let v17 : BitVec 32 := Scalar.minsi v16 c4336_i32
  let v18 : BitVec 32 := v17
  let v27 : Index := Scalar.indexCast v18
  let c0_12 : Index := 0#32
  ![0, v27.toNat, 0]
def k0_mult55 : BitVec 32 :=
  let c1_i32 : BitVec 32 := 1#32
  let c256_i32_22 : BitVec 32 := 256#32
  let v78 : BitVec 32 := Scalar.muli c1_i32 c256_i32_22
  v78
def k0_mult56 : BitVec 32 :=
  let c1_i32 : BitVec 32 := 1#32
  let c256_i32_22 : BitVec 32 := 256#32
  let v78 : BitVec 32 := Scalar.muli c1_i32 c256_i32_22
  let v79 : BitVec 32 := v78
  let c16_i32_23 : BitVec 32 := 16#32
  let v80 : BitVec 32 := Scalar.subi v79 c16_i32_23
  let c0_i32_24 : BitVec 32 := 0#32
  let v81 : BitVec 32 := Scalar.maxsi v80 c0_i32_24
  v81
def k0_mult57 : BitVec 32 :=
  let c1_i32 : BitVec 32 := 1#32
  let c256_i32_22 : BitVec 32 := 256#32
  let v78 : BitVec 32 := Scalar.muli c1_i32 c256_i32_22
  let v79 : BitVec 32 := v78
  let c256_i32_25 : BitVec 32 := 256#32
  let v83 : BitVec 32 := Scalar.addi v79 c256_i32_25
  let c4336_i32_26 : BitVec 32 := 4336#32
  let v84 : BitVec 32 := Scalar.minsi v83 c4336_i32_26
  v84
def k0_mult58 : BitVec 32 :=
  let c2_i32 : BitVec 32 := 2#32
  let c256_i32_44 : BitVec 32 := 256#32
  let v145 : BitVec 32 := Scalar.muli c2_i32 c256_i32_44
  v145
def k0_mult59 : BitVec 32 :=
  let c2_i32 : BitVec 32 := 2#32
  let c256_i32_44 : BitVec 32 := 256#32
  let v145 : BitVec 32 := Scalar.muli c2_i32 c256_i32_44
  let v146 : BitVec 32 := v145
  let c16_i32_45 : BitVec 32 := 16#32
  let v147 : BitVec 32 := Scalar.subi v146 c16_i32_45
  let c0_i32_46 : BitVec 32 := 0#32
  let v148 : BitVec 32 := Scalar.maxsi v147 c0_i32_46
  v148
def k0_mult60 : BitVec 32 :=
  let c2_i32 : BitVec 32 := 2#32
  let c256_i32_44 : BitVec 32 := 256#32
  let v145 : BitVec 32 := Scalar.muli c2_i32 c256_i32_44
  let v146 : BitVec 32 := v145
  let c256_i32_47 : BitVec 32 := 256#32
  let v150 : BitVec 32 := Scalar.addi v146 c256_i32_47
  let c4336_i32_48 : BitVec 32 := 4336#32
  let v151 : BitVec 32 := Scalar.minsi v150 c4336_i32_48
  v151
def k0_mult61 : BitVec 32 :=
  let c3_i32 : BitVec 32 := 3#32
  let c256_i32_66 : BitVec 32 := 256#32
  let v212 : BitVec 32 := Scalar.muli c3_i32 c256_i32_66
  v212
def k0_mult62 : BitVec 32 :=
  let c3_i32 : BitVec 32 := 3#32
  let c256_i32_66 : BitVec 32 := 256#32
  let v212 : BitVec 32 := Scalar.muli c3_i32 c256_i32_66
  let v213 : BitVec 32 := v212
  let c16_i32_67 : BitVec 32 := 16#32
  let v214 : BitVec 32 := Scalar.subi v213 c16_i32_67
  let c0_i32_68 : BitVec 32 := 0#32
  let v215 : BitVec 32 := Scalar.maxsi v214 c0_i32_68
  v215
def k0_mult63 : BitVec 32 :=
  let c3_i32 : BitVec 32 := 3#32
  let c256_i32_66 : BitVec 32 := 256#32
  let v212 : BitVec 32 := Scalar.muli c3_i32 c256_i32_66
  let v213 : BitVec 32 := v212
  let c256_i32_69 : BitVec 32 := 256#32
  let v217 : BitVec 32 := Scalar.addi v213 c256_i32_69
  let c4336_i32_70 : BitVec 32 := 4336#32
  let v218 : BitVec 32 := Scalar.minsi v217 c4336_i32_70
  v218
def k0_mult64 : BitVec 32 :=
  let c4_i32_88 : BitVec 32 := 4#32
  let c256_i32_89 : BitVec 32 := 256#32
  let v279 : BitVec 32 := Scalar.muli c4_i32_88 c256_i32_89
  v279
def k0_mult65 : BitVec 32 :=
  let c4_i32_88 : BitVec 32 := 4#32
  let c256_i32_89 : BitVec 32 := 256#32
  let v279 : BitVec 32 := Scalar.muli c4_i32_88 c256_i32_89
  let v280 : BitVec 32 := v279
  let c16_i32_90 : BitVec 32 := 16#32
  let v281 : BitVec 32 := Scalar.subi v280 c16_i32_90
  let c0_i32_91 : BitVec 32 := 0#32
  let v282 : BitVec 32 := Scalar.maxsi v281 c0_i32_91
  v282
def k0_mult66 : BitVec 32 :=
  let c4_i32_88 : BitVec 32 := 4#32
  let c256_i32_89 : BitVec 32 := 256#32
  let v279 : BitVec 32 := Scalar.muli c4_i32_88 c256_i32_89
  let v280 : BitVec 32 := v279
  let c256_i32_92 : BitVec 32 := 256#32
  let v284 : BitVec 32 := Scalar.addi v280 c256_i32_92
  let c4336_i32_93 : BitVec 32 := 4336#32
  let v285 : BitVec 32 := Scalar.minsi v284 c4336_i32_93
  v285
def k0_mult67 : BitVec 32 :=
  let c5_i32 : BitVec 32 := 5#32
  let c256_i32_111 : BitVec 32 := 256#32
  let v346 : BitVec 32 := Scalar.muli c5_i32 c256_i32_111
  v346
def k0_mult68 : BitVec 32 :=
  let c5_i32 : BitVec 32 := 5#32
  let c256_i32_111 : BitVec 32 := 256#32
  let v346 : BitVec 32 := Scalar.muli c5_i32 c256_i32_111
  let v347 : BitVec 32 := v346
  let c16_i32_112 : BitVec 32 := 16#32
  let v348 : BitVec 32 := Scalar.subi v347 c16_i32_112
  let c0_i32_113 : BitVec 32 := 0#32
  let v349 : BitVec 32 := Scalar.maxsi v348 c0_i32_113
  v349
def k0_mult69 : BitVec 32 :=
  let c5_i32 : BitVec 32 := 5#32
  let c256_i32_111 : BitVec 32 := 256#32
  let v346 : BitVec 32 := Scalar.muli c5_i32 c256_i32_111
  let v347 : BitVec 32 := v346
  let c256_i32_114 : BitVec 32 := 256#32
  let v351 : BitVec 32 := Scalar.addi v347 c256_i32_114
  let c4336_i32_115 : BitVec 32 := 4336#32
  let v352 : BitVec 32 := Scalar.minsi v351 c4336_i32_115
  v352
def k0_mult70 : BitVec 32 :=
  let c6_i32 : BitVec 32 := 6#32
  let c256_i32_133 : BitVec 32 := 256#32
  let v413 : BitVec 32 := Scalar.muli c6_i32 c256_i32_133
  v413
def k0_mult71 : BitVec 32 :=
  let c6_i32 : BitVec 32 := 6#32
  let c256_i32_133 : BitVec 32 := 256#32
  let v413 : BitVec 32 := Scalar.muli c6_i32 c256_i32_133
  let v414 : BitVec 32 := v413
  let c16_i32_134 : BitVec 32 := 16#32
  let v415 : BitVec 32 := Scalar.subi v414 c16_i32_134
  let c0_i32_135 : BitVec 32 := 0#32
  let v416 : BitVec 32 := Scalar.maxsi v415 c0_i32_135
  v416
def k0_mult72 : BitVec 32 :=
  let c6_i32 : BitVec 32 := 6#32
  let c256_i32_133 : BitVec 32 := 256#32
  let v413 : BitVec 32 := Scalar.muli c6_i32 c256_i32_133
  let v414 : BitVec 32 := v413
  let c256_i32_136 : BitVec 32 := 256#32
  let v418 : BitVec 32 := Scalar.addi v414 c256_i32_136
  let c4336_i32_137 : BitVec 32 := 4336#32
  let v419 : BitVec 32 := Scalar.minsi v418 c4336_i32_137
  v419
def k0_mult73 : BitVec 32 :=
  let c7_i32 : BitVec 32 := 7#32
  let c256_i32_155 : BitVec 32 := 256#32
  let v480 : BitVec 32 := Scalar.muli c7_i32 c256_i32_155
  v480
def k0_mult74 : BitVec 32 :=
  let c7_i32 : BitVec 32 := 7#32
  let c256_i32_155 : BitVec 32 := 256#32
  let v480 : BitVec 32 := Scalar.muli c7_i32 c256_i32_155
  let v481 : BitVec 32 := v480
  let c16_i32_156 : BitVec 32 := 16#32
  let v482 : BitVec 32 := Scalar.subi v481 c16_i32_156
  let c0_i32_157 : BitVec 32 := 0#32
  let v483 : BitVec 32 := Scalar.maxsi v482 c0_i32_157
  v483
def k0_mult75 : BitVec 32 :=
  let c7_i32 : BitVec 32 := 7#32
  let c256_i32_155 : BitVec 32 := 256#32
  let v480 : BitVec 32 := Scalar.muli c7_i32 c256_i32_155
  let v481 : BitVec 32 := v480
  let c256_i32_158 : BitVec 32 := 256#32
  let v485 : BitVec 32 := Scalar.addi v481 c256_i32_158
  let c4336_i32_159 : BitVec 32 := 4336#32
  let v486 : BitVec 32 := Scalar.minsi v485 c4336_i32_159
  v486
def k0_mult76 : BitVec 32 :=
  let c8_i32_177 : BitVec 32 := 8#32
  let c256_i32_178 : BitVec 32 := 256#32
  let v547 : BitVec 32 := Scalar.muli c8_i32_177 c256_i32_178
  v547
def k0_mult77 : BitVec 32 :=
  let c8_i32_177 : BitVec 32 := 8#32
  let c256_i32_178 : BitVec 32 := 256#32
  let v547 : BitVec 32 := Scalar.muli c8_i32_177 c256_i32_178
  let v548 : BitVec 32 := v547
  let c16_i32_179 : BitVec 32 := 16#32
  let v549 : BitVec 32 := Scalar.subi v548 c16_i32_179
  let c0_i32_180 : BitVec 32 := 0#32
  let v550 : BitVec 32 := Scalar.maxsi v549 c0_i32_180
  v550
def k0_mult78 : BitVec 32 :=
  let c8_i32_177 : BitVec 32 := 8#32
  let c256_i32_178 : BitVec 32 := 256#32
  let v547 : BitVec 32 := Scalar.muli c8_i32_177 c256_i32_178
  let v548 : BitVec 32 := v547
  let c256_i32_181 : BitVec 32 := 256#32
  let v552 : BitVec 32 := Scalar.addi v548 c256_i32_181
  let c4336_i32_182 : BitVec 32 := 4336#32
  let v553 : BitVec 32 := Scalar.minsi v552 c4336_i32_182
  v553
def k0_mult79 : BitVec 32 :=
  let c9_i32 : BitVec 32 := 9#32
  let c256_i32_200 : BitVec 32 := 256#32
  let v614 : BitVec 32 := Scalar.muli c9_i32 c256_i32_200
  v614
def k0_mult80 : BitVec 32 :=
  let c9_i32 : BitVec 32 := 9#32
  let c256_i32_200 : BitVec 32 := 256#32
  let v614 : BitVec 32 := Scalar.muli c9_i32 c256_i32_200
  let v615 : BitVec 32 := v614
  let c16_i32_201 : BitVec 32 := 16#32
  let v616 : BitVec 32 := Scalar.subi v615 c16_i32_201
  let c0_i32_202 : BitVec 32 := 0#32
  let v617 : BitVec 32 := Scalar.maxsi v616 c0_i32_202
  v617
def k0_mult81 : BitVec 32 :=
  let c9_i32 : BitVec 32 := 9#32
  let c256_i32_200 : BitVec 32 := 256#32
  let v614 : BitVec 32 := Scalar.muli c9_i32 c256_i32_200
  let v615 : BitVec 32 := v614
  let c256_i32_203 : BitVec 32 := 256#32
  let v619 : BitVec 32 := Scalar.addi v615 c256_i32_203
  let c4336_i32_204 : BitVec 32 := 4336#32
  let v620 : BitVec 32 := Scalar.minsi v619 c4336_i32_204
  v620
def k0_mult82 : BitVec 32 :=
  let c10_i32 : BitVec 32 := 10#32
  let c256_i32_222 : BitVec 32 := 256#32
  let v681 : BitVec 32 := Scalar.muli c10_i32 c256_i32_222
  v681
def k0_mult83 : BitVec 32 :=
  let c10_i32 : BitVec 32 := 10#32
  let c256_i32_222 : BitVec 32 := 256#32
  let v681 : BitVec 32 := Scalar.muli c10_i32 c256_i32_222
  let v682 : BitVec 32 := v681
  let c16_i32_223 : BitVec 32 := 16#32
  let v683 : BitVec 32 := Scalar.subi v682 c16_i32_223
  let c0_i32_224 : BitVec 32 := 0#32
  let v684 : BitVec 32 := Scalar.maxsi v683 c0_i32_224
  v684
def k0_mult84 : BitVec 32 :=
  let c10_i32 : BitVec 32 := 10#32
  let c256_i32_222 : BitVec 32 := 256#32
  let v681 : BitVec 32 := Scalar.muli c10_i32 c256_i32_222
  let v682 : BitVec 32 := v681
  let c256_i32_225 : BitVec 32 := 256#32
  let v686 : BitVec 32 := Scalar.addi v682 c256_i32_225
  let c4336_i32_226 : BitVec 32 := 4336#32
  let v687 : BitVec 32 := Scalar.minsi v686 c4336_i32_226
  v687
def k0_mult85 : BitVec 32 :=
  let c11_i32 : BitVec 32 := 11#32
  let c256_i32_244 : BitVec 32 := 256#32
  let v748 : BitVec 32 := Scalar.muli c11_i32 c256_i32_244
  v748
def k0_mult86 : BitVec 32 :=
  let c11_i32 : BitVec 32 := 11#32
  let c256_i32_244 : BitVec 32 := 256#32
  let v748 : BitVec 32 := Scalar.muli c11_i32 c256_i32_244
  let v749 : BitVec 32 := v748
  let c16_i32_245 : BitVec 32 := 16#32
  let v750 : BitVec 32 := Scalar.subi v749 c16_i32_245
  let c0_i32_246 : BitVec 32 := 0#32
  let v751 : BitVec 32 := Scalar.maxsi v750 c0_i32_246
  v751
def k0_mult87 : BitVec 32 :=
  let c11_i32 : BitVec 32 := 11#32
  let c256_i32_244 : BitVec 32 := 256#32
  let v748 : BitVec 32 := Scalar.muli c11_i32 c256_i32_244
  let v749 : BitVec 32 := v748
  let c256_i32_247 : BitVec 32 := 256#32
  let v753 : BitVec 32 := Scalar.addi v749 c256_i32_247
  let c4336_i32_248 : BitVec 32 := 4336#32
  let v754 : BitVec 32 := Scalar.minsi v753 c4336_i32_248
  v754
def k0_mult88 : BitVec 32 :=
  let c12_i32 : BitVec 32 := 12#32
  let c256_i32_266 : BitVec 32 := 256#32
  let v815 : BitVec 32 := Scalar.muli c12_i32 c256_i32_266
  v815
def k0_mult89 : BitVec 32 :=
  let c12_i32 : BitVec 32 := 12#32
  let c256_i32_266 : BitVec 32 := 256#32
  let v815 : BitVec 32 := Scalar.muli c12_i32 c256_i32_266
  let v816 : BitVec 32 := v815
  let c16_i32_267 : BitVec 32 := 16#32
  let v817 : BitVec 32 := Scalar.subi v816 c16_i32_267
  let c0_i32_268 : BitVec 32 := 0#32
  let v818 : BitVec 32 := Scalar.maxsi v817 c0_i32_268
  v818
def k0_mult90 : BitVec 32 :=
  let c12_i32 : BitVec 32 := 12#32
  let c256_i32_266 : BitVec 32 := 256#32
  let v815 : BitVec 32 := Scalar.muli c12_i32 c256_i32_266
  let v816 : BitVec 32 := v815
  let c256_i32_269 : BitVec 32 := 256#32
  let v820 : BitVec 32 := Scalar.addi v816 c256_i32_269
  let c4336_i32_270 : BitVec 32 := 4336#32
  let v821 : BitVec 32 := Scalar.minsi v820 c4336_i32_270
  v821
def k0_mult91 : BitVec 32 :=
  let c13_i32 : BitVec 32 := 13#32
  let c256_i32_288 : BitVec 32 := 256#32
  let v882 : BitVec 32 := Scalar.muli c13_i32 c256_i32_288
  v882
def k0_mult92 : BitVec 32 :=
  let c13_i32 : BitVec 32 := 13#32
  let c256_i32_288 : BitVec 32 := 256#32
  let v882 : BitVec 32 := Scalar.muli c13_i32 c256_i32_288
  let v883 : BitVec 32 := v882
  let c16_i32_289 : BitVec 32 := 16#32
  let v884 : BitVec 32 := Scalar.subi v883 c16_i32_289
  let c0_i32_290 : BitVec 32 := 0#32
  let v885 : BitVec 32 := Scalar.maxsi v884 c0_i32_290
  v885
def k0_mult93 : BitVec 32 :=
  let c13_i32 : BitVec 32 := 13#32
  let c256_i32_288 : BitVec 32 := 256#32
  let v882 : BitVec 32 := Scalar.muli c13_i32 c256_i32_288
  let v883 : BitVec 32 := v882
  let c256_i32_291 : BitVec 32 := 256#32
  let v887 : BitVec 32 := Scalar.addi v883 c256_i32_291
  let c4336_i32_292 : BitVec 32 := 4336#32
  let v888 : BitVec 32 := Scalar.minsi v887 c4336_i32_292
  v888
def k0_mult94 : BitVec 32 :=
  let c14_i32 : BitVec 32 := 14#32
  let c256_i32_310 : BitVec 32 := 256#32
  let v949 : BitVec 32 := Scalar.muli c14_i32 c256_i32_310
  v949
def k0_mult95 : BitVec 32 :=
  let c14_i32 : BitVec 32 := 14#32
  let c256_i32_310 : BitVec 32 := 256#32
  let v949 : BitVec 32 := Scalar.muli c14_i32 c256_i32_310
  let v950 : BitVec 32 := v949
  let c16_i32_311 : BitVec 32 := 16#32
  let v951 : BitVec 32 := Scalar.subi v950 c16_i32_311
  let c0_i32_312 : BitVec 32 := 0#32
  let v952 : BitVec 32 := Scalar.maxsi v951 c0_i32_312
  v952
def k0_mult96 : BitVec 32 :=
  let c14_i32 : BitVec 32 := 14#32
  let c256_i32_310 : BitVec 32 := 256#32
  let v949 : BitVec 32 := Scalar.muli c14_i32 c256_i32_310
  let v950 : BitVec 32 := v949
  let c256_i32_313 : BitVec 32 := 256#32
  let v954 : BitVec 32 := Scalar.addi v950 c256_i32_313
  let c4336_i32_314 : BitVec 32 := 4336#32
  let v955 : BitVec 32 := Scalar.minsi v954 c4336_i32_314
  v955
def k0_mult97 : BitVec 32 :=
  let c15_i32 : BitVec 32 := 15#32
  let c256_i32_332 : BitVec 32 := 256#32
  let v1016 : BitVec 32 := Scalar.muli c15_i32 c256_i32_332
  v1016
def k0_mult98 : BitVec 32 :=
  let c15_i32 : BitVec 32 := 15#32
  let c256_i32_332 : BitVec 32 := 256#32
  let v1016 : BitVec 32 := Scalar.muli c15_i32 c256_i32_332
  let v1017 : BitVec 32 := v1016
  let c16_i32_333 : BitVec 32 := 16#32
  let v1018 : BitVec 32 := Scalar.subi v1017 c16_i32_333
  let c0_i32_334 : BitVec 32 := 0#32
  let v1019 : BitVec 32 := Scalar.maxsi v1018 c0_i32_334
  v1019
def k0_mult99 : BitVec 32 :=
  let c15_i32 : BitVec 32 := 15#32
  let c256_i32_332 : BitVec 32 := 256#32
  let v1016 : BitVec 32 := Scalar.muli c15_i32 c256_i32_332
  let v1017 : BitVec 32 := v1016
  let c256_i32_335 : BitVec 32 := 256#32
  let v1021 : BitVec 32 := Scalar.addi v1017 c256_i32_335
  let c4336_i32_336 : BitVec 32 := 4336#32
  let v1022 : BitVec 32 := Scalar.minsi v1021 c4336_i32_336
  v1022
def k0_mult100 : BitVec 32 :=
  let c16_i32_354 : BitVec 32 := 16#32
  let c256_i32_355 : BitVec 32 := 256#32
  let v1083 : BitVec 32 := Scalar.muli c16_i32_354 c256_i32_355
  v1083
def k0_mult101 : BitVec 32 :=
  let c16_i32_354 : BitVec 32 := 16#32
  let c256_i32_355 : BitVec 32 := 256#32
  let v1083 : BitVec 32 := Scalar.muli c16_i32_354 c256_i32_355
  let v1084 : BitVec 32 := v1083
  let c16_i32_356 : BitVec 32 := 16#32
  let v1085 : BitVec 32 := Scalar.subi v1084 c16_i32_356
  let c0_i32_357 : BitVec 32 := 0#32
  let v1086 : BitVec 32 := Scalar.maxsi v1085 c0_i32_357
  v1086
def k0_mult102 : BitVec 32 :=
  let c16_i32_354 : BitVec 32 := 16#32
  let c256_i32_355 : BitVec 32 := 256#32
  let v1083 : BitVec 32 := Scalar.muli c16_i32_354 c256_i32_355
  let v1084 : BitVec 32 := v1083
  let c256_i32_358 : BitVec 32 := 256#32
  let v1088 : BitVec 32 := Scalar.addi v1084 c256_i32_358
  let c4336_i32_359 : BitVec 32 := 4336#32
  let v1089 : BitVec 32 := Scalar.minsi v1088 c4336_i32_359
  v1089
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x4352x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S5x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S4352x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4352x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x4352x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== PrepRefIdeal.lean ====
abbrev S16x4352x1536 : Shape := ⟨3, ![16, 4352, 1536]⟩
abbrev S5x1536 : Shape := ⟨2, ![5, 1536]⟩
abbrev S4096x2x32 : Shape := ⟨3, ![4096, 2, 32]⟩
abbrev S16x4096x1536 : Shape := ⟨3, ![16, 4096, 1536]⟩
abbrev S_ : Shape := ⟨0, ![]⟩
abbrev S16x4100x1536 : Shape := ⟨3, ![16, 4100, 1536]⟩
abbrev S1x1536 : Shape := ⟨2, ![1, 1536]⟩
abbrev S1536 : Shape := ⟨1, ![1536]⟩
abbrev S1x1x1536 : Shape := ⟨3, ![1, 1, 1536]⟩
abbrev S16x4096x512 : Shape := ⟨3, ![16, 4096, 512]⟩
abbrev S16x4096x4x128 : Shape := ⟨4, ![16, 4096, 4, 128]⟩
abbrev S16x4096x4 : Shape := ⟨3, ![16, 4096, 4]⟩
abbrev S16x4096x4x1 : Shape := ⟨4, ![16, 4096, 4, 1]⟩
abbrev S1x4096x1x2x32 : Shape := ⟨5, ![1, 4096, 1, 2, 32]⟩
abbrev S16x4096x4x2x2x32 : Shape := ⟨6, ![16, 4096, 4, 2, 2, 32]⟩
abbrev S16x4096x4x2x1x32 : Shape := ⟨6, ![16, 4096, 4, 2, 1, 32]⟩
abbrev S16x4096x4x2x32 : Shape := ⟨5, ![16, 4096, 4, 2, 32]⟩
abbrev S16x256x1536 : Shape := ⟨3, ![16, 256, 1536]⟩
abbrev S16x260x1536 : Shape := ⟨3, ![16, 260, 1536]⟩
abbrev S16x256x512 : Shape := ⟨3, ![16, 256, 512]⟩
abbrev S16x256x4x128 : Shape := ⟨4, ![16, 256, 4, 128]⟩
abbrev S16x256x4 : Shape := ⟨3, ![16, 256, 4]⟩
abbrev S16x256x4x1 : Shape := ⟨4, ![16, 256, 4, 1]⟩

abbrev nBuf : Space → Nat
  | .hbm => 210
  | .vmem => 0
  | .smem => 0
  | _ => 0

abbrev hbmTy0_0 (i : Nat) : BufTy := match i % 128 with
  | 0 => ⟨S16x4352x1536, .bf16⟩
  | 1 => ⟨S5x1536, .f32⟩
  | 2 => ⟨S4096x2x32, .f32⟩
  | 3 => ⟨S4096x2x32, .f32⟩
  | 4 => ⟨S16x4352x1536, .f32⟩
  | 5 => ⟨S16x4096x1536, .f32⟩
  | 6 => ⟨S_, .i32⟩
  | 7 => ⟨S_, .f32⟩
  | 8 => ⟨S16x4100x1536, .f32⟩
  | 9 => ⟨S16x4096x1536, .f32⟩
  | 10 => ⟨S1x1536, .f32⟩
  | 11 => ⟨S1536, .f32⟩
  | 12 => ⟨S1x1x1536, .f32⟩
  | 13 => ⟨S16x4096x1536, .f32⟩
  | 14 => ⟨S16x4096x1536, .f32⟩
  | 15 => ⟨S_, .f32⟩
  | 16 => ⟨S16x4096x1536, .f32⟩
  | 17 => ⟨S16x4096x1536, .f32⟩
  | 18 => ⟨S16x4096x1536, .f32⟩
  | 19 => ⟨S1x1536, .f32⟩
  | 20 => ⟨S1536, .f32⟩
  | 21 => ⟨S1x1x1536, .f32⟩
  | 22 => ⟨S16x4096x1536, .f32⟩
  | 23 => ⟨S16x4096x1536, .f32⟩
  | 24 => ⟨S16x4096x1536, .f32⟩
  | 25 => ⟨S16x4096x1536, .f32⟩
  | 26 => ⟨S1x1536, .f32⟩
  | 27 => ⟨S1536, .f32⟩
  | 28 => ⟨S1x1x1536, .f32⟩
  | 29 => ⟨S16x4096x1536, .f32⟩
  | 30 => ⟨S16x4096x1536, .f32⟩
  | 31 => ⟨S16x4096x1536, .f32⟩
  | 32 => ⟨S16x4096x1536, .f32⟩
  | 33 => ⟨S1x1536, .f32⟩
  | 34 => ⟨S1536, .f32⟩
  | 35 => ⟨S1x1x1536, .f32⟩
  | 36 => ⟨S16x4096x1536, .f32⟩
  | 37 => ⟨S16x4096x1536, .f32⟩
  | 38 => ⟨S16x4096x1536, .f32⟩
  | 39 => ⟨S16x4096x1536, .f32⟩
  | 40 => ⟨S1x1536, .f32⟩
  | 41 => ⟨S1536, .f32⟩
  | 42 => ⟨S1x1x1536, .f32⟩
  | 43 => ⟨S16x4096x1536, .f32⟩
  | 44 => ⟨S16x4096x1536, .f32⟩
  | 45 => ⟨S16x4096x1536, .f32⟩
  | 46 => ⟨S16x4096x1536, .f32⟩
  | 47 => ⟨S16x4096x1536, .f32⟩
  | 48 => ⟨S_, .f32⟩
  | 49 => ⟨S16x4096x1536, .f32⟩
  | 50 => ⟨S16x4096x1536, .f32⟩
  | 51 => ⟨S_, .f32⟩
  | 52 => ⟨S16x4096x1536, .f32⟩
  | 53 => ⟨S16x4096x1536, .f32⟩
  | 54 => ⟨S16x4096x1536, .f32⟩
  | 55 => ⟨S16x4096x512, .f32⟩
  | 56 => ⟨S16x4096x512, .f32⟩
  | 57 => ⟨S16x4096x512, .f32⟩
  | 58 => ⟨S16x4096x4x128, .f32⟩
  | 59 => ⟨S16x4096x4x128, .f32⟩
  | 60 => ⟨S_, .f32⟩
  | 61 => ⟨S16x4096x4, .f32⟩
  | 62 => ⟨S16x4096x4x1, .f32⟩
  | 63 => ⟨S_, .f32⟩
  | 64 => ⟨S16x4096x4x1, .f32⟩
  | 65 => ⟨S16x4096x4x1, .f32⟩
  | 66 => ⟨S16x4096x4x1, .f32⟩
  | 67 => ⟨S16x4096x4x128, .f32⟩
  | 68 => ⟨S16x4096x4x128, .f32⟩
  | 69 => ⟨S16x4096x4x128, .f32⟩
  | 70 => ⟨S16x4096x4x128, .f32⟩
  | 71 => ⟨S_, .f32⟩
  | 72 => ⟨S16x4096x4, .f32⟩
  | 73 => ⟨S16x4096x4x1, .f32⟩
  | 74 => ⟨S_, .f32⟩
  | 75 => ⟨S16x4096x4x1, .f32⟩
  | 76 => ⟨S16x4096x4x1, .f32⟩
  | 77 => ⟨S16x4096x4x1, .f32⟩
  | 78 => ⟨S16x4096x4x128, .f32⟩
  | 79 => ⟨S16x4096x4x128, .f32⟩
  | 80 => ⟨S1x4096x1x2x32, .f32⟩
  | 81 => ⟨S1x4096x1x2x32, .f32⟩
  | 82 => ⟨S16x4096x4x2x2x32, .f32⟩
  | 83 => ⟨S16x4096x4x2x1x32, .f32⟩
  | 84 => ⟨S16x4096x4x2x32, .f32⟩
  | 85 => ⟨S16x4096x4x2x1x32, .f32⟩
  | 86 => ⟨S16x4096x4x2x32, .f32⟩
  | 87 => ⟨S16x4096x4x2x32, .f32⟩
  | 88 => ⟨S16x4096x4x2x32, .f32⟩
  | 89 => ⟨S16x4096x4x2x32, .f32⟩
  | 90 => ⟨S16x4096x4x2x32, .f32⟩
  | 91 => ⟨S16x4096x4x2x32, .f32⟩
  | 92 => ⟨S16x4096x4x2x32, .f32⟩
  | 93 => ⟨S16x4096x4x2x32, .f32⟩
  | 94 => ⟨S16x4096x4x2x32, .f32⟩
  | 95 => ⟨S16x4096x4x2x32, .f32⟩
  | 96 => ⟨S16x4096x4x2x32, .f32⟩
  | 97 => ⟨S16x4096x4x2x1x32, .f32⟩
  | 98 => ⟨S16x4096x4x2x1x32, .f32⟩
  | 99 => ⟨S16x4096x4x2x2x32, .f32⟩
  | 100 => ⟨S16x4096x4x128, .f32⟩
  | 101 => ⟨S1x4096x1x2x32, .f32⟩
  | 102 => ⟨S1x4096x1x2x32, .f32⟩
  | 103 => ⟨S16x4096x4x2x2x32, .f32⟩
  | 104 => ⟨S16x4096x4x2x1x32, .f32⟩
  | 105 => ⟨S16x4096x4x2x32, .f32⟩
  | 106 => ⟨S16x4096x4x2x1x32, .f32⟩
  | 107 => ⟨S16x4096x4x2x32, .f32⟩
  | 108 => ⟨S16x4096x4x2x32, .f32⟩
  | 109 => ⟨S16x4096x4x2x32, .f32⟩
  | 110 => ⟨S16x4096x4x2x32, .f32⟩
  | 111 => ⟨S16x4096x4x2x32, .f32⟩
  | 112 => ⟨S16x4096x4x2x32, .f32⟩
  | 113 => ⟨S16x4096x4x2x32, .f32⟩
  | 114 => ⟨S16x4096x4x2x32, .f32⟩
  | 115 => ⟨S16x4096x4x2x32, .f32⟩
  | 116 => ⟨S16x4096x4x2x32, .f32⟩
  | 117 => ⟨S16x4096x4x2x32, .f32⟩
  | 118 => ⟨S16x4096x4x2x1x32, .f32⟩
  | 119 => ⟨S16x4096x4x2x1x32, .f32⟩
  | 120 => ⟨S16x4096x4x2x2x32, .f32⟩
  | 121 => ⟨S16x4096x4x128, .f32⟩
  | 122 => ⟨S_, .f32⟩
  | 123 => ⟨S16x4096x4x128, .f32⟩
  | 124 => ⟨S16x4096x4x128, .f32⟩
  | 125 => ⟨S16x4096x512, .f32⟩
  | 126 => ⟨S16x4096x512, .f32⟩
  | 127 => ⟨S16x4096x1536, .f32⟩
  | _ => ⟨S16x4352x1536, .bf16⟩

abbrev hbmTy0_1 (i : Nat) : BufTy := match i % 128 with
  | 0 => ⟨S16x256x1536, .f32⟩
  | 1 => ⟨S_, .i32⟩
  | 2 => ⟨S_, .f32⟩
  | 3 => ⟨S16x260x1536, .f32⟩
  | 4 => ⟨S16x256x1536, .f32⟩
  | 5 => ⟨S1x1536, .f32⟩
  | 6 => ⟨S1536, .f32⟩
  | 7 => ⟨S1x1x1536, .f32⟩
  | 8 => ⟨S16x256x1536, .f32⟩
  | 9 => ⟨S16x256x1536, .f32⟩
  | 10 => ⟨S_, .f32⟩
  | 11 => ⟨S16x256x1536, .f32⟩
  | 12 => ⟨S16x256x1536, .f32⟩
  | 13 => ⟨S16x256x1536, .f32⟩
  | 14 => ⟨S1x1536, .f32⟩
  | 15 => ⟨S1536, .f32⟩
  | 16 => ⟨S1x1x1536, .f32⟩
  | 17 => ⟨S16x256x1536, .f32⟩
  | 18 => ⟨S16x256x1536, .f32⟩
  | 19 => ⟨S16x256x1536, .f32⟩
  | 20 => ⟨S16x256x1536, .f32⟩
  | 21 => ⟨S1x1536, .f32⟩
  | 22 => ⟨S1536, .f32⟩
  | 23 => ⟨S1x1x1536, .f32⟩
  | 24 => ⟨S16x256x1536, .f32⟩
  | 25 => ⟨S16x256x1536, .f32⟩
  | 26 => ⟨S16x256x1536, .f32⟩
  | 27 => ⟨S16x256x1536, .f32⟩
  | 28 => ⟨S1x1536, .f32⟩
  | 29 => ⟨S1536, .f32⟩
  | 30 => ⟨S1x1x1536, .f32⟩
  | 31 => ⟨S16x256x1536, .f32⟩
  | 32 => ⟨S16x256x1536, .f32⟩
  | 33 => ⟨S16x256x1536, .f32⟩
  | 34 => ⟨S16x256x1536, .f32⟩
  | 35 => ⟨S1x1536, .f32⟩
  | 36 => ⟨S1536, .f32⟩
  | 37 => ⟨S1x1x1536, .f32⟩
  | 38 => ⟨S16x256x1536, .f32⟩
  | 39 => ⟨S16x256x1536, .f32⟩
  | 40 => ⟨S16x256x1536, .f32⟩
  | 41 => ⟨S16x256x1536, .f32⟩
  | 42 => ⟨S16x256x1536, .f32⟩
  | 43 => ⟨S_, .f32⟩
  | 44 => ⟨S16x256x1536, .f32⟩
  | 45 => ⟨S16x256x1536, .f32⟩
  | 46 => ⟨S_, .f32⟩
  | 47 => ⟨S16x256x1536, .f32⟩
  | 48 => ⟨S16x256x1536, .f32⟩
  | 49 => ⟨S16x256x1536, .f32⟩
  | 50 => ⟨S16x256x512, .f32⟩
  | 51 => ⟨S16x256x512, .f32⟩
  | 52 => ⟨S16x256x512, .f32⟩
  | 53 => ⟨S16x256x4x128, .f32⟩
  | 54 => ⟨S16x256x4x128, .f32⟩
  | 55 => ⟨S_, .f32⟩
  | 56 => ⟨S16x256x4, .f32⟩
  | 57 => ⟨S16x256x4x1, .f32⟩
  | 58 => ⟨S_, .f32⟩
  | 59 => ⟨S16x256x4x1, .f32⟩
  | 60 => ⟨S16x256x4x1, .f32⟩
  | 61 => ⟨S16x256x4x1, .f32⟩
  | 62 => ⟨S16x256x4x128, .f32⟩
  | 63 => ⟨S16x256x4x128, .f32⟩
  | 64 => ⟨S16x256x4x128, .f32⟩
  | 65 => ⟨S16x256x4x128, .f32⟩
  | 66 => ⟨S_, .f32⟩
  | 67 => ⟨S16x256x4, .f32⟩
  | 68 => ⟨S16x256x4x1, .f32⟩
  | 69 => ⟨S_, .f32⟩
  | 70 => ⟨S16x256x4x1, .f32⟩
  | 71 => ⟨S16x256x4x1, .f32⟩
  | 72 => ⟨S16x256x4x1, .f32⟩
  | 73 => ⟨S16x256x4x128, .f32⟩
  | 74 => ⟨S16x256x4x128, .f32⟩
  | 75 => ⟨S_, .f32⟩
  | 76 => ⟨S16x256x4x128, .f32⟩
  | 77 => ⟨S16x256x4x128, .f32⟩
  | 78 => ⟨S16x256x512, .f32⟩
  | 79 => ⟨S16x256x512, .f32⟩
  | 80 => ⟨S16x256x1536, .f32⟩
  | 81 => ⟨S16x4352x1536, .f32⟩
  | _ => ⟨S16x4352x1536, .bf16⟩

abbrev hbmTy (i : Nat) : BufTy := match i / 128 with
  | 0 => hbmTy0_0 i
  | 1 => hbmTy0_1 i
  | _ => ⟨S16x4352x1536, .bf16⟩

abbrev bufTy : (tb : Table) → Fin (tcTables nBuf tb) → BufTy
  | .hbm, ⟨i, _⟩ => hbmTy i
  | _, _ => ⟨S16x4352x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_0 : Ref sig .tc := ⟨.hbm, 60, rfl⟩
abbrev main_v45 : Ref sig .tc := ⟨.hbm, 61, rfl⟩
abbrev main_v46 : Ref sig .tc := ⟨.hbm, 62, rfl⟩
abbrev main_cst_1 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_2 : Ref sig .tc := ⟨.hbm, 71, rfl⟩
abbrev main_v54 : Ref sig .tc := ⟨.hbm, 72, rfl⟩
abbrev main_v55 : Ref sig .tc := ⟨.hbm, 73, rfl⟩
abbrev main_cst_3 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_cst_4 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_c_5 : Ref sig .tc := ⟨.hbm, 129, rfl⟩
abbrev main_call2_v0 : Ref sig .tc := ⟨.hbm, 130, rfl⟩
abbrev main_v109 : Ref sig .tc := ⟨.hbm, 131, rfl⟩
abbrev main_v110 : Ref sig .tc := ⟨.hbm, 132, rfl⟩
abbrev main_v111 : Ref sig .tc := ⟨.hbm, 133, rfl⟩
abbrev main_v112 : Ref sig .tc := ⟨.hbm, 134, rfl⟩
abbrev main_v113 : Ref sig .tc := ⟨.hbm, 135, rfl⟩
abbrev main_v114 : Ref sig .tc := ⟨.hbm, 136, rfl⟩
abbrev main_v115 : Ref sig .tc := ⟨.hbm, 137, rfl⟩
abbrev main_cst_6 : Ref sig .tc := ⟨.hbm, 138, rfl⟩
abbrev main_v116 : Ref sig .tc := ⟨.hbm, 139, rfl⟩
abbrev main_v117 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_call3_v0 : Ref sig .tc := ⟨.hbm, 169, rfl⟩
abbrev main_call3_v1 : Ref sig .tc := ⟨.hbm, 170, rfl⟩
abbrev main_call3_cst : Ref sig .tc := ⟨.hbm, 171, rfl⟩
abbrev main_call3_v2 : Ref sig .tc := ⟨.hbm, 172, rfl⟩
abbrev main_call3_v3 : Ref sig .tc := ⟨.hbm, 173, rfl⟩
abbrev main_call3_cst_0 : Ref sig .tc := ⟨.hbm, 174, rfl⟩
abbrev main_call3_v4 : Ref sig .tc := ⟨.hbm, 175, rfl⟩
abbrev main_call3_v5 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_v151 : Ref sig .tc := ⟨.hbm, 182, rfl⟩
abbrev main_cst_7 : Ref sig .tc := ⟨.hbm, 183, rfl⟩
abbrev main_v152 : Ref sig .tc := ⟨.hbm, 184, rfl⟩
abbrev main_v153 : Ref sig .tc := ⟨.hbm, 185, rfl⟩
abbrev main_cst_8 : Ref sig .tc := ⟨.hbm, 186, rfl⟩
abbrev main_v154 : Ref sig .tc := ⟨.hbm, 187, rfl⟩
abbrev main_v155 : Ref sig .tc := ⟨.hbm, 188, rfl⟩
abbrev main_v156 : Ref sig .tc := ⟨.hbm, 189, rfl⟩
abbrev main_v157 : Ref sig .tc := ⟨.hbm, 190, rfl⟩
abbrev main_v158 : Ref sig .tc := ⟨.hbm, 191, rfl⟩
abbrev main_v159 : Ref sig .tc := ⟨.hbm, 192, rfl⟩
abbrev main_v160 : Ref sig .tc := ⟨.hbm, 193, rfl⟩
abbrev main_cst_9 : Ref sig .tc := ⟨.hbm, 194, rfl⟩
abbrev main_v161 : Ref sig .tc := ⟨.hbm, 195, rfl⟩
abbrev main_v162 : Ref sig .tc := ⟨.hbm, 196, rfl⟩
abbrev main_cst_10 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_cst_11 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩

abbrev nD : Nat := 1
abbrev τ : Topo := Topo.v7x

variable {F : FTy → Type} [FloatOps F]
-- ==== Proof.FfnValue.lean ====
module

public import proofs.«01_k».proof.Proof.Gen.FfnIdeal.Value
public import proofs.«01_k».proof.Proof.Gen.FfnRefIdeal.Run
public import Idealize.ShloMosaic.Lib.Pipeline.ValueKit
public import Idealize.ShloMosaic.Lib.Pipeline.ReadBack
public import Idealize.ShloMosaic.Lib.Pointwise

/-! The expert feed-forward call: what its pipelined kernel leaves is the reference's term. -/

@[expose] public section

set_option maxRecDepth 16384

noncomputable section

open Idealize.ShloMosaic Idealize.ShloMosaic.TcCoe Idealize.SL.Sem
open Idealize.ShloMosaic.Pipeline (Dat)

namespace Cert.FfnIdeal.Equal

open Cert.FfnIdeal Cert.FfnIdeal.Gen

variable (m : (ℓ : Loc nD τ sig) → Buf (Elt Ideal) ℓ)

/-- The reference's feed-forward over the token rows and the three weight arrays. -/
def REF (X : FVec Ideal S16x16x608x1024 .bf16) (Wg Wu Wd : FVec Ideal S4x16x1024x1024 .f32) : FVec Ideal S16x16x608x1024 .bf16 :=
  truncf .bf16 (pad Cert.FfnRefIdeal.S16x16x608x1024 ![0, 0, 0, 0] ![0, 0, 64, 0] ![0, 0, 0, 0] (transpose Cert.FfnRefIdeal.S16x16x544x1024 [2, 0, 3, 1] (Host.dotGeneral Cert.FfnRefIdeal.dot_S16x1024x1024_S16x16x544x1024_S16x1024x16x544_1_3_2_02_0_1 none (shapeCast _ (extractStridedSlice Cert.FfnRefIdeal.S1x16x1024x1024 ![0, 0, 0, 0] Wd Cert.FfnRefIdeal.Gen.slices_S4x16x1024x1024_S1x16x1024x1024_0_0_0_0) Cert.FfnRefIdeal.Gen.shapeCasts_S1x16x1024x1024_S16x1024x1024) (mulf (mulf (transpose Cert.FfnRefIdeal.S16x16x544x1024 [2, 0, 3, 1] (Host.dotGeneral Cert.FfnRefIdeal.dot_S16x1024x1024_S16x16x544x1024_S16x1024x16x544_1_3_2_02_0_1 none (shapeCast _ (extractStridedSlice Cert.FfnRefIdeal.S1x16x1024x1024 ![0, 0, 0, 0] Wg Cert.FfnRefIdeal.Gen.slices_S4x16x1024x1024_S1x16x1024x1024_0_0_0_0) Cert.FfnRefIdeal.Gen.shapeCasts_S1x16x1024x1024_S16x1024x1024) (extf .f32 (extractStridedSlice Cert.FfnRefIdeal.S16x16x544x1024 ![0, 0, 0, 0] X Cert.FfnRefIdeal.Gen.slices_S16x16x608x1024_S16x16x544x1024_0_0_0_0) Cert.FfnRefIdeal.Gen.bitsLt_bf16_f32)) Cert.FfnRefIdeal.Gen.transposes_S16x1024x16x544_S16x16x544x1024_2_0_3_1) (Host.divf (broadcastInDim Cert.FfnRefIdeal.S16x16x544x1024 ![] Cert.FfnRefIdeal.Gen.bcast_S_S16x16x544x1024 (constant Cert.FfnRefIdeal.S_ .f32 0x3F800000#32)) (addf (broadcastInDim Cert.FfnRefIdeal.S16x16x544x1024 ![] Cert.FfnRefIdeal.Gen.bcast_S_S16x16x544x1024 (constant Cert.FfnRefIdeal.S_ .f32 0x3F800000#32)) (Host.exp (Host.negf (transpose Cert.FfnRefIdeal.S16x16x544x1024 [2, 0, 3, 1] (Host.dotGeneral Cert.FfnRefIdeal.dot_S16x1024x1024_S16x16x544x1024_S16x1024x16x544_1_3_2_02_0_1 none (shapeCast _ (extractStridedSlice Cert.FfnRefIdeal.S1x16x1024x1024 ![0, 0, 0, 0] Wg Cert.FfnRefIdeal.Gen.slices_S4x16x1024x1024_S1x16x1024x1024_0_0_0_0) Cert.FfnRefIdeal.Gen.shapeCasts_S1x16x1024x1024_S16x1024x1024) (extf .f32 (extractStridedSlice Cert.FfnRefIdeal.S16x16x544x1024 ![0, 0, 0, 0] X Cert.FfnRefIdeal.Gen.slices_S16x16x608x1024_S16x16x544x1024_0_0_0_0) Cert.FfnRefIdeal.Gen.bitsLt_bf16_f32)) Cert.FfnRefIdeal.Gen.transposes_S16x1024x16x544_S16x16x544x1024_2_0_3_1)))))) (transpose Cert.FfnRefIdeal.S16x16x544x1024 [2, 0, 3, 1] (Host.dotGeneral Cert.FfnRefIdeal.dot_S16x1024x1024_S16x16x544x1024_S16x1024x16x544_1_3_2_02_0_1 none (shapeCast _ (extractStridedSlice Cert.FfnRefIdeal.S1x16x1024x1024 ![0, 0, 0, 0] Wu Cert.FfnRefIdeal.Gen.slices_S4x16x1024x1024_S1x16x1024x1024_0_0_0_0) Cert.FfnRefIdeal.Gen.shapeCasts_S1x16x1024x1024_S16x1024x1024) (extf .f32 (extractStridedSlice Cert.FfnRefIdeal.S16x16x544x1024 ![0, 0, 0, 0] X Cert.FfnRefIdeal.Gen.slices_S16x16x608x1024_S16x16x544x1024_0_0_0_0) Cert.FfnRefIdeal.Gen.bitsLt_bf16_f32)) Cert.FfnRefIdeal.Gen.transposes_S16x1024x16x544_S16x16x544x1024_2_0_3_1))) Cert.FfnRefIdeal.Gen.transposes_S16x1024x16x544_S16x16x544x1024_2_0_3_1) (sitofp .f32 (constantI Cert.FfnRefIdeal.S_ 32 0#32)) Cert.FfnRefIdeal.Gen.pads_S16x16x544x1024_S16x16x608x1024_000_000_0640_000 Cert.FfnRefIdeal.Gen.h_S_) Cert.FfnRefIdeal.Gen.bitsLt_bf16_f32

/-- The gated feed-forward of one token row, written entry by entry: the rows past the 544th hold zero. -/
theorem REF_at (X : FVec Ideal S16x16x608x1024 .bf16) (Wg Wu Wd : FVec Ideal S4x16x1024x1024 .f32) (j : S16x16x608x1024.Idx) :
    REF X Wg Wu Wd j = if (j 2 : ℕ) < 544 then
        (∑ h : Fin 1024, ((∑ k : Fin 1024, X (ix4 (j 0) (j 1) (j 2) k) * Wg (ix4 0 (j 1) k h))
            * Ideal.logistic (∑ k : Fin 1024, X (ix4 (j 0) (j 1) (j 2) k) * Wg (ix4 0 (j 1) k h))
            * ∑ k : Fin 1024, X (ix4 (j 0) (j 1) (j 2) k) * Wu (ix4 0 (j 1) k h)) * Wd (ix4 0 (j 1) h (j 3)))
      else 0 := by
  pointwise [REF]
  simp only [Ideal.logistic, mul_comm (Wg _) (X _), mul_comm (Wu _) (X _), mul_comm (Wd _) _]
  split
  · rfl
  · show (((0#32 : BitVec 32).toInt : ℝ) : EReal) = 0
    simp

/-- Where every window's block lies at each grid point: sixteen points per expert, one per batch entry. -/
theorem idx : ∀ t : Fin cfg0.N, win0_0.index t = ![t.val % 16, t.val / 16, 0, 0] ∧ win0_1.index t = ![0, t.val / 16, 0, 0]
    ∧ win0_2.index t = ![0, t.val / 16, 0, 0] ∧ win0_3.index t = ![0, t.val / 16, 0, 0]
    ∧ win0_4.index t = ![t.val % 16, t.val / 16, 0, 0] ∧ t.val / 16 < 16 :=
  (by decide +kernel : ∀ t : Fin grid0.N, _)

/-- The weight blocks read at a point are those of the point before when both belong to one expert. -/
theorem weights_stay (c : Dev nD) (t : Fin cfg0.N) (h : t.val - 1 < cfg0.N) (h0 : ¬t.val % 16 = 0) :
    iblk m c 1 ⟨t.val - 1, h⟩ = iblk m c 1 t ∧ iblk m c 2 ⟨t.val - 1, h⟩ = iblk m c 2 t
    ∧ iblk m c 3 ⟨t.val - 1, h⟩ = iblk m c 3 t := by
  refine ⟨?_, ?_, ?_⟩ <;> funext x <;> blk_ext [iblk, V, idx ⟨t.val - 1, h⟩, idx t]

/-- After every point the three carried buffers hold the rounded weights of the point's own expert. -/
theorem held (c : Dev nD) : ∀ (n : ℕ) (h : n < cfg0.N),
    (outsAt0 m c n h).2.1 = k0_pay3 (iblk m c 1 ⟨n, h⟩) ∧ (outsAt0 m c n h).2.2.1 = k0_pay4 (iblk m c 2 ⟨n, h⟩)
    ∧ (outsAt0 m c n h).2.2.2 = k0_pay5 (iblk m c 3 ⟨n, h⟩) := by
  intro n
  induction n with
  | zero =>
    intro h
    rw [outsAt0_A m c ⟨0, h⟩ (Nat.zero_mod _)]
    refine ⟨?_, ?_, ?_⟩ <;> frame_out
  | succ n ih =>
    intro h
    by_cases h0 : (n + 1) % 16 = 0
    · rw [outsAt0_A m c ⟨n + 1, h⟩ h0]
      refine ⟨?_, ?_, ?_⟩ <;> frame_out
    · obtain ⟨e1, e2, e3⟩ := weights_stay m c ⟨n + 1, h⟩ (Nat.lt_of_succ_lt h) h0
      obtain ⟨i1, i2, i3⟩ := ih (Nat.lt_of_succ_lt h)
      rw [outsAt0_B m c ⟨n + 1, h⟩ h0, ← e1, ← e2, ← e3]
      exact ⟨i1, i2, i3⟩

/-- The result array after the run is the reference's term of the argument arrays. -/
theorem final (c : Dev nD) : (dats m 0 c).arrAt 4 cfg0.N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 4 _ (by decide +kernel) fun t hf y => ?_
  blk_simp
  rw [after0_4]
  have hp := Nat.lt_of_le_of_lt (Nat.sub_le t.val 1) t.isLt
  rcases Decidable.em (t.val % 16 = 0) with e0 | e0
  case' inl =>
    rw [outsAt0_A m c t e0]; frame_out
    simp (disch := decide) only [View.readCov_fill]
  case' inr =>
    rw [outsAt0_B m c t e0]; frame_out
    rw [(held m c (t.val - 1) hp).1, (held m c (t.val - 1) hp).2.1, (held m c (t.val - 1) hp).2.2,
      (weights_stay m c t hp e0).1, (weights_stay m c t hp e0).2.1, (weights_stay m c t hp e0).2.2]
    simp only [read_unread_whole]
  all_goals
    canon_tiles x h using View.cover_of_tiledBy (s := S1x1x608x1024) _ ![1, 1, 32, 1024] (by sl_kernel_rfl) y
    · rw [REF_at, if_neg (by blk_simp [idx t]; omega)]
      pointwise [k0_pay2]
    · rw [REF_at, if_pos (by blk_simp [idx t]; omega)]
      pointwise [k0_pay1, k0_pay3, k0_pay4, k0_pay5, k0_pay6]
      rw [Fin.sum_univ_two_halves 512 512 rfl]
      blk_point [iblk, V, idx t]

end Cert.FfnIdeal.Equal

end
-- ==== Proof.MergeTerms.lean ====
module

public import proofs.«01_k».proof.Proof.Gen.MergeIdeal.Value
public import proofs.«01_k».proof.Proof.Gen.MergeRefIdeal.Run
public import Idealize.ShloMosaic.Lib.Pipeline.ValueKit
public import Idealize.ShloMosaic.Lib.Pipeline.ReadBack
public import Idealize.ShloMosaic.Lib.Pointwise

/-! The merge call: what its pipelined kernel leaves are the reference's three terms. -/

@[expose] public section

set_option maxRecDepth 16384

noncomputable section

open Idealize.ShloMosaic Idealize.ShloMosaic.TcCoe Idealize.SL.Sem
open Idealize.ShloMosaic.Pipeline (Dat)

namespace Cert.MergeIdeal.Equal

open Cert.MergeIdeal Cert.MergeIdeal.Gen

variable (m : (ℓ : Loc nD τ sig) → Buf (Elt Ideal) ℓ)

/-- The modulation row that holds the scale of the first residual, at every token. -/
def MR2 (MD : FVec Ideal S16x2x6x1024 .f32) : FVec Ideal S16x4352x1024 .f32 :=
  concatenate Cert.MergeRefIdeal.S16x4352x1024 1 [⟨Cert.MergeRefIdeal.S16x4096x1024, (broadcastInDim Cert.MergeRefIdeal.S16x4096x1024 ![0, 1, 2] Cert.MergeRefIdeal.Gen.bcast_S16x1x1024_S16x4096x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 0, 2, 0] MD Cert.MergeRefIdeal.Gen.slices_S16x2x6x1024_S16x1x1x1024_0_0_2_0) Cert.MergeRefIdeal.Gen.shapeCasts_S16x1x1x1024_S16x1024)))⟩, ⟨Cert.MergeRefIdeal.S16x256x1024, (broadcastInDim Cert.MergeRefIdeal.S16x256x1024 ![0, 1, 2] Cert.MergeRefIdeal.Gen.bcast_S16x1x1024_S16x256x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 1, 2, 0] MD Cert.MergeRefIdeal.Gen.slices_S16x2x6x1024_S16x1x1x1024_0_1_2_0) Cert.MergeRefIdeal.Gen.shapeCasts_S16x1x1x1024_S16x1024)))⟩] Cert.MergeRefIdeal.Gen.concatenates_S16x4096x1024_S16x256x1024_S16x4352x1024_d1

/-- The modulation row that holds the shift of the second norm, at every token. -/
def MR3 (MD : FVec Ideal S16x2x6x1024 .f32) : FVec Ideal S16x4352x1024 .f32 :=
  concatenate Cert.MergeRefIdeal.S16x4352x1024 1 [⟨Cert.MergeRefIdeal.S16x4096x1024, (broadcastInDim Cert.MergeRefIdeal.S16x4096x1024 ![0, 1, 2] Cert.MergeRefIdeal.Gen.bcast_S16x1x1024_S16x4096x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 0, 3, 0] MD Cert.MergeRefIdeal.Gen.slices_S16x2x6x1024_S16x1x1x1024_0_0_3_0) Cert.MergeRefIdeal.Gen.shapeCasts_S16x1x1x1024_S16x1024)))⟩, ⟨Cert.MergeRefIdeal.S16x256x1024, (broadcastInDim Cert.MergeRefIdeal.S16x256x1024 ![0, 1, 2] Cert.MergeRefIdeal.Gen.bcast_S16x1x1024_S16x256x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 1, 3, 0] MD Cert.MergeRefIdeal.Gen.slices_S16x2x6x1024_S16x1x1x1024_0_1_3_0) Cert.MergeRefIdeal.Gen.shapeCasts_S16x1x1x1024_S16x1024)))⟩] Cert.MergeRefIdeal.Gen.concatenates_S16x4096x1024_S16x256x1024_S16x4352x1024_d1

/-- The modulation row that holds the scale of the second norm, at every token. -/
def MR4 (MD : FVec Ideal S16x2x6x1024 .f32) : FVec Ideal S16x4352x1024 .f32 :=
  concatenate Cert.MergeRefIdeal.S16x4352x1024 1 [⟨Cert.MergeRefIdeal.S16x4096x1024, (broadcastInDim Cert.MergeRefIdeal.S16x4096x1024 ![0, 1, 2] Cert.MergeRefIdeal.Gen.bcast_S16x1x1024_S16x4096x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 0, 4, 0] MD Cert.MergeRefIdeal.Gen.slices_S16x2x6x1024_S16x1x1x1024_0_0_4_0) Cert.MergeRefIdeal.Gen.shapeCasts_S16x1x1x1024_S16x1024)))⟩, ⟨Cert.MergeRefIdeal.S16x256x1024, (broadcastInDim Cert.MergeRefIdeal.S16x256x1024 ![0, 1, 2] Cert.MergeRefIdeal.Gen.bcast_S16x1x1024_S16x256x1024_0_1_2 (broadcastInDim Cert.MergeRefIdeal.S16x1x1024 ![0, 2] Cert.MergeRefIdeal.Gen.bcast_S16x1024_S16x1x1024_0_2 (shapeCast _ (extractStridedSlice Cert.MergeRefIdeal.S16x1x1x1024 ![0, 1, 4, 0] MD Cert.MergeRefIdeal.Gen.slices_S16x2x6x1024_S16x1x1x1024_0_1_4_0) Cert.MergeRefIdeal.Gen.shapeCasts_S16x1x1x1024_S16x1024)))⟩] Cert.MergeRefIdeal.Gen.concatenates_S16x4096x1024_S16x256x1024_S16x4352x1024_d1

/-- The recurrent branch: the summed directions normalised per head and gated. -/
def OA (OF : FVec Ideal S16x4352x512 .f32) (OB : FVec Ideal S16x4352x512 .f32) (Z : FVec Ideal S16x4352x512 .bf16) (GNW : FVec Ideal S128 .f32) : FVec Ideal S16x4352x512 .f32 :=
  shapeCast _ (mulf (mulf (mulf (shapeCast _ (addf OF OB) Cert.MergeRefIdeal.Gen.shapeCasts_S16x4352x512_S16x4352x4x128) (broadcastInDim Cert.MergeRefIdeal.S16x4352x4x128 ![0, 1, 2, 3] Cert.MergeRefIdeal.Gen.bcast_S16x4352x4x1_S16x4352x4x128_0_1_2_3 (Host.rsqrt (addf (Host.divf (broadcastInDim Cert.MergeRefIdeal.S16x4352x4x1 ![0, 1, 2] Cert.MergeRefIdeal.Gen.bcast_S16x4352x4_S16x4352x4x1_0_1_2 (Host.reduceAdd (mulf (shapeCast _ (addf OF OB) Cert.MergeRefIdeal.Gen.shapeCasts_S16x4352x512_S16x4352x4x128) (shapeCast _ (addf OF OB) Cert.MergeRefIdeal.Gen.shapeCasts_S16x4352x512_S16x4352x4x128)) (constant Cert.MergeRefIdeal.S_ .f32 0x00000000#32) Cert.MergeRefIdeal.Gen.reducesTo_S16x4352x4x128_S16x4352x4_d3 Cert.MergeRefIdeal.Gen.h_S_)) (broadcastInDim Cert.MergeRefIdeal.S16x4352x4x1 ![] Cert.MergeRefIdeal.Gen.bcast_S_S16x4352x4x1 (constant Cert.MergeRefIdeal.S_ .f32 0x43000000#32))) (broadcastInDim Cert.MergeRefIdeal.S16x4352x4x1 ![] Cert.MergeRefIdeal.Gen.bcast_S_S16x4352x4x1 (constant Cert.MergeRefIdeal.S_ .f32 0x358637BD#32)))))) (broadcastInDim Cert.MergeRefIdeal.S16x4352x4x128 ![0, 1, 2, 3] Cert.MergeRefIdeal.Gen.bcast_S1x1x1x128_S16x4352x4x128_0_1_2_3 (broadcastInDim Cert.MergeRefIdeal.S1x1x1x128 ![3] Cert.MergeRefIdeal.Gen.bcast_S128_S1x1x1x128_3 GNW))) (mulf (shapeCast _ (extf .f32 Z Cert.MergeRefIdeal.Gen.bitsLt_bf16_f32) Cert.MergeRefIdeal.Gen.shapeCasts_S16x4352x512_S16x4352x4x128) (Host.divf (broadcastInDim Cert.MergeRefIdeal.S16x4352x4x128 ![] Cert.MergeRefIdeal.Gen.bcast_S_S16x4352x4x128 (constant Cert.MergeRefIdeal.S_ .f32 0x3F800000#32)) (addf (broadcastInDim Cert.MergeRefIdeal.S16x4352x4x128 ![] Cert.MergeRefIdeal.Gen.bcast_S_S16x4352x4x128 (constant Cert.MergeRefIdeal.S_ .f32 0x3F800000#32)) (Host.exp (Host.negf (shapeCast _ (extf .f32 Z Cert.MergeRefIdeal.Gen.bitsLt_bf16_f32) Cert.MergeRefIdeal.Gen.shapeCasts_S16x4352x512_S16x4352x4x128))))))) Cert.MergeRefIdeal.Gen.shapeCasts_S16x4352x4x128_S16x4352x512

/-- The three branches through their own weights, gated and summed. -/
def YG (OF : FVec Ideal S16x4352x512 .f32) (OB : FVec Ideal S16x4352x512 .f32) (Z : FVec Ideal S16x4352x512 .bf16) (FB : FVec Ideal S16x4352x256 .bf16) (OC : FVec Ideal S16x4352x256 .bf16) (GR : FVec Ideal S16x4352x3072 .bf16) (GNW : FVec Ideal S128 .f32) (WA : FVec Ideal S512x1024 .f32) (WB : FVec Ideal S256x1024 .f32) (WC : FVec Ideal S256x1024 .f32) : FVec Ideal S16x4352x1024 .f32 :=
  addf (addf (mulf (extractStridedSlice Cert.MergeRefIdeal.S16x4352x1024 ![0, 0, 0] (Host.divf (broadcastInDim Cert.MergeRefIdeal.S16x4352x3072 ![] Cert.MergeRefIdeal.Gen.bcast_S_S16x4352x3072 (constant Cert.MergeRefIdeal.S_ .f32 0x3F800000#32)) (addf (broadcastInDim Cert.MergeRefIdeal.S16x4352x3072 ![] Cert.MergeRefIdeal.Gen.bcast_S_S16x4352x3072 (constant Cert.MergeRefIdeal.S_ .f32 0x3F800000#32)) (Host.exp (Host.negf (extf .f32 GR Cert.MergeRefIdeal.Gen.bitsLt_bf16_f32))))) Cert.MergeRefIdeal.Gen.slices_S16x4352x3072_S16x4352x1024_0_0_0) (Host.dotGeneral Cert.MergeRefIdeal.dot_S16x4352x512_S512x1024_S16x4352x1024_2_0_01_1_n_n none (OA OF OB Z GNW) WA)) (mulf (extractStridedSlice Cert.MergeRefIdeal.S16x4352x1024 ![0, 0, 1024] (Host.divf (broadcastInDim Cert.MergeRefIdeal.S16x4352x3072 ![] Cert.MergeRefIdeal.Gen.bcast_S_S16x4352x3072 (constant Cert.MergeRefIdeal.S_ .f32 0x3F800000#32)) (addf (broadcastInDim Cert.MergeRefIdeal.S16x4352x3072 ![] Cert.MergeRefIdeal.Gen.bcast_S_S16x4352x3072 (constant Cert.MergeRefIdeal.S_ .f32 0x3F800000#32)) (Host.exp (Host.negf (extf .f32 GR Cert.MergeRefIdeal.Gen.bitsLt_bf16_f32))))) Cert.MergeRefIdeal.Gen.slices_S16x4352x3072_S16x4352x1024_0_0_1024) (Host.dotGeneral Cert.MergeRefIdeal.dot_S16x4352x256_S256x1024_S16x4352x1024_2_0_01_1_n_n none (extf .f32 FB Cert.MergeRefIdeal.Gen.bitsLt_bf16_f32) WB))) (mulf (extractStridedSlice Cert.MergeRefIdeal.S16x4352x1024 ![0, 0, 2048] (Host.divf (broadcastInDim Cert.MergeRefIdeal.S16x4352x3072 ![] Cert.MergeRefIdeal.Gen.bcast_S_S16x4352x3072 (constant Cert.MergeRefIdeal.S_ .f32 0x3F800000#32)) (addf (broadcastInDim Cert.MergeRefIdeal.S16x4352x3072 ![] Cert.MergeRefIdeal.Gen.bcast_S_S16x4352x3072 (constant Cert.MergeRefIdeal.S_ .f32 0x3F800000#32)) (Host.exp (Host.negf (extf .f32 GR Cert.MergeRefIdeal.Gen.bitsLt_bf16_f32))))) Cert.MergeRefIdeal.Gen.slices_S16x4352x3072_S16x4352x1024_0_0_2048) (Host.dotGeneral Cert.MergeRefIdeal.dot_S16x4352x256_S256x1024_S16x4352x1024_2_0_01_1_n_n none (extf .f32 OC Cert.MergeRefIdeal.Gen.bitsLt_bf16_f32) WC))

/-- The tokens after the first residual. -/
def X1 (OF : FVec Ideal S16x4352x512 .f32) (OB : FVec Ideal S16x4352x512 .f32) (Z : FVec Ideal S16x4352x512 .bf16) (FB : FVec Ideal S16x4352x256 .bf16) (OC : FVec Ideal S16x4352x256 .bf16) (GR : FVec Ideal S16x4352x3072 .bf16) (XS : FVec Ideal S16x4352x1024 .f32) (MD : FVec Ideal S16x2x6x1024 .f32) (GNW : FVec Ideal S128 .f32) (WA : FVec Ideal S512x1024 .f32) (WB : FVec Ideal S256x1024 .f32) (WC : FVec Ideal S256x1024 .f32) (WO : FVec Ideal S1024x1024 .f32) : FVec Ideal S16x4352x1024 .f32 :=
  addf XS (mulf (MR2 MD) (Host.dotGeneral Cert.MergeRefIdeal.dot_S16x4352x1024_S1024x1024_S16x4352x1024_2_0_01_1_n_n none (YG OF OB Z FB OC GR GNW WA WB WC) WO))

/-- The second norm of the tokens `X`, modulated. -/
def H2 (X : FVec Ideal S16x4352x1024 .f32) (N2W : FVec Ideal S1024 .f32) (MD : FVec Ideal S16x2x6x1024 .f32) : FVec Ideal S16x4352x1024 .f32 :=
  addf (mulf (mulf (mulf X (broadcastInDim Cert.MergeRefIdeal.S16x4352x1024 ![0, 1, 2] Cert.MergeRefIdeal.Gen.bcast_S16x4352x1_S16x4352x1024_0_1_2 (Host.rsqrt (addf (Host.divf (broadcastInDim Cert.MergeRefIdeal.S16x4352x1 ![0, 1] Cert.MergeRefIdeal.Gen.bcast_S16x4352_S16x4352x1_0_1 (Host.reduceAdd (mulf X X) (constant Cert.MergeRefIdeal.S_ .f32 0x00000000#32) Cert.MergeRefIdeal.Gen.reducesTo_S16x4352x1024_S16x4352_d2 Cert.MergeRefIdeal.Gen.h_S_)) (broadcastInDim Cert.MergeRefIdeal.S16x4352x1 ![] Cert.MergeRefIdeal.Gen.bcast_S_S16x4352x1 (constant Cert.MergeRefIdeal.S_ .f32 0x44800000#32))) (broadcastInDim Cert.MergeRefIdeal.S16x4352x1 ![] Cert.MergeRefIdeal.Gen.bcast_S_S16x4352x1 (constant Cert.MergeRefIdeal.S_ .f32 0x358637BD#32)))))) (broadcastInDim Cert.MergeRefIdeal.S16x4352x1024 ![0, 1, 2] Cert.MergeRefIdeal.Gen.bcast_S1x1x1024_S16x4352x1024_0_1_2 (broadcastInDim Cert.MergeRefIdeal.S1x1x1024 ![2] Cert.MergeRefIdeal.Gen.bcast_S1024_S1x1x1024_2 N2W))) (addf (broadcastInDim Cert.MergeRefIdeal.S16x4352x1024 ![] Cert.MergeRefIdeal.Gen.bcast_S_S16x4352x1024 (constant Cert.MergeRefIdeal.S_ .f32 0x3F800000#32)) (MR4 MD))) (MR3 MD)

/-- The experts' affinities of the normalised tokens `H`. -/
def AFF (H : FVec Ideal S16x4352x1024 .f32) (WR : FVec Ideal S1024x16 .f32) : FVec Ideal S16x16x4352 .f32 :=
  transpose Cert.MergeRefIdeal.S16x16x4352 [0, 2, 1] (Host.divf (Host.exp (subf (Host.dotGeneral Cert.MergeRefIdeal.dot_S16x4352x1024_S1024x16_S16x4352x16_2_0_01_1_n_n none H WR) (broadcastInDim Cert.MergeRefIdeal.S16x4352x16 ![0, 1, 2] Cert.MergeRefIdeal.Gen.bcast_S16x4352x1_S16x4352x16_0_1_2 (broadcastInDim Cert.MergeRefIdeal.S16x4352x1 ![0, 1] Cert.MergeRefIdeal.Gen.bcast_S16x4352_S16x4352x1_0_1 (maximumf (broadcastInDim Cert.MergeRefIdeal.S16x4352 ![] Cert.MergeRefIdeal.Gen.bcast_S_S16x4352 (constant Cert.MergeRefIdeal.S_ .f32 0xFF800000#32)) (Host.reduce FloatOps.maximumf (Host.dotGeneral Cert.MergeRefIdeal.dot_S16x4352x1024_S1024x16_S16x4352x16_2_0_01_1_n_n none H WR) (constant Cert.MergeRefIdeal.S_ .f32 0xFF800000#32) Cert.MergeRefIdeal.Gen.reducesTo_S16x4352x16_S16x4352_d2 Cert.MergeRefIdeal.Gen.h_S_)))))) (broadcastInDim Cert.MergeRefIdeal.S16x4352x16 ![0, 1, 2] Cert.MergeRefIdeal.Gen.bcast_S16x4352x1_S16x4352x16_0_1_2 (broadcastInDim Cert.MergeRefIdeal.S16x4352x1 ![0, 1] Cert.MergeRefIdeal.Gen.bcast_S16x4352_S16x4352x1_0_1 (Host.reduceAdd (Host.exp (subf (Host.dotGeneral Cert.MergeRefIdeal.dot_S16x4352x1024_S1024x16_S16x4352x16_2_0_01_1_n_n none H WR) (broadcastInDim Cert.MergeRefIdeal.S16x4352x16 ![0, 1, 2] Cert.MergeRefIdeal.Gen.bcast_S16x4352x1_S16x4352x16_0_1_2 (broadcastInDim Cert.MergeRefIdeal.S16x4352x1 ![0, 1] Cert.MergeRefIdeal.Gen.bcast_S16x4352_S16x4352x1_0_1 (maximumf (broadcastInDim Cert.MergeRefIdeal.S16x4352 ![] Cert.MergeRefIdeal.Gen.bcast_S_S16x4352 (constant Cert.MergeRefIdeal.S_ .f32 0xFF800000#32)) (Host.reduce FloatOps.maximumf (Host.dotGeneral Cert.MergeRefIdeal.dot_S16x4352x1024_S1024x16_S16x4352x16_2_0_01_1_n_n none H WR) (constant Cert.MergeRefIdeal.S_ .f32 0xFF800000#32) Cert.MergeRefIdeal.Gen.reducesTo_S16x4352x16_S16x4352_d2 Cert.MergeRefIdeal.Gen.h_S_)))))) (constant Cert.MergeRefIdeal.S_ .f32 0x00000000#32) Cert.MergeRefIdeal.Gen.reducesTo_S16x4352x16_S16x4352_d2 Cert.MergeRefIdeal.Gen.h_S_)))) Cert.MergeRefIdeal.Gen.transposes_S16x4352x16_S16x16x4352_0_2_1

/-- The first residual's scale at a token: the sample's row at its latents, the context's at its context tokens. -/
theorem MR2_at (MD : FVec Ideal S16x2x6x1024 .f32) (j : S16x4352x1024.Idx) :
    MR2 MD j = MD (ix4 (j 0) ⟨(j 1).val / 4096, by have : (j 1).val < 4352 := (j 1).isLt; omega⟩ 2 (j 2)) := by
  have h1 : (j 1).val < 4352 := (j 1).isLt
  pointwise [MR2]
  split <;> congr 2 <;> apply Fin.ext <;> simp <;> omega

/-- The second norm's shift at a token. -/
theorem MR3_at (MD : FVec Ideal S16x2x6x1024 .f32) (j : S16x4352x1024.Idx) :
    MR3 MD j = MD (ix4 (j 0) ⟨(j 1).val / 4096, by have : (j 1).val < 4352 := (j 1).isLt; omega⟩ 3 (j 2)) := by
  have h1 : (j 1).val < 4352 := (j 1).isLt
  pointwise [MR3]
  split <;> congr 2 <;> apply Fin.ext <;> simp <;> omega

/-- The second norm's scale at a token. -/
theorem MR4_at (MD : FVec Ideal S16x2x6x1024 .f32) (j : S16x4352x1024.Idx) :
    MR4 MD j = MD (ix4 (j 0) ⟨(j 1).val / 4096, by have : (j 1).val < 4352 := (j 1).isLt; omega⟩ 4 (j 2)) := by
  have h1 : (j 1).val < 4352 := (j 1).isLt
  pointwise [MR4]
  split <;> congr 2 <;> apply Fin.ext <;> simp <;> omega

/-- One entry of the recurrent branch: the head's entry over its root mean square, weighted and gated. -/
theorem OA_at (OF OB : FVec Ideal S16x4352x512 .f32) (Z : FVec Ideal S16x4352x512 .bf16) (GNW : FVec Ideal S128 .f32) (j : S16x4352x512.Idx) :
    OA OF OB Z GNW j = (OF j + OB j) * Ideal.rsqrt (Ideal.div
          (∑ x : Fin 128, (OF (ix3 (j 0) (j 1) ⟨(j 2).val / 128 * 128 + x.val, by have : (j 2).val < 512 := (j 2).isLt; omega⟩)
              + OB (ix3 (j 0) (j 1) ⟨(j 2).val / 128 * 128 + x.val, by have : (j 2).val < 512 := (j 2).isLt; omega⟩))
            * (OF (ix3 (j 0) (j 1) ⟨(j 2).val / 128 * 128 + x.val, by have : (j 2).val < 512 := (j 2).isLt; omega⟩)
              + OB (ix3 (j 0) (j 1) ⟨(j 2).val / 128 * 128 + x.val, by have : (j 2).val < 512 := (j 2).isLt; omega⟩)))
          (Ideal.ofBits .f32 1124073472#32) + Ideal.ofBits .f32 897988541#32)
        * GNW (ix1 ⟨(j 2).val % 128, Nat.mod_lt _ (by omega)⟩) * (Z j * Ideal.logistic (Z j)) := by
  pointwise [OA]
  rfl

/-- One entry of the gated sum of the branches, the recurrent one's product taken head by head. -/
theorem YG_at (OF OB : FVec Ideal S16x4352x512 .f32) (Z : FVec Ideal S16x4352x512 .bf16) (FB OC : FVec Ideal S16x4352x256 .bf16)
    (GR : FVec Ideal S16x4352x3072 .bf16) (GNW : FVec Ideal S128 .f32) (WA : FVec Ideal S512x1024 .f32) (WB WC : FVec Ideal S256x1024 .f32)
    (j : S16x4352x1024.Idx) :
    YG OF OB Z FB OC GR GNW WA WB WC j = Ideal.logistic (GR (ix3 (j 0) (j 1) ⟨(j 2).val, by have : (j 2).val < 1024 := (j 2).isLt; omega⟩))
          * ((∑ x : Fin 128, OA OF OB Z GNW (ix3 (j 0) (j 1) ⟨x.val, by omega⟩) * WA (ix2 ⟨x.val, by omega⟩ (j 2)))
            + (∑ x : Fin 128, OA OF OB Z GNW (ix3 (j 0) (j 1) ⟨128 + x.val, by omega⟩) * WA (ix2 ⟨128 + x.val, by omega⟩ (j 2)))
            + (∑ x : Fin 128, OA OF OB Z GNW (ix3 (j 0) (j 1) ⟨256 + x.val, by omega⟩) * WA (ix2 ⟨256 + x.val, by omega⟩ (j 2)))
            + (∑ x : Fin 128, OA OF OB Z GNW (ix3 (j 0) (j 1) ⟨384 + x.val, by omega⟩) * WA (ix2 ⟨384 + x.val, by omega⟩ (j 2))))
        + Ideal.logistic (GR (ix3 (j 0) (j 1) ⟨1024 + (j 2).val, by have : (j 2).val < 1024 := (j 2).isLt; omega⟩))
          * (∑ x : Fin 256, FB (ix3 (j 0) (j 1) x) * WB (ix2 x (j 2)))
        + Ideal.logistic (GR (ix3 (j 0) (j 1) ⟨2048 + (j 2).val, by have : (j 2).val < 1024 := (j 2).isLt; omega⟩))
          * ∑ x : Fin 256, OC (ix3 (j 0) (j 1) x) * WC (ix2 x (j 2)) := by
  pointwise [YG]
  rw [Fin.sum_univ_tiles 4 128 rfl, Fin.sum_univ_four]
  simp only [Ideal.logistic]
  simp

/-- One entry of the tokens after the first residual. -/
theorem X1_at (OF OB : FVec Ideal S16x4352x512 .f32) (Z : FVec Ideal S16x4352x512 .bf16) (FB OC : FVec Ideal S16x4352x256 .bf16)
    (GR : FVec Ideal S16x4352x3072 .bf16) (XS : FVec Ideal S16x4352x1024 .f32) (MD : FVec Ideal S16x2x6x1024 .f32)
    (GNW : FVec Ideal S128 .f32) (WA : FVec Ideal S512x1024 .f32) (WB WC : FVec Ideal S256x1024 .f32) (WO : FVec Ideal S1024x1024 .f32)
    (j : S16x4352x1024.Idx) :
    X1 OF OB Z FB OC GR XS MD GNW WA WB WC WO j
      = XS j + MR2 MD j * ∑ x : Fin 1024, YG OF OB Z FB OC GR GNW WA WB WC (ix3 (j 0) (j 1) x) * WO (ix2 x (j 2)) := by
  pointwise [X1]

/-- One entry of the second norm, modulated. -/
theorem H2_at (X : FVec Ideal S16x4352x1024 .f32) (N2W : FVec Ideal S1024 .f32) (MD : FVec Ideal S16x2x6x1024 .f32)
    (j : S16x4352x1024.Idx) :
    H2 X N2W MD j = X j * Ideal.rsqrt (Ideal.div (∑ x : Fin 1024, X (ix3 (j 0) (j 1) x) * X (ix3 (j 0) (j 1) x)) (Ideal.ofBits .f32 1149239296#32)
          + Ideal.ofBits .f32 897988541#32) * N2W (ix1 (j 2)) * (1 + MR4 MD j) + MR3 MD j := by
  pointwise [H2]

/-- One affinity: the softmax over the experts of the token's router scores. -/
theorem AFF_at (H : FVec Ideal S16x4352x1024 .f32) (WR : FVec Ideal S1024x16 .f32) (j : S16x16x4352.Idx) :
    AFF H WR j = Ideal.div (Ideal.exp ((∑ x : Fin 1024, WR (ix2 x (j 1)) * H (ix3 (j 0) (j 2) x))
          - Finset.fold max (Ideal.ofBits .f32 4286578688#32) (fun e : Fin 16 => ∑ x : Fin 1024, WR (ix2 x e) * H (ix3 (j 0) (j 2) x)) Finset.univ))
        (∑ e : Fin 16, Ideal.exp ((∑ x : Fin 1024, WR (ix2 x e) * H (ix3 (j 0) (j 2) x))
          - Finset.fold max (Ideal.ofBits .f32 4286578688#32) (fun e : Fin 16 => ∑ x : Fin 1024, WR (ix2 x e) * H (ix3 (j 0) (j 2) x)) Finset.univ)) := by
  pointwise [AFF]
  simp only [mul_comm (H _) (WR _)]
  rw [max_eq_right ((Finset.le_fold_max _).2 (.inl le_rfl))]

section
variable (m' : (ℓ : Loc Cert.MergeRefIdeal.nD Cert.MergeRefIdeal.τ Cert.MergeRefIdeal.sig) → Buf (Elt Ideal) ℓ)
  (c : Dev Cert.MergeRefIdeal.nD)

/-- The reference's first result in the terms above. -/
theorem res0 : Cert.MergeRefIdeal.Value.res_main_v69 m' c = X1 (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13)) := by
  delta Cert.MergeRefIdeal.Value.res_main_v69 X1 YG OA MR2
  rfl

/-- The reference's second result in the terms above. -/
theorem res1 : Cert.MergeRefIdeal.Value.res_main_v99 m' c = truncf .bf16 (H2 (X1 (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13))) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg7))) bitsLt_bf16_f32 := by
  delta Cert.MergeRefIdeal.Value.res_main_v99 H2 X1 YG OA MR2 MR3 MR4
  rfl

/-- The reference's third result in the terms above. -/
theorem res2 : Cert.MergeRefIdeal.Value.res_main_v100 m' c = AFF (H2 (X1 (m' ((c.tc : Thread Cert.MergeRefIdeal.nD Cert.MergeRefIdeal.τ).loc Cert.MergeRefIdeal.main_arg0)) (m' ((c.tc : Thread Cert.MergeRefIdeal.nD Cert.MergeRefIdeal.τ).loc Cert.MergeRefIdeal.main_arg1)) (m' ((c.tc : Thread Cert.MergeRefIdeal.nD Cert.MergeRefIdeal.τ).loc Cert.MergeRefIdeal.main_arg2)) (m' ((c.tc : Thread Cert.MergeRefIdeal.nD Cert.MergeRefIdeal.τ).loc Cert.MergeRefIdeal.main_arg3)) (m' ((c.tc : Thread Cert.MergeRefIdeal.nD Cert.MergeRefIdeal.τ).loc Cert.MergeRefIdeal.main_arg4)) (m' ((c.tc : Thread Cert.MergeRefIdeal.nD Cert.MergeRefIdeal.τ).loc Cert.MergeRefIdeal.main_arg5)) (m' ((c.tc : Thread Cert.MergeRefIdeal.nD Cert.MergeRefIdeal.τ).loc Cert.MergeRefIdeal.main_arg6)) (m' ((c.tc : Thread Cert.MergeRefIdeal.nD Cert.MergeRefIdeal.τ).loc Cert.MergeRefIdeal.main_arg7)) (m' ((c.tc : Thread Cert.MergeRefIdeal.nD Cert.MergeRefIdeal.τ).loc Cert.MergeRefIdeal.main_arg8)) (m' ((c.tc : Thread Cert.MergeRefIdeal.nD Cert.MergeRefIdeal.τ).loc Cert.MergeRefIdeal.main_arg10)) (m' ((c.tc : Thread Cert.MergeRefIdeal.nD Cert.MergeRefIdeal.τ).loc Cert.MergeRefIdeal.main_arg11)) (m' ((c.tc : Thread Cert.MergeRefIdeal.nD Cert.MergeRefIdeal.τ).loc Cert.MergeRefIdeal.main_arg12)) (m' ((c.tc : Thread Cert.MergeRefIdeal.nD Cert.MergeRefIdeal.τ).loc Cert.MergeRefIdeal.main_arg13))) (m' ((c.tc : Thread Cert.MergeRefIdeal.nD Cert.MergeRefIdeal.τ).loc Cert.MergeRefIdeal.main_arg9)) (m' ((c.tc : Thread Cert.MergeRefIdeal.nD Cert.MergeRefIdeal.τ).loc Cert.MergeRefIdeal.main_arg7))) (m' ((c.tc : Thread Cert.MergeRefIdeal.nD Cert.MergeRefIdeal.τ).loc Cert.MergeRefIdeal.main_arg14)) := by
  delta Cert.MergeRefIdeal.Value.res_main_v100 AFF H2 X1 YG OA MR2 MR3 MR4
  rfl

end

end Cert.MergeIdeal.Equal

end
-- ==== Proof.MergeValue.lean ====
module

public import proofs.«01_k».proof.Proof.MergeTerms
public import proofs.«01_k».proof.Proof.Gen.MergeRefIdeal.Run
public import Idealize.ShloMosaic.Lib.Pipeline.ValueKit
public import Idealize.ShloMosaic.Lib.Pipeline.ReadBack
public import Idealize.ShloMosaic.Lib.Pointwise

/-! The merge call: what its pipelined kernel leaves are the reference's three terms. -/

@[expose] public section

set_option maxRecDepth 16384

noncomputable section

open Idealize.ShloMosaic Idealize.ShloMosaic.TcCoe Idealize.SL.Sem
open Idealize.ShloMosaic.Pipeline (Dat)

namespace Cert.MergeIdeal.Equal

open Cert.MergeIdeal Cert.MergeIdeal.Gen

variable (m : (ℓ : Loc nD τ sig) → Buf (Elt Ideal) ℓ)

/-- Where every window's block lies at each grid point: seventeen blocks of tokens per sample, the last its context. -/
theorem idx : ∀ t : Fin cfg0.N, win0_0.index t = ![t.val / 17, t.val % 17, 0] ∧ win0_1.index t = ![t.val / 17, t.val % 17, 0]
    ∧ win0_2.index t = ![t.val / 17, t.val % 17, 0] ∧ win0_3.index t = ![t.val / 17, t.val % 17, 0]
    ∧ win0_4.index t = ![t.val / 17, t.val % 17, 0] ∧ win0_5.index t = ![t.val / 17, t.val % 17, 0]
    ∧ win0_6.index t = ![t.val / 17, t.val % 17, 0] ∧ win0_7.index t = ![t.val / 17, t.val % 17 / 16, 0, 0]
    ∧ win0_8.index t = ![0, 0] ∧ win0_9.index t = ![0, 0] ∧ win0_10.index t = ![0, 0] ∧ win0_11.index t = ![0, 0]
    ∧ win0_12.index t = ![0, 0] ∧ win0_13.index t = ![0, 0] ∧ win0_14.index t = ![0, 0]
    ∧ win0_15.index t = ![t.val / 17, t.val % 17, 0] ∧ win0_16.index t = ![t.val / 17, t.val % 17, 0]
    ∧ win0_17.index t = ![t.val / 17, 0, t.val % 17] ∧ t.val / 17 < 16 :=
  (by decide +kernel : ∀ t : Fin grid0.N, _)

/-- The point's block of tokens after the first residual holds the reference's rows. -/
theorem x1_row (c : Dev nD) (t : Fin cfg0.N) (i : Fin 256) (d : Fin 1024) :
    k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (ix2 i d) = X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13)) (ix3 ⟨t.val / 17, (idx t).2.2.2.2.2.2.2.2.2.2.2.2.2.2.2.2.2.2⟩
      ⟨t.val % 17 * 256 + i.val, by omega⟩ d) := by
  rw [X1_at]
  simp only [MR2_at, YG_at, OA_at]
  pointwise [k0_pay25, k0_pay24, k0_pay23, k0_pay22, k0_pay21, k0_pay20, k0_pay16, k0_pay15, k0_pay14, k0_pay13, k0_pay12, k0_pay11,
    k0_pay10, k0_pay9, k0_pay8, k0_pay7, k0_pay6, k0_pay5, k0_pay4]
  blk_point [iblk, V, idx t]

/-- The point's block of tokens after the second norm holds the reference's rows. -/
theorem h2_row (c : Dev nD) (t : Fin cfg0.N) (i : Fin 256) (d : Fin 1024) :
    k0_pay1 (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (iblk m c 7 t) r0_16) (ix2 i d)
      = H2 (X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13))) (m ((c : Thread nD τ).loc main_arg9)) (m ((c : Thread nD τ).loc main_arg7))
        (ix3 ⟨t.val / 17, (idx t).2.2.2.2.2.2.2.2.2.2.2.2.2.2.2.2.2.2⟩ ⟨t.val % 17 * 256 + i.val, by omega⟩ d) := by
  rw [H2_at, MR3_at, MR4_at]
  pointwise [k0_pay1, k0_pay26, k0_pay27, k0_pay18, k0_pay19]
  simp only [x1_row]
  blk_point [iblk, V, idx t]

/-- The first result: the tokens after the first residual. -/
theorem final15 (c : Dev nD) : (dats m 0 c).arrAt 15 cfg0.N = X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13)) := by
  refine (dats m 0 c).arrAt_eq_of_covers 15 _ (by decide +kernel) fun t hf y => ?_
  blk_simp
  rw [after0_15]
  unfold out0_15
  canon_tiles x h
  pointwise [k0_pay17]
  refine (x1_row m c t (x 1) (x 2)).trans ?_
  blk_ext [idx t]

/-- The second result: the second norm of those tokens. -/
theorem final16 (c : Dev nD) : (dats m 0 c).arrAt 16 cfg0.N = truncf .bf16 (H2 (X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13))) (m ((c : Thread nD τ).loc main_arg9)) (m ((c : Thread nD τ).loc main_arg7))) bitsLt_bf16_f32 := by
  refine (dats m 0 c).arrAt_eq_of_covers 16 _ (by decide +kernel) fun t hf y => ?_
  blk_simp
  rw [after0_16]
  unfold out0_16
  canon_tiles x h
  pointwise [k0_pay2]
  refine (h2_row m c t (x 1) (x 2)).trans ?_
  blk_ext [idx t]

/-- The point's block of affinities holds the reference's columns. -/
theorem aff_row (c : Dev nD) (t : Fin cfg0.N) (z : Fin 1) (e : Fin 16) (i : Fin 256) :
    k0_pay3 (k0_pay25 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay26 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (k0_pay27 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)) (View.ld (iblk m c 7 t) r0_16) (View.ld (iblk m c 14 t) r0_17) (ix3 z e i)
      = AFF (H2 (X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13))) (m ((c : Thread nD τ).loc main_arg9)) (m ((c : Thread nD τ).loc main_arg7))) (m ((c : Thread nD τ).loc main_arg14))
        (ix3 ⟨t.val / 17, (idx t).2.2.2.2.2.2.2.2.2.2.2.2.2.2.2.2.2.2⟩ e ⟨t.val % 17 * 256 + i.val, by omega⟩) := by
  rw [AFF_at]
  pointwise [k0_pay3]
  simp only [h2_row]
  blk_point [iblk, V, idx t]

/-- The third result: the experts' affinities. -/
theorem final17 (c : Dev nD) : (dats m 0 c).arrAt 17 cfg0.N = AFF (H2 (X1 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg10)) (m ((c : Thread nD τ).loc main_arg11)) (m ((c : Thread nD τ).loc main_arg12)) (m ((c : Thread nD τ).loc main_arg13))) (m ((c : Thread nD τ).loc main_arg9)) (m ((c : Thread nD τ).loc main_arg7))) (m ((c : Thread nD τ).loc main_arg14)) := by
  refine (dats m 0 c).arrAt_eq_of_covers 17 _ (by decide +kernel) fun t hf y => ?_
  blk_simp
  rw [after0_17]
  unfold out0_17
  canon_tiles x h
  have ex : x = ix3 (x 0) (x 1) (x 2) := by idx_ext
  refine (congrArg _ ex).trans ((aff_row m c t (x 0) (x 1) (x 2)).trans ?_)
  blk_ext [idx t]

end Cert.MergeIdeal.Equal

end
-- ==== Proof.ProjTerms.lean ====
module

public import proofs.«01_k».proof.Proof.Gen.ProjIdeal.Value
public import proofs.«01_k».proof.Proof.Gen.ProjRefIdeal.Run
public import Idealize.ShloMosaic.Lib.Pipeline.ValueKit
public import Idealize.ShloMosaic.Lib.Pipeline.ReadBack
public import Idealize.ShloMosaic.Lib.Pointwise

/-! The input projection's call: the reference's six results as terms, and what one entry of each is. -/

@[expose] public section

set_option maxRecDepth 16384

noncomputable section

open Idealize.ShloMosaic Idealize.ShloMosaic.TcCoe Idealize.SL.Sem
open Idealize.ShloMosaic.Pipeline (Dat)

namespace Cert.ProjIdeal.Equal

open Cert.ProjIdeal Cert.ProjIdeal.Gen

variable (m : (ℓ : Loc nD τ sig) → Buf (Elt Ideal) ℓ)

/-- The modulation row that holds the shift of the first norm, at every token. -/
def MR0 (MD : FVec Ideal S16x2x6x1024 .f32) : FVec Ideal S16x4352x1024 .f32 :=
  concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 0, 0] MD Cert.ProjRefIdeal.Gen.slices_S16x2x6x1024_S16x1x1x1024_0_0_0_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 0, 0] MD Cert.ProjRefIdeal.Gen.slices_S16x2x6x1024_S16x1x1x1024_0_1_0_0) Cert.ProjRefIdeal.Gen.shapeCasts_S16x1x1x1024_S16x1024)))⟩] Cert.ProjRefIdeal.Gen.concatenates_S16x4096x1024_S16x256x1024_S16x4352x1024_d1

/-- The modulation row that holds the scale of the first norm, at every token. -/
def MR1 (MD : FVec Ideal S16x2x6x1024 .f32) : FVec Ideal S16x4352x1024 .f32 :=
  concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 1, 0] MD Cert.ProjRefIdeal.Gen.slices_S16x2x6x1024_S16x1x1x1024_0_0_1_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 1, 0] MD Cert.ProjRefIdeal.Gen.slices_S16x2x6x1024_S16x1x1x1024_0_1_1_0) Cert.ProjRefIdeal.Gen.shapeCasts_S16x1x1x1024_S16x1024)))⟩] Cert.ProjRefIdeal.Gen.concatenates_S16x4096x1024_S16x256x1024_S16x4352x1024_d1

/-- The first norm of the tokens, modulated. -/
def H1 (XS : FVec Ideal S16x4352x1024 .f32) (MD : FVec Ideal S16x2x6x1024 .f32) (NW : FVec Ideal S1024 .f32) : FVec Ideal S16x4352x1024 .f32 :=
  addf (mulf (mulf (mulf XS (broadcastInDim Cert.ProjRefIdeal.S16x4352x1024 ![0, 1, 2] Cert.ProjRefIdeal.Gen.bcast_S16x4352x1_S16x4352x1024_0_1_2 (Host.rsqrt (addf (Host.divf (broadcastInDim Cert.ProjRefIdeal.S16x4352x1 ![0, 1] Cert.ProjRefIdeal.Gen.bcast_S16x4352_S16x4352x1_0_1 (Host.reduceAdd (mulf XS XS) ((constant Cert.ProjRefIdeal.S_ .f32 0x00000000#32 : FVec Ideal Cert.ProjRefIdeal.S_ .f32)) Cert.ProjRefIdeal.Gen.reducesTo_S16x4352x1024_S16x4352_d2 Cert.ProjRefIdeal.Gen.h_S_)) (broadcastInDim Cert.ProjRefIdeal.S16x4352x1 ![] Cert.ProjRefIdeal.Gen.bcast_S_S16x4352x1 ((constant Cert.ProjRefIdeal.S_ .f32 0x44800000#32 : FVec Ideal Cert.ProjRefIdeal.S_ .f32)))) (broadcastInDim Cert.ProjRefIdeal.S16x4352x1 ![] Cert.ProjRefIdeal.Gen.bcast_S_S16x4352x1 ((constant Cert.ProjRefIdeal.S_ .f32 0x358637BD#32 : FVec Ideal Cert.ProjRefIdeal.S_ .f32))))))) (broadcastInDim Cert.ProjRefIdeal.S16x4352x1024 ![0, 1, 2] Cert.ProjRefIdeal.Gen.bcast_S1x1x1024_S16x4352x1024_0_1_2 (broadcastInDim Cert.ProjRefIdeal.S1x1x1024 ![2] Cert.ProjRefIdeal.Gen.bcast_S1024_S1x1x1024_2 NW))) (addf (broadcastInDim Cert.ProjRefIdeal.S16x4352x1024 ![] Cert.ProjRefIdeal.Gen.bcast_S_S16x4352x1024 ((constant Cert.ProjRefIdeal.S_ .f32 0x3F800000#32 : FVec Ideal Cert.ProjRefIdeal.S_ .f32))) (MR1 MD))) (MR0 MD)

/-- The combined projection of the normalised tokens. -/
def P1 (XS : FVec Ideal S16x4352x1024 .f32) (MD : FVec Ideal S16x2x6x1024 .f32) (NW : FVec Ideal S1024 .f32) (WI : FVec Ideal S1024x6160 .f32) : FVec Ideal Cert.ProjRefIdeal.S16x4352x6160 .f32 :=
  Host.dotGeneral Cert.ProjRefIdeal.dot_S16x4352x1024_S1024x6160_S16x4352x6160_2_0_01_1_n_n none (H1 XS MD NW) WI

/-- The recurrence's queries, keys and values, out of the projection `PR`. -/
def RA (PR : FVec Ideal Cert.ProjRefIdeal.S16x4352x6160 .f32)  : FVec Ideal S16x4352x1536 .bf16 :=
  truncf .bf16 ((concatenate Cert.ProjRefIdeal.S16x4352x1536 2 [⟨Cert.ProjRefIdeal.S16x4352x512, ((extractStridedSlice Cert.ProjRefIdeal.S16x4352x512 ![0, 0, 0] PR Cert.ProjRefIdeal.Gen.slices_S16x4352x6160_S16x4352x512_0_0_0) : (⟨Cert.ProjRefIdeal.S16x4352x512, .f32⟩ : BufTy).Contents (Elt Ideal))⟩, ⟨Cert.ProjRefIdeal.S16x4352x512, ((extractStridedSlice Cert.ProjRefIdeal.S16x4352x512 ![0, 0, 512] PR Cert.ProjRefIdeal.Gen.slices_S16x4352x6160_S16x4352x512_0_0_512) : (⟨Cert.ProjRefIdeal.S16x4352x512, .f32⟩ : BufTy).Contents (Elt Ideal))⟩, ⟨Cert.ProjRefIdeal.S16x4352x512, ((extractStridedSlice Cert.ProjRefIdeal.S16x4352x512 ![0, 0, 1024] PR Cert.ProjRefIdeal.Gen.slices_S16x4352x6160_S16x4352x512_0_0_1024) : (⟨Cert.ProjRefIdeal.S16x4352x512, .f32⟩ : BufTy).Contents (Elt Ideal))⟩] Cert.ProjRefIdeal.Gen.concatenates_S16x4352x512_S16x4352x512_S16x4352x512_S16x4352x1536_d2 : (⟨Cert.ProjRefIdeal.S16x4352x1536, .f32⟩ : BufTy).Contents (Elt Ideal))) Cert.ProjRefIdeal.Gen.bitsLt_bf16_f32

/-- The recurrence's gate, out of the projection `PR`. -/
def RZ (PR : FVec Ideal Cert.ProjRefIdeal.S16x4352x6160 .f32)  : FVec Ideal S16x4352x512 .bf16 :=
  truncf .bf16 (extractStridedSlice Cert.ProjRefIdeal.S16x4352x512 ![0, 0, 1536] PR Cert.ProjRefIdeal.Gen.slices_S16x4352x6160_S16x4352x512_0_0_1536) Cert.ProjRefIdeal.Gen.bitsLt_bf16_f32

/-- The spectral branch's input, out of the projection `PR`. -/
def RU (PR : FVec Ideal Cert.ProjRefIdeal.S16x4352x6160 .f32)  : FVec Ideal S16x4352x256 .bf16 :=
  truncf .bf16 (extractStridedSlice Cert.ProjRefIdeal.S16x4352x256 ![0, 0, 2064] PR Cert.ProjRefIdeal.Gen.slices_S16x4352x6160_S16x4352x256_0_0_2064) Cert.ProjRefIdeal.Gen.bitsLt_bf16_f32

/-- The attention's queries and keys, normalised head by head, and its values, out of the projection `PR`. -/
def RN (PR : FVec Ideal Cert.ProjRefIdeal.S16x4352x6160 .f32) (QW : FVec Ideal S64 .f32) (KW : FVec Ideal S64 .f32) : FVec Ideal S16x4352x768 .bf16 :=
  truncf .bf16 ((concatenate Cert.ProjRefIdeal.S16x4352x768 2 [⟨Cert.ProjRefIdeal.S16x4352x256, ((shapeCast _ (mulf (mulf (mulf (shapeCast _ (extractStridedSlice Cert.ProjRefIdeal.S16x4352x256 ![0, 0, 2320] PR Cert.ProjRefIdeal.Gen.slices_S16x4352x6160_S16x4352x256_0_0_2320) Cert.ProjRefIdeal.Gen.shapeCasts_S16x4352x256_S16x4352x4x64) (broadcastInDim Cert.ProjRefIdeal.S16x4352x4x64 ![0, 1, 2, 3] Cert.ProjRefIdeal.Gen.bcast_S16x4352x4x1_S16x4352x4x64_0_1_2_3 (Host.rsqrt (addf (Host.divf (broadcastInDim Cert.ProjRefIdeal.S16x4352x4x1 ![0, 1, 2] Cert.ProjRefIdeal.Gen.bcast_S16x4352x4_S16x4352x4x1_0_1_2 (Host.reduceAdd (mulf (shapeCast _ (extractStridedSlice Cert.ProjRefIdeal.S16x4352x256 ![0, 0, 2320] PR Cert.ProjRefIdeal.Gen.slices_S16x4352x6160_S16x4352x256_0_0_2320) Cert.ProjRefIdeal.Gen.shapeCasts_S16x4352x256_S16x4352x4x64) (shapeCast _ (extractStridedSlice Cert.ProjRefIdeal.S16x4352x256 ![0, 0, 2320] PR Cert.ProjRefIdeal.Gen.slices_S16x4352x6160_S16x4352x256_0_0_2320) Cert.ProjRefIdeal.Gen.shapeCasts_S16x4352x256_S16x4352x4x64)) ((constant Cert.ProjRefIdeal.S_ .f32 0x00000000#32 : FVec Ideal Cert.ProjRefIdeal.S_ .f32)) Cert.ProjRefIdeal.Gen.reducesTo_S16x4352x4x64_S16x4352x4_d3 Cert.ProjRefIdeal.Gen.h_S_)) (broadcastInDim Cert.ProjRefIdeal.S16x4352x4x1 ![] Cert.ProjRefIdeal.Gen.bcast_S_S16x4352x4x1 ((constant Cert.ProjRefIdeal.S_ .f32 0x42800000#32 : FVec Ideal Cert.ProjRefIdeal.S_ .f32)))) (broadcastInDim Cert.ProjRefIdeal.S16x4352x4x1 ![] Cert.ProjRefIdeal.Gen.bcast_S_S16x4352x4x1 ((constant Cert.ProjRefIdeal.S_ .f32 0x358637BD#32 : FVec Ideal Cert.ProjRefIdeal.S_ .f32))))))) (broadcastInDim Cert.ProjRefIdeal.S16x4352x4x64 ![0, 1, 2, 3] Cert.ProjRefIdeal.Gen.bcast_S1x1x1x64_S16x4352x4x64_0_1_2_3 (broadcastInDim Cert.ProjRefIdeal.S1x1x1x64 ![3] Cert.ProjRefIdeal.Gen.bcast_S64_S1x1x1x64_3 QW))) (broadcastInDim Cert.ProjRefIdeal.S16x4352x4x64 ![] Cert.ProjRefIdeal.Gen.bcast_S_S16x4352x4x64 ((constant Cert.ProjRefIdeal.S_ .f32 0x3E000000#32 : FVec Ideal Cert.ProjRefIdeal.S_ .f32)))) Cert.ProjRefIdeal.Gen.shapeCasts_S16x4352x4x64_S16x4352x256) : (⟨Cert.ProjRefIdeal.S16x4352x256, .f32⟩ : BufTy).Contents (Elt Ideal))⟩, ⟨Cert.ProjRefIdeal.S16x4352x256, ((shapeCast _ (mulf (mulf (shapeCast _ (extractStridedSlice Cert.ProjRefIdeal.S16x4352x256 ![0, 0, 2576] PR Cert.ProjRefIdeal.Gen.slices_S16x4352x6160_S16x4352x256_0_0_2576) Cert.ProjRefIdeal.Gen.shapeCasts_S16x4352x256_S16x4352x4x64) (broadcastInDim Cert.ProjRefIdeal.S16x4352x4x64 ![0, 1, 2, 3] Cert.ProjRefIdeal.Gen.bcast_S16x4352x4x1_S16x4352x4x64_0_1_2_3 (Host.rsqrt (addf (Host.divf (broadcastInDim Cert.ProjRefIdeal.S16x4352x4x1 ![0, 1, 2] Cert.ProjRefIdeal.Gen.bcast_S16x4352x4_S16x4352x4x1_0_1_2 (Host.reduceAdd (mulf (shapeCast _ (extractStridedSlice Cert.ProjRefIdeal.S16x4352x256 ![0, 0, 2576] PR Cert.ProjRefIdeal.Gen.slices_S16x4352x6160_S16x4352x256_0_0_2576) Cert.ProjRefIdeal.Gen.shapeCasts_S16x4352x256_S16x4352x4x64) (shapeCast _ (extractStridedSlice Cert.ProjRefIdeal.S16x4352x256 ![0, 0, 2576] PR Cert.ProjRefIdeal.Gen.slices_S16x4352x6160_S16x4352x256_0_0_2576) Cert.ProjRefIdeal.Gen.shapeCasts_S16x4352x256_S16x4352x4x64)) ((constant Cert.ProjRefIdeal.S_ .f32 0x00000000#32 : FVec Ideal Cert.ProjRefIdeal.S_ .f32)) Cert.ProjRefIdeal.Gen.reducesTo_S16x4352x4x64_S16x4352x4_d3 Cert.ProjRefIdeal.Gen.h_S_)) (broadcastInDim Cert.ProjRefIdeal.S16x4352x4x1 ![] Cert.ProjRefIdeal.Gen.bcast_S_S16x4352x4x1 ((constant Cert.ProjRefIdeal.S_ .f32 0x42800000#32 : FVec Ideal Cert.ProjRefIdeal.S_ .f32)))) (broadcastInDim Cert.ProjRefIdeal.S16x4352x4x1 ![] Cert.ProjRefIdeal.Gen.bcast_S_S16x4352x4x1 ((constant Cert.ProjRefIdeal.S_ .f32 0x358637BD#32 : FVec Ideal Cert.ProjRefIdeal.S_ .f32))))))) (broadcastInDim Cert.ProjRefIdeal.S16x4352x4x64 ![0, 1, 2, 3] Cert.ProjRefIdeal.Gen.bcast_S1x1x1x64_S16x4352x4x64_0_1_2_3 (broadcastInDim Cert.ProjRefIdeal.S1x1x1x64 ![3] Cert.ProjRefIdeal.Gen.bcast_S64_S1x1x1x64_3 KW))) Cert.ProjRefIdeal.Gen.shapeCasts_S16x4352x4x64_S16x4352x256) : (⟨Cert.ProjRefIdeal.S16x4352x256, .f32⟩ : BufTy).Contents (Elt Ideal))⟩, ⟨Cert.ProjRefIdeal.S16x4352x256, ((extractStridedSlice Cert.ProjRefIdeal.S16x4352x256 ![0, 0, 2832] PR Cert.ProjRefIdeal.Gen.slices_S16x4352x6160_S16x4352x256_0_0_2832) : (⟨Cert.ProjRefIdeal.S16x4352x256, .f32⟩ : BufTy).Contents (Elt Ideal))⟩] Cert.ProjRefIdeal.Gen.concatenates_S16x4352x256_S16x4352x256_S16x4352x256_S16x4352x768_d2 : (⟨Cert.ProjRefIdeal.S16x4352x768, .f32⟩ : BufTy).Contents (Elt Ideal))) Cert.ProjRefIdeal.Gen.bitsLt_bf16_f32

/-- The branch gates, out of the projection `PR`. -/
def RG (PR : FVec Ideal Cert.ProjRefIdeal.S16x4352x6160 .f32)  : FVec Ideal S16x4352x3072 .bf16 :=
  truncf .bf16 (extractStridedSlice Cert.ProjRefIdeal.S16x4352x3072 ![0, 0, 3088] PR Cert.ProjRefIdeal.Gen.slices_S16x4352x6160_S16x4352x3072_0_0_3088) Cert.ProjRefIdeal.Gen.bitsLt_bf16_f32

/-- The recurrence's decay and step, out of the projection `PR`. -/
def RB (PR : FVec Ideal Cert.ProjRefIdeal.S16x4352x6160 .f32) (AL : FVec Ideal S2x4 .f32) (DT : FVec Ideal S2x4 .f32) : FVec Ideal S16x4352x128 .f32 :=
  (concatenate Cert.ProjRefIdeal.S16x4352x128 2 [⟨Cert.ProjRefIdeal.S16x4352x8, ((shapeCast _ (mulf (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 (Host.negf (Host.exp AL)))) (select (cmpf .une (subf (addf (shapeCast _ (extractStridedSlice Cert.ProjRefIdeal.S16x4352x8 ![0, 0, 2048] PR Cert.ProjRefIdeal.Gen.slices_S16x4352x6160_S16x4352x8_0_0_2048) Cert.ProjRefIdeal.Gen.shapeCasts_S16x4352x8_S16x4352x2x4) (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 DT))) (broadcastInDim Cert.ProjRefIdeal.S16x4352x2x4 ![] Cert.ProjRefIdeal.Gen.bcast_S_S16x4352x2x4 ((constant Cert.ProjRefIdeal.S_ .f32 0x00000000#32 : FVec Ideal Cert.ProjRefIdeal.S_ .f32)))) (subf (addf (shapeCast _ (extractStridedSlice Cert.ProjRefIdeal.S16x4352x8 ![0, 0, 2048] PR Cert.ProjRefIdeal.Gen.slices_S16x4352x6160_S16x4352x8_0_0_2048) Cert.ProjRefIdeal.Gen.shapeCasts_S16x4352x8_S16x4352x2x4) (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 DT))) (broadcastInDim Cert.ProjRefIdeal.S16x4352x2x4 ![] Cert.ProjRefIdeal.Gen.bcast_S_S16x4352x2x4 ((constant Cert.ProjRefIdeal.S_ .f32 0x00000000#32 : FVec Ideal Cert.ProjRefIdeal.S_ .f32))))) (addf (addf (shapeCast _ (extractStridedSlice Cert.ProjRefIdeal.S16x4352x8 ![0, 0, 2048] PR Cert.ProjRefIdeal.Gen.slices_S16x4352x6160_S16x4352x8_0_0_2048) Cert.ProjRefIdeal.Gen.shapeCasts_S16x4352x8_S16x4352x2x4) (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 DT))) (broadcastInDim Cert.ProjRefIdeal.S16x4352x2x4 ![] Cert.ProjRefIdeal.Gen.bcast_S_S16x4352x2x4 ((constant Cert.ProjRefIdeal.S_ .f32 0x00000000#32 : FVec Ideal Cert.ProjRefIdeal.S_ .f32)))) (addf (maximumf (addf (shapeCast _ (extractStridedSlice Cert.ProjRefIdeal.S16x4352x8 ![0, 0, 2048] PR Cert.ProjRefIdeal.Gen.slices_S16x4352x6160_S16x4352x8_0_0_2048) Cert.ProjRefIdeal.Gen.shapeCasts_S16x4352x8_S16x4352x2x4) (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 DT))) (broadcastInDim Cert.ProjRefIdeal.S16x4352x2x4 ![] Cert.ProjRefIdeal.Gen.bcast_S_S16x4352x2x4 ((constant Cert.ProjRefIdeal.S_ .f32 0x00000000#32 : FVec Ideal Cert.ProjRefIdeal.S_ .f32)))) (Host.log1p (Host.exp (Host.negf (Host.absf (subf (addf (shapeCast _ (extractStridedSlice Cert.ProjRefIdeal.S16x4352x8 ![0, 0, 2048] PR Cert.ProjRefIdeal.Gen.slices_S16x4352x6160_S16x4352x8_0_0_2048) Cert.ProjRefIdeal.Gen.shapeCasts_S16x4352x8_S16x4352x2x4) (broadcastInDim Cert.ProjRefIdeal.S16x4352x2x4 ![0, 1, 2, 3] Cert.ProjRefIdeal.Gen.bcast_S1x1x2x4_S16x4352x2x4_0_1_2_3 (broadcastInDim Cert.ProjRefIdeal.S1x1x2x4 ![2, 3] Cert.ProjRefIdeal.Gen.bcast_S2x4_S1x1x2x4_2_3 DT))) (broadcastInDim Cert.ProjRefIdeal.S16x4352x2x4 ![] Cert.ProjRefIdeal.Gen.bcast_S_S16x4352x2x4 ((constant Cert.ProjRefIdeal.S_ .f32 0x00000000#32 : FVec Ideal Cert.ProjRefIdeal.S_ .f32))))))))))) Cert.ProjRefIdeal.Gen.shapeCasts_S16x4352x2x4_S16x4352x8) : (⟨Cert.ProjRefIdeal.S16x4352x8, .f32⟩ : BufTy).Contents (Elt Ideal))⟩, ⟨Cert.ProjRefIdeal.S16x4352x8, ((shapeCast _ (Host.divf (broadcastInDim Cert.ProjRefIdeal.S16x4352x2x4 ![] Cert.ProjRefIdeal.Gen.bcast_S_S16x4352x2x4 ((constant Cert.ProjRefIdeal.S_ .f32 0x3F800000#32 : FVec Ideal Cert.ProjRefIdeal.S_ .f32))) (addf (broadcastInDim Cert.ProjRefIdeal.S16x4352x2x4 ![] Cert.ProjRefIdeal.Gen.bcast_S_S16x4352x2x4 ((constant Cert.ProjRefIdeal.S_ .f32 0x3F800000#32 : FVec Ideal Cert.ProjRefIdeal.S_ .f32))) (Host.exp (Host.negf (shapeCast _ (extractStridedSlice Cert.ProjRefIdeal.S16x4352x8 ![0, 0, 2056] PR Cert.ProjRefIdeal.Gen.slices_S16x4352x6160_S16x4352x8_0_0_2056) Cert.ProjRefIdeal.Gen.shapeCasts_S16x4352x8_S16x4352x2x4))))) Cert.ProjRefIdeal.Gen.shapeCasts_S16x4352x2x4_S16x4352x8) : (⟨Cert.ProjRefIdeal.S16x4352x8, .f32⟩ : BufTy).Contents (Elt Ideal))⟩, ⟨Cert.ProjRefIdeal.S16x4352x112, ((broadcastInDim Cert.ProjRefIdeal.S16x4352x112 ![] Cert.ProjRefIdeal.Gen.bcast_S_S16x4352x112 ((constant Cert.ProjRefIdeal.S_ .f32 0x3F000000#32 : FVec Ideal Cert.ProjRefIdeal.S_ .f32))) : (⟨Cert.ProjRefIdeal.S16x4352x112, .f32⟩ : BufTy).Contents (Elt Ideal))⟩] Cert.ProjRefIdeal.Gen.concatenates_S16x4352x8_S16x4352x8_S16x4352x112_S16x4352x128_d2 : (⟨Cert.ProjRefIdeal.S16x4352x128, .f32⟩ : BufTy).Contents (Elt Ideal))

/-- The first norm's shift at a token: the sample's row at its latents, the context's at its context tokens. -/
theorem MR0_at (MD : FVec Ideal S16x2x6x1024 .f32) (j : S16x4352x1024.Idx) :
    MR0 MD j = MD (ix4 (j 0) ⟨(j 1).val / 4096, by have : (j 1).val < 4352 := (j 1).isLt; omega⟩ 0 (j 2)) := by
  have h1 : (j 1).val < 4352 := (j 1).isLt
  pointwise [MR0]
  split <;> congr 2 <;> apply Fin.ext <;> simp <;> omega

/-- The first norm's scale at a token. -/
theorem MR1_at (MD : FVec Ideal S16x2x6x1024 .f32) (j : S16x4352x1024.Idx) :
    MR1 MD j = MD (ix4 (j 0) ⟨(j 1).val / 4096, by have : (j 1).val < 4352 := (j 1).isLt; omega⟩ 1 (j 2)) := by
  have h1 : (j 1).val < 4352 := (j 1).isLt
  pointwise [MR1]
  split <;> congr 2 <;> apply Fin.ext <;> simp <;> omega

/-- One entry of the first norm, modulated. -/
theorem H1_at (XS : FVec Ideal S16x4352x1024 .f32) (MD : FVec Ideal S16x2x6x1024 .f32) (NW : FVec Ideal S1024 .f32)
    (j : S16x4352x1024.Idx) :
    H1 XS MD NW j = XS j * Ideal.rsqrt (Ideal.div (∑ x : Fin 1024, XS (ix3 (j 0) (j 1) x) * XS (ix3 (j 0) (j 1) x)) (Ideal.ofBits .f32 1149239296#32)
          + Ideal.ofBits .f32 897988541#32) * NW (ix1 (j 2)) * (1 + MR1 MD j) + MR0 MD j := by
  pointwise [H1]

/-- One entry of the combined projection. -/
theorem P1_at (XS : FVec Ideal S16x4352x1024 .f32) (MD : FVec Ideal S16x2x6x1024 .f32) (NW : FVec Ideal S1024 .f32)
    (WI : FVec Ideal S1024x6160 .f32) (j : Cert.ProjRefIdeal.S16x4352x6160.Idx) :
    P1 XS MD NW WI j = ∑ x : Fin 1024, H1 XS MD NW (ix3 (j 0) (j 1) x) * WI (ix2 x (j 2)) := by
  pointwise [P1]

/-- One entry of the first result. -/
theorem RA_at (PR : FVec Ideal Cert.ProjRefIdeal.S16x4352x6160 .f32) (j : S16x4352x1536.Idx) :
    RA PR j = PR (ix3 (j 0) (j 1) ⟨(j 2).val, by have : (j 2).val < 1536 := (j 2).isLt; omega⟩) := by
  have h1 : (j 2).val < 1536 := (j 2).isLt
  pointwise [RA]
  split_ifs <;> congr 2 <;> apply Fin.ext <;> simp <;> omega

/-- One entry of the second result. -/
theorem RZ_at (PR : FVec Ideal Cert.ProjRefIdeal.S16x4352x6160 .f32) (j : S16x4352x512.Idx) :
    RZ PR j = PR (ix3 (j 0) (j 1) ⟨1536 + (j 2).val, by have : (j 2).val < 512 := (j 2).isLt; omega⟩) := by
  pointwise [RZ]

/-- One entry of the third result. -/
theorem RU_at (PR : FVec Ideal Cert.ProjRefIdeal.S16x4352x6160 .f32) (j : S16x4352x256.Idx) :
    RU PR j = PR (ix3 (j 0) (j 1) ⟨2064 + (j 2).val, by have : (j 2).val < 256 := (j 2).isLt; omega⟩) := by
  pointwise [RU]

/-- One entry of the fifth result. -/
theorem RG_at (PR : FVec Ideal Cert.ProjRefIdeal.S16x4352x6160 .f32) (j : S16x4352x3072.Idx) :
    RG PR j = PR (ix3 (j 0) (j 1) ⟨3088 + (j 2).val, by have : (j 2).val < 3072 := (j 2).isLt; omega⟩) := by
  pointwise [RG]

/-- A query of the fourth result: the projection's entry over its head's root mean square, weighted and scaled. -/
theorem RN_q (PR : FVec Ideal Cert.ProjRefIdeal.S16x4352x6160 .f32) (QW KW : FVec Ideal S64 .f32) (j : S16x4352x768.Idx) (h : (j 2).val < 256) :
    RN PR QW KW j = PR (ix3 (j 0) (j 1) ⟨2320 + (j 2).val, by omega⟩)
        * Ideal.rsqrt (Ideal.div (∑ x : Fin 64, PR (ix3 (j 0) (j 1) ⟨2320 + ((j 2).val / 64 * 64 + x.val), by omega⟩)
            * PR (ix3 (j 0) (j 1) ⟨2320 + ((j 2).val / 64 * 64 + x.val), by omega⟩)) (Ideal.ofBits .f32 1115684864#32)
          + Ideal.ofBits .f32 897988541#32) * QW (ix1 ⟨(j 2).val % 64, Nat.mod_lt _ (by omega)⟩) * Ideal.ofBits .f32 1040187392#32 := by
  pointwise [RN]
  rw [dif_pos h]
  simp only [Nat.div_add_mod']

/-- A key of the fourth result: the projection's entry over its head's root mean square, weighted. -/
theorem RN_k (PR : FVec Ideal Cert.ProjRefIdeal.S16x4352x6160 .f32) (QW KW : FVec Ideal S64 .f32) (j : S16x4352x768.Idx)
    (h : ¬ (j 2).val < 256) (h' : (j 2).val - 256 < 256) :
    RN PR QW KW j = PR (ix3 (j 0) (j 1) ⟨2576 + ((j 2).val - 256), by omega⟩)
        * Ideal.rsqrt (Ideal.div (∑ x : Fin 64, PR (ix3 (j 0) (j 1) ⟨2576 + (((j 2).val - 256) / 64 * 64 + x.val), by omega⟩)
            * PR (ix3 (j 0) (j 1) ⟨2576 + (((j 2).val - 256) / 64 * 64 + x.val), by omega⟩)) (Ideal.ofBits .f32 1115684864#32)
          + Ideal.ofBits .f32 897988541#32) * KW (ix1 ⟨((j 2).val - 256) % 64, Nat.mod_lt _ (by omega)⟩) := by
  pointwise [RN]
  rw [dif_neg h, dif_pos h']
  simp only [Nat.div_add_mod']

/-- A value of the fourth result: the projection's entry. -/
theorem RN_v (PR : FVec Ideal Cert.ProjRefIdeal.S16x4352x6160 .f32) (QW KW : FVec Ideal S64 .f32) (j : S16x4352x768.Idx)
    (h : ¬ (j 2).val - 256 < 256) :
    RN PR QW KW j = PR (ix3 (j 0) (j 1) ⟨2320 + (j 2).val, by have : (j 2).val < 768 := (j 2).isLt; omega⟩) := by
  have h1 : (j 2).val < 768 := (j 2).isLt
  pointwise [RN]
  rw [dif_neg (by omega), dif_neg h]
  congr 2
  apply Fin.ext
  simp
  omega

/-- One entry of the sixth result: a decay, a step, or a half past them. -/
theorem RB_at (PR : FVec Ideal Cert.ProjRefIdeal.S16x4352x6160 .f32) (AL DT : FVec Ideal S2x4 .f32) (j : S16x4352x128.Idx) :
    RB PR AL DT j = if h : (j 2).val < 8 then
        -Ideal.exp (AL (ix2 ⟨(j 2).val / 4, by omega⟩ ⟨(j 2).val % 4, Nat.mod_lt _ (by omega)⟩))
          * (max (PR (ix3 (j 0) (j 1) ⟨2048 + (j 2).val, by omega⟩) + DT (ix2 ⟨(j 2).val / 4, by omega⟩ ⟨(j 2).val % 4, Nat.mod_lt _ (by omega)⟩)) 0
            + Ideal.log1p (Ideal.exp (-FloatOps.absf (F := Ideal) (φ := .f32) (PR (ix3 (j 0) (j 1) ⟨2048 + (j 2).val, by omega⟩)
              + DT (ix2 ⟨(j 2).val / 4, by omega⟩ ⟨(j 2).val % 4, Nat.mod_lt _ (by omega)⟩)))))
      else if h : (j 2).val - 8 < 8 then Ideal.logistic (PR (ix3 (j 0) (j 1) ⟨2048 + (j 2).val, by omega⟩))
      else Ideal.ofBits .f32 1056964608#32 := by
  pointwise [RB]
  by_cases h0 : (j 2).val < 8
  · refine (dif_pos h0).trans (Eq.trans ?_ (dif_pos h0).symm)
    simp only [Nat.div_add_mod', ne_eq, eq_self_iff_true, not_true_eq_false, if_false]
  · refine (dif_neg h0).trans (Eq.trans ?_ (dif_neg h0).symm)
    by_cases h1 : (j 2).val - 8 < 8
    · refine (dif_pos h1).trans (Eq.trans ?_ (dif_pos h1).symm)
      simp only [Nat.div_add_mod', show 2056 + ((j 2).val - 8) = 2048 + (j 2).val by omega]
      rfl
    · refine (dif_neg h1).trans ?_
      split
      · exact absurd (by assumption) h1
      · rfl

/-- A choice whose two branches are each a value is that value. -/
theorem dite_to {α : Type} {p : Prop} [Decidable p] {a : p → α} {b : ¬p → α} {r : α} (h1 : ∀ h, a h = r) (h2 : ∀ h, b h = r) : dite p a b = r := by
  by_cases h : p
  · exact (dif_pos h).trans (h1 h)
  · exact (dif_neg h).trans (h2 h)

/-- Twelve groups of columns side by side. -/
def CAT (u0 : FVec Ideal S1024x512 .f32) (u1 : FVec Ideal S1024x512 .f32) (u2 : FVec Ideal S1024x512 .f32) (u3 : FVec Ideal S1024x512 .f32) (u4 : FVec Ideal S1024x256 .f32) (u5 : FVec Ideal S1024x256 .f32) (u6 : FVec Ideal S1024x256 .f32) (u7 : FVec Ideal S1024x256 .f32) (u8 : FVec Ideal S1024x3072 .f32) (u9 : FVec Ideal S1024x8 .f32) (u10 : FVec Ideal S1024x8 .f32) (u11 : FVec Ideal S1024x112 .f32) : FVec Ideal S1024x6272 .bf16 :=
  truncf .bf16 (concatenate S1024x6272 1 [⟨S1024x512, u0⟩, ⟨S1024x512, u1⟩, ⟨S1024x512, u2⟩, ⟨S1024x512, u3⟩, ⟨S1024x256, u4⟩, ⟨S1024x256, u5⟩, ⟨S1024x256, u6⟩, ⟨S1024x256, u7⟩, ⟨S1024x3072, u8⟩, ⟨S1024x8, u9⟩, ⟨S1024x8, u10⟩, ⟨S1024x112, u11⟩]
    concatenates_S1024x512_S1024x512_S1024x512_S1024x512_S1024x256_S1024x256_S1024x256_S1024x256_S1024x3072_S1024x8_S1024x8_S1024x112_S1024x6272_d1) bitsLt_bf16_f32

/-- The projection's weights with their columns in the kernel's order. -/
def WT (WI : FVec Ideal S1024x6160 .f32) : FVec Ideal S1024x6272 .bf16 :=
  CAT (extractStridedSlice S1024x512 ![0, 0] WI slices_S1024x6160_S1024x512_0_0)
    (extractStridedSlice S1024x512 ![0, 512] WI slices_S1024x6160_S1024x512_0_512)
    (extractStridedSlice S1024x512 ![0, 1024] WI slices_S1024x6160_S1024x512_0_1024)
    (extractStridedSlice S1024x512 ![0, 1536] WI slices_S1024x6160_S1024x512_0_1536)
    (extractStridedSlice S1024x256 ![0, 2064] WI slices_S1024x6160_S1024x256_0_2064)
    (extractStridedSlice S1024x256 ![0, 2320] WI slices_S1024x6160_S1024x256_0_2320)
    (extractStridedSlice S1024x256 ![0, 2576] WI slices_S1024x6160_S1024x256_0_2576)
    (extractStridedSlice S1024x256 ![0, 2832] WI slices_S1024x6160_S1024x256_0_2832)
    (extractStridedSlice S1024x3072 ![0, 3088] WI slices_S1024x6160_S1024x3072_0_3088)
    (extractStridedSlice S1024x8 ![0, 2048] WI slices_S1024x6160_S1024x8_0_2048)
    (extractStridedSlice S1024x8 ![0, 2056] WI slices_S1024x6160_S1024x8_0_2056)
    (broadcastInDim S1024x112 ![] bcast_S_S1024x112 (constant S_ .f32 0x00000000#32 : FVec Ideal S_ .f32))

/-- The kernel's first columns are the projection's. -/
theorem WT_lo (WI : FVec Ideal S1024x6160 .f32) (k : Fin 1024) (n : Fin 6272) (h : n.val < 2048) :
    WT WI (ix2 k n) = WI (ix2 k ⟨n.val, by omega⟩) := by
  pointwise [WT, CAT]
  repeat' refine dite_to (fun _ => ?_) (fun _ => ?_)
  all_goals first | (exfalso; omega) | exact congrArg (fun n => WI (ix2 k n)) (Fin.ext (by simp only [] <;> omega))

/-- The kernel's next columns are the projection's sixteen further on. -/
theorem WT_mid (WI : FVec Ideal S1024x6160 .f32) (k : Fin 1024) (n : Fin 6272) (h : 2048 ≤ n.val) (h' : n.val < 6144) :
    WT WI (ix2 k n) = WI (ix2 k ⟨16 + n.val, by omega⟩) := by
  pointwise [WT, CAT]
  repeat' refine dite_to (fun _ => ?_) (fun _ => ?_)
  all_goals first | (exfalso; omega) | exact congrArg (fun n => WI (ix2 k n)) (Fin.ext (by simp only [] <;> omega))

/-- The sixteen columns the kernel puts behind are the projection's at 2048. -/
theorem WT_hi (WI : FVec Ideal S1024x6160 .f32) (k : Fin 1024) (n : Fin 6272) (h : 6144 ≤ n.val) (h' : n.val < 6160) :
    WT WI (ix2 k n) = WI (ix2 k ⟨n.val - 4096, by omega⟩) := by
  pointwise [WT, CAT]
  repeat' refine dite_to (fun _ => ?_) (fun _ => ?_)
  all_goals first | (exfalso; omega) | exact congrArg (fun n => WI (ix2 k n)) (Fin.ext (by simp only [] <;> omega))

/-- The last columns are zero. -/
theorem WT_pad (WI : FVec Ideal S1024x6160 .f32) (k : Fin 1024) (n : Fin 6272) (h : 6160 ≤ n.val) :
    WT WI (ix2 k n) = 0 := by
  pointwise [WT, CAT]
  repeat' refine dite_to (fun _ => ?_) (fun _ => ?_)
  all_goals first | (exfalso; omega) | rfl

section
variable (m' : (ℓ : Loc Cert.ProjRefIdeal.nD Cert.ProjRefIdeal.τ Cert.ProjRefIdeal.sig) → Buf (Elt Ideal) ℓ)
  (c : Dev Cert.ProjRefIdeal.nD)

/-- The reference's first result in the terms above. -/
theorem res_RA : Cert.ProjRefIdeal.Value.res_main_v99 m' c = RA (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)))  := by
  delta Cert.ProjRefIdeal.Value.res_main_v99 RA P1 H1 MR0 MR1
  rfl

/-- The reference's second result in the terms above. -/
theorem res_RZ : truncf .bf16 (extractStridedSlice Cert.ProjRefIdeal.S16x4352x512 ![0, 0, 1536] ((Host.dotGeneral (φ₂ := .f32) Cert.ProjRefIdeal.dot_S16x4352x1024_S1024x6160_S16x4352x6160_2_0_01_1_n_n none (addf (mulf (mulf (mulf (m' ((c.tc : Thread Cert.ProjRefIdeal.nD Cert.ProjRefIdeal.τ).loc Cert.ProjRefIdeal.main_arg0)) (broadcastInDim Cert.ProjRefIdeal.S16x4352x1024 ![0, 1, 2] Cert.ProjRefIdeal.Gen.bcast_S16x4352x1_S16x4352x1024_0_1_2 (Host.rsqrt (addf (Host.divf (broadcastInDim Cert.ProjRefIdeal.S16x4352x1 ![0, 1] Cert.ProjRefIdeal.Gen.bcast_S16x4352_S16x4352x1_0_1 (Host.reduceAdd (mulf (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg0))) ((constant Cert.ProjRefIdeal.S_ .f32 0x00000000#32 : FVec Ideal Cert.ProjRefIdeal.S_ .f32)) Cert.ProjRefIdeal.Gen.reducesTo_S16x4352x1024_S16x4352_d2 Cert.ProjRefIdeal.Gen.h_S_)) (broadcastInDim Cert.ProjRefIdeal.S16x4352x1 ![] Cert.ProjRefIdeal.Gen.bcast_S_S16x4352x1 ((constant Cert.ProjRefIdeal.S_ .f32 0x44800000#32 : FVec Ideal Cert.ProjRefIdeal.S_ .f32)))) (broadcastInDim Cert.ProjRefIdeal.S16x4352x1 ![] Cert.ProjRefIdeal.Gen.bcast_S_S16x4352x1 ((constant Cert.ProjRefIdeal.S_ .f32 0x358637BD#32 : FVec Ideal Cert.ProjRefIdeal.S_ .f32))))))) (broadcastInDim Cert.ProjRefIdeal.S16x4352x1024 ![0, 1, 2] Cert.ProjRefIdeal.Gen.bcast_S1x1x1024_S16x4352x1024_0_1_2 (broadcastInDim Cert.ProjRefIdeal.S1x1x1024 ![2] Cert.ProjRefIdeal.Gen.bcast_S1024_S1x1x1024_2 (m' ((c.tc : Thread Cert.ProjRefIdeal.nD Cert.ProjRefIdeal.τ).loc Cert.ProjRefIdeal.main_arg2))))) (addf (broadcastInDim Cert.ProjRefIdeal.S16x4352x1024 ![] Cert.ProjRefIdeal.Gen.bcast_S_S16x4352x1024 ((constant Cert.ProjRefIdeal.S_ .f32 0x3F800000#32 : FVec Ideal Cert.ProjRefIdeal.S_ .f32))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 1, 0] (m' ((c.tc : Thread Cert.ProjRefIdeal.nD Cert.ProjRefIdeal.τ).loc Cert.ProjRefIdeal.main_arg1)) Cert.ProjRefIdeal.Gen.slices_S16x2x6x1024_S16x1x1x1024_0_0_1_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 1, 0] (m' ((c.tc : Thread Cert.ProjRefIdeal.nD Cert.ProjRefIdeal.τ).loc Cert.ProjRefIdeal.main_arg1)) Cert.ProjRefIdeal.Gen.slices_S16x2x6x1024_S16x1x1x1024_0_1_1_0) Cert.ProjRefIdeal.Gen.shapeCasts_S16x1x1x1024_S16x1024)))⟩] Cert.ProjRefIdeal.Gen.concatenates_S16x4096x1024_S16x256x1024_S16x4352x1024_d1))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 0, 0] (m' ((c.tc : Thread Cert.ProjRefIdeal.nD Cert.ProjRefIdeal.τ).loc Cert.ProjRefIdeal.main_arg1)) Cert.ProjRefIdeal.Gen.slices_S16x2x6x1024_S16x1x1x1024_0_0_0_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 0, 0] (m' ((c.tc : Thread Cert.ProjRefIdeal.nD Cert.ProjRefIdeal.τ).loc Cert.ProjRefIdeal.main_arg1)) Cert.ProjRefIdeal.Gen.slices_S16x2x6x1024_S16x1x1x1024_0_1_0_0) Cert.ProjRefIdeal.Gen.shapeCasts_S16x1x1x1024_S16x1024)))⟩] Cert.ProjRefIdeal.Gen.concatenates_S16x4096x1024_S16x256x1024_S16x4352x1024_d1)) (m' ((c.tc : Thread Cert.ProjRefIdeal.nD Cert.ProjRefIdeal.τ).loc Cert.ProjRefIdeal.main_arg3))) : FVec Ideal Cert.ProjRefIdeal.S16x4352x6160 .f32) Cert.ProjRefIdeal.Gen.slices_S16x4352x6160_S16x4352x512_0_0_1536) Cert.ProjRefIdeal.Gen.bitsLt_bf16_f32 = RZ (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)))  := by
  delta RZ P1 H1 MR0 MR1
  rfl

/-- The reference's third result in the terms above. -/
theorem res_RU : truncf .bf16 (extractStridedSlice Cert.ProjRefIdeal.S16x4352x256 ![0, 0, 2064] ((Host.dotGeneral (φ₂ := .f32) Cert.ProjRefIdeal.dot_S16x4352x1024_S1024x6160_S16x4352x6160_2_0_01_1_n_n none (addf (mulf (mulf (mulf (m' ((c.tc : Thread Cert.ProjRefIdeal.nD Cert.ProjRefIdeal.τ).loc Cert.ProjRefIdeal.main_arg0)) (broadcastInDim Cert.ProjRefIdeal.S16x4352x1024 ![0, 1, 2] Cert.ProjRefIdeal.Gen.bcast_S16x4352x1_S16x4352x1024_0_1_2 (Host.rsqrt (addf (Host.divf (broadcastInDim Cert.ProjRefIdeal.S16x4352x1 ![0, 1] Cert.ProjRefIdeal.Gen.bcast_S16x4352_S16x4352x1_0_1 (Host.reduceAdd (mulf (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg0))) ((constant Cert.ProjRefIdeal.S_ .f32 0x00000000#32 : FVec Ideal Cert.ProjRefIdeal.S_ .f32)) Cert.ProjRefIdeal.Gen.reducesTo_S16x4352x1024_S16x4352_d2 Cert.ProjRefIdeal.Gen.h_S_)) (broadcastInDim Cert.ProjRefIdeal.S16x4352x1 ![] Cert.ProjRefIdeal.Gen.bcast_S_S16x4352x1 ((constant Cert.ProjRefIdeal.S_ .f32 0x44800000#32 : FVec Ideal Cert.ProjRefIdeal.S_ .f32)))) (broadcastInDim Cert.ProjRefIdeal.S16x4352x1 ![] Cert.ProjRefIdeal.Gen.bcast_S_S16x4352x1 ((constant Cert.ProjRefIdeal.S_ .f32 0x358637BD#32 : FVec Ideal Cert.ProjRefIdeal.S_ .f32))))))) (broadcastInDim Cert.ProjRefIdeal.S16x4352x1024 ![0, 1, 2] Cert.ProjRefIdeal.Gen.bcast_S1x1x1024_S16x4352x1024_0_1_2 (broadcastInDim Cert.ProjRefIdeal.S1x1x1024 ![2] Cert.ProjRefIdeal.Gen.bcast_S1024_S1x1x1024_2 (m' ((c.tc : Thread Cert.ProjRefIdeal.nD Cert.ProjRefIdeal.τ).loc Cert.ProjRefIdeal.main_arg2))))) (addf (broadcastInDim Cert.ProjRefIdeal.S16x4352x1024 ![] Cert.ProjRefIdeal.Gen.bcast_S_S16x4352x1024 ((constant Cert.ProjRefIdeal.S_ .f32 0x3F800000#32 : FVec Ideal Cert.ProjRefIdeal.S_ .f32))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 1, 0] (m' ((c.tc : Thread Cert.ProjRefIdeal.nD Cert.ProjRefIdeal.τ).loc Cert.ProjRefIdeal.main_arg1)) Cert.ProjRefIdeal.Gen.slices_S16x2x6x1024_S16x1x1x1024_0_0_1_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 1, 0] (m' ((c.tc : Thread Cert.ProjRefIdeal.nD Cert.ProjRefIdeal.τ).loc Cert.ProjRefIdeal.main_arg1)) Cert.ProjRefIdeal.Gen.slices_S16x2x6x1024_S16x1x1x1024_0_1_1_0) Cert.ProjRefIdeal.Gen.shapeCasts_S16x1x1x1024_S16x1024)))⟩] Cert.ProjRefIdeal.Gen.concatenates_S16x4096x1024_S16x256x1024_S16x4352x1024_d1))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 0, 0] (m' ((c.tc : Thread Cert.ProjRefIdeal.nD Cert.ProjRefIdeal.τ).loc Cert.ProjRefIdeal.main_arg1)) Cert.ProjRefIdeal.Gen.slices_S16x2x6x1024_S16x1x1x1024_0_0_0_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 0, 0] (m' ((c.tc : Thread Cert.ProjRefIdeal.nD Cert.ProjRefIdeal.τ).loc Cert.ProjRefIdeal.main_arg1)) Cert.ProjRefIdeal.Gen.slices_S16x2x6x1024_S16x1x1x1024_0_1_0_0) Cert.ProjRefIdeal.Gen.shapeCasts_S16x1x1x1024_S16x1024)))⟩] Cert.ProjRefIdeal.Gen.concatenates_S16x4096x1024_S16x256x1024_S16x4352x1024_d1)) (m' ((c.tc : Thread Cert.ProjRefIdeal.nD Cert.ProjRefIdeal.τ).loc Cert.ProjRefIdeal.main_arg3))) : FVec Ideal Cert.ProjRefIdeal.S16x4352x6160 .f32) Cert.ProjRefIdeal.Gen.slices_S16x4352x6160_S16x4352x256_0_0_2064) Cert.ProjRefIdeal.Gen.bitsLt_bf16_f32 = RU (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)))  := by
  delta RU P1 H1 MR0 MR1
  rfl

/-- The reference's fourth result in the terms above. -/
theorem res_RN : Cert.ProjRefIdeal.Value.res_main_v105 m' c = RN (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))) (m' ((c.tc : Thread Cert.ProjRefIdeal.nD Cert.ProjRefIdeal.τ).loc Cert.ProjRefIdeal.main_arg6)) (m' ((c.tc : Thread Cert.ProjRefIdeal.nD Cert.ProjRefIdeal.τ).loc Cert.ProjRefIdeal.main_arg7)) := by
  delta Cert.ProjRefIdeal.Value.res_main_v105 RN P1 H1 MR0 MR1
  rfl

/-- The reference's fifth result in the terms above. -/
theorem res_RG : truncf .bf16 (extractStridedSlice Cert.ProjRefIdeal.S16x4352x3072 ![0, 0, 3088] ((Host.dotGeneral (φ₂ := .f32) Cert.ProjRefIdeal.dot_S16x4352x1024_S1024x6160_S16x4352x6160_2_0_01_1_n_n none (addf (mulf (mulf (mulf (m' ((c.tc : Thread Cert.ProjRefIdeal.nD Cert.ProjRefIdeal.τ).loc Cert.ProjRefIdeal.main_arg0)) (broadcastInDim Cert.ProjRefIdeal.S16x4352x1024 ![0, 1, 2] Cert.ProjRefIdeal.Gen.bcast_S16x4352x1_S16x4352x1024_0_1_2 (Host.rsqrt (addf (Host.divf (broadcastInDim Cert.ProjRefIdeal.S16x4352x1 ![0, 1] Cert.ProjRefIdeal.Gen.bcast_S16x4352_S16x4352x1_0_1 (Host.reduceAdd (mulf (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg0))) ((constant Cert.ProjRefIdeal.S_ .f32 0x00000000#32 : FVec Ideal Cert.ProjRefIdeal.S_ .f32)) Cert.ProjRefIdeal.Gen.reducesTo_S16x4352x1024_S16x4352_d2 Cert.ProjRefIdeal.Gen.h_S_)) (broadcastInDim Cert.ProjRefIdeal.S16x4352x1 ![] Cert.ProjRefIdeal.Gen.bcast_S_S16x4352x1 ((constant Cert.ProjRefIdeal.S_ .f32 0x44800000#32 : FVec Ideal Cert.ProjRefIdeal.S_ .f32)))) (broadcastInDim Cert.ProjRefIdeal.S16x4352x1 ![] Cert.ProjRefIdeal.Gen.bcast_S_S16x4352x1 ((constant Cert.ProjRefIdeal.S_ .f32 0x358637BD#32 : FVec Ideal Cert.ProjRefIdeal.S_ .f32))))))) (broadcastInDim Cert.ProjRefIdeal.S16x4352x1024 ![0, 1, 2] Cert.ProjRefIdeal.Gen.bcast_S1x1x1024_S16x4352x1024_0_1_2 (broadcastInDim Cert.ProjRefIdeal.S1x1x1024 ![2] Cert.ProjRefIdeal.Gen.bcast_S1024_S1x1x1024_2 (m' ((c.tc : Thread Cert.ProjRefIdeal.nD Cert.ProjRefIdeal.τ).loc Cert.ProjRefIdeal.main_arg2))))) (addf (broadcastInDim Cert.ProjRefIdeal.S16x4352x1024 ![] Cert.ProjRefIdeal.Gen.bcast_S_S16x4352x1024 ((constant Cert.ProjRefIdeal.S_ .f32 0x3F800000#32 : FVec Ideal Cert.ProjRefIdeal.S_ .f32))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 1, 0] (m' ((c.tc : Thread Cert.ProjRefIdeal.nD Cert.ProjRefIdeal.τ).loc Cert.ProjRefIdeal.main_arg1)) Cert.ProjRefIdeal.Gen.slices_S16x2x6x1024_S16x1x1x1024_0_0_1_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 1, 0] (m' ((c.tc : Thread Cert.ProjRefIdeal.nD Cert.ProjRefIdeal.τ).loc Cert.ProjRefIdeal.main_arg1)) Cert.ProjRefIdeal.Gen.slices_S16x2x6x1024_S16x1x1x1024_0_1_1_0) Cert.ProjRefIdeal.Gen.shapeCasts_S16x1x1x1024_S16x1024)))⟩] Cert.ProjRefIdeal.Gen.concatenates_S16x4096x1024_S16x256x1024_S16x4352x1024_d1))) (concatenate Cert.ProjRefIdeal.S16x4352x1024 1 [⟨Cert.ProjRefIdeal.S16x4096x1024, (broadcastInDim Cert.ProjRefIdeal.S16x4096x1024 ![0, 1, 2] Cert.ProjRefIdeal.Gen.bcast_S16x1x1024_S16x4096x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 0, 0, 0] (m' ((c.tc : Thread Cert.ProjRefIdeal.nD Cert.ProjRefIdeal.τ).loc Cert.ProjRefIdeal.main_arg1)) Cert.ProjRefIdeal.Gen.slices_S16x2x6x1024_S16x1x1x1024_0_0_0_0) Cert.ProjRefIdeal.Gen.shapeCasts_S16x1x1x1024_S16x1024)))⟩, ⟨Cert.ProjRefIdeal.S16x256x1024, (broadcastInDim Cert.ProjRefIdeal.S16x256x1024 ![0, 1, 2] Cert.ProjRefIdeal.Gen.bcast_S16x1x1024_S16x256x1024_0_1_2 (broadcastInDim Cert.ProjRefIdeal.S16x1x1024 ![0, 2] Cert.ProjRefIdeal.Gen.bcast_S16x1024_S16x1x1024_0_2 (shapeCast _ (extractStridedSlice Cert.ProjRefIdeal.S16x1x1x1024 ![0, 1, 0, 0] (m' ((c.tc : Thread Cert.ProjRefIdeal.nD Cert.ProjRefIdeal.τ).loc Cert.ProjRefIdeal.main_arg1)) Cert.ProjRefIdeal.Gen.slices_S16x2x6x1024_S16x1x1x1024_0_1_0_0) Cert.ProjRefIdeal.Gen.shapeCasts_S16x1x1x1024_S16x1024)))⟩] Cert.ProjRefIdeal.Gen.concatenates_S16x4096x1024_S16x256x1024_S16x4352x1024_d1)) (m' ((c.tc : Thread Cert.ProjRefIdeal.nD Cert.ProjRefIdeal.τ).loc Cert.ProjRefIdeal.main_arg3))) : FVec Ideal Cert.ProjRefIdeal.S16x4352x6160 .f32) Cert.ProjRefIdeal.Gen.slices_S16x4352x6160_S16x4352x3072_0_0_3088) Cert.ProjRefIdeal.Gen.bitsLt_bf16_f32 = RG (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3)))  := by
  delta RG P1 H1 MR0 MR1
  rfl

/-- The reference's sixth result in the terms above. -/
theorem res_RB : Cert.ProjRefIdeal.Value.res_main_v97 m' c = RB (P1 (m' ((c.tc : Thread Cert.ProjRefIdeal.nD Cert.ProjRefIdeal.τ).loc Cert.ProjRefIdeal.main_arg0)) (m' ((c.tc : Thread Cert.ProjRefIdeal.nD Cert.ProjRefIdeal.τ).loc Cert.ProjRefIdeal.main_arg1)) (m' ((c.tc : Thread Cert.ProjRefIdeal.nD Cert.ProjRefIdeal.τ).loc Cert.ProjRefIdeal.main_arg2)) (m' ((c.tc : Thread Cert.ProjRefIdeal.nD Cert.ProjRefIdeal.τ).loc Cert.ProjRefIdeal.main_arg3))) (m' ((c.tc : Thread Cert.ProjRefIdeal.nD Cert.ProjRefIdeal.τ).loc Cert.ProjRefIdeal.main_arg4)) (m' ((c.tc : Thread Cert.ProjRefIdeal.nD Cert.ProjRefIdeal.τ).loc Cert.ProjRefIdeal.main_arg5)) := by
  delta Cert.ProjRefIdeal.Value.res_main_v97 RB P1 H1 MR0 MR1
  rfl

end

end Cert.ProjIdeal.Equal

end
-- ==== Proof.ProjHost.lean ====
module

public import proofs.«01_k».proof.Proof.ProjTerms
public import proofs.«01_k».proof.Proof.Gen.ProjRefIdeal.Run
public import Idealize.ShloMosaic.Lib.Pipeline.ValueKit
public import Idealize.ShloMosaic.Lib.Pipeline.ReadBack
public import Idealize.ShloMosaic.Lib.Pointwise

/-! The input projection's call: what its kernel finds in the arrays the host prepares. -/

@[expose] public section

set_option maxRecDepth 16384

noncomputable section

open Idealize.ShloMosaic Idealize.ShloMosaic.TcCoe Idealize.SL.Sem
open Idealize.ShloMosaic.Pipeline (Dat)

namespace Cert.ProjIdeal.Equal

open Cert.ProjIdeal Cert.ProjIdeal.Gen

variable (m : (ℓ : Loc nD τ sig) → Buf (Elt Ideal) ℓ)

/-- The last two operations put the twelve groups side by side. -/
theorem last_w (F : Valuation τ sig (Elt Ideal)) : StableHlo.after (hostOps0_6.drop 24) F (Proc.tc.devRef main_v37)
    = CAT (F (Proc.tc.devRef main_v24)) (F (Proc.tc.devRef main_v25)) (F (Proc.tc.devRef main_v26)) (F (Proc.tc.devRef main_v27)) (F (Proc.tc.devRef main_v30)) (F (Proc.tc.devRef main_v31)) (F (Proc.tc.devRef main_v32)) (F (Proc.tc.devRef main_v33)) (F (Proc.tc.devRef main_v34)) (F (Proc.tc.devRef main_v28)) (F (Proc.tc.devRef main_v29)) (F (Proc.tc.devRef main_v35)) := by
  simp only [hostOps0_6, List.drop_succ_cons, List.drop_zero, StableHlo.after_cons, StableHlo.after_nil]
  rw [StableHlo.unary_result', StableHlo.nary_result']
  rfl

/-- The last stretch of the host's operations reorders the weights it is given. -/
theorem tail_w (F : Valuation τ sig (Elt Ideal)) : StableHlo.after hostOps0_6 F (Proc.tc.devRef main_v37) = WT (F (Proc.tc.devRef main_arg3)) := by
  rw [← List.take_append_drop 24 hostOps0_6, StableHlo.after_append, last_w]
  simp only [hostOps0_6, List.take_succ_cons, List.take_zero]
  after_results_simp
  rfl

/-- The kernel finds the projection's weights so reordered. -/
theorem V_w (c : Dev nD) : V m c main_v37 = WT (m ((c : Thread nD τ).loc main_arg3)) := by
  delta V
  simp only [List.flatten_cons, List.flatten_nil, List.append_nil]
  simp only [StableHlo.after_append]
  rw [tail_w]
  refine congrArg WT ?_
  simp only [hostOps0, hostOps0_1, hostOps0_2, hostOps0_3, hostOps0_4, hostOps0_5]
  after_results_simp

/-- The kernel finds the first norm's weights as a row. -/
theorem V_nw (c : Dev nD) (z : Fin 1) (n : Fin 1024) : (V m c main_v23 : FVec Ideal S1x1024 .f32) (ix2 z n)
    = (m ((c : Thread nD τ).loc main_arg2) : FVec Ideal S1024 .f32) (ix1 n) := by
  delta V
  simp only [List.flatten_cons, List.flatten_nil, hostOps0, hostOps0_1, hostOps0_2, hostOps0_3, hostOps0_4, hostOps0_5, hostOps0_6, List.cons_append, List.nil_append, List.append_nil]
  entry_read
  pointwise

/-- The kernel finds the queries' norm weights repeated for every head. -/
theorem V_q (c : Dev nD) (z : Fin 1) (n : Fin 256) : (V m c main_v7 : FVec Ideal S1x256 .f32) (ix2 z n)
    = (m ((c : Thread nD τ).loc main_arg6) : FVec Ideal S64 .f32) (ix1 ⟨n.val % 64, Nat.mod_lt _ (by omega)⟩) := by
  delta V
  simp only [List.flatten_cons, List.flatten_nil, hostOps0, hostOps0_1, hostOps0_2, hostOps0_3, hostOps0_4, hostOps0_5, hostOps0_6, List.cons_append, List.nil_append, List.append_nil]
  entry_read
  pointwise

/-- The kernel finds the keys' norm weights repeated for every head. -/
theorem V_k (c : Dev nD) (z : Fin 1) (n : Fin 256) : (V m c main_v11 : FVec Ideal S1x256 .f32) (ix2 z n)
    = (m ((c : Thread nD τ).loc main_arg7) : FVec Ideal S64 .f32) (ix1 ⟨n.val % 64, Nat.mod_lt _ (by omega)⟩) := by
  delta V
  simp only [List.flatten_cons, List.flatten_nil, hostOps0, hostOps0_1, hostOps0_2, hostOps0_3, hostOps0_4, hostOps0_5, hostOps0_6, List.cons_append, List.nil_append, List.append_nil]
  entry_read
  pointwise

/-- The kernel finds the logarithms of the decays in its first eight lanes. -/
theorem V_al (c : Dev nD) (z : Fin 1) (n : Fin 128) (h : n.val < 8) : (V m c main_v1 : FVec Ideal S1x128 .f32) (ix2 z n)
    = (m ((c : Thread nD τ).loc main_arg4) : FVec Ideal S2x4 .f32) (ix2 ⟨n.val / 4, by omega⟩ ⟨n.val % 4, Nat.mod_lt _ (by omega)⟩) := by
  delta V
  simp only [List.flatten_cons, List.flatten_nil, hostOps0, hostOps0_1, hostOps0_2, hostOps0_3, hostOps0_4, hostOps0_5, hostOps0_6, List.cons_append, List.nil_append, List.append_nil]
  entry_read
  simp only [StableHlo.TRef.ofBuf_toBuf]
  simp only [StableHlo.TRef.toBuf, StableHlo.TRef.ofBuf, StableHlo.TRef.of, cast_eq, eq_mpr_eq_cast]
  pointwise
  exact dif_pos h

/-- The kernel finds the steps' biases in its first eight lanes. -/
theorem V_dt (c : Dev nD) (z : Fin 1) (n : Fin 128) (h : n.val < 8) : (V m c main_v3 : FVec Ideal S1x128 .f32) (ix2 z n)
    = (m ((c : Thread nD τ).loc main_arg5) : FVec Ideal S2x4 .f32) (ix2 ⟨n.val / 4, by omega⟩ ⟨n.val % 4, Nat.mod_lt _ (by omega)⟩) := by
  delta V
  simp only [List.flatten_cons, List.flatten_nil, hostOps0, hostOps0_1, hostOps0_2, hostOps0_3, hostOps0_4, hostOps0_5, hostOps0_6, List.cons_append, List.nil_append, List.append_nil]
  entry_read
  simp only [StableHlo.TRef.ofBuf_toBuf]
  simp only [StableHlo.TRef.toBuf, StableHlo.TRef.ofBuf, StableHlo.TRef.of, cast_eq, eq_mpr_eq_cast]
  pointwise
  exact dif_pos h

/-- Which head a lane belongs to, as the host divides it. -/
def HD (k : Fin 256) : BitVec 32 := Scalar.select (IntOp.andi (IntOp.cmpi .ne (if BitVec.ofNat 32 ↑k = 0 then (0 : BitVec 32) else if (BitVec.ofNat 32 ↑k).msb = true then -1 else 1) (if (64#32) = 0 then (0 : BitVec 32) else if (64#32).msb = true then -1 else 1)) (IntOp.cmpi .ne (IntOp.remsi ArithUnit.host (BitVec.ofNat 32 ↑k) 64#32) 0#32)) (IntOp.subi (IntOp.divsi ArithUnit.host (BitVec.ofNat 32 ↑k) 64#32) 1#32) (IntOp.divsi ArithUnit.host (BitVec.ofNat 32 ↑k) 64#32)

/-- The host's quotient is the lane's head. -/
theorem HD_eq : ∀ k : Fin 256, HD k = BitVec.ofNat 32 (k.val / 64) := by
  decide +kernel

/-- The kernel finds the matrix that averages over a head: a sixty-fourth inside a head and zero across heads. -/
theorem V_bd (c : Dev nD) (k n : Fin 256) : (V m c main_v22 : FVec Ideal S256x256 .bf16) (ix2 k n)
    = Ideal.div (if k.val / 64 = n.val / 64 then 1 else 0) (Ideal.ofBits .f32 1115684864#32) := by
  delta V
  simp only [List.flatten_cons, List.flatten_nil, hostOps0, hostOps0_1, hostOps0_2, hostOps0_3, hostOps0_4, hostOps0_5, hostOps0_6, List.cons_append, List.nil_append, List.append_nil]
  entry_read
  simp only [StableHlo.TRef.ofBuf_toBuf]
  simp only [StableHlo.TRef.toBuf, StableHlo.TRef.ofBuf, StableHlo.TRef.of, cast_eq, eq_mpr_eq_cast]
  pointwise
  show Ideal.div (FloatOps.uitofp (F := Ideal) FTy.f32 (IntOp.cmpi CmpIPredicate.eq (HD k) (HD n))) (Ideal.ofBits FTy.f32 1115684864#32) = _
  rw [HD_eq, HD_eq]
  by_cases h : k.val / 64 = n.val / 64
  · rw [h, if_pos rfl]
    simp [IntOp.cmpi, FloatOps.uitofp]
  · rw [if_neg h]
    have h' : (BitVec.ofNat 32 (k.val / 64) == BitVec.ofNat 32 (n.val / 64)) = false := by
      rw [beq_eq_false_iff_ne]
      intro e
      have := congrArg BitVec.toNat e
      rw [BitVec.toNat_ofNat, BitVec.toNat_ofNat, Nat.mod_eq_of_lt (by omega), Nat.mod_eq_of_lt (by omega)] at this
      exact h this
    simp [IntOp.cmpi, FloatOps.uitofp, h']

end Cert.ProjIdeal.Equal

end
-- ==== Proof.ProjMath.lean ====
module

public import Idealize.ShloMosaic.Lib.Pipeline.ValueKit
public import Idealize.ShloMosaic.Lib.Pointwise

/-! Facts of the extended reals the input projection's call needs: where its values are finite, and what averaging a
head's squares by a matrix gives. -/

@[expose] public section

noncomputable section

open Idealize.ShloMosaic

namespace Cert.ProjIdeal.Equal

/-- The pattern the heads' means divide by is 64. -/
theorem c_head : Ideal.ofBits .f32 1115684864#32 = ((64 : ℝ) : EReal) := by
  simp [Ideal.ofBits, Ideal.ieee, -EReal.coe_mul]; norm_num

/-- The pattern the tokens' means divide by is 1024. -/
theorem c_tok : Ideal.ofBits .f32 1149239296#32 = ((1024 : ℝ) : EReal) := by
  simp [Ideal.ofBits, Ideal.ieee, -EReal.coe_mul]; norm_num

/-- The pattern the step's padding holds is a half. -/
theorem c_half : Ideal.ofBits .f32 1056964608#32 = ((1 / 2 : ℝ) : EReal) := by
  simp [Ideal.ofBits, Ideal.ieee, -EReal.coe_mul]; norm_num

/-- The pattern added under the roots is a positive real. -/
theorem c_eps : ∃ e : ℝ, 0 < e ∧ Ideal.ofBits .f32 897988541#32 = (e : EReal) := by
  refine ⟨_, ?_, by simp [Ideal.ofBits, Ideal.ieee, -EReal.coe_mul]; rfl⟩
  norm_num

/-- A finite sum of reals is a real. -/
theorem coe_sums {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A square is not negative. -/
theorem sq_nonneg' (x : EReal) : 0 ≤ x * x := by
  induction x with
  | bot => simp
  | top => simp
  | coe r => rw [← EReal.coe_mul]; exact_mod_cast mul_self_nonneg r

/-- A row of extended reals over its root mean square is finite at every place. -/
theorem norm_real (x : Fin 1024 → EReal) (k : Fin 1024) :
    ∃ r : ℝ, x k * Ideal.rsqrt (Ideal.div (∑ j, x j * x j) (Ideal.ofBits .f32 1149239296#32) + Ideal.ofBits .f32 897988541#32) = (r : EReal) := by
  obtain ⟨e, he, hE⟩ := c_eps
  rw [hE, c_tok, Ideal.div_coe (by norm_num)]
  by_cases h : ∀ j, ∃ r : ℝ, x j = (r : EReal)
  · choose r hr using h
    simp only [hr, ← EReal.coe_mul, ← coe_sums, ← EReal.coe_add]
    have hs : 0 ≤ ∑ j, r j * r j := Finset.sum_nonneg fun j _ => mul_self_nonneg _
    rw [Ideal.rsqrt_coe, if_neg (by have := mul_nonneg hs (show (0 : ℝ) ≤ 1 / 1024 by norm_num); linarith), if_neg (by have := mul_nonneg hs (show (0 : ℝ) ≤ 1 / 1024 by norm_num); linarith), ← EReal.coe_mul]
    exact ⟨_, rfl⟩
  · push Not at h
    obtain ⟨j, hj⟩ := h
    have hjj : x j * x j = ⊤ := by
      induction hx : x j with
      | bot => simp
      | top => simp
      | coe r => exact absurd hx (hj r)
    have hs : ∑ j, x j * x j = ⊤ := by
      refine top_le_iff.mp (hjj ▸ Finset.single_le_sum (f := fun j => x j * x j) (fun i _ => sq_nonneg' _) (Finset.mem_univ j))
    rw [hs, EReal.top_mul_coe_of_pos (by norm_num), EReal.top_add_coe, Ideal.rsqrt_top, mul_zero]
    exact ⟨0, rfl⟩

/-- The average of a head's squares, by a matrix that holds a sixty-fourth inside a head and zero across heads, with the
squares' rounding errors averaged as well: the mean of the head's squares. -/
theorem head_mean (p : Fin 256 → EReal) (hp : ∀ k, ∃ r : ℝ, p k = (r : EReal)) (d : Fin 256) :
    ∑ k : Fin 256, p k * p k * Ideal.div (if k.val / 64 = d.val / 64 then 1 else 0) (Ideal.ofBits .f32 1115684864#32)
        + ∑ k : Fin 256, (p k * p k - p k * p k) * Ideal.div (if k.val / 64 = d.val / 64 then 1 else 0) (Ideal.ofBits .f32 1115684864#32)
      = Ideal.div (∑ x : Fin 64, p ⟨d.val / 64 * 64 + x.val, by omega⟩ * p ⟨d.val / 64 * 64 + x.val, by omega⟩) (Ideal.ofBits .f32 1115684864#32) := by
  choose r hr using hp
  have hB : ∀ k : Fin 256, (if k.val / 64 = d.val / 64 then (1 : EReal) else 0) = ((if k.val / 64 = d.val / 64 then 1 else 0 : ℝ) : EReal) := by
    intro k; split <;> simp
  simp only [c_head, Ideal.div_coe (show (64 : ℝ) ≠ 0 by norm_num), hr, hB, ← EReal.coe_mul, ← EReal.coe_sub, ← coe_sums, ← EReal.coe_add]
  congr 1
  simp only [sub_self, zero_mul, Finset.sum_const_zero, add_zero]
  rw [Fin.sum_univ_tiles 4 64 rfl, Finset.sum_eq_single (⟨d.val / 64, by omega⟩ : Fin 4)]
  · rw [Finset.sum_mul]
    refine Finset.sum_congr rfl fun x _ => ?_
    have hx : (d.val / 64 * 64 + x.val) / 64 = d.val / 64 := by omega
    simp [hx]
  · intro j _ hj
    refine Finset.sum_eq_zero fun x _ => ?_
    have hx : ¬ (j.val * 64 + x.val) / 64 = d.val / 64 := by
      intro h
      exact hj (Fin.ext (by simp only []; omega))
    simp [hx]
  · intro h
    exact absurd (Finset.mem_univ _) h

/-- The logistic of zero is a half. -/
theorem logistic_zero : Ideal.logistic 0 = Ideal.ofBits .f32 1056964608#32 := by
  rw [c_half, Ideal.logistic, neg_zero, show (0 : EReal) = ((0 : ℝ) : EReal) from rfl, Ideal.exp_coe, Real.exp_zero,
    show (1 : EReal) = ((1 : ℝ) : EReal) from rfl, ← EReal.coe_add, Ideal.div_coe (by norm_num), ← EReal.coe_mul]
  norm_num

/-- An extended real whose size is below infinity is a real. -/
theorem real_of_abs (x : EReal) (h : FloatOps.cmpf (F := Ideal) (φ := .f32) .olt (FloatOps.absf (F := Ideal) (φ := .f32) x) (Ideal.ofBits .f32 2139095040#32) = 1#1) :
    ∃ r : ℝ, x = (r : EReal) := by
  induction x with
  | coe r => exact ⟨r, rfl⟩
  | bot =>
    have h : Ideal.cmp .olt (max ⊥ (-⊥)) (Ideal.ofBits .f32 2139095040#32) = 1#1 := h
    simp [Ideal.cmp, Ideal.ofBits, Ideal.ieee] at h
  | top =>
    have h : Ideal.cmp .olt (max ⊤ (-⊤)) (Ideal.ofBits .f32 2139095040#32) = 1#1 := h
    simp [Ideal.cmp, Ideal.ofBits, Ideal.ieee] at h

end Cert.ProjIdeal.Equal

end
-- ==== Proof.ProjValue.lean ====
module

public import proofs.«01_k».proof.Proof.ProjHost
public import proofs.«01_k».proof.Proof.ProjMath
public import proofs.«01_k».proof.Proof.Gen.Pre_finite_inputs
public import proofs.«01_k».proof.Defs
public import proofs.«01_k».proof.Proof.Gen.ProjRefIdeal.Run
public import Idealize.ShloMosaic.Lib.Pipeline.ValueKit
public import Idealize.ShloMosaic.Lib.Pipeline.ReadBack
public import Idealize.ShloMosaic.Lib.Pointwise

/-! The input projection's call: what its pipelined kernel leaves are the reference's six terms. -/

@[expose] public section

set_option maxRecDepth 16384

noncomputable section

open Idealize.ShloMosaic Idealize.ShloMosaic.TcCoe Idealize.SL.Sem
open Idealize.ShloMosaic.Pipeline (Dat)

namespace Cert.ProjIdeal.Equal

open Cert.ProjIdeal Cert.ProjIdeal.Gen

variable (m : (ℓ : Loc nD τ sig) → Buf (Elt Ideal) ℓ)

/-- Where every window's block lies at each grid point: seventeen blocks of tokens per sample, the last its context. -/
theorem idx : ∀ t : Fin cfg0.N, win0_0.index t = ![t.val / 17, t.val % 17, 0] ∧ win0_1.index t = ![t.val / 17, t.val % 17 / 16, 0, 0]
    ∧ win0_2.index t = ![0, 0] ∧ win0_3.index t = ![0, 0] ∧ win0_4.index t = ![0, 0] ∧ win0_5.index t = ![0, 0]
    ∧ win0_6.index t = ![0, 0] ∧ win0_7.index t = ![0, 0] ∧ win0_8.index t = ![0, 0] ∧ win0_9.index t = ![t.val / 17, t.val % 17, 0] ∧ win0_10.index t = ![t.val / 17, t.val % 17, 0]
    ∧ win0_11.index t = ![t.val / 17, t.val % 17, 0] ∧ win0_12.index t = ![t.val / 17, t.val % 17, 0]
    ∧ win0_13.index t = ![t.val / 17, t.val % 17, 0] ∧ win0_14.index t = ![t.val / 17, t.val % 17, 0] ∧ t.val / 17 < 16 :=
  (by decide +kernel : ∀ t : Fin grid0.N, _)

/-- The sample a grid point's block belongs to. -/
def smp (t : Fin cfg0.N) : Fin 16 := ⟨t.val / 17, (idx t).2.2.2.2.2.2.2.2.2.2.2.2.2.2.2⟩

/-- The token a row of a grid point's block is. -/
def tok (t : Fin cfg0.N) (i : Fin 256) : Fin 4352 := ⟨t.val % 17 * 256 + i.val, by omega⟩

/-- The kernel's normalised block at a grid point. -/
def hblk (c : Dev nD) (t : Fin cfg0.N) : FVec Ideal S256x1024 .bf16 :=
  k0_pay3 (View.ld (iblk m c 0 t) r0_0) (View.ld (iblk m c 2 t) r0_1) (View.ld (iblk m c 1 t) r0_2) (View.ld (iblk m c 1 t) r0_3)

/-- Every point reads the first norm's weights. -/
theorem nw_blk (c : Dev nD) (t : Fin cfg0.N) (z : Fin 1) (n : Fin 1024) : iblk m c 2 t (ix2 z n) = (m ((c : Thread nD τ).loc main_arg2)) (ix1 n) := by
  have h : iblk m c 2 t (ix2 z n) = V m c main_v23 (ix2 z n) := by
    blk_ext [iblk, idx t]
  exact h.trans (V_nw m c z n)

/-- The point's block of tokens after the first norm holds the reference's rows. -/
theorem h_row (c : Dev nD) (t : Fin cfg0.N) (i : Fin 256) (k : Fin 1024) :
    hblk m c t (ix2 i k) = H1 (m ((c : Thread nD τ).loc main_arg0)) (m ((c : Thread nD τ).loc main_arg1)) (m ((c : Thread nD τ).loc main_arg2)) (ix3 (smp t) (tok t i) k) := by
  rw [H1_at, MR0_at, MR1_at]
  unfold hblk smp tok
  pointwise [k0_pay3]
  blk_point [iblk, V, idx t]
  exact nw_blk m c t 0 k

/-- Every point reads the whole of the reordered weights. -/
theorem w_blk (c : Dev nD) (t : Fin cfg0.N) (k : Fin 1024) (n : Fin 6272) : iblk m c 3 t (ix2 k n) = WT (m ((c : Thread nD τ).loc main_arg3)) (ix2 k n) := by
  have h : iblk m c 3 t (ix2 k n) = V m c main_v37 (ix2 k n) := by
    blk_ext [iblk, idx t]
  rw [h, V_w]

/-- The projection of the reference at a sample, a token and a column. -/
def PRJ (c : Dev nD) : FVec Ideal Cert.ProjRefIdeal.S16x4352x6160 .f32 := P1 (m ((c : Thread nD τ).loc main_arg0)) (m ((c : Thread nD τ).loc main_arg1)) (m ((c : Thread nD τ).loc main_arg2)) (m ((c : Thread nD τ).loc main_arg3))

/-- The kernel's row times one of its first columns is the projection there. -/
theorem p_lo (c : Dev nD) (t : Fin cfg0.N) (i : Fin 256) (n : Fin 6272) (h : n.val < 2048) :
    ∑ k : Fin 1024, hblk m c t (ix2 i k) * WT (m ((c : Thread nD τ).loc main_arg3)) (ix2 k n) = PRJ m c (ix3 (smp t) (tok t i) ⟨n.val, by omega⟩) := by
  unfold PRJ
  rw [P1_at]
  refine Finset.sum_congr rfl fun k _ => ?_
  rw [h_row, WT_lo _ _ _ h]
  rfl

/-- The kernel's row times one of its next columns is the projection sixteen further on. -/
theorem p_mid (c : Dev nD) (t : Fin cfg0.N) (i : Fin 256) (n : Fin 6272) (h : 2048 ≤ n.val) (h' : n.val < 6144) :
    ∑ k : Fin 1024, hblk m c t (ix2 i k) * WT (m ((c : Thread nD τ).loc main_arg3)) (ix2 k n) = PRJ m c (ix3 (smp t) (tok t i) ⟨16 + n.val, by omega⟩) := by
  unfold PRJ
  rw [P1_at]
  refine Finset.sum_congr rfl fun k _ => ?_
  rw [h_row, WT_mid _ _ _ h h']
  rfl

/-- The kernel's row times one of its last sixteen columns is the projection at 2048 and on. -/
theorem p_hi (c : Dev nD) (t : Fin cfg0.N) (i : Fin 256) (n : Fin 6272) (h : 6144 ≤ n.val) (h' : n.val < 6160) :
    ∑ k : Fin 1024, hblk m c t (ix2 i k) * WT (m ((c : Thread nD τ).loc main_arg3)) (ix2 k n) = PRJ m c (ix3 (smp t) (tok t i) ⟨n.val - 4096, by omega⟩) := by
  unfold PRJ
  rw [P1_at]
  refine Finset.sum_congr rfl fun k _ => ?_
  rw [h_row, WT_hi _ _ _ h h']
  rfl

/-- The kernel's row times a padding column is zero. -/
theorem p_pad (c : Dev nD) (t : Fin cfg0.N) (i : Fin 256) (n : Fin 6272) (h : 6160 ≤ n.val) :
    ∑ k : Fin 1024, hblk m c t (ix2 i k) * WT (m ((c : Thread nD τ).loc main_arg3)) (ix2 k n) = 0 := by
  refine Finset.sum_eq_zero fun k _ => ?_
  rw [WT_pad _ _ _ h]
  exact mul_zero (hblk m c t (ix2 i k) : EReal)

/-- The normalised block, as the stores read it. -/
theorem h_eq (c : Dev nD) (t : Fin cfg0.N) :
    k0_pay25 (iblk m c 0 t) (iblk m c 1 t) (iblk m c 2 t) (iblk m c 3 t) (iblk m c 4 t) (iblk m c 5 t) (iblk m c 6 t) (iblk m c 7 t) (iblk m c 8 t)
      = hblk m c t := rfl

/-- A stored piece of 512 columns from column `o` on: the normalised row times the reordered weights. -/
theorem piece (c : Dev nD) (t : Fin cfg0.N) (o : ℕ) (ho : o + 512 ≤ 6272) (hin) (x : S1x256x512.Idx) :
    k0_pay5 (hblk m c t) (View.ld (iblk m c 3 t) (Rect.unit (s := S1024x6272) ![0, o] S1024x512.size hin)) x
      = ∑ k : Fin 1024, hblk m c t (ix2 (x 1) k) * WT (m ((c : Thread nD τ).loc main_arg3)) (ix2 k ⟨o + (x 2).val, by have : (x 2).val < 512 := (x 2).isLt; omega⟩) := by
  simp only [← w_blk m c t]
  pointwise [k0_pay5]

/-- A stored piece of 256 columns from column `o` on. -/
theorem piece' (c : Dev nD) (t : Fin cfg0.N) (o : ℕ) (ho : o + 256 ≤ 6272) (hin) (x : S1x256x256.Idx) :
    k0_pay8 (hblk m c t) (View.ld (iblk m c 3 t) (Rect.unit (s := S1024x6272) ![0, o] S1024x256.size hin)) x
      = ∑ k : Fin 1024, hblk m c t (ix2 (x 1) k) * WT (m ((c : Thread nD τ).loc main_arg3)) (ix2 k ⟨o + (x 2).val, by have : (x 2).val < 256 := (x 2).isLt; omega⟩) := by
  simp only [← w_blk m c t]
  pointwise [k0_pay8]

/-- The projection at a row and a column, by their numbers. -/
theorem prj_of (c : Dev nD) (t : Fin cfg0.N) {i i' : Fin 256} {n n' : Fin 6160} (hi : i.val = i'.val) (hn : n.val = n'.val) :
    PRJ m c (ix3 (smp t) (tok t i) n) = PRJ m c (ix3 (smp t) (tok t i') n') := by
  rw [Fin.ext hi, Fin.ext hn]

/-- A stored piece among the first columns is the projection there. -/
theorem piece_lo (c : Dev nD) (t : Fin cfg0.N) (o : ℕ) (ho : o + 512 ≤ 2048) (hin) (x : S1x256x512.Idx) {i : Fin 256} {n : Fin 6160}
    (hi : i.val = (x 1).val) (hn : n.val = o + (x 2).val) :
    k0_pay5 (hblk m c t) (View.ld (iblk m c 3 t) (Rect.unit (s := S1024x6272) ![0, o] S1024x512.size hin)) x = PRJ m c (ix3 (smp t) (tok t i) n) := by
  have h2 : (x 2).val < 512 := (x 2).isLt
  exact (piece m c t o (by omega) hin x).trans ((p_lo m c t (x 1) _ (by simp only []; omega)).trans (prj_of m c t hi.symm hn.symm))

/-- A stored piece among the next columns is the projection sixteen further on. -/
theorem piece_mid (c : Dev nD) (t : Fin cfg0.N) (o : ℕ) (ho : 2048 ≤ o) (ho' : o + 512 ≤ 6144) (hin) (x : S1x256x512.Idx) {i : Fin 256} {n : Fin 6160}
    (hi : i.val = (x 1).val) (hn : n.val = 16 + (o + (x 2).val)) :
    k0_pay5 (hblk m c t) (View.ld (iblk m c 3 t) (Rect.unit (s := S1024x6272) ![0, o] S1024x512.size hin)) x = PRJ m c (ix3 (smp t) (tok t i) n) := by
  have h2 : (x 2).val < 512 := (x 2).isLt
  exact (piece m c t o (by omega) hin x).trans ((p_mid m c t (x 1) _ (by simp only []; omega) (by simp only []; omega)).trans (prj_of m c t hi.symm hn.symm))

/-- A stored piece of 256 among the next columns is the projection sixteen further on. -/
theorem piece_mid' (c : Dev nD) (t : Fin cfg0.N) (o : ℕ) (ho : 2048 ≤ o) (ho' : o + 256 ≤ 6144) (hin) (x : S1x256x256.Idx) {i : Fin 256} {n : Fin 6160}
    (hi : i.val = (x 1).val) (hn : n.val = 16 + (o + (x 2).val)) :
    k0_pay8 (hblk m c t) (View.ld (iblk m c 3 t) (Rect.unit (s := S1024x6272) ![0, o] S1024x256.size hin)) x = PRJ m c (ix3 (smp t) (tok t i) n) := by
  have h2 : (x 2).val < 256 := (x 2).isLt
  exact (piece' m c t o (by omega) hin x).trans ((p_mid m c t (x 1) _ (by simp only []; omega) (by simp only []; omega)).trans (prj_of m c t hi.symm hn.symm))

/-- Where an entry of the first result's block lies. -/
theorem emb9 (t : Fin cfg0.N) (y : S1x256x1536.Idx) :
    (win0_9.blk t).view.emb y = (ix3 (smp t) (tok t (y 1)) (y 2) : S16x4352x1536.Idx) := by
  blk_ext [idx t, smp, tok]

/-- Where an entry of the second result's block lies. -/
theorem emb10 (t : Fin cfg0.N) (y : S1x256x512.Idx) :
    (win0_10.blk t).view.emb y = (ix3 (smp t) (tok t (y 1)) (y 2) : S16x4352x512.Idx) := by
  blk_ext [idx t, smp, tok]

/-- Where an entry of the third result's block lies. -/
theorem emb11 (t : Fin cfg0.N) (y : S1x256x256.Idx) :
    (win0_11.blk t).view.emb y = (ix3 (smp t) (tok t (y 1)) (y 2) : S16x4352x256.Idx) := by
  blk_ext [idx t, smp, tok]

/-- Where an entry of the fifth result's block lies. -/
theorem emb13 (t : Fin cfg0.N) (y : S1x256x3072.Idx) :
    (win0_13.blk t).view.emb y = (ix3 (smp t) (tok t (y 1)) (y 2) : S16x4352x3072.Idx) := by
  blk_ext [idx t, smp, tok]

/-- Every point reads the whole of that row. -/
theorem al_blk (c : Dev nD) (t : Fin cfg0.N) (z : Fin 1) (n : Fin 128) : iblk m c 4 t (ix2 z n) = V m c main_v1 (ix2 z n) := by
  blk_ext [iblk, idx t]

/-- Every point reads the whole of that row. -/
theorem dt_blk (c : Dev nD) (t : Fin cfg0.N) (z : Fin 1) (n : Fin 128) : iblk m c 5 t (ix2 z n) = V m c main_v3 (ix2 z n) := by
  blk_ext [iblk, idx t]

/-- Every point reads the whole of that row. -/
theorem q_blk (c : Dev nD) (t : Fin cfg0.N) (z : Fin 1) (n : Fin 256) : iblk m c 6 t (ix2 z n) = V m c main_v7 (ix2 z n) := by
  blk_ext [iblk, idx t]

/-- Every point reads the whole of that row. -/
theorem k_blk (c : Dev nD) (t : Fin cfg0.N) (z : Fin 1) (n : Fin 256) : iblk m c 7 t (ix2 z n) = V m c main_v11 (ix2 z n) := by
  blk_ext [iblk, idx t]

/-- Every point reads the whole averaging matrix. -/
theorem bd_blk (c : Dev nD) (t : Fin cfg0.N) (k n : Fin 256) :
    iblk m c 8 t (ix2 k n) = Ideal.div (if k.val / 64 = n.val / 64 then 1 else 0) (Ideal.ofBits .f32 1115684864#32) := by
  have h : iblk m c 8 t (ix2 k n) = V m c main_v22 (ix2 k n) := by
    blk_ext [iblk, idx t]
  exact h.trans (V_bd m c k n)

/-- The first result. -/
theorem final9 (c : Dev nD) : (dats m 0 c).arrAt 9 cfg0.N = RA (PRJ m c) := by
  refine (dats m 0 c).arrAt_eq_of_covers 9 _ (by decide +kernel) fun t hf y => ?_
  blk_simp
  rw [after0_9]
  unfold out0_9
  refine Eq.trans ?_ ((congrArg _ (emb9 t y)).trans (RA_at (PRJ m c) _)).symm
  simp only [h_eq]
  canon_tiles x h
  · exact piece_lo m c t 1024 (by omega) _ x h1 h2
  · exact piece_lo m c t 512 (by omega) _ x h1 h2
  · exact piece_lo m c t 0 (by omega) _ x h1 (h2.trans (Nat.zero_add _).symm)

/-- The second result. -/
theorem final10 (c : Dev nD) : (dats m 0 c).arrAt 10 cfg0.N = RZ (PRJ m c) := by
  refine (dats m 0 c).arrAt_eq_of_covers 10 _ (by decide +kernel) fun t hf y => ?_
  blk_simp
  rw [after0_10]
  unfold out0_10
  refine Eq.trans ?_ ((congrArg _ (emb10 t y)).trans (RZ_at (PRJ m c) _)).symm
  simp only [h_eq]
  canon_tiles x h
  exact piece_lo m c t 1536 (by omega) _ x h1 (congrArg (1536 + ·) h2)

/-- The third result. -/
theorem final11 (c : Dev nD) : (dats m 0 c).arrAt 11 cfg0.N = RU (PRJ m c) := by
  refine (dats m 0 c).arrAt_eq_of_covers 11 _ (by decide +kernel) fun t hf y => ?_
  blk_simp
  rw [after0_11]
  unfold out0_11
  refine Eq.trans ?_ ((congrArg _ (emb11 t y)).trans (RU_at (PRJ m c) _)).symm
  simp only [h_eq]
  canon_tiles x h
  exact piece_mid' m c t 2048 (by omega) (by omega) _ x h1 (by show 2064 + (y 2).val = _; omega)

/-- The fifth result. -/
theorem final13 (c : Dev nD) : (dats m 0 c).arrAt 13 cfg0.N = RG (PRJ m c) := by
  refine (dats m 0 c).arrAt_eq_of_covers 13 _ (by decide +kernel) fun t hf y => ?_
  blk_simp
  rw [after0_13]
  unfold out0_13
  refine Eq.trans ?_ ((congrArg _ (emb13 t y)).trans (RG_at (PRJ m c) _)).symm
  simp only [h_eq]
  canon_tiles x h
  · exact piece_mid m c t 5632 (by omega) (by omega) _ x h1 (by show 3088 + (y 2).val = _; omega)
  · exact piece_mid m c t 5120 (by omega) (by omega) _ x h1 (by show 3088 + (y 2).val = _; omega)
  · exact piece_mid m c t 4608 (by omega) (by omega) _ x h1 (by show 3088 + (y 2).val = _; omega)
  · exact piece_mid m c t 4096 (by omega) (by omega) _ x h1 (by show 3088 + (y 2).val = _; omega)
  · exact piece_mid m c t 3584 (by omega) (by omega) _ x h1 (by show 3088 + (y 2).val = _; omega)
  · exact piece_mid m c t 3072 (by omega) (by omega) _ x h1 (by show 3088 + (y 2).val = _; omega)

/-- The modulation's rows the first norm uses are finite, under the claim's condition. -/
theorem fin_md (hpre : Pre_ProjIdeal_finite_inputs m) (c : Dev nD) (j : S16x4352x1024.Idx) :
    (∃ r : ℝ, MR0 (m ((c : Thread nD τ).loc main_arg1)) j = (r : EReal)) ∧ (∃ r : ℝ, MR1 (m ((c : Thread nD τ).loc main_arg1)) j = (r : EReal)) := by
  have h1 : (j 1).val < 4352 := (j 1).isLt
  have h := (hpre c).1
  rw [MR0_at, MR1_at]
  refine ⟨real_of_abs _ (Eq.trans ?_ (congrFun h (ix4 (j 0) ⟨(j 1).val / 4096, by omega⟩ 0 (j 2)))),
    real_of_abs _ (Eq.trans ?_ (congrFun h (ix4 (j 0) ⟨(j 1).val / 4096, by omega⟩ 1 (j 2))))⟩
  all_goals pointwise [Cert.Pre_finite_inputs.fn]

/-- The first norm's weights are finite, under the claim's condition. -/
theorem fin_nw (hpre : Pre_ProjIdeal_finite_inputs m) (c : Dev nD) (k : Fin 1024) :
    ∃ r : ℝ, ((m ((c : Thread nD τ).loc main_arg2)) : FVec Ideal S1024 .f32) (ix1 k) = (r : EReal) := by
  refine real_of_abs _ (Eq.trans ?_ (congrFun (hpre c).2.1 (ix1 k)))
  pointwise [Cert.Pre_finite_inputs.fn]

/-- The columns of the attention's queries and keys are finite, under the claim's condition. -/
theorem fin_w (hpre : Pre_ProjIdeal_finite_inputs m) (c : Dev nD) (k : Fin 1024) (n : Fin 512) :
    ∃ r : ℝ, ((m ((c : Thread nD τ).loc main_arg3)) : FVec Ideal S1024x6160 .f32) (ix2 k ⟨2320 + n.val, by omega⟩) = (r : EReal) := by
  refine real_of_abs _ (Eq.trans ?_ (congrFun (hpre c).2.2 (ix2 k n)))
  pointwise [Cert.Pre_finite_inputs.fn]

/-- The modulated norm of the tokens is finite, under the claim's condition. -/
theorem fin_h (hpre : Pre_ProjIdeal_finite_inputs m) (c : Dev nD) (j : S16x4352x1024.Idx) :
    ∃ r : ℝ, H1 (m ((c : Thread nD τ).loc main_arg0)) (m ((c : Thread nD τ).loc main_arg1)) (m ((c : Thread nD τ).loc main_arg2)) j = (r : EReal) := by
  obtain ⟨a, ha⟩ := norm_real (fun k => ((m ((c : Thread nD τ).loc main_arg0)) : FVec Ideal S16x4352x1024 .f32) (ix3 (j 0) (j 1) k)) (j 2)
  obtain ⟨⟨b, hb⟩, ⟨d, hd⟩⟩ := fin_md m hpre c j
  obtain ⟨e, he⟩ := fin_nw m hpre c (j 2)
  have hj : j = ix3 (j 0) (j 1) (j 2) := by idx_ext
  refine ⟨a * e * (1 + d) + b, ?_⟩
  rw [H1_at, hb, hd, he]
  refine (congrArg (fun v : EReal => v * (e : EReal) * (1 + (d : EReal)) + (b : EReal))
    ((congrArg (fun v : EReal => v * _) (congrArg ((m ((c : Thread nD τ).loc main_arg0)) : FVec Ideal S16x4352x1024 .f32) hj)).trans ha)).trans ?_
  rw [EReal.coe_add, EReal.coe_mul, EReal.coe_mul, EReal.coe_add]
  rfl

/-- The projection is finite at the attention's queries and keys, under the claim's condition. -/
theorem fin_prj (hpre : Pre_ProjIdeal_finite_inputs m) (c : Dev nD) (s : Fin 16) (i : Fin 4352) (n : Fin 512) :
    ∃ r : ℝ, PRJ m c (ix3 s i ⟨2320 + n.val, by omega⟩) = (r : EReal) := by
  have hh := fun k => fin_h m hpre c (ix3 s i k)
  have hw := fun k => fin_w m hpre c k n
  choose a ha using hh
  choose b hb using hw
  refine ⟨∑ k, a k * b k, ?_⟩
  unfold PRJ
  rw [P1_at, coe_sums]
  refine Finset.sum_congr rfl fun k _ => ?_
  rw [EReal.coe_mul, ← ha, ← hb]
  rfl

/-- The stored queries: the reference's, each over its head's root mean square. -/
theorem q_row (hpre : Pre_ProjIdeal_finite_inputs m) (c : Dev nD) (t : Fin cfg0.N) (z : Fin 1) (i d : Fin 256) :
    k0_pay10 (hblk m c t) (k0_pay9 (View.ld (iblk m c 3 t) r0_14)) (View.ld (iblk m c 6 t) r0_15) (View.ld (iblk m c 8 t) r0_16) (View.ld (iblk m c 8 t) r0_16) (ix3 z i d)
      = RN (PRJ m c) (m ((c : Thread nD τ).loc main_arg6)) (m ((c : Thread nD τ).loc main_arg7)) (ix3 (smp t) (tok t i) ⟨d.val, by omega⟩) := by
  have hp : ∀ k : Fin 256, (∑ y : Fin 1024, hblk m c t (ix2 i y) * WT (m ((c : Thread nD τ).loc main_arg3)) (ix2 y ⟨2304 + k.val, by omega⟩))
      = PRJ m c (ix3 (smp t) (tok t i) ⟨2320 + k.val, by omega⟩) := fun k =>
    (p_mid m c t i _ (by simp only []; omega) (by simp only []; omega)).trans (prj_of m c t rfl (by simp only []; omega))
  rw [RN_q _ _ _ _ d.isLt]
  pointwise [k0_pay10, k0_pay9]
  simp only [w_blk, q_blk, bd_blk, V_q]
  simp only [hp, hp d]
  rw [head_mean (fun k => PRJ m c (ix3 (smp t) (tok t i) ⟨2320 + k.val, by omega⟩))
    (fun k => fin_prj m hpre c _ _ ⟨k.val, by omega⟩) d, V_q m c 0 d]

/-- The stored keys: the reference's, each over its head's root mean square. -/
theorem k_row (hpre : Pre_ProjIdeal_finite_inputs m) (c : Dev nD) (t : Fin cfg0.N) (z : Fin 1) (i d : Fin 256) :
    k0_pay16 (k0_pay11 (hblk m c t) (View.ld (iblk m c 3 t) r0_18)) (k0_pay12 (View.ld (iblk m c 7 t) r0_15)) (k0_pay14 (hblk m c t) (View.ld (iblk m c 3 t) r0_18)) (k0_pay15 (hblk m c t) (View.ld (iblk m c 3 t) r0_18)) (View.ld (iblk m c 8 t) r0_16) (View.ld (iblk m c 8 t) r0_16) (ix3 z i d)
      = RN (PRJ m c) (m ((c : Thread nD τ).loc main_arg6)) (m ((c : Thread nD τ).loc main_arg7)) (ix3 (smp t) (tok t i) ⟨256 + d.val, by omega⟩) := by
  have hp : ∀ k : Fin 256, (∑ y : Fin 1024, hblk m c t (ix2 i y) * WT (m ((c : Thread nD τ).loc main_arg3)) (ix2 y ⟨2560 + k.val, by omega⟩))
      = PRJ m c (ix3 (smp t) (tok t i) ⟨2576 + k.val, by omega⟩) := fun k =>
    (p_mid m c t i _ (by simp only []; omega) (by simp only []; omega)).trans (prj_of m c t rfl (by simp only []; omega))
  have he : ∀ k : Fin 256, PRJ m c (ix3 (smp t) (tok t i) ⟨2576 + k.val, by omega⟩)
      = PRJ m c (ix3 (smp t) (tok t i) ⟨2320 + (256 + k.val), by omega⟩) := fun k =>
    prj_of m c t rfl (by simp only []; omega)
  rw [RN_k _ _ _ _ (by simp only []; show ¬ 256 + d.val < 256; omega) (by show 256 + d.val - 256 < 256; omega)]
  pointwise [k0_pay16, k0_pay15, k0_pay14, k0_pay13, k0_pay12, k0_pay11]
  simp only [w_blk, k_blk, bd_blk, V_k]
  simp only [hp, hp d]
  rw [head_mean (fun k => PRJ m c (ix3 (smp t) (tok t i) ⟨2576 + k.val, by omega⟩))
    (fun k => by rw [he k]; exact fin_prj m hpre c _ _ ⟨256 + k.val, by omega⟩) d, V_k m c 0 d]

/-- Whether a lane is among the first eight. -/
theorem lane : ∀ k : Fin 128, IntOp.cmpi CmpIPredicate.slt (BitVec.ofNat 32 k.val) 8#32 = if k.val < 8 then 1#1 else 0#1 := by
  decide +kernel

/-- The stored decays and steps are the reference's. -/
theorem b_row (c : Dev nD) (t : Fin cfg0.N) (z : Fin 1) (i : Fin 256) (d : Fin 128) :
    k0_pay2 (hblk m c t) (View.ld (iblk m c 3 t) r0_34) (View.ld (iblk m c 5 t) r0_35) (View.ld (iblk m c 4 t) r0_35) (ix3 z i d)
      = RB (PRJ m c) (m ((c : Thread nD τ).loc main_arg4)) (m ((c : Thread nD τ).loc main_arg5)) (ix3 (smp t) (tok t i) d) := by
  rw [RB_at]
  pointwise [k0_pay2]
  simp only [w_blk, al_blk, dt_blk]
  rw [lane d]
  by_cases h0 : d.val < 8
  · rw [if_pos h0, V_al m c 0 d h0, V_dt m c 0 d h0,
      p_hi m c t i ⟨6144 + d.val, by omega⟩ (by simp only []; omega) (by simp only []; omega)]
    refine Eq.trans ?_ (dif_pos h0).symm
    rw [zero_sub, zero_sub, prj_of m c t (i := i) (i' := i) (n := ⟨6144 + d.val - 4096, by omega⟩) (n' := ⟨2048 + d.val, by omega⟩) rfl (by simp only []; omega)]
    rfl
  · rw [if_neg h0]
    refine Eq.trans ?_ (dif_neg h0).symm
    by_cases h1 : d.val - 8 < 8
    · rw [p_hi m c t i ⟨6144 + d.val, by omega⟩ (by simp only []; omega) (by simp only []; omega),
        prj_of m c t (i := i) (i' := i) (n := ⟨6144 + d.val - 4096, by omega⟩) (n' := ⟨2048 + d.val, by omega⟩) rfl (by simp only []; omega)]
      exact Eq.trans (by rfl) (dif_pos h1).symm
    · rw [p_pad m c t i ⟨6144 + d.val, by omega⟩ (by simp only []; omega), logistic_zero]
      exact Eq.trans (by rfl) (dif_neg h1).symm

/-- Two entries of the same sample agree where their token and column do. -/
theorem tok3 (t : Fin cfg0.N) {N : ℕ} {i i' : Fin 256} {n n' : Fin N} (hi : i.val = i'.val) (hn : n.val = n'.val) :
    ix3 (smp t) (tok t i) n = ix3 (smp t) (tok t i') n' := by
  rw [Fin.ext hi, Fin.ext hn]

/-- Where an entry of the fourth result's block lies. -/
theorem emb12 (t : Fin cfg0.N) (y : S1x256x768.Idx) :
    (win0_12.blk t).view.emb y = (ix3 (smp t) (tok t (y 1)) (y 2) : S16x4352x768.Idx) := by
  blk_ext [idx t, smp, tok]

/-- Where an entry of the sixth result's block lies. -/
theorem emb14 (t : Fin cfg0.N) (y : S1x256x128.Idx) :
    (win0_14.blk t).view.emb y = (ix3 (smp t) (tok t (y 1)) (y 2) : S16x4352x128.Idx) := by
  blk_ext [idx t, smp, tok]

/-- The fourth result. -/
theorem final12 (hpre : Pre_ProjIdeal_finite_inputs m) (c : Dev nD) : (dats m 0 c).arrAt 12 cfg0.N = RN (PRJ m c) (m ((c : Thread nD τ).loc main_arg6)) (m ((c : Thread nD τ).loc main_arg7)) := by
  refine (dats m 0 c).arrAt_eq_of_covers 12 _ (by decide +kernel) fun t hf y => ?_
  blk_simp
  rw [after0_12]
  unfold out0_12
  refine Eq.trans ?_ (congrArg _ (emb12 t y)).symm
  simp only [h_eq]
  canon_tiles x h
  · refine Eq.trans ?_ (RN_v _ _ _ _ (by show ¬ (y 2).val - 256 < 256; omega)).symm
    exact piece_mid' m c t 2816 (by omega) (by omega) _ x h1 (by show 2320 + (y 2).val = _; omega)
  · have hx : x = (ix3 (x 0) (x 1) (x 2) : S1x256x256.Idx) := by idx_ext
    refine (congrArg _ hx).trans ((k_row m hpre c t (x 0) (x 1) (x 2)).trans (congrArg _ (tok3 t h1.symm ?_)))
    show 256 + (x 2).val = (y 2).val
    omega
  · have hx : x = (ix3 (x 0) (x 1) (x 2) : S1x256x256.Idx) := by idx_ext
    refine (congrArg _ hx).trans ((q_row m hpre c t (x 0) (x 1) (x 2)).trans (congrArg _ (tok3 t h1.symm ?_)))
    show (x 2).val = (y 2).val
    omega

/-- The sixth result. -/
theorem final14 (c : Dev nD) : (dats m 0 c).arrAt 14 cfg0.N = RB (PRJ m c) (m ((c : Thread nD τ).loc main_arg4)) (m ((c : Thread nD τ).loc main_arg5)) := by
  refine (dats m 0 c).arrAt_eq_of_covers 14 _ (by decide +kernel) fun t hf y => ?_
  blk_simp
  rw [after0_14]
  unfold out0_14
  refine Eq.trans ?_ (congrArg _ (emb14 t y)).symm
  simp only [h_eq]
  canon_tiles x h
  have hx : x = (ix3 (x 0) (x 1) (x 2) : S1x256x128.Idx) := by idx_ext
  refine (congrArg _ hx).trans ((b_row m c t (x 0) (x 1) (x 2)).trans (congrArg _ (tok3 t h1.symm h2.symm)))

end Cert.ProjIdeal.Equal

end
-- ==== Proof.ScanChain.lean ====
module

public import proofs.«01_k».proof.Proof.Gen.ScanIdeal.Skeleton
public import Idealize.ShloMosaic.Lib.Pipeline.ValueKit
public import Idealize.ShloMosaic.Lib.Pipeline.ReadBack
public import Idealize.ShloMosaic.Lib.Pointwise

/-! The delta-rule recurrence: one chain's step, and the kernel's step on a pair of chains kept side by side. -/

@[expose] public section

set_option maxRecDepth 16384

noncomputable section

open Idealize.ShloMosaic Idealize.ShloMosaic.TcCoe Idealize.SL.Sem

namespace Cert.ScanIdeal.Equal

open Cert.ScanIdeal Cert.ScanIdeal.Gen

/-- The state of one chain: keys by values. -/
abbrev St := Fin 128 → Fin 128 → EReal

/-- The corrected values of one chunk: the chunk's values less what the state already holds for its keys. -/
def vnew (w u : Fin 64 → Fin 128 → EReal) (s : St) (i : Fin 64) (v : Fin 128) : EReal := u i v - ∑ e : Fin 128, w i e * s e v

/-- One chunk's output: the queries read off the state, and the chunk's own corrected values. -/
def onow (q : Fin 64 → Fin 128 → EReal) (a : Fin 64 → Fin 64 → EReal) (n : Fin 64 → Fin 128 → EReal) (s : St) (i : Fin 64) (v : Fin 128) : EReal :=
  (∑ e : Fin 128, q i e * s e v) + ∑ j : Fin 64, a i j * n j v

/-- The state after one chunk: decayed, and the chunk's keys added with their corrected values. -/
def snext (k : Fin 64 → Fin 128 → EReal) (g : EReal) (n : Fin 64 → Fin 128 → EReal) (s : St) : St :=
  fun e v => s e v * g + ∑ i : Fin 64, k i e * n i v

/-- Column `e` of head `h` in a pair of heads. -/
abbrev col (h : Fin 2) (e : Fin 128) : Fin 256 := ⟨128 * h.val + e.val, by omega⟩

/-- Two states side by side on the diagonal, zero off it. -/
def diag (s : Fin 2 → St) : FVec Ideal S256x256 .f32 := fun x =>
  if (x 0 : ℕ) / 128 = (x 1 : ℕ) / 128 then s ⟨(x 1 : ℕ) / 128, by have := (x 1).isLt; simp at this; omega⟩ ⟨(x 0 : ℕ) % 128, by omega⟩ ⟨(x 1 : ℕ) % 128, by omega⟩ else 0

theorem diag_at (s : Fin 2 → St) (a h : Fin 2) (e v : Fin 128) : diag s (ix2 (col a e) (col h v)) = if a = h then s h e v else 0 := by
  have ha := a.isLt; have hh := h.isLt; have he := e.isLt; have hv := v.isLt
  have h1 : (128 * a.val + e.val) / 128 = a.val := by omega
  have h2 : (128 * h.val + v.val) / 128 = h.val := by omega
  have h3 : (128 * a.val + e.val) % 128 = e.val := by omega
  have h4 : (128 * h.val + v.val) % 128 = v.val := by omega
  show (if (128 * a.val + e.val) / 128 = (128 * h.val + v.val) / 128 then s ⟨(128 * h.val + v.val) / 128, _⟩ ⟨(128 * a.val + e.val) % 128, _⟩ ⟨(128 * h.val + v.val) % 128, _⟩ else 0) = _
  simp only [h1, h2, h3, h4, Fin.ext_iff]

/-- The key rows against the state. -/
theorem ws_at (s : FVec Ideal S256x256 .f32) (wq : FVec Ideal S1x128x256 .bf16) (r : Fin 128) (v : Fin 256) :
    k0_pay12 s wq (ix2 r v) = ∑ e : Fin 256, wq (ix3 0 r e) * s (ix2 e v) := by
  pointwise [k0_pay12]

theorem vn_at (ws : FVec Ideal S128x256 .f32) (u : FVec Ideal S1x64x256 .f32) (i : Fin 64) (v : Fin 256) :
    k0_pay14 ws u (ix2 i v) = u (ix3 0 i v) - ws (ix2 ⟨i.val, by omega⟩ v) := by
  pointwise [k0_pay14]

theorem upd_at (n : FVec Ideal S64x256 .f32) (k : FVec Ideal S1x64x256 .bf16) (e v : Fin 256) :
    k0_pay20 n k (ix2 e v) = ∑ i : Fin 64, k (ix3 0 i e) * n (ix2 i v) := by
  pointwise [k0_pay20]

theorem lt_half (v : Fin 256) {α : Type} (x y : α) :
    Scalar.select (IntOp.cmpi CmpIPredicate.slt (BitVec.ofNat 32 v.val) 128#32) x y = if v.val < 128 then x else y := by
  have h : ∀ v : Fin 256, IntOp.cmpi CmpIPredicate.slt (BitVec.ofNat 32 v.val) 128#32 = if v.val < 128 then 1#1 else 0#1 := by decide +kernel
  rw [h v]; split <;> rfl

theorem same_half (e v : Fin 256) {α : Type} (x y : α) :
    Scalar.select (IntOp.cmpi CmpIPredicate.eq (IntOp.shrsi ArithUnit.vector (BitVec.ofNat 32 e.val) 7#32)
      (IntOp.shrsi ArithUnit.vector (BitVec.ofNat 32 v.val) 7#32)) x y = if e.val / 128 = v.val / 128 then x else y := by
  have h : ∀ v : Fin 256, IntOp.shrsi ArithUnit.vector (BitVec.ofNat 32 v.val) 7#32 = if v.val / 128 = 0 then 0#32 else 1#32 := by decide +kernel
  have he := e.isLt; have hv := v.isLt
  have h1 : e.val / 128 = 0 ∨ e.val / 128 = 1 := by omega
  have h2 : v.val / 128 = 0 ∨ v.val / 128 = 1 := by omega
  rw [h e, h v]
  rcases h1 with h1 | h1 <;> rcases h2 with h2 | h2 <;> rw [h1, h2] <;> rfl

theorem o_at (ws : FVec Ideal S128x256 .f32) (n : FVec Ideal S64x256 .f32) (a : FVec Ideal S1x64x128 .bf16) (i : Fin 64) (v : Fin 256) :
    k0_pay22 k0_pay4 ws n a (ix3 0 i v) = ws (ix2 ⟨64 + i.val, by omega⟩ v)
      + ((∑ j : Fin 64, a (ix3 0 i ⟨j.val, by omega⟩) * (if v.val < 128 then n (ix2 j v) else 0))
        + ∑ j : Fin 64, a (ix3 0 i ⟨64 + j.val, by omega⟩) * (if v.val < 128 then 0 else n (ix2 j v))) := by
  pointwise [k0_pay22, k0_pay4]
  simp only [lt_half, mul_ite, mul_zero]

/-- The kernel's new pair of states, of the old pair, the update and the decay row's two lanes. -/
def kst (p : ℕ) (h0 : S1x128.Slices ![0, p] S1x1) (h1 : S1x128.Slices ![0, p + 1] S1x1) (s upd : FVec Ideal S256x256 .f32) (gl : FVec Ideal S1x1x128 .f32) : FVec Ideal S1x256x256 .f32 :=
  shapeCast S1x256x256 (addf (mulf s (broadcastTo S256x256 (select k0_pay5
    (broadcastTo S1x256 (shapeCast S1x1 (extractStridedSlice S1x1 ![0, p] (shapeCast S1x128 gl shapeCasts_S1x1x128_S1x128) h0) shapeCasts_S1x1_S1x1) broadcasts_S1x1_S1x256)
    (broadcastTo S1x256 (shapeCast S1x1 (extractStridedSlice S1x1 ![0, p + 1] (shapeCast S1x128 gl shapeCasts_S1x1x128_S1x128) h1) shapeCasts_S1x1_S1x1) broadcasts_S1x1_S1x256)) broadcasts_S1x256_S256x256))
    (select k0_pay3 upd (broadcast S256x256 (Scalar.ofBits .f32 0x00000000#32)))) shapeCasts_S256x256_S1x256x256

theorem kst_at (p : ℕ) (hp : p + 1 < 128) (h0 : S1x128.Slices ![0, p] S1x1) (h1 : S1x128.Slices ![0, p + 1] S1x1) (s upd : FVec Ideal S256x256 .f32) (gl : FVec Ideal S1x1x128 .f32) (e v : Fin 256) :
    kst p h0 h1 s upd gl (ix3 0 e v) = s (ix2 e v) * (if v.val < 128 then gl (ix3 0 0 ⟨p, by omega⟩) else gl (ix3 0 0 ⟨p + 1, hp⟩))
      + if e.val / 128 = v.val / 128 then upd (ix2 e v) else 0 := by
  pointwise [kst, k0_pay3, k0_pay5, k0_pay4]
  rw [lt_half, same_half]

/-- A sum down a column of a diagonal pair meets one head's state only. -/
theorem sum_diag (σ : Fin 2 → St) (f : Fin 256 → EReal) (h : Fin 2) (v : Fin 128) :
    ∑ e : Fin 256, f e * diag σ (ix2 e (col h v)) = ∑ e : Fin 128, f (col h e) * σ h e v := by
  have hs : ∀ a : Fin 2, ∑ e : Fin 128, f (col a e) * diag σ (ix2 (col a e) (col h v)) = if a = h then ∑ e : Fin 128, f (col h e) * σ h e v else 0 := by
    intro a
    by_cases hah : a = h
    · subst hah
      rw [if_pos rfl]
      exact Finset.sum_congr rfl fun e _ => by rw [diag_at, if_pos rfl]
    · rw [if_neg hah]
      exact Finset.sum_eq_zero fun e _ => by rw [diag_at, if_neg hah, mul_zero]
  have ht : ∑ e : Fin 256, f e * diag σ (ix2 e (col h v)) = ∑ a : Fin 2, ∑ e : Fin 128, f (col a e) * diag σ (ix2 (col a e) (col h v)) := by
    rw [Fin.sum_univ_tiles 2 128 rfl]
    refine Finset.sum_congr rfl fun a _ => Finset.sum_congr rfl fun e _ => ?_
    have : (⟨a.val * 128 + e.val, by omega⟩ : Fin 256) = col a e := by apply Fin.ext; show a.val * 128 + e.val = 128 * a.val + e.val; omega
    rw [← this]
  rw [ht, Finset.sum_congr rfl fun a _ => hs a, Finset.sum_ite_eq' Finset.univ h]
  simp

/-- The pair's corrected values, head by head. -/
theorem pair_vn (σ : Fin 2 → St) (wq : FVec Ideal S1x128x256 .bf16) (u : FVec Ideal S1x64x256 .f32) (h : Fin 2) (i : Fin 64) (v : Fin 128) :
    k0_pay14 (k0_pay12 (diag σ) wq) u (ix2 i (col h v))
      = vnew (fun i e => wq (ix3 0 ⟨i.val, by omega⟩ (col h e))) (fun i v => u (ix3 0 i (col h v))) (σ h) i v := by
  rw [vn_at, ws_at, sum_diag]; rfl

/-- The pair's output, head by head. -/
theorem pair_o (σ : Fin 2 → St) (wq : FVec Ideal S1x128x256 .bf16) (u : FVec Ideal S1x64x256 .f32) (a : FVec Ideal S1x64x128 .bf16) (h : Fin 2) (i : Fin 64) (v : Fin 128) :
    k0_pay22 k0_pay4 (k0_pay12 (diag σ) wq) (k0_pay14 (k0_pay12 (diag σ) wq) u) a (ix3 0 i (col h v))
      = onow (fun i e => wq (ix3 0 ⟨64 + i.val, by omega⟩ (col h e))) (fun i j => a (ix3 0 i ⟨64 * h.val + j.val, by omega⟩))
          (vnew (fun i e => wq (ix3 0 ⟨i.val, by omega⟩ (col h e))) (fun i v => u (ix3 0 i (col h v))) (σ h)) (σ h) i v := by
  rw [o_at, ws_at, sum_diag]
  unfold onow
  congr 1
  have hv := v.isLt
  match h with
  | 0 =>
    have h1 : (col 0 v).val < 128 := by show 128 * 0 + v.val < 128; omega
    simp only [if_pos h1, mul_zero, Finset.sum_const_zero, add_zero]
    refine Finset.sum_congr rfl fun j _ => ?_
    rw [pair_vn]
    congr 3; apply Fin.ext; simp
  | 1 =>
    have h1 : ¬ (col 1 v).val < 128 := by show ¬ 128 * 1 + v.val < 128; omega
    simp only [if_neg h1, mul_zero, Finset.sum_const_zero, zero_add]
    refine Finset.sum_congr rfl fun j _ => ?_
    rw [pair_vn]
    congr 3

/-- The pair's new states are again a diagonal pair: each head's own step. -/
theorem pair_st (p : ℕ) (hp : p + 1 < 128) (h0 : S1x128.Slices ![0, p] S1x1) (h1 : S1x128.Slices ![0, p + 1] S1x1) (σ : Fin 2 → St)
    (wq : FVec Ideal S1x128x256 .bf16) (u : FVec Ideal S1x64x256 .f32) (k : FVec Ideal S1x64x256 .bf16) (gl : FVec Ideal S1x1x128 .f32) :
    k0_pay6 (kst p h0 h1 (diag σ) (k0_pay20 (k0_pay14 (k0_pay12 (diag σ) wq) u) k) gl)
      = diag fun h => snext (fun i e => k (ix3 0 i (col h e))) (gl (ix3 0 0 ⟨p + h.val, by omega⟩))
          (vnew (fun i e => wq (ix3 0 ⟨i.val, by omega⟩ (col h e))) (fun i v => u (ix3 0 i (col h v))) (σ h)) (σ h) := by
  funext x
  obtain ⟨a, e, ha⟩ : ∃ (a : Fin 2) (e : Fin 128), (x 0 : Fin 256) = col a e :=
    ⟨⟨(x 0 : ℕ) / 128, by have : (x 0 : ℕ) < 256 := (x 0).isLt; omega⟩, ⟨(x 0 : ℕ) % 128, by omega⟩, by apply Fin.ext; show (x 0 : ℕ) = 128 * ((x 0 : ℕ) / 128) + (x 0 : ℕ) % 128; omega⟩
  obtain ⟨h, v, hv⟩ : ∃ (h : Fin 2) (v : Fin 128), (x 1 : Fin 256) = col h v :=
    ⟨⟨(x 1 : ℕ) / 128, by have : (x 1 : ℕ) < 256 := (x 1).isLt; omega⟩, ⟨(x 1 : ℕ) % 128, by omega⟩, by apply Fin.ext; show (x 1 : ℕ) = 128 * ((x 1 : ℕ) / 128) + (x 1 : ℕ) % 128; omega⟩
  have hx : x = (ix2 (col a e) (col h v) : S256x256.Idx) := by rw [← ha, ← hv]; idx_ext
  rw [hx, diag_at]
  have hsc : ∀ (T : FVec Ideal S1x256x256 .f32), k0_pay6 T (ix2 (col a e) (col h v)) = T (ix3 0 (col a e) (col h v)) := by
    intro T; pointwise [k0_pay6]
  rw [hsc, kst_at p hp, diag_at, upd_at]
  have d1 : (col a e).val / 128 = a.val := by show (128 * a.val + e.val) / 128 = a.val; omega
  have d2 : (col h v).val / 128 = h.val := by show (128 * h.val + v.val) / 128 = h.val; omega
  rw [d1, d2]
  by_cases hah : a = h
  · subst hah
    rw [if_pos rfl, if_pos rfl, if_pos rfl]
    unfold snext
    congr 1
    · match a with
      | 0 =>
        rw [if_pos (show (col 0 v).val < 128 by show 128 * 0 + v.val < 128; omega)]; rfl
      | 1 =>
        rw [if_neg (show ¬ (col 1 v).val < 128 by show ¬ 128 * 1 + v.val < 128; omega)]; rfl
    · exact Finset.sum_congr rfl fun i _ => by rw [pair_vn]
  · rw [if_neg hah, if_neg hah, if_neg (fun hh => hah (Fin.ext hh)), zero_mul, zero_add]

end Cert.ScanIdeal.Equal

end
-- ==== Proof.ScanFlow.lean ====
module

public import proofs.«01_k».proof.Proof.ScanChain

/-! The recurrence of one layer as a whole: eight chains per sample, four forward (context first) and four backward. -/

@[expose] public section

set_option maxRecDepth 16384

noncomputable section

open Idealize.ShloMosaic Idealize.ShloMosaic.TcCoe Idealize.SL.Sem

namespace Cert.ScanIdeal.Equal

open Cert.ScanIdeal Cert.ScanIdeal.Gen

/-- Which chunk of the rows chain `l` meets at its step `k`: forward chains begin with the four context chunks at the end,
    backward chains go down from the last chunk. -/
def pos (l : Fin 8) (k : ℕ) : Fin 68 := if l.val < 4 then ⟨(k + 64) % 68, by omega⟩ else ⟨67 - k, by omega⟩

/-- The key rows of chunk `n` and chain `l`. -/
def cw (W : FVec Ideal S16x8704x1024 .bf16) (b : Fin 16) (l : Fin 8) (n : Fin 68) (i : Fin 64) (e : Fin 128) : EReal :=
  W (ix3 b ⟨128 * n.val + i.val, by omega⟩ ⟨128 * l.val + e.val, by omega⟩)

/-- The query rows of chunk `n` and chain `l`. -/
def cq (W : FVec Ideal S16x8704x1024 .bf16) (b : Fin 16) (l : Fin 8) (n : Fin 68) (i : Fin 64) (e : Fin 128) : EReal :=
  W (ix3 b ⟨128 * n.val + (64 + i.val), by omega⟩ ⟨128 * l.val + e.val, by omega⟩)

/-- The rows of chunk `n` and chain `l` of an array with one row per token (decayed keys, values). -/
def cr (K : FVec Ideal S16x4352x1024 .f32) (b : Fin 16) (l : Fin 8) (n : Fin 68) (i : Fin 64) (e : Fin 128) : EReal :=
  K (ix3 b ⟨64 * n.val + i.val, by omega⟩ ⟨128 * l.val + e.val, by omega⟩)

/-- The query-key products within chunk `n` of chain `l`. -/
def ca (Q : FVec Ideal S16x4352x512 .f32) (b : Fin 16) (l : Fin 8) (n : Fin 68) (i j : Fin 64) : EReal :=
  Q (ix3 b ⟨64 * n.val + i.val, by omega⟩ ⟨64 * l.val + j.val, by omega⟩)

/-- The decay over the whole of chunk `n` of chain `l`. -/
def cg (G : FVec Ideal S16x4352x128 .f32) (b : Fin 16) (l : Fin 8) (n : Fin 68) : EReal :=
  G (ix3 b ⟨64 * n.val, by omega⟩ ⟨l.val, by omega⟩)

section
variable (W : FVec Ideal S16x8704x1024 .bf16) (K U : FVec Ideal S16x4352x1024 .f32) (Q : FVec Ideal S16x4352x512 .f32) (G : FVec Ideal S16x4352x128 .f32)

/-- The state of chain `l` of sample `b` before its step `k`. -/
def ST (b : Fin 16) (l : Fin 8) : ℕ → St
  | 0 => fun _ _ => 0
  | k + 1 => snext (cr K b l (pos l k)) (cg G b l (pos l k)) (vnew (cw W b l (pos l k)) (cr U b l (pos l k)) (ST b l k)) (ST b l k)

/-- What chain `l` of sample `b` gives at its step `k`. -/
def OC (b : Fin 16) (l : Fin 8) (k : ℕ) (i : Fin 64) (v : Fin 128) : EReal :=
  onow (cq W b l (pos l k)) (ca Q b l (pos l k)) (vnew (cw W b l (pos l k)) (cr U b l (pos l k)) (ST W K U G b l k)) (ST W K U G b l k) i v

/-- The forward result: row `r` belongs to chunk `r / 64`, met at step `(r / 64 + 4) mod 68`. -/
def RF : FVec Ideal S16x4352x512 .f32 := fun x =>
  OC W K U Q G (x 0) ⟨(x 2 : ℕ) / 128, by have : (x 2 : ℕ) < 512 := (x 2).isLt; omega⟩ (((x 1 : ℕ) / 64 + 4) % 68)
    ⟨(x 1 : ℕ) % 64, by omega⟩ ⟨(x 2 : ℕ) % 128, by omega⟩

/-- The backward result: row `r` belongs to chunk `r / 64`, met at step `67 - r / 64`. -/
def RB : FVec Ideal S16x4352x512 .f32 := fun x =>
  OC W K U Q G (x 0) ⟨4 + (x 2 : ℕ) / 128, by have : (x 2 : ℕ) < 512 := (x 2).isLt; omega⟩ (67 - (x 1 : ℕ) / 64)
    ⟨(x 1 : ℕ) % 64, by omega⟩ ⟨(x 2 : ℕ) % 128, by omega⟩
end

/-! ## Four steps of a pair of chains, as one grid point makes them -/

/-- A pair's new states, from its stored states and the step's blocks. -/
def stp (p : ℕ) (h0 : S1x128.Slices ![0, p] S1x1) (h1 : S1x128.Slices ![0, p + 1] S1x1) (wq : FVec Ideal S1x128x256 .bf16) (k : FVec Ideal S1x64x256 .bf16)
    (u : FVec Ideal S1x64x256 .f32) (gl : FVec Ideal S1x1x128 .f32) (s : FVec Ideal S1x256x256 .f32) : FVec Ideal S1x256x256 .f32 :=
  kst p h0 h1 (k0_pay6 s) (k0_pay20 (k0_pay14 (k0_pay12 (k0_pay6 s) wq) u) k) gl

/-- A pair's output, from its stored states and the step's blocks. -/
def otp (wq : FVec Ideal S1x128x256 .bf16) (u : FVec Ideal S1x64x256 .f32) (a : FVec Ideal S1x64x128 .bf16) (s : FVec Ideal S1x256x256 .f32) : FVec Ideal S1x64x256 .f32 :=
  k0_pay22 k0_pay4 (k0_pay12 (k0_pay6 s) wq) (k0_pay14 (k0_pay12 (k0_pay6 s) wq) u) a

/-- The stored states of a pair after `n` steps, the steps' blocks given by their number. -/
def steps (p : ℕ) (h0 : S1x128.Slices ![0, p] S1x1) (h1 : S1x128.Slices ![0, p + 1] S1x1) (wq : Fin 4 → FVec Ideal S1x128x256 .bf16)
    (k : Fin 4 → FVec Ideal S1x64x256 .bf16) (u : Fin 4 → FVec Ideal S1x64x256 .f32) (gl : Fin 4 → FVec Ideal S1x1x128 .f32)
    (s : FVec Ideal S1x256x256 .f32) : ℕ → FVec Ideal S1x256x256 .f32
  | 0 => s
  | n + 1 => stp p h0 h1 (wq ⟨n % 4, by omega⟩) (k ⟨n % 4, by omega⟩) (u ⟨n % 4, by omega⟩) (gl ⟨n % 4, by omega⟩) (steps p h0 h1 wq k u gl s n)

/-- A rectangle of rank three lies within its block when it does along every axis. -/
theorem inb3 (s : Shape) (h : s.rank = 3) (off size : Fin s.rank → ℕ) (H : ∀ i : Fin 3, off (i.cast h.symm) + size (i.cast h.symm) ≤ s.size (i.cast h.symm)) :
    ∀ a, off a + size a ≤ s.size a := fun a => H (a.cast h)

/-- The key and query rows that a step of number `j` reads, for the pair at lanes `256 q`. -/
abbrev wqp (X : FVec Ideal S1x512x512 .bf16) (q : Fin 2) (j : Fin 4) : FVec Ideal S1x128x256 .bf16 :=
  View.ld (Val := Elt Ideal) (e' := .bf16) X (Rect.unit (s := S1x512x512) ![0, 128 * j.val, 256 * q.val] ![1, 128, 256] (by revert q j; decide +kernel))

/-- The token rows that a step of number `j` reads, for the pair at lanes `256 q`. -/
abbrev rp {e : EltTy} (X : Vec Ideal S1x256x512 e) (q : Fin 2) (j : Fin 4) : Vec Ideal S1x64x256 e :=
  View.ld X (Rect.unit (s := S1x256x512) ![0, 64 * j.val, 256 * q.val] ![1, 64, 256] (by revert q j; decide +kernel))

/-- The query-key products that a step of number `j` reads, for the pair at lanes `128 q`. -/
abbrev ap (X : FVec Ideal S1x256x256 .bf16) (q : Fin 2) (j : Fin 4) : FVec Ideal S1x64x128 .bf16 :=
  View.ld (Val := Elt Ideal) (e' := .bf16) X (Rect.unit (s := S1x256x256) ![0, 64 * j.val, 128 * q.val] ![1, 64, 128] (by revert q j; decide +kernel))

/-- The decay row that a step of number `j` reads. -/
abbrev gp (X : FVec Ideal S1x256x128 .f32) (j : Fin 4) : FVec Ideal S1x1x128 .f32 :=
  View.ld (Val := Elt Ideal) (e' := .f32) X (Rect.unit (s := S1x256x128) ![0, 64 * j.val, 0] ![1, 1, 128] (by revert j; decide +kernel))

/-- The stored pair `g` of four. -/
abbrev grp (X : FVec Ideal S4x256x256 .f32) (g : Fin 4) : FVec Ideal S1x256x256 .f32 :=
  View.ld (Val := Elt Ideal) (e' := .f32) X (Rect.unit (s := S4x256x256) ![g.val, 0, 0] ![1, 256, 256] (by revert g; decide +kernel))

theorem wqp_at (X : FVec Ideal S1x512x512 .bf16) (q : Fin 2) (j : Fin 4) (r : Fin 128) (h : Fin 2) (e : Fin 128) :
    wqp X q j (ix3 0 r (col h e)) = X (ix3 0 ⟨128 * j.val + r.val, by omega⟩ ⟨256 * q.val + (128 * h.val + e.val), by omega⟩) :=
  View.ld_unit_apply_of _ _ _ _ _ _ fun a => match a with
    | 0 => rfl
    | 1 => rfl
    | 2 => rfl

theorem rp_at {e : EltTy} (X : Vec Ideal S1x256x512 e) (q : Fin 2) (j : Fin 4) (i : Fin 64) (h : Fin 2) (v : Fin 128) :
    rp X q j (ix3 0 i (col h v)) = X (ix3 0 ⟨64 * j.val + i.val, by omega⟩ ⟨256 * q.val + (128 * h.val + v.val), by omega⟩) :=
  View.ld_unit_apply_of _ _ _ _ _ _ fun a => match a with
    | 0 => rfl
    | 1 => rfl
    | 2 => rfl

theorem ap_at (X : FVec Ideal S1x256x256 .bf16) (q : Fin 2) (j : Fin 4) (i : Fin 64) (r : Fin 128) :
    ap X q j (ix3 0 i r) = X (ix3 0 ⟨64 * j.val + i.val, by omega⟩ ⟨128 * q.val + r.val, by omega⟩) :=
  View.ld_unit_apply_of _ _ _ _ _ _ fun a => match a with
    | 0 => rfl
    | 1 => rfl
    | 2 => rfl

theorem gp_at (X : FVec Ideal S1x256x128 .f32) (j : Fin 4) (r : Fin 128) : gp X j (ix3 0 0 r) = X (ix3 0 ⟨64 * j.val, by omega⟩ r) :=
  View.ld_unit_apply_of _ _ _ _ _ _ fun a => match a with
    | 0 => rfl
    | 1 => rfl
    | 2 => (Nat.zero_add r.val).symm

/-- The four stored pairs, each a diagonal pair of states. -/
def scr (σ : Fin 4 → Fin 2 → St) : FVec Ideal S4x256x256 .f32 := fun x => diag (σ (x 0)) (ix2 (x 1) (x 2))

theorem emb_grp (g : Fin 4) (inb : ∀ a, (![g.val, 0, 0] : Fin 3 → ℕ) a + (![1, 256, 256] : Fin 3 → ℕ) a ≤ S4x256x256.size a)
    (x : (Rect.unit (s := S4x256x256) ![g.val, 0, 0] ![1, 256, 256] inb).shape.Idx) :
    (Rect.unit (s := S4x256x256) ![g.val, 0, 0] ![1, 256, 256] inb).emb x = (ix3 g (x 1) (x 2) : S4x256x256.Idx) := by
  have h0 : (x 0 : ℕ) < 1 := (x 0).isLt
  funext a
  apply Fin.ext
  match a with
  | 0 => show g.val + 1 * (x 0 : ℕ) = g.val; omega
  | 1 => show 0 + 1 * (x 1 : ℕ) = (x 1 : ℕ); omega
  | 2 => show 0 + 1 * (x 2 : ℕ) = (x 2 : ℕ); omega

theorem sq_at (P : FVec Ideal S1x256x256 .f32) (x : S256x256.Idx) : k0_pay6 P x = P (ix3 0 (x 0) (x 1)) := by
  pointwise [k0_pay6]

/-- A stored array whose square is the pair `g` of `σ` is block `g` of the four pairs. -/
theorem blk_of (σ : Fin 4 → Fin 2 → St) (g : Fin 4) (P : FVec Ideal S1x256x256 .f32) (h : k0_pay6 P = diag (σ g))
    (inb : ∀ a, (![g.val, 0, 0] : Fin 3 → ℕ) a + (![1, 256, 256] : Fin 3 → ℕ) a ≤ S4x256x256.size a)
    (x : (Rect.unit (s := S4x256x256) ![g.val, 0, 0] ![1, 256, 256] inb).shape.Idx) :
    P x = scr σ ((Rect.unit (s := S4x256x256) ![g.val, 0, 0] ![1, 256, 256] inb).emb x) := by
  rw [emb_grp]
  have hx : x = (ix3 0 (x 1) (x 2) : S1x256x256.Idx) := by idx_ext
  show P x = diag (σ g) (ix2 (x 1) (x 2))
  rw [← h, sq_at]
  exact congrArg P hx

theorem grp_scr (σ : Fin 4 → Fin 2 → St) (g : Fin 4) : k0_pay6 (grp (scr σ) g) = diag (σ g) := by
  funext x
  rw [sq_at]
  show scr σ ((Rect.unit (s := S4x256x256) ![g.val, 0, 0] ![1, 256, 256] _).emb _) = _
  rw [emb_grp]
  show diag (σ g) (ix2 (x 0) (x 1)) = _
  congr 1
  idx_ext

/-- Steps that agree with a chain of states keep the stored pair a diagonal pair of that chain. -/
theorem steps_eq (p : ℕ) (hp : p + 1 < 128) (h0 : S1x128.Slices ![0, p] S1x1) (h1 : S1x128.Slices ![0, p + 1] S1x1) (wq : Fin 4 → FVec Ideal S1x128x256 .bf16)
    (k : Fin 4 → FVec Ideal S1x64x256 .bf16) (u : Fin 4 → FVec Ideal S1x64x256 .f32) (gl : Fin 4 → FVec Ideal S1x1x128 .f32)
    (s : FVec Ideal S1x256x256 .f32) (σ : ℕ → Fin 2 → St) (hs : k0_pay6 s = diag (σ 0))
    (hσ : ∀ (n : Fin 4) (h : Fin 2), σ (n.val + 1) h = snext (fun i e => k n (ix3 0 i (col h e))) (gl n (ix3 0 0 ⟨p + h.val, by omega⟩))
          (vnew (fun i e => wq n (ix3 0 ⟨i.val, by omega⟩ (col h e))) (fun i v => u n (ix3 0 i (col h v))) (σ n.val h)) (σ n.val h)) :
    ∀ n ≤ 4, k0_pay6 (steps p h0 h1 wq k u gl s n) = diag (σ n)
  | 0, _ => hs
  | n + 1, hn => by
    have e : n % 4 = n := by omega
    rw [steps, stp, steps_eq p hp h0 h1 wq k u gl s σ hs hσ n (by omega), pair_st p hp]
    congr 1; funext h
    have := hσ ⟨n, by omega⟩ h
    simp only [e]
    exact this.symm

theorem emb_out (j : Fin 4) (q : Fin 2) (inb : ∀ a, (![0, 64 * j.val, 256 * q.val] : Fin 3 → ℕ) a + (![1, 64, 256] : Fin 3 → ℕ) a ≤ S1x256x512.size a)
    (x : (Rect.unit (s := S1x256x512) ![0, 64 * j.val, 256 * q.val] ![1, 64, 256] inb).shape.Idx) :
    (Rect.unit (s := S1x256x512) ![0, 64 * j.val, 256 * q.val] ![1, 64, 256] inb).emb x
      = (ix3 0 ⟨64 * j.val + (x 1 : ℕ), by have : (x 1 : ℕ) < 64 := (x 1).isLt; omega⟩ ⟨256 * q.val + (x 2 : ℕ), by have : (x 2 : ℕ) < 256 := (x 2).isLt; omega⟩ : S1x256x512.Idx) := by
  have h0 : (x 0 : ℕ) < 1 := (x 0).isLt
  funext a
  apply Fin.ext
  match a with
  | 0 => show 0 + 1 * (x 0 : ℕ) = 0; omega
  | 1 => show 64 * j.val + 1 * (x 1 : ℕ) = 64 * j.val + (x 1 : ℕ); omega
  | 2 => show 256 * q.val + 1 * (x 2 : ℕ) = 256 * q.val + (x 2 : ℕ); omega

/-- A pair's output is its part of a block whose entries are that pair's outputs. -/
theorem oblk_of (Y : FVec Ideal S1x256x512 .f32) (j : Fin 4) (q : Fin 2) (wq : FVec Ideal S1x128x256 .bf16) (u : FVec Ideal S1x64x256 .f32)
    (a : FVec Ideal S1x64x128 .bf16) (s : FVec Ideal S1x256x256 .f32) (σ : Fin 2 → St) (hs : k0_pay6 s = diag σ)
    (hY : ∀ (h : Fin 2) (i : Fin 64) (v : Fin 128), Y (ix3 0 ⟨64 * j.val + i.val, by omega⟩ ⟨256 * q.val + (128 * h.val + v.val), by omega⟩)
      = onow (fun i e => wq (ix3 0 ⟨64 + i.val, by omega⟩ (col h e))) (fun i j => a (ix3 0 i ⟨64 * h.val + j.val, by omega⟩))
          (vnew (fun i e => wq (ix3 0 ⟨i.val, by omega⟩ (col h e))) (fun i v => u (ix3 0 i (col h v))) (σ h)) (σ h) i v)
    (inb : ∀ a, (![0, 64 * j.val, 256 * q.val] : Fin 3 → ℕ) a + (![1, 64, 256] : Fin 3 → ℕ) a ≤ S1x256x512.size a)
    (x : (Rect.unit (s := S1x256x512) ![0, 64 * j.val, 256 * q.val] ![1, 64, 256] inb).shape.Idx) :
    otp wq u a s x = Y ((Rect.unit (s := S1x256x512) ![0, 64 * j.val, 256 * q.val] ![1, 64, 256] inb).emb x) := by
  have h2 : (x 2 : ℕ) < 256 := (x 2).isLt
  obtain ⟨h, v, hv⟩ : ∃ (h : Fin 2) (v : Fin 128), (x 2 : Fin 256) = col h v :=
    ⟨⟨(x 2 : ℕ) / 128, by omega⟩, ⟨(x 2 : ℕ) % 128, by omega⟩, by apply Fin.ext; show (x 2 : ℕ) = 128 * ((x 2 : ℕ) / 128) + (x 2 : ℕ) % 128; omega⟩
  have hx : x = (ix3 0 (x 1) (col h v) : S1x64x256.Idx) := by rw [← hv]; idx_ext
  rw [emb_out]
  refine (congrArg (otp wq u a s) hx).trans ?_
  unfold otp
  rw [hs]
  refine (pair_o σ wq u a h (x 1) v).trans ?_
  refine (hY h (x 1) v).symm.trans (congrArg Y ?_)
  have hv' : (x 2 : ℕ) = 128 * h.val + v.val := congrArg Fin.val hv
  congr 1
  exact Fin.ext (by show 256 * q.val + (128 * h.val + v.val) = 256 * q.val + (x 2 : ℕ); omega)

end Cert.ScanIdeal.Equal

end
-- ==== Proof.ScanValue.lean ====
module

public import proofs.«01_k».proof.Proof.Gen.ScanIdeal.Value
public import Idealize.ShloMosaic.Lib.Pipeline.ValueKit
public import Idealize.ShloMosaic.Lib.Pipeline.ReadBack
public import Idealize.ShloMosaic.Lib.Pointwise
public import proofs.«01_k».proof.Proof.ScanFlow

/-! What the recurrence's call leaves in its two result arrays: every chain's outputs, in the rows its chunks came from. -/

@[expose] public section

set_option maxRecDepth 16384

noncomputable section

open Idealize.ShloMosaic Idealize.ShloMosaic.TcCoe Idealize.SL.Sem
open Idealize.ShloMosaic.Pipeline (Dat)

namespace Cert.ScanIdeal.Equal

open Cert.ScanIdeal Cert.ScanIdeal.Gen

variable (m : (ℓ : Loc nD τ sig) → Buf (Elt Ideal) ℓ)

/-- A load of exactly what was stored last reads the stored array. -/
theorem readCov_last {Val : EltTy → Type} {sg : RefSig} {κ : Kind} {sp : Space} {s : Shape} {e : EltTy} [∀ e, Nonempty (Val e)] (v : View sg κ sp s e) (r : Rect s)
    (w : r.shape.Idx → Val e) (L : List (View.Piece Val s e)) : v.readCov (⟨r, w⟩ :: L) r.toLoadRect = w := by
  rw [View.readCov_eq_canon']
  funext j
  exact View.canon_cons_emb r w L j

theorem lane (p : Fin 8) : S1x128.Slices ![0, p.val] S1x1 := by revert p; decide +kernel

/-- The forward pair `q` after `n` of the point's steps, from the stored pairs `S`. -/
def fw (c : Dev nD) (t : Fin cfg0.N) (S : FVec Ideal S4x256x256 .f32) (q : Fin 2) (n : ℕ) : FVec Ideal S1x256x256 .f32 :=
  steps (2 * q.val) (lane ⟨2 * q.val, by omega⟩) (lane ⟨2 * q.val + 1, by omega⟩) (wqp (iblk m c 0 t) q) (rp (iblk m c 1 t) q) (rp (iblk m c 2 t) q)
    (gp (iblk m c 4 t)) (grp S ⟨q.val, by omega⟩) n

/-- The backward pair `q` after `n` of the point's steps, which go up its blocks. -/
def bw (c : Dev nD) (t : Fin cfg0.N) (S : FVec Ideal S4x256x256 .f32) (q : Fin 2) (n : ℕ) : FVec Ideal S1x256x256 .f32 :=
  steps (4 + 2 * q.val) (lane ⟨4 + 2 * q.val, by omega⟩) (lane ⟨4 + 2 * q.val + 1, by omega⟩) (fun j => wqp (iblk m c 5 t) q ⟨3 - j.val, by omega⟩)
    (fun j => rp (iblk m c 6 t) q ⟨3 - j.val, by omega⟩) (fun j => rp (iblk m c 7 t) q ⟨3 - j.val, by omega⟩)
    (fun j => gp (iblk m c 9 t) ⟨3 - j.val, by omega⟩) (grp S ⟨2 + q.val, by omega⟩) n

/-- The forward pair's output at step `n` of the point. -/
def fo (c : Dev nD) (t : Fin cfg0.N) (S : FVec Ideal S4x256x256 .f32) (q : Fin 2) (n : Fin 4) : FVec Ideal S1x64x256 .f32 :=
  otp (wqp (iblk m c 0 t) q n) (rp (iblk m c 2 t) q n) (ap (iblk m c 3 t) q n) (fw m c t S q n.val)

/-- The backward pair's output at step `n` of the point. -/
def bo (c : Dev nD) (t : Fin cfg0.N) (S : FVec Ideal S4x256x256 .f32) (q : Fin 2) (n : Fin 4) : FVec Ideal S1x64x256 .f32 :=
  otp (wqp (iblk m c 5 t) q ⟨3 - n.val, by omega⟩) (rp (iblk m c 7 t) q ⟨3 - n.val, by omega⟩) (ap (iblk m c 8 t) q ⟨3 - n.val, by omega⟩) (bw m c t S q n.val)

/-- What the stored pairs hold when a point begins: zero at a sample's first point, else what the point before left. -/
def pre (c : Dev nD) (t : Fin cfg0.N) : FVec Ideal S4x256x256 .f32 :=
  if t.val % 17 = 0 then k0_pay2 else (outsAt0 m c (t.val - 1) (Nat.lt_of_le_of_lt (Nat.sub_le t.val 1) t.isLt)).2.2

/-- After a point the stored pairs are those its four steps give. -/
theorem point (c : Dev nD) (t : Fin cfg0.N) (σ : Fin 4 → Fin 2 → St)
    (hf : ∀ q : Fin 2, k0_pay6 (fw m c t (pre m c t) q 4) = diag (σ ⟨q.val, by omega⟩))
    (hb : ∀ q : Fin 2, k0_pay6 (bw m c t (pre m c t) q 4) = diag (σ ⟨2 + q.val, by omega⟩)) :
    (outsAt0 m c t.val t.isLt).2.2 = scr σ := by
  funext y
  unfold pre at hf hb
  rcases Decidable.em (t.val % 17 = 0) with h | h
  case' inl => simp only [if_pos h] at hf hb; rw [outsAt0_A m c t h]; frame_open
  case' inr => simp only [if_neg h] at hf hb; rw [outsAt0_B m c t h]; frame_open
  all_goals
    simp (disch := decide) only [↓View.readCov_skip, ↓readCov_last, ↓View.readCov_fill]
    frame_out
    try simp only [read_unread_whole]
    refine View.canon_append_of_piecesOf (Val := Elt Ideal) (e := .f32) (scr σ) _ [_, _, _, _] ⟨fun x => ?_, fun x => ?_, fun x => ?_, fun x => ?_, trivial⟩ y ?_
    · exact (congrFun (by rfl : _ = bw m c t _ 1 4) x).trans (blk_of σ 3 _ (hb 1) (by decide) x)
    · exact (congrFun (by rfl : _ = bw m c t _ 0 4) x).trans (blk_of σ 2 _ (hb 0) (by decide) x)
    · exact (congrFun (by rfl : _ = fw m c t _ 1 4) x).trans (blk_of σ 1 _ (hf 1) (by decide) x)
    · exact (congrFun (by rfl : _ = fw m c t _ 0 4) x).trans (blk_of σ 0 _ (hf 0) (by decide) x)
    · exact View.cover_of_tiledBy (s := S4x256x256) _ ![1, 256, 256] (by sl_kernel_rfl) y

/-- After a point the forward output block is made of its eight outputs. -/
theorem point_f (c : Dev nD) (t : Fin cfg0.N) (Y : FVec Ideal S1x256x512 .f32)
    (hY : ∀ (q : Fin 2) (n : Fin 4) inb x, fo m c t (pre m c t) q n x = Y ((Rect.unit (s := S1x256x512) ![0, 64 * n.val, 256 * q.val] ![1, 64, 256] inb).emb x)) :
    (outsAt0 m c t.val t.isLt).1 = Y := by
  funext y
  unfold pre at hY
  rcases Decidable.em (t.val % 17 = 0) with h | h
  case' inl => simp only [if_pos h] at hY; rw [outsAt0_A m c t h]; frame_open
  case' inr => simp only [if_neg h] at hY; rw [outsAt0_B m c t h]; frame_open
  all_goals
    simp (disch := decide) only [↓View.readCov_skip, ↓readCov_last, ↓View.readCov_fill]
    frame_out
    try simp only [read_unread_whole]
    refine View.canon_append_of_piecesOf (Val := Elt Ideal) (e := .f32) Y _ [_, _, _, _, _, _, _, _]
      ⟨fun x => ?_, fun x => ?_, fun x => ?_, fun x => ?_, fun x => ?_, fun x => ?_, fun x => ?_, fun x => ?_, trivial⟩ y ?_
    · exact (congrFun (by rfl : _ = fo m c t _ 1 3) x).trans (hY 1 3 (by decide) x)
    · exact (congrFun (by rfl : _ = fo m c t _ 0 3) x).trans (hY 0 3 (by decide) x)
    · exact (congrFun (by rfl : _ = fo m c t _ 1 2) x).trans (hY 1 2 (by decide) x)
    · exact (congrFun (by rfl : _ = fo m c t _ 0 2) x).trans (hY 0 2 (by decide) x)
    · exact (congrFun (by rfl : _ = fo m c t _ 1 1) x).trans (hY 1 1 (by decide) x)
    · exact (congrFun (by rfl : _ = fo m c t _ 0 1) x).trans (hY 0 1 (by decide) x)
    · exact (congrFun (by rfl : _ = fo m c t _ 1 0) x).trans (hY 1 0 (by decide) x)
    · exact (congrFun (by rfl : _ = fo m c t _ 0 0) x).trans (hY 0 0 (by decide) x)
    · exact View.cover_of_tiledBy (s := S1x256x512) _ ![1, 64, 256] (by sl_kernel_rfl) y

/-- After a point the backward output block is made of its eight outputs. -/
theorem point_b (c : Dev nD) (t : Fin cfg0.N) (Y : FVec Ideal S1x256x512 .f32)
    (hY : ∀ (q : Fin 2) (n : Fin 4) inb x, bo m c t (pre m c t) q n x = Y ((Rect.unit (s := S1x256x512) ![0, 64 * (3 - n.val), 256 * q.val] ![1, 64, 256] inb).emb x)) :
    (outsAt0 m c t.val t.isLt).2.1 = Y := by
  funext y
  unfold pre at hY
  rcases Decidable.em (t.val % 17 = 0) with h | h
  case' inl => simp only [if_pos h] at hY; rw [outsAt0_A m c t h]; frame_open
  case' inr => simp only [if_neg h] at hY; rw [outsAt0_B m c t h]; frame_open
  all_goals
    simp (disch := decide) only [↓View.readCov_skip, ↓readCov_last, ↓View.readCov_fill]
    frame_out
    try simp only [read_unread_whole]
    refine View.canon_append_of_piecesOf (Val := Elt Ideal) (e := .f32) Y _ [_, _, _, _, _, _, _, _]
      ⟨fun x => ?_, fun x => ?_, fun x => ?_, fun x => ?_, fun x => ?_, fun x => ?_, fun x => ?_, fun x => ?_, trivial⟩ y ?_
    · exact (congrFun (by rfl : _ = bo m c t _ 1 3) x).trans (hY 1 3 (by decide) x)
    · exact (congrFun (by rfl : _ = bo m c t _ 0 3) x).trans (hY 0 3 (by decide) x)
    · exact (congrFun (by rfl : _ = bo m c t _ 1 2) x).trans (hY 1 2 (by decide) x)
    · exact (congrFun (by rfl : _ = bo m c t _ 0 2) x).trans (hY 0 2 (by decide) x)
    · exact (congrFun (by rfl : _ = bo m c t _ 1 1) x).trans (hY 1 1 (by decide) x)
    · exact (congrFun (by rfl : _ = bo m c t _ 0 1) x).trans (hY 0 1 (by decide) x)
    · exact (congrFun (by rfl : _ = bo m c t _ 1 0) x).trans (hY 1 0 (by decide) x)
    · exact (congrFun (by rfl : _ = bo m c t _ 0 0) x).trans (hY 0 0 (by decide) x)
    · exact View.cover_of_tiledBy (s := S1x256x512) _ ![1, 64, 256] (by sl_kernel_rfl) y

/-! ## The blocks a point reads -/

/-- Where every window's block lies at each grid point: the forward windows begin with the context at block 16, the backward ones go
    down from it. -/
theorem idx : ∀ t : Fin cfg0.N, win0_0.index t = ![t.val / 17, (t.val % 17 + 16) % 17, 0] ∧ win0_1.index t = ![t.val / 17, (t.val % 17 + 16) % 17, 0]
    ∧ win0_2.index t = ![t.val / 17, (t.val % 17 + 16) % 17, 0] ∧ win0_3.index t = ![t.val / 17, (t.val % 17 + 16) % 17, 0]
    ∧ win0_4.index t = ![t.val / 17, (t.val % 17 + 16) % 17, 0]
    ∧ win0_5.index t = ![t.val / 17, 16 - t.val % 17, 1] ∧ win0_6.index t = ![t.val / 17, 16 - t.val % 17, 1]
    ∧ win0_7.index t = ![t.val / 17, 16 - t.val % 17, 1] ∧ win0_8.index t = ![t.val / 17, 16 - t.val % 17, 1]
    ∧ win0_9.index t = ![t.val / 17, 16 - t.val % 17, 0]
    ∧ win0_10.index t = ![t.val / 17, (t.val % 17 + 16) % 17, 0] ∧ win0_11.index t = ![t.val / 17, 16 - t.val % 17, 0] ∧ t.val / 17 < 16 :=
  (by decide +kernel : ∀ t : Fin grid0.N, _)

/-- The sample of a point. -/
abbrev smp (t : Fin cfg0.N) : Fin 16 := ⟨t.val / 17, (idx t).2.2.2.2.2.2.2.2.2.2.2.2⟩

/-- The forward chain of head `h` in pair `q`. -/
abbrev cf (q h : Fin 2) : Fin 8 := ⟨2 * q.val + h.val, by omega⟩

/-- The backward chain of head `h` in pair `q`. -/
abbrev cb (q h : Fin 2) : Fin 8 := ⟨4 + 2 * q.val + h.val, by omega⟩

theorem pos_f (t : Fin cfg0.N) (q h : Fin 2) (n : Fin 4) : (pos (cf q h) (4 * (t.val % 17) + n.val)).val = 4 * ((t.val % 17 + 16) % 17) + n.val := by
  unfold pos
  rw [if_pos (show 2 * q.val + h.val < 4 by omega)]
  show (4 * (t.val % 17) + n.val + 64) % 68 = _
  omega

theorem pos_b (t : Fin cfg0.N) (q h : Fin 2) (n : Fin 4) : (pos (cb q h) (4 * (t.val % 17) + n.val)).val = 4 * (16 - t.val % 17) + (3 - n.val) := by
  unfold pos
  rw [if_neg (show ¬ 4 + 2 * q.val + h.val < 4 by omega)]
  show 67 - (4 * (t.val % 17) + n.val) = _
  omega

abbrev aW (c : Dev nD) : FVec Ideal S16x8704x1024 .bf16 := m ((c : Thread nD τ).loc main_arg0)
abbrev aK (c : Dev nD) : FVec Ideal S16x4352x1024 .f32 := m ((c : Thread nD τ).loc main_arg1)
abbrev aU (c : Dev nD) : FVec Ideal S16x4352x1024 .f32 := m ((c : Thread nD τ).loc main_arg2)
abbrev aQ (c : Dev nD) : FVec Ideal S16x4352x512 .f32 := m ((c : Thread nD τ).loc main_arg3)
abbrev aG (c : Dev nD) : FVec Ideal S16x4352x128 .f32 := m ((c : Thread nD τ).loc main_arg4)

/-! The entries a step reads, chain by chain. -/

theorem rf_w (c : Dev nD) (t : Fin cfg0.N) (q h : Fin 2) (n : Fin 4) (r e : Fin 128) :
    wqp (iblk m c 0 t) q n (ix3 0 r (col h e)) = aW m c (ix3 (smp t) ⟨128 * (pos (cf q h) (4 * (t.val % 17) + n.val)).val + r.val, by omega⟩ ⟨128 * (cf q h).val + e.val, by omega⟩) := by
  have hp := pos_f t q h n
  rw [wqp_at]
  blk_point [iblk, V, idx t]

theorem rf_k (c : Dev nD) (t : Fin cfg0.N) (q h : Fin 2) (n : Fin 4) (i : Fin 64) (e : Fin 128) :
    rp (iblk m c 1 t) q n (ix3 0 i (col h e)) = cr (aK m c) (smp t) (cf q h) (pos (cf q h) (4 * (t.val % 17) + n.val)) i e := by
  have hp := pos_f t q h n
  rw [rp_at, cr]
  blk_point [iblk, V, idx t]

theorem rf_u (c : Dev nD) (t : Fin cfg0.N) (q h : Fin 2) (n : Fin 4) (i : Fin 64) (e : Fin 128) :
    rp (iblk m c 2 t) q n (ix3 0 i (col h e)) = cr (aU m c) (smp t) (cf q h) (pos (cf q h) (4 * (t.val % 17) + n.val)) i e := by
  have hp := pos_f t q h n
  rw [rp_at, cr]
  blk_point [iblk, V, idx t]

theorem rf_a (c : Dev nD) (t : Fin cfg0.N) (q h : Fin 2) (n : Fin 4) (i j : Fin 64) :
    ap (iblk m c 3 t) q n (ix3 0 i ⟨64 * h.val + j.val, by omega⟩) = ca (aQ m c) (smp t) (cf q h) (pos (cf q h) (4 * (t.val % 17) + n.val)) i j := by
  have hp := pos_f t q h n
  rw [ap_at, ca]
  blk_point [iblk, V, idx t]

theorem rf_g (c : Dev nD) (t : Fin cfg0.N) (q h : Fin 2) (n : Fin 4) :
    gp (iblk m c 4 t) n (ix3 0 0 ⟨2 * q.val + h.val, by omega⟩) = cg (aG m c) (smp t) (cf q h) (pos (cf q h) (4 * (t.val % 17) + n.val)) := by
  have hp := pos_f t q h n
  rw [gp_at, cg]
  blk_point [iblk, V, idx t]

theorem rb_w (c : Dev nD) (t : Fin cfg0.N) (q h : Fin 2) (n : Fin 4) (r e : Fin 128) :
    wqp (iblk m c 5 t) q ⟨3 - n.val, by omega⟩ (ix3 0 r (col h e)) = aW m c (ix3 (smp t) ⟨128 * (pos (cb q h) (4 * (t.val % 17) + n.val)).val + r.val, by omega⟩ ⟨128 * (cb q h).val + e.val, by omega⟩) := by
  have hp := pos_b t q h n
  rw [wqp_at]
  blk_point [iblk, V, idx t]

theorem rb_k (c : Dev nD) (t : Fin cfg0.N) (q h : Fin 2) (n : Fin 4) (i : Fin 64) (e : Fin 128) :
    rp (iblk m c 6 t) q ⟨3 - n.val, by omega⟩ (ix3 0 i (col h e)) = cr (aK m c) (smp t) (cb q h) (pos (cb q h) (4 * (t.val % 17) + n.val)) i e := by
  have hp := pos_b t q h n
  rw [rp_at, cr]
  blk_point [iblk, V, idx t]

theorem rb_u (c : Dev nD) (t : Fin cfg0.N) (q h : Fin 2) (n : Fin 4) (i : Fin 64) (e : Fin 128) :
    rp (iblk m c 7 t) q ⟨3 - n.val, by omega⟩ (ix3 0 i (col h e)) = cr (aU m c) (smp t) (cb q h) (pos (cb q h) (4 * (t.val % 17) + n.val)) i e := by
  have hp := pos_b t q h n
  rw [rp_at, cr]
  blk_point [iblk, V, idx t]

theorem rb_a (c : Dev nD) (t : Fin cfg0.N) (q h : Fin 2) (n : Fin 4) (i j : Fin 64) :
    ap (iblk m c 8 t) q ⟨3 - n.val, by omega⟩ (ix3 0 i ⟨64 * h.val + j.val, by omega⟩) = ca (aQ m c) (smp t) (cb q h) (pos (cb q h) (4 * (t.val % 17) + n.val)) i j := by
  have hp := pos_b t q h n
  rw [ap_at, ca]
  blk_point [iblk, V, idx t]

theorem rb_g (c : Dev nD) (t : Fin cfg0.N) (q h : Fin 2) (n : Fin 4) :
    gp (iblk m c 9 t) ⟨3 - n.val, by omega⟩ (ix3 0 0 ⟨4 + 2 * q.val + h.val, by omega⟩) = cg (aG m c) (smp t) (cb q h) (pos (cb q h) (4 * (t.val % 17) + n.val)) := by
  have hp := pos_b t q h n
  rw [gp_at, cg]
  blk_point [iblk, V, idx t]

/-! ## The chains' states through the points -/

/-- The states of all pairs of sample `b` before step `k`. -/
def sg (c : Dev nD) (b : Fin 16) (k : ℕ) : Fin 4 → Fin 2 → St :=
  fun g h => ST (aW m c) (aK m c) (aU m c) (aG m c) b ⟨2 * g.val + h.val, by omega⟩ k

theorem sg_f (c : Dev nD) (b : Fin 16) (k : ℕ) (q h : Fin 2) : sg m c b k ⟨q.val, by omega⟩ h = ST (aW m c) (aK m c) (aU m c) (aG m c) b (cf q h) k := rfl

theorem sg_b (c : Dev nD) (b : Fin 16) (k : ℕ) (q h : Fin 2) : sg m c b k ⟨2 + q.val, by omega⟩ h = ST (aW m c) (aK m c) (aU m c) (aG m c) b (cb q h) k := by
  unfold sg
  congr 1
  exact Fin.ext (by show 2 * (2 + q.val) + h.val = 4 + 2 * q.val + h.val; omega)

/-- A forward pair's states through the point's steps. -/
theorem fw_eq (c : Dev nD) (t : Fin cfg0.N) (q : Fin 2) (hp : pre m c t = scr (sg m c (smp t) (4 * (t.val % 17)))) (n : ℕ) (hn : n ≤ 4) :
    k0_pay6 (fw m c t (pre m c t) q n) = diag (fun h => ST (aW m c) (aK m c) (aU m c) (aG m c) (smp t) (cf q h) (4 * (t.val % 17) + n)) := by
  refine steps_eq (2 * q.val) (by omega) _ _ _ _ _ _ _ (fun n h => ST (aW m c) (aK m c) (aU m c) (aG m c) (smp t) (cf q h) (4 * (t.val % 17) + n)) ?_ ?_ n hn
  · rw [hp, grp_scr]; rfl
  · intro n h
    simp only [rf_w, rf_k, rf_u, rf_g]
    rfl

/-- A backward pair's states through the point's steps. -/
theorem bw_eq (c : Dev nD) (t : Fin cfg0.N) (q : Fin 2) (hp : pre m c t = scr (sg m c (smp t) (4 * (t.val % 17)))) (n : ℕ) (hn : n ≤ 4) :
    k0_pay6 (bw m c t (pre m c t) q n) = diag (fun h => ST (aW m c) (aK m c) (aU m c) (aG m c) (smp t) (cb q h) (4 * (t.val % 17) + n)) := by
  refine steps_eq (4 + 2 * q.val) (by omega) _ _ _ _ _ _ _ (fun n h => ST (aW m c) (aK m c) (aU m c) (aG m c) (smp t) (cb q h) (4 * (t.val % 17) + n)) ?_ ?_ n hn
  · rw [hp, grp_scr]; exact congrArg diag (funext fun h => sg_b m c _ _ q h)
  · intro n h
    simp only [rb_w, rb_k, rb_u, rb_g]
    rfl

/-- A point that begins with the chains' states ends with those four steps on. -/
theorem step_point (c : Dev nD) (t : Fin cfg0.N) (hp : pre m c t = scr (sg m c (smp t) (4 * (t.val % 17)))) :
    (outsAt0 m c t.val t.isLt).2.2 = scr (sg m c (smp t) (4 * (t.val % 17) + 4)) :=
  point m c t _ (fun q => (fw_eq m c t q hp 4 le_rfl).trans rfl)
    (fun q => (bw_eq m c t q hp 4 le_rfl).trans (congrArg diag (funext fun h => (sg_b m c _ _ q h).symm)))

theorem zero_scr : (k0_pay2 : FVec Ideal S4x256x256 .f32) = scr (fun _ _ _ _ => 0) := by
  funext x
  show k0_pay2 x = diag (fun _ _ _ => 0) (ix2 (x 1) (x 2))
  unfold diag
  rw [ite_self]
  pointwise [k0_pay2]

/-- Every point begins with the states its sample's chains have reached. -/
theorem pre_eq (c : Dev nD) : ∀ (n : ℕ) (h : n < cfg0.N), pre m c ⟨n, h⟩ = scr (sg m c (smp ⟨n, h⟩) (4 * (n % 17))) := by
  intro n
  induction n with
  | zero =>
    intro h
    unfold pre
    rw [if_pos (Nat.zero_mod 17), zero_scr]
    rfl
  | succ n ih =>
    intro h
    unfold pre
    by_cases h0 : (n + 1) % 17 = 0
    · rw [if_pos h0, zero_scr, h0]
      rfl
    · rw [if_neg h0]
      have hs := step_point m c ⟨n, Nat.lt_of_succ_lt h⟩ (ih (Nat.lt_of_succ_lt h))
      have e1 : smp ⟨n, Nat.lt_of_succ_lt h⟩ = smp ⟨n + 1, h⟩ := Fin.ext (by show n / 17 = (n + 1) / 17; omega)
      have e2 : 4 * (n % 17) + 4 = 4 * ((n + 1) % 17) := by omega
      refine hs.trans ?_
      show scr (sg m c (smp ⟨n, Nat.lt_of_succ_lt h⟩) (4 * (n % 17) + 4)) = _
      rw [e1, e2]

/-! ## The results -/

/-- The forward output block of a point. -/
def YF (c : Dev nD) (t : Fin cfg0.N) : FVec Ideal S1x256x512 .f32 := fun x =>
  OC (aW m c) (aK m c) (aU m c) (aQ m c) (aG m c) (smp t) ⟨(x 2 : ℕ) / 128, by have : (x 2 : ℕ) < 512 := (x 2).isLt; omega⟩ (4 * (t.val % 17) + (x 1 : ℕ) / 64)
    ⟨(x 1 : ℕ) % 64, by omega⟩ ⟨(x 2 : ℕ) % 128, by omega⟩

/-- The backward output block of a point. -/
def YB (c : Dev nD) (t : Fin cfg0.N) : FVec Ideal S1x256x512 .f32 := fun x =>
  OC (aW m c) (aK m c) (aU m c) (aQ m c) (aG m c) (smp t) ⟨4 + (x 2 : ℕ) / 128, by have : (x 2 : ℕ) < 512 := (x 2).isLt; omega⟩ (4 * (t.val % 17) + (3 - (x 1 : ℕ) / 64))
    ⟨(x 1 : ℕ) % 64, by omega⟩ ⟨(x 2 : ℕ) % 128, by omega⟩

theorem out_f (c : Dev nD) (t : Fin cfg0.N) : (outsAt0 m c t.val t.isLt).1 = YF m c t := by
  refine point_f m c t _ fun q n inb x => ?_
  refine oblk_of (YF m c t) n q _ _ _ _ _ (fw_eq m c t q (pre_eq m c t.val t.isLt) n.val (by omega)) (fun h i v => ?_) inb x
  simp only [rf_w, rf_u, rf_a]
  have hh := h.isLt
  have e1 : (256 * q.val + (128 * h.val + v.val)) / 128 = 2 * q.val + h.val := by omega
  have e2 : (64 * n.val + i.val) / 64 = n.val := by omega
  have e3 : (64 * n.val + i.val) % 64 = i.val := by omega
  have e4 : (256 * q.val + (128 * h.val + v.val)) % 128 = v.val := by omega
  show OC _ _ _ _ _ _ ⟨(256 * q.val + (128 * h.val + v.val)) / 128, _⟩ (4 * (t.val % 17) + (64 * n.val + i.val) / 64) ⟨(64 * n.val + i.val) % 64, _⟩
    ⟨(256 * q.val + (128 * h.val + v.val)) % 128, _⟩ = _
  simp only [e1, e2, e3, e4]
  rfl

theorem out_b (c : Dev nD) (t : Fin cfg0.N) : (outsAt0 m c t.val t.isLt).2.1 = YB m c t := by
  refine point_b m c t _ fun q n inb x => ?_
  refine oblk_of (YB m c t) ⟨3 - n.val, by omega⟩ q _ _ _ _ _ (bw_eq m c t q (pre_eq m c t.val t.isLt) n.val (by omega)) (fun h i v => ?_) inb x
  simp only [rb_w, rb_u, rb_a]
  have hh := h.isLt
  have e1 : 4 + (256 * q.val + (128 * h.val + v.val)) / 128 = 4 + 2 * q.val + h.val := by omega
  have e2 : 3 - (64 * (3 - n.val) + i.val) / 64 = n.val := by omega
  have e3 : (64 * (3 - n.val) + i.val) % 64 = i.val := by omega
  have e4 : (256 * q.val + (128 * h.val + v.val)) % 128 = v.val := by omega
  show OC _ _ _ _ _ _ ⟨4 + (256 * q.val + (128 * h.val + v.val)) / 128, _⟩ (4 * (t.val % 17) + (3 - (64 * (3 - n.val) + i.val) / 64)) ⟨(64 * (3 - n.val) + i.val) % 64, _⟩
    ⟨(256 * q.val + (128 * h.val + v.val)) % 128, _⟩ = _
  simp only [e1, e2, e3, e4]
  rfl

theorem OC_congr (c : Dev nD) {b b' : Fin 16} {l l' : Fin 8} {k k' : ℕ} {i i' : Fin 64} {v v' : Fin 128} (hb : b.val = b'.val) (hl : l.val = l'.val)
    (hk : k = k') (hi : i.val = i'.val) (hv : v.val = v'.val) :
    OC (aW m c) (aK m c) (aU m c) (aQ m c) (aG m c) b l k i v = OC (aW m c) (aK m c) (aU m c) (aQ m c) (aG m c) b' l' k' i' v' := by
  rw [Fin.ext hb, Fin.ext hl, hk, Fin.ext hi, Fin.ext hv]

/-- The forward result array after the run. -/
theorem final_f (c : Dev nD) : (dats m 0 c).arrAt 10 cfg0.N = RF (aW m c) (aK m c) (aU m c) (aQ m c) (aG m c) := by
  refine (dats m 0 c).arrAt_eq_of_covers 10 _ (by decide +kernel) fun t hf y => ?_
  blk_simp
  rw [after0_10, out_f]
  have y0 : (y 0 : ℕ) < 1 := (y 0).isLt
  have y1 : (y 1 : ℕ) < 256 := (y 1).isLt
  have h0 : (((win0_10.blk t).view.emb y) 0 : ℕ) = t.val / 17 := by blk_simp [idx t] <;> omega
  have h1 : (((win0_10.blk t).view.emb y) 1 : ℕ) = 256 * ((t.val % 17 + 16) % 17) + (y 1 : ℕ) := by blk_simp [idx t] <;> omega
  have h2 : (((win0_10.blk t).view.emb y) 2 : ℕ) = (y 2 : ℕ) := by blk_simp [idx t]
  unfold YF RF
  exact OC_congr m c h0.symm (congrArg (· / 128) h2.symm) (by rw [h1]; omega) (by show (y 1 : ℕ) % 64 = _ % 64; rw [h1]; omega) (congrArg (· % 128) h2.symm)

/-- The backward result array after the run. -/
theorem final_b (c : Dev nD) : (dats m 0 c).arrAt 11 cfg0.N = RB (aW m c) (aK m c) (aU m c) (aQ m c) (aG m c) := by
  refine (dats m 0 c).arrAt_eq_of_covers 11 _ (by decide +kernel) fun t hf y => ?_
  blk_simp
  rw [after0_11, out_b]
  have y0 : (y 0 : ℕ) < 1 := (y 0).isLt
  have y1 : (y 1 : ℕ) < 256 := (y 1).isLt
  have h0 : (((win0_11.blk t).view.emb y) 0 : ℕ) = t.val / 17 := by blk_simp [idx t] <;> omega
  have h1 : (((win0_11.blk t).view.emb y) 1 : ℕ) = 256 * (16 - t.val % 17) + (y 1 : ℕ) := by blk_simp [idx t] <;> omega
  have h2 : (((win0_11.blk t).view.emb y) 2 : ℕ) = (y 2 : ℕ) := by blk_simp [idx t]
  unfold YB RB
  exact OC_congr m c h0.symm (congrArg (4 + · / 128) h2.symm) (by rw [h1]; omega) (by show (y 1 : ℕ) % 64 = _ % 64; rw [h1]; omega) (congrArg (· % 128) h2.symm)

end Cert.ScanIdeal.Equal

end
-- ==== Proof.ScanRefValue.lean ====
module

public import proofs.«01_k».proof.Proof.Gen.ScanRefIdeal.Run
public import Idealize.ShloMosaic.Lib.Pipeline.ValueKit
public import Idealize.ShloMosaic.Lib.Pointwise
public import Idealize.ShloMosaic.Lib.DynamicIndex
public import proofs.«01_k».proof.Proof.ScanFlow

/-! The reference of the recurrence: its loop over the chunks carries the chains' states, and its two results are the chains' outputs. -/

@[expose] public section

set_option maxRecDepth 16384

noncomputable section

open Idealize.ShloMosaic Idealize.ShloMosaic.TcCoe Idealize.SL.Sem Idealize.ShloMosaic.StableHlo

namespace Cert.ScanRefIdeal.Chain

open Cert.ScanRefIdeal Cert.ScanRefIdeal.Gen Cert.ScanRefIdeal.Value
open Cert.ScanIdeal.Equal (pos cw cq cr ca cg ST OC RF RB vnew onow snext)

/-! ## The chunks in each chain's own order -/

/-- The forward chains begin with the last four chunks, the backward chains go down: chain `l` meets chunk `pos l k` at step `k`. -/
theorem pick (f : Fin 68 → Fin 8 → EReal) (k : Fin 68) (l : Fin 8) :
    (if h : l.val < 4 then if h1 : k.val < 4 then f ⟨64 + k.val, by omega⟩ l else f ⟨k.val - 4, by omega⟩ l
      else f k.rev ⟨4 + (l.val - 4), by omega⟩) = f (pos l k.val) l := by
  unfold pos
  by_cases h : l.val < 4
  · rw [dif_pos h, if_pos h]
    by_cases h1 : k.val < 4
    · rw [dif_pos h1]
      exact congrArg (f · l) (Fin.ext (by show 64 + k.val = (k.val + 64) % 68; omega))
    · rw [dif_neg h1]
      exact congrArg (f · l) (Fin.ext (by show k.val - 4 = (k.val + 64) % 68; omega))
  · rw [dif_neg h, if_neg h]
    exact congrArg₂ f (Fin.ext (by rw [Fin.val_rev]; show 68 - (k.val + 1) = 67 - k.val; omega)) (Fin.ext (by show 4 + (l.val - 4) = l.val; omega))

/-- Both directions' chunks side by side, each chain's in its own order: rows of one head's width. -/
theorem both_rows (X : FVec Ideal S68x16x8x64x128 .f32) (k : Fin 68) (b : Fin 16) (l : Fin 8) (i : Fin 64) (e : Fin 128) :
    concatenate S68x16x8x64x128 2
        [⟨S68x16x4x64x128, concatenate S68x16x4x64x128 0
              [⟨S4x16x4x64x128, extractStridedSlice S4x16x4x64x128 ![64, 0, 0, 0, 0] X slices_S68x16x8x64x128_S4x16x4x64x128_64_0_0_0_0⟩,
                ⟨S64x16x4x64x128, extractStridedSlice S64x16x4x64x128 ![0, 0, 0, 0, 0] X slices_S68x16x8x64x128_S64x16x4x64x128_0_0_0_0_0⟩]
              concatenates_S4x16x4x64x128_S64x16x4x64x128_S68x16x4x64x128_d0⟩,
          ⟨S68x16x4x64x128, Host.reverse [0] (extractStridedSlice S68x16x4x64x128 ![0, 0, 4, 0, 0] X slices_S68x16x8x64x128_S68x16x4x64x128_0_0_4_0_0)⟩]
        concatenates_S68x16x4x64x128_S68x16x4x64x128_S68x16x8x64x128_d2 (ix5 k b l i e) = X (ix5 (pos l k.val) b l i e) := by
  pointwise
  exact pick (fun n l => X (ix5 n b l i e)) k l

/-- The same for the products within a chunk. -/
theorem both_prods (X : FVec Ideal S68x16x8x64x64 .f32) (k : Fin 68) (b : Fin 16) (l : Fin 8) (i : Fin 64) (e : Fin 64) :
    concatenate S68x16x8x64x64 2
        [⟨S68x16x4x64x64, concatenate S68x16x4x64x64 0
              [⟨S4x16x4x64x64, extractStridedSlice S4x16x4x64x64 ![64, 0, 0, 0, 0] X slices_S68x16x8x64x64_S4x16x4x64x64_64_0_0_0_0⟩,
                ⟨S64x16x4x64x64, extractStridedSlice S64x16x4x64x64 ![0, 0, 0, 0, 0] X slices_S68x16x8x64x64_S64x16x4x64x64_0_0_0_0_0⟩]
              concatenates_S4x16x4x64x64_S64x16x4x64x64_S68x16x4x64x64_d0⟩,
          ⟨S68x16x4x64x64, Host.reverse [0] (extractStridedSlice S68x16x4x64x64 ![0, 0, 4, 0, 0] X slices_S68x16x8x64x64_S68x16x4x64x64_0_0_4_0_0)⟩]
        concatenates_S68x16x4x64x64_S68x16x4x64x64_S68x16x8x64x64_d2 (ix5 k b l i e) = X (ix5 (pos l k.val) b l i e) := by
  pointwise
  exact pick (fun n l => X (ix5 n b l i e)) k l

/-- The same for the chunks' decays, whose first row is kept. -/
theorem both_decay (X : FVec Ideal S68x16x8x64x1 .f32) (k : Fin 68) (b : Fin 16) (l : Fin 8) :
    shapeCast S68x16x8 (extractStridedSlice S68x16x8x1x1 ![0, 0, 0, 0, 0] (concatenate S68x16x8x64x1 2
        [⟨S68x16x4x64x1, concatenate S68x16x4x64x1 0
              [⟨S4x16x4x64x1, extractStridedSlice S4x16x4x64x1 ![64, 0, 0, 0, 0] X slices_S68x16x8x64x1_S4x16x4x64x1_64_0_0_0_0⟩,
                ⟨S64x16x4x64x1, extractStridedSlice S64x16x4x64x1 ![0, 0, 0, 0, 0] X slices_S68x16x8x64x1_S64x16x4x64x1_0_0_0_0_0⟩]
              concatenates_S4x16x4x64x1_S64x16x4x64x1_S68x16x4x64x1_d0⟩,
          ⟨S68x16x4x64x1, Host.reverse [0] (extractStridedSlice S68x16x4x64x1 ![0, 0, 4, 0, 0] X slices_S68x16x8x64x1_S68x16x4x64x1_0_0_4_0_0)⟩]
        concatenates_S68x16x4x64x1_S68x16x4x64x1_S68x16x8x64x1_d2) slices_S68x16x8x64x1_S68x16x8x1x1_0_0_0_0_0)
      shapeCasts_S68x16x8x1x1_S68x16x8 (ix3 k b l) = X (ix5 (pos l k.val) b l 0 0) := by
  pointwise
  exact pick (fun n l => X (ix5 n b l 0 0)) k l

/-! ## What the loop starts from -/

section
variable (m : (ℓ : Loc nD τ sig) → Buf (Elt Ideal) ℓ) (c : Dev nD)

/-- The queries. -/
theorem entry0 (k : Fin 68) (b : Fin 16) (l : Fin 8) (i : Fin 64) (e : Fin 128) :
    (entryContents preI m c (Proc.devRef .tc main_v64_0) : FVec Ideal S68x16x8x64x128 .f32) (ix5 k b l i e) = cq (m ((c.tc : Thread nD τ).loc main_arg0)) b l (pos l k.val) i e := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_rows _ k b l i e).trans ?_
  pointwise
  refine congrArg (m ((c.tc : Thread nD τ).loc main_arg0)) ?_
  idx_ext

/-- The decayed keys. -/
theorem entry1 (k : Fin 68) (b : Fin 16) (l : Fin 8) (i : Fin 64) (e : Fin 128) :
    (entryContents preI m c (Proc.devRef .tc main_v64_1) : FVec Ideal S68x16x8x64x128 .f32) (ix5 k b l i e) = cr (m ((c.tc : Thread nD τ).loc main_arg1)) b l (pos l k.val) i e := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_rows _ k b l i e).trans ?_
  pointwise
  refine congrArg (m ((c.tc : Thread nD τ).loc main_arg1)) ?_
  idx_ext

/-- The values. -/
theorem entry2 (k : Fin 68) (b : Fin 16) (l : Fin 8) (i : Fin 64) (e : Fin 128) :
    (entryContents preI m c (Proc.devRef .tc main_v64_2) : FVec Ideal S68x16x8x64x128 .f32) (ix5 k b l i e) = cr (m ((c.tc : Thread nD τ).loc main_arg2)) b l (pos l k.val) i e := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_rows _ k b l i e).trans ?_
  pointwise
  refine congrArg (m ((c.tc : Thread nD τ).loc main_arg2)) ?_
  idx_ext

/-- The keys that read the state. -/
theorem entry3 (k : Fin 68) (b : Fin 16) (l : Fin 8) (i : Fin 64) (e : Fin 128) :
    (entryContents preI m c (Proc.devRef .tc main_v64_3) : FVec Ideal S68x16x8x64x128 .f32) (ix5 k b l i e) = cw (m ((c.tc : Thread nD τ).loc main_arg0)) b l (pos l k.val) i e := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_rows _ k b l i e).trans ?_
  pointwise
  refine congrArg (m ((c.tc : Thread nD τ).loc main_arg0)) ?_
  idx_ext

/-- The products of queries and keys. -/
theorem entry4 (k : Fin 68) (b : Fin 16) (l : Fin 8) (i : Fin 64) (e : Fin 64) :
    (entryContents preI m c (Proc.devRef .tc main_v64_4) : FVec Ideal S68x16x8x64x64 .f32) (ix5 k b l i e) = ca (m ((c.tc : Thread nD τ).loc main_arg3)) b l (pos l k.val) i e := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_prods _ k b l i e).trans ?_
  pointwise
  refine congrArg (m ((c.tc : Thread nD τ).loc main_arg3)) ?_
  idx_ext

/-- The decays. -/
theorem entry5 (k : Fin 68) (b : Fin 16) (l : Fin 8)  :
    (entryContents preI m c (Proc.devRef .tc main_v64_5) : FVec Ideal S68x16x8 .f32) (ix3 k b l) = cg (m ((c.tc : Thread nD τ).loc main_arg4)) b l (pos l k.val) := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  refine (both_decay _ k b l).trans ?_
  pointwise
  refine congrArg (m ((c.tc : Thread nD τ).loc main_arg4)) ?_
  idx_ext

/-- The states start at zero. -/
theorem entry7 (b : Fin 16) (l : Fin 8) (e v : Fin 128) :
    (entryContents preI m c (Proc.devRef .tc main_v64_7) : FVec Ideal S16x8x128x128 .f32) (ix4 b l e v) = (0 : EReal) := by
  unfold entryContents
  simp only [preI, afterL_cons, afterL_nil, hostOps0, hostOps0_1, hostOps0_2, hostOps0_3, hostOps0_4, hostOps0_5, hostOps0_6, hostOps0_7, hostOps0_8,
    hostOps0_9, hostOps0_10, hostOps0_11, hostOps0_12]
  after_results_simp
  after_results_loop
  show (broadcastInDim S16x8x128x128 ![] bcast_S_S16x8x128x128 (constant S_ FTy.f32 0#32) : FVec Ideal S16x8x128x128 .f32) (ix4 b l e v) = (0 : EReal)
  pointwise

end

/-! ## One step of the loop -/

/-- The start of a slice at step `k`, its axes after the first starting at zero. -/
theorem starts5 (I : IVec S_ 32) (k : Fin 68) (hI : I = fun _ => BitVec.ofNat 32 k.val) :
    (fun a => (((![I, constantI S_ 32 0#32, constantI S_ 32 0#32, constantI S_ 32 0#32, constantI S_ 32 0#32] : Fin 5 → (⟨S_, .i32⟩ : BufTy).Contents (Elt Ideal))) a (Shape.Idx.first h_S_)).toInt)
      = fun a => (((![k.val, 0, 0, 0, 0] : Fin 5 → ℕ) a : ℕ) : ℤ) := by
  have hk : ∀ k : Fin 68, (BitVec.ofNat 32 k.val).toInt = (k.val : ℤ) := by decide +kernel
  subst hI
  funext a
  match a with
  | 0 => exact hk k
  | 1 => rfl
  | 2 => rfl
  | 3 => rfl
  | 4 => rfl

/-- The same for three axes. -/
theorem starts3 (I : IVec S_ 32) (k : Fin 68) (hI : I = fun _ => BitVec.ofNat 32 k.val) :
    (fun a => (((![I, constantI S_ 32 0#32, constantI S_ 32 0#32] : Fin 3 → (⟨S_, .i32⟩ : BufTy).Contents (Elt Ideal))) a (Shape.Idx.first h_S_)).toInt)
      = fun a => (((![k.val, 0, 0] : Fin 3 → ℕ) a : ℕ) : ℤ) := by
  have hk : ∀ k : Fin 68, (BitVec.ofNat 32 k.val).toInt = (k.val : ℤ) := by decide +kernel
  subst hI
  funext a
  match a with
  | 0 => exact hk k
  | 1 => rfl
  | 2 => rfl

/-- A step's chunk lies within the chunks. -/
theorem sl_rows : ∀ k : Fin 68, S68x16x8x64x128.Slices ![k.val, 0, 0, 0, 0] S1x16x8x64x128 := by decide +kernel
/-- A step's products lie within the chunks' products. -/
theorem sl_prods : ∀ k : Fin 68, S68x16x8x64x64.Slices ![k.val, 0, 0, 0, 0] S1x16x8x64x64 := by decide +kernel
/-- A step's decays lie within the chunks' decays. -/
theorem sl_decay : ∀ k : Fin 68, S68x16x8.Slices ![k.val, 0, 0] S1x16x8 := by decide +kernel

/-- A slice at step `k` begins there: it needs no shift to fit. -/
theorem clamp5 (k : Fin 68) (a : Fin 5) :
    Host.clampedStart S68x16x8x64x128 S1x16x8x64x128 sliceFits_S68x16x8x64x128_S1x16x8x64x128.1 (fun a => (((![k.val, 0, 0, 0, 0] : Fin 5 → ℕ) a : ℕ) : ℤ)) a = (![k.val, 0, 0, 0, 0] : Fin 5 → ℕ) a := by
  refine Host.clampedStart_of_le sliceFits_S68x16x8x64x128_S1x16x8x64x128.1 _ _ _ rfl ?_
  revert a k
  decide +kernel

section
variable (I : IVec S_ 32) (k : Fin 68) (hI : I = fun _ => BitVec.ofNat 32 k.val)
include hI

/-- The loop's slice at step `k` of an array of chunks' rows. -/
theorem ds_rows (X : FVec Ideal S68x16x8x64x128 .f32) :
    Host.dynamicSlice S1x16x8x64x128 X
      (fun a => (((![I, constantI S_ 32 0#32, constantI S_ 32 0#32, constantI S_ 32 0#32, constantI S_ 32 0#32] : Fin 5 → (⟨S_, .i32⟩ : BufTy).Contents (Elt Ideal))) a (Shape.Idx.first h_S_)).toInt)
      sliceFits_S68x16x8x64x128_S1x16x8x64x128 = extractStridedSlice S1x16x8x64x128 ![k.val, 0, 0, 0, 0] X (sl_rows k) := by
  rw [starts5 I k hI]
  exact Host.dynamicSlice_eq_extractStridedSlice _ _ _ _ _ _ fun a => rfl

/-- The loop's slice at step `k` of the chunks' products. -/
theorem ds_prods (X : FVec Ideal S68x16x8x64x64 .f32) :
    Host.dynamicSlice S1x16x8x64x64 X
      (fun a => (((![I, constantI S_ 32 0#32, constantI S_ 32 0#32, constantI S_ 32 0#32, constantI S_ 32 0#32] : Fin 5 → (⟨S_, .i32⟩ : BufTy).Contents (Elt Ideal))) a (Shape.Idx.first h_S_)).toInt)
      sliceFits_S68x16x8x64x64_S1x16x8x64x64 = extractStridedSlice S1x16x8x64x64 ![k.val, 0, 0, 0, 0] X (sl_prods k) := by
  rw [starts5 I k hI]
  exact Host.dynamicSlice_eq_extractStridedSlice _ _ _ _ _ _ fun a => rfl

/-- The loop's slice at step `k` of the chunks' decays. -/
theorem ds_decay (X : FVec Ideal S68x16x8 .f32) :
    Host.dynamicSlice S1x16x8 X
      (fun a => (((![I, constantI S_ 32 0#32, constantI S_ 32 0#32] : Fin 3 → (⟨S_, .i32⟩ : BufTy).Contents (Elt Ideal))) a (Shape.Idx.first h_S_)).toInt)
      sliceFits_S68x16x8_S1x16x8 = extractStridedSlice S1x16x8 ![k.val, 0, 0] X (sl_decay k) := by
  rw [starts3 I k hI]
  exact Host.dynamicSlice_eq_extractStridedSlice _ _ _ _ _ _ fun a => rfl

/-- The loop's write at step `k`: that step's rows are the new ones, the others stay. -/
theorem dus_rows (X : FVec Ideal S68x16x8x64x128 .f32) (u : FVec Ideal S1x16x8x64x128 .f32)
    (j : Fin 68) (b : Fin 16) (l : Fin 8) (i : Fin 64) (v : Fin 128) :
    Host.dynamicUpdateSlice X u
      (fun a => (((![I, constantI S_ 32 0#32, constantI S_ 32 0#32, constantI S_ 32 0#32, constantI S_ 32 0#32] : Fin 5 → (⟨S_, .i32⟩ : BufTy).Contents (Elt Ideal))) a (Shape.Idx.first h_S_)).toInt)
      updateFits_S68x16x8x64x128_S1x16x8x64x128 (ix5 j b l i v) = if j = k then u (ix5 0 b l i v) else X (ix5 j b l i v) := by
  rw [starts5 I k hI]
  pointwise
  have hc := clamp5 k
  simp only [hc]
  by_cases hj : j = k
  · subst hj
    rw [dif_pos (by simp), if_pos rfl]
    refine congrArg u ?_
    idx_ext
  · rw [dif_neg (by simp; omega), if_neg hj]
end

section
variable (V : Valuation τ sig (Elt Ideal)) (k : Fin 68) (h6 : V (Proc.devRef .tc main_v64_6) = fun _ => BitVec.ofNat 32 k.val)
include h6

/-- A step's corrected values. -/
theorem vnew_at (b : Fin 16) (l : Fin 8) (i : Fin 64) (v : Fin 128) :
    (res_main_while0b_v81 V : FVec Ideal S16x8x64x128 .f32) (ix4 b l i v)
      = vnew (fun i e => (V (Proc.devRef .tc main_v64_3) : FVec Ideal S68x16x8x64x128 .f32) (ix5 k b l i e)) (fun i v => (V (Proc.devRef .tc main_v64_2) : FVec Ideal S68x16x8x64x128 .f32) (ix5 k b l i v))
        (fun e v => (V (Proc.devRef .tc main_v64_7) : FVec Ideal S16x8x128x128 .f32) (ix4 b l e v)) i v := by
  unfold res_main_while0b_v81
  erw [ds_rows _ k h6 (V (Proc.devRef .tc main_v64_2)), ds_rows _ k h6 (V (Proc.devRef .tc main_v64_3))]
  pointwise [vnew]

/-- A step's new state. -/
theorem snext_at (b : Fin 16) (l : Fin 8) (e v : Fin 128) :
    (step_main_v64_7 V : FVec Ideal S16x8x128x128 .f32) (ix4 b l e v)
      = snext (fun i e => (V (Proc.devRef .tc main_v64_1) : FVec Ideal S68x16x8x64x128 .f32) (ix5 k b l i e)) ((V (Proc.devRef .tc main_v64_5) : FVec Ideal S68x16x8 .f32) (ix3 k b l))
        (fun i v => (res_main_while0b_v81 V : FVec Ideal S16x8x64x128 .f32) (ix4 b l i v))
        (fun e v => (V (Proc.devRef .tc main_v64_7) : FVec Ideal S16x8x128x128 .f32) (ix4 b l e v)) e v := by
  unfold step_main_v64_7
  generalize res_main_while0b_v81 V = N
  erw [ds_rows _ k h6 (V (Proc.devRef .tc main_v64_1)), ds_decay _ k h6 (V (Proc.devRef .tc main_v64_5))]
  pointwise [snext, id]

/-- A step's outputs: its own row of chunks is written, the others stay. -/
theorem onow_at (j : Fin 68) (b : Fin 16) (l : Fin 8) (i : Fin 64) (v : Fin 128) :
    (step_main_v64_8 V : FVec Ideal S68x16x8x64x128 .f32) (ix5 j b l i v)
      = if j = k then onow (fun i e => (V (Proc.devRef .tc main_v64_0) : FVec Ideal S68x16x8x64x128 .f32) (ix5 k b l i e)) (fun i j => (V (Proc.devRef .tc main_v64_4) : FVec Ideal S68x16x8x64x64 .f32) (ix5 k b l i j))
          (fun i v => (res_main_while0b_v81 V : FVec Ideal S16x8x64x128 .f32) (ix4 b l i v))
          (fun e v => (V (Proc.devRef .tc main_v64_7) : FVec Ideal S16x8x128x128 .f32) (ix4 b l e v)) i v
        else (V (Proc.devRef .tc main_v64_8) : FVec Ideal S68x16x8x64x128 .f32) (ix5 j b l i v) := by
  unfold step_main_v64_8
  generalize res_main_while0b_v81 V = N
  refine (dus_rows _ k h6 (V (Proc.devRef .tc main_v64_8)) _ j b l i v).trans ?_
  refine if_congr Iff.rfl ?_ rfl
  erw [ds_rows _ k h6 (V (Proc.devRef .tc main_v64_0)), ds_prods _ k h6 (V (Proc.devRef .tc main_v64_4))]
  pointwise [onow]
end

/-! ## The whole loop -/

section
variable (m : (ℓ : Loc nD τ sig) → Buf (Elt Ideal) ℓ) (c : Dev nD)

/-- What the loop carries before its step `k`: the step's number, the arrays it reads, the chains' states, and the outputs so far. -/
structure Before (V : Valuation τ sig (Elt Ideal)) (k : ℕ) : Prop where
  at0 : ∀ (k : Fin 68) b l i e, (V (Proc.devRef .tc main_v64_0) : FVec Ideal S68x16x8x64x128 .f32) (ix5 k b l i e) = cq (m ((c.tc : Thread nD τ).loc main_arg0)) b l (pos l k.val) i e
  at1 : ∀ (k : Fin 68) b l i e, (V (Proc.devRef .tc main_v64_1) : FVec Ideal S68x16x8x64x128 .f32) (ix5 k b l i e) = cr (m ((c.tc : Thread nD τ).loc main_arg1)) b l (pos l k.val) i e
  at2 : ∀ (k : Fin 68) b l i e, (V (Proc.devRef .tc main_v64_2) : FVec Ideal S68x16x8x64x128 .f32) (ix5 k b l i e) = cr (m ((c.tc : Thread nD τ).loc main_arg2)) b l (pos l k.val) i e
  at3 : ∀ (k : Fin 68) b l i e, (V (Proc.devRef .tc main_v64_3) : FVec Ideal S68x16x8x64x128 .f32) (ix5 k b l i e) = cw (m ((c.tc : Thread nD τ).loc main_arg0)) b l (pos l k.val) i e
  at4 : ∀ (k : Fin 68) b l i e, (V (Proc.devRef .tc main_v64_4) : FVec Ideal S68x16x8x64x64 .f32) (ix5 k b l i e) = ca (m ((c.tc : Thread nD τ).loc main_arg3)) b l (pos l k.val) i e
  at5 : ∀ (k : Fin 68) b l, (V (Proc.devRef .tc main_v64_5) : FVec Ideal S68x16x8 .f32) (ix3 k b l) = cg (m ((c.tc : Thread nD τ).loc main_arg4)) b l (pos l k.val)
  at6 : V (Proc.devRef .tc main_v64_6) = fun _ => BitVec.ofNat 32 k
  at7 : ∀ b l e v, (V (Proc.devRef .tc main_v64_7) : FVec Ideal S16x8x128x128 .f32) (ix4 b l e v)
    = ST (m ((c.tc : Thread nD τ).loc main_arg0)) (m ((c.tc : Thread nD τ).loc main_arg1)) (m ((c.tc : Thread nD τ).loc main_arg2)) (m ((c.tc : Thread nD τ).loc main_arg4)) b l k e v
  at8 : ∀ (j : Fin 68) b l i v, j.val < k → (V (Proc.devRef .tc main_v64_8) : FVec Ideal S68x16x8x64x128 .f32) (ix5 j b l i v)
    = OC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l j.val i v

/-- One step takes what is carried before it to what is carried before the next. -/
theorem before_step (V : Valuation τ sig (Elt Ideal)) (k : Fin 68) (h : Before m c V k.val) : Before m c (STEP V) (k.val + 1) := by
  have hs : ∀ b l, (fun e v => (V (Proc.devRef .tc main_v64_7) : FVec Ideal S16x8x128x128 .f32) (ix4 b l e v)) = ST (m ((c.tc : Thread nD τ).loc main_arg0)) (m ((c.tc : Thread nD τ).loc main_arg1)) (m ((c.tc : Thread nD τ).loc main_arg2)) (m ((c.tc : Thread nD τ).loc main_arg4)) b l k.val :=
    fun b l => funext₂ fun e v => h.at7 b l e v
  have hn : ∀ b l, (fun i v => (res_main_while0b_v81 V : FVec Ideal S16x8x64x128 .f32) (ix4 b l i v))
      = vnew (cw (m ((c.tc : Thread nD τ).loc main_arg0)) b l (pos l k.val)) (cr (m ((c.tc : Thread nD τ).loc main_arg2)) b l (pos l k.val))
        (ST (m ((c.tc : Thread nD τ).loc main_arg0)) (m ((c.tc : Thread nD τ).loc main_arg1)) (m ((c.tc : Thread nD τ).loc main_arg2)) (m ((c.tc : Thread nD τ).loc main_arg4)) b l k.val) := by
    intro b l
    funext i v
    refine (vnew_at V k h.at6 b l i v).trans ?_
    rw [show (fun i e => (V (Proc.devRef .tc main_v64_3) : FVec Ideal S68x16x8x64x128 .f32) (ix5 k b l i e)) = _ from funext₂ fun i e => h.at3 k b l i e,
      show (fun i e => (V (Proc.devRef .tc main_v64_2) : FVec Ideal S68x16x8x64x128 .f32) (ix5 k b l i e)) = _ from funext₂ fun i e => h.at2 k b l i e, hs]
  refine ⟨fun k b l i e => (congrFun (STEP_main_v64_0 V) _).trans (h.at0 k b l i e), fun k b l i e => (congrFun (STEP_main_v64_1 V) _).trans (h.at1 k b l i e),
    fun k b l i e => (congrFun (STEP_main_v64_2 V) _).trans (h.at2 k b l i e), fun k b l i e => (congrFun (STEP_main_v64_3 V) _).trans (h.at3 k b l i e),
    fun k b l i e => (congrFun (STEP_main_v64_4 V) _).trans (h.at4 k b l i e), fun k b l => (congrFun (STEP_main_v64_5 V) _).trans (h.at5 k b l),
    ?_, fun b l e v => ?_, fun j b l i v hj => ?_⟩
  · rw [STEP_main_v64_6]
    unfold step_main_v64_6
    rw [h.at6]
    funext x
    exact (BitVec.ofNat_add _ _).symm
  · rw [STEP_main_v64_7]
    refine (snext_at V k h.at6 b l e v).trans ?_
    rw [hn, hs, show (fun i e => (V (Proc.devRef .tc main_v64_1) : FVec Ideal S68x16x8x64x128 .f32) (ix5 k b l i e)) = _ from funext₂ fun i e => h.at1 k b l i e, h.at5 k b l]
    rfl
  · rw [STEP_main_v64_8]
    refine (onow_at V k h.at6 j b l i v).trans ?_
    rw [hn, hs, show (fun i e => (V (Proc.devRef .tc main_v64_0) : FVec Ideal S68x16x8x64x128 .f32) (ix5 k b l i e)) = _ from funext₂ fun i e => h.at0 k b l i e,
      show (fun i e => (V (Proc.devRef .tc main_v64_4) : FVec Ideal S68x16x8x64x64 .f32) (ix5 k b l i e)) = _ from funext₂ fun i e => h.at4 k b l i e]
    by_cases hjk : j = k
    · subst hjk
      rw [if_pos rfl]
      rfl
    · rw [if_neg hjk]
      exact h.at8 j b l i v (by have : j.val ≠ k.val := fun e => hjk (Fin.ext e); omega)

/-- What the loop carries after any number of its steps. -/
theorem before_all : ∀ k : ℕ, k ≤ 68 → Before m c (STEP^[k] (entryContents preI m c)) k
  | 0, _ => ⟨entry0 m c, entry1 m c, entry2 m c, entry3 m c, entry4 m c, entry5 m c, ctr_entry m c, fun b l e v => entry7 m c b l e v, fun j b l i v hj => absurd hj (Nat.not_lt_zero _)⟩
  | k + 1, hk => by
    rw [Function.iterate_succ_apply']
    exact before_step m c _ ⟨k, hk⟩ (before_all k (by omega))

/-- The reference's forward result. -/
theorem ref_f : out_main_v69 (STEP^[68] (entryContents preI m c))
    = RF (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h8 := (before_all m c 68 (le_refl _)).at8
  generalize STEP^[68] (entryContents preI m c) = V at h8 ⊢
  unfold out_main_v69
  funext x
  obtain ⟨b, r, w, rfl⟩ : ∃ b r w, x = ix3 b r w := ⟨x 0, x 1, x 2, by funext a; match a with | 0 => rfl | 1 => rfl | 2 => rfl⟩
  pointwise [RF]
  have hO : ∀ k k' l i v, k = k' → OC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l k i v = OC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l k' i v := fun k k' l i v h => h ▸ rfl
  split
  · next h => exact (h8 _ _ _ _ _ (Fin.isLt _)).trans (hO _ _ _ _ _ (by show 4 + r.val / 64 = (r.val / 64 + 4) % 68; omega))
  · next h => exact (h8 _ _ _ _ _ (Fin.isLt _)).trans (hO _ _ _ _ _ (by show r.val / 64 - 64 = (r.val / 64 + 4) % 68; omega))

/-- The reference's backward result. -/
theorem ref_b : out_main_v73 (STEP^[68] (entryContents preI m c))
    = RB (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  have h8 := (before_all m c 68 (le_refl _)).at8
  generalize STEP^[68] (entryContents preI m c) = V at h8 ⊢
  unfold out_main_v73
  funext x
  obtain ⟨b, r, w, rfl⟩ : ∃ b r w, x = ix3 b r w := ⟨x 0, x 1, x 2, by funext a; match a with | 0 => rfl | 1 => rfl | 2 => rfl⟩
  pointwise [RB]
  have hO : ∀ k k' l i v, k = k' → OC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l k i v = OC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) b l k' i v := fun k k' l i v h => h ▸ rfl
  refine (h8 _ _ _ _ _ (Fin.isLt _)).trans (hO _ _ _ _ _ ?_)
  show (Fin.rev (⟨r.val / 64, by omega⟩ : Fin 68)).val = 67 - r.val / 64
  rw [Fin.val_rev]
  show 68 - (r.val / 64 + 1) = 67 - r.val / 64
  omega
end

end Cert.ScanRefIdeal.Chain

end
-- ==== Proof.ModValue.lean ====
module

public import proofs.«01_k».proof.Proof.Gen.ModIdeal.Value
public import proofs.«01_k».proof.Proof.Gen.ModRefIdeal.Run
public import Idealize.ShloMosaic.Lib.Pipeline.ValueKit
public import Idealize.ShloMosaic.Lib.Pipeline.ReadBack
public import Idealize.ShloMosaic.Lib.Pointwise
public import Idealize.ShloMosaic.Lib.Routing.OpsSet
public import Idealize.ShloMosaic.Lib.Routing.OpsPair

/-! The modulation's call: the samples' rows, the context's row and seven unused rows, times every layer's weights. -/

@[expose] public section

set_option maxRecDepth 16384

noncomputable section

open Idealize.ShloMosaic Idealize.ShloMosaic.TcCoe Idealize.SL.Sem Idealize.ShloMosaic.StableHlo
open Idealize.ShloMosaic.Pipeline (Dat)

namespace Cert.ModIdeal.Equal

open Cert.ModIdeal Cert.ModIdeal.Gen

/-! ## The rows the host lays out -/

/-- Where the samples' entries land: each at its own place. -/
theorem lands_c (idx : IVec S1 32) (h : (idx (ix1 0)).toInt = 0) (k : S16x1024.Idx) (r : Fin 24) (n : Fin 1024) :
    scatter_S24x1024_S1_S16x1024_01_n_0_0.resultIdx? k idx = some (ix2 r n) ↔ (k 0 : ℕ) = r.val ∧ (k 1 : ℕ) = n.val := by
  have s0 : scatter_S24x1024_S1_S16x1024_01_n_0_0.start k idx 0 = 0 := by
    refine Eq.trans ?_ h
    unfold ScatterDims.start
    rw [dif_pos (by decide)]
    refine congrArg (fun q => (idx q).toInt) ?_
    funext b
    match b with
    | ⟨0, _⟩ => exact Subsingleton.elim (α := Fin 1) _ _
  have s1 : scatter_S24x1024_S1_S16x1024_01_n_0_0.start k idx 1 = 0 := rfl
  have w0 : scatter_S24x1024_S1_S16x1024_01_n_0_0.window k 0 = (k 0 : ℕ) := rfl
  have w1 : scatter_S24x1024_S1_S16x1024_01_n_0_0.window k 1 = (k 1 : ℕ) := rfl
  refine (Routing.resultIdx?_ix2 (R := 24) (C := 1024) _ k idx r n).trans ?_
  rw [s0, s1, w0, w1]
  omega

/-- Where the context's entries land: in row sixteen. -/
theorem lands_x (idx : IVec S1 32) (h : (idx (ix1 0)).toInt = 16) (k : S1024.Idx) (r : Fin 24) (n : Fin 1024) :
    scatter_S24x1024_S1_S1024_0_0_0_0.resultIdx? k idx = some (ix2 r n) ↔ r.val = 16 ∧ (k 0 : ℕ) = n.val := by
  have s0 : scatter_S24x1024_S1_S1024_0_0_0_0.start k idx 0 = 16 := by
    refine Eq.trans ?_ h
    unfold ScatterDims.start
    rw [dif_pos (by decide)]
    refine congrArg (fun q => (idx q).toInt) ?_
    funext b
    match b with
    | ⟨0, _⟩ => exact Subsingleton.elim (α := Fin 1) _ _
  have s1 : scatter_S24x1024_S1_S1024_0_0_0_0.start k idx 1 = 0 := rfl
  have w0 : scatter_S24x1024_S1_S1024_0_0_0_0.window k 0 = 0 := rfl
  have w1 : scatter_S24x1024_S1_S1024_0_0_0_0.window k 1 = (k 0 : ℕ) := rfl
  refine (Routing.resultIdx?_ix2 (R := 24) (C := 1024) _ k idx r n).trans ?_
  rw [s0, s1, w0, w1]
  omega

/-- The rows of the call: the sixteen samples, the context, and zeros. -/
def row (C : FVec Ideal S16x1024 .f32) (X : FVec Ideal S1024 .f32) (r : Fin 24) (n : Fin 1024) : EReal :=
  if h : r.val < 16 then C (ix2 ⟨r.val, h⟩ n) else if r.val = 16 then X (ix1 n) else 0

variable (m : (ℓ : Loc nD τ sig) → Buf (Elt Ideal) ℓ) (c : Dev nD)

/-- The host's rows are those rows. -/
theorem V_rows (r : Fin 24) (n : Fin 1024) : (V m c main_v5 : FVec Ideal S24x1024 .f32) (ix2 r n)
    = row (m ((c : Thread nD τ).loc main_arg0)) (m ((c : Thread nD τ).loc main_arg1)) r n := by
  simp only [V, hostOps0]
  after_results_simp
  unfold row
  by_cases h16 : r.val = 16
  · rw [dif_neg (by omega), if_pos h16]
    refine Routing.scatter_set_hit _ _ _ _ _ _ (fun k hk => ?_) (ix1 n) ((lands_x _ rfl _ _ _).2 ⟨h16, rfl⟩)
    have e := ((lands_x _ rfl _ _ _).1 hk).2
    exact congrArg _ (funext fun a => by match a with | ⟨0, _⟩ => exact Fin.ext e)
  · rw [Routing.scatter_set_miss _ _ _ _ _ (fun k hk => h16 ((lands_x _ rfl _ _ _).1 hk).1)]
    by_cases hr : r.val < 16
    · rw [dif_pos hr]
      refine Routing.scatter_set_hit _ _ _ _ _ _ (fun k hk => ?_) (ix2 ⟨r.val, hr⟩ n) ((lands_c _ rfl _ _ _).2 ⟨rfl, rfl⟩)
      have e := (lands_c _ rfl _ _ _).1 hk
      exact congrArg _ (funext fun a => by match a with | ⟨0, _⟩ => exact Fin.ext e.1 | ⟨1, _⟩ => exact Fin.ext e.2)
    · rw [dif_neg hr, if_neg h16, Routing.scatter_set_miss _ _ _ _ _ (fun k hk => hr (by
        have e := ((lands_c _ rfl _ _ _).1 hk).1
        have : (k 0 : ℕ) < 16 := (k 0).isLt
        omega))]
      pointwise

/-! ## The reference's terms -/

/-- One layer's rows, as the reference stacks them. -/
def LAY (C : FVec Ideal S16x1024 .f32) (X : FVec Ideal S1024 .f32) (Wl : FVec Ideal Cert.ModRefIdeal.S1x1024x6144 .f32) (Bl : FVec Ideal Cert.ModRefIdeal.S1x6144 .f32) : FVec Ideal Cert.ModRefIdeal.S24x6144 .f32 :=
  ((concatenate Cert.ModRefIdeal.S24x6144 0 [⟨Cert.ModRefIdeal.S16x6144, ((addf (Host.dotGeneral Cert.ModRefIdeal.dot_S16x1024_S1024x6144_S16x6144_1_0_0_1_n_n none (mulf C (Host.divf (broadcastInDim Cert.ModRefIdeal.S16x1024 ![] Cert.ModRefIdeal.Gen.bcast_S_S16x1024 (constant Cert.ModRefIdeal.S_ .f32 0x3F800000#32)) (addf (broadcastInDim Cert.ModRefIdeal.S16x1024 ![] Cert.ModRefIdeal.Gen.bcast_S_S16x1024 (constant Cert.ModRefIdeal.S_ .f32 0x3F800000#32)) (Host.exp (Host.negf C))))) (shapeCast _ Wl Cert.ModRefIdeal.Gen.shapeCasts_S1x1024x6144_S1024x6144)) (broadcastInDim Cert.ModRefIdeal.S16x6144 ![0, 1] Cert.ModRefIdeal.Gen.bcast_S1x6144_S16x6144_0_1 (broadcastInDim Cert.ModRefIdeal.S1x6144 ![1] Cert.ModRefIdeal.Gen.bcast_S6144_S1x6144_1 (shapeCast _ Bl Cert.ModRefIdeal.Gen.shapeCasts_S1x6144_S6144)))) : (⟨Cert.ModRefIdeal.S16x6144, .f32⟩ : BufTy).Contents (Elt Ideal))⟩, ⟨Cert.ModRefIdeal.S1x6144, ((broadcastInDim Cert.ModRefIdeal.S1x6144 ![1] Cert.ModRefIdeal.Gen.bcast_S6144_S1x6144_1 (addf (Host.dotGeneral Cert.ModRefIdeal.dot_S1024_S1024x6144_S6144_0_0_n_1_n_n none (mulf X (Host.divf (broadcastInDim Cert.ModRefIdeal.S1024 ![] Cert.ModRefIdeal.Gen.bcast_S_S1024 (constant Cert.ModRefIdeal.S_ .f32 0x3F800000#32)) (addf (broadcastInDim Cert.ModRefIdeal.S1024 ![] Cert.ModRefIdeal.Gen.bcast_S_S1024 (constant Cert.ModRefIdeal.S_ .f32 0x3F800000#32)) (Host.exp (Host.negf X))))) (shapeCast _ Wl Cert.ModRefIdeal.Gen.shapeCasts_S1x1024x6144_S1024x6144)) (shapeCast _ Bl Cert.ModRefIdeal.Gen.shapeCasts_S1x6144_S6144))) : (⟨Cert.ModRefIdeal.S1x6144, .f32⟩ : BufTy).Contents (Elt Ideal))⟩, ⟨Cert.ModRefIdeal.S7x6144, ((broadcastInDim Cert.ModRefIdeal.S7x6144 ![1] Cert.ModRefIdeal.Gen.bcast_S6144_S7x6144_1 (shapeCast _ Bl Cert.ModRefIdeal.Gen.shapeCasts_S1x6144_S6144)) : (⟨Cert.ModRefIdeal.S7x6144, .f32⟩ : BufTy).Contents (Elt Ideal))⟩] Cert.ModRefIdeal.Gen.concatenates_S16x6144_S1x6144_S7x6144_S24x6144_d0 : (⟨Cert.ModRefIdeal.S24x6144, .f32⟩ : BufTy).Contents (Elt Ideal)))

/-- The four layers' rows, as the reference stacks them. -/
def REF (C : FVec Ideal S16x1024 .f32) (X : FVec Ideal S1024 .f32) (W : FVec Ideal S4x1024x6144 .f32) (B : FVec Ideal S4x6144 .f32) : FVec Ideal S4x24x6144 .f32 :=
  concatenate Cert.ModRefIdeal.S4x24x6144 0 [⟨Cert.ModRefIdeal.S1x24x6144, broadcastInDim Cert.ModRefIdeal.S1x24x6144 ![1, 2] Cert.ModRefIdeal.Gen.bcast_S24x6144_S1x24x6144_1_2 (LAY C X (extractStridedSlice Cert.ModRefIdeal.S1x1024x6144 ![0, 0, 0] W Cert.ModRefIdeal.Gen.slices_S4x1024x6144_S1x1024x6144_0_0_0) (extractStridedSlice Cert.ModRefIdeal.S1x6144 ![0, 0] B Cert.ModRefIdeal.Gen.slices_S4x6144_S1x6144_0_0))⟩, ⟨Cert.ModRefIdeal.S1x24x6144, broadcastInDim Cert.ModRefIdeal.S1x24x6144 ![1, 2] Cert.ModRefIdeal.Gen.bcast_S24x6144_S1x24x6144_1_2 (LAY C X (extractStridedSlice Cert.ModRefIdeal.S1x1024x6144 ![1, 0, 0] W Cert.ModRefIdeal.Gen.slices_S4x1024x6144_S1x1024x6144_1_0_0) (extractStridedSlice Cert.ModRefIdeal.S1x6144 ![1, 0] B Cert.ModRefIdeal.Gen.slices_S4x6144_S1x6144_1_0))⟩, ⟨Cert.ModRefIdeal.S1x24x6144, broadcastInDim Cert.ModRefIdeal.S1x24x6144 ![1, 2] Cert.ModRefIdeal.Gen.bcast_S24x6144_S1x24x6144_1_2 (LAY C X (extractStridedSlice Cert.ModRefIdeal.S1x1024x6144 ![2, 0, 0] W Cert.ModRefIdeal.Gen.slices_S4x1024x6144_S1x1024x6144_2_0_0) (extractStridedSlice Cert.ModRefIdeal.S1x6144 ![2, 0] B Cert.ModRefIdeal.Gen.slices_S4x6144_S1x6144_2_0))⟩, ⟨Cert.ModRefIdeal.S1x24x6144, broadcastInDim Cert.ModRefIdeal.S1x24x6144 ![1, 2] Cert.ModRefIdeal.Gen.bcast_S24x6144_S1x24x6144_1_2 (LAY C X (extractStridedSlice Cert.ModRefIdeal.S1x1024x6144 ![3, 0, 0] W Cert.ModRefIdeal.Gen.slices_S4x1024x6144_S1x1024x6144_3_0_0) (extractStridedSlice Cert.ModRefIdeal.S1x6144 ![3, 0] B Cert.ModRefIdeal.Gen.slices_S4x6144_S1x6144_3_0))⟩] Cert.ModRefIdeal.Gen.concatenates_S1x24x6144_S1x24x6144_S1x24x6144_S1x24x6144_S4x24x6144_d0

/-- The reference's run ends with that term. -/
theorem res0 (m' : (ℓ : Loc Cert.ModRefIdeal.nD Cert.ModRefIdeal.τ Cert.ModRefIdeal.sig) → Buf (Elt Ideal) ℓ) (c : Dev Cert.ModRefIdeal.nD) :
    Cert.ModRefIdeal.Value.res_main_v88 m' c = REF (m' ((c : Thread Cert.ModRefIdeal.nD Cert.ModRefIdeal.τ).loc Cert.ModRefIdeal.main_arg0))
      (m' ((c : Thread Cert.ModRefIdeal.nD Cert.ModRefIdeal.τ).loc Cert.ModRefIdeal.main_arg1))
      (m' ((c : Thread Cert.ModRefIdeal.nD Cert.ModRefIdeal.τ).loc Cert.ModRefIdeal.main_arg2))
      (m' ((c : Thread Cert.ModRefIdeal.nD Cert.ModRefIdeal.τ).loc Cert.ModRefIdeal.main_arg3)) := rfl

/-- A row's activation. -/
def act (x : EReal) : EReal := x * Ideal.logistic x

/-- A zero row contributes nothing. -/
theorem act_zero : act 0 = 0 := zero_mul _

/-- One layer's rows, entry by entry: the activated row times the layer's weights, and the bias. -/
theorem LAY_at (C : FVec Ideal S16x1024 .f32) (X : FVec Ideal S1024 .f32) (Wl : FVec Ideal Cert.ModRefIdeal.S1x1024x6144 .f32) (Bl : FVec Ideal Cert.ModRefIdeal.S1x6144 .f32)
    (r : Fin 24) (n : Fin 6144) :
    LAY C X Wl Bl (ix2 r n) = (∑ k : Fin 1024, act (row C X r k) * Wl (ix3 0 k n)) + Bl (ix2 0 n) := by
  unfold LAY
  by_cases hr : r.val < 16
  · have e : ∀ k, row C X r k = C (ix2 ⟨r.val, hr⟩ k) := fun k => dif_pos hr
    simp only [e, act]
    pointwise [hr]
    rfl
  · by_cases h16 : r.val = 16
    · have e : ∀ k, row C X r k = X (ix1 k) := fun k => (dif_neg hr).trans (if_pos h16)
      simp only [e, act]
      pointwise [hr, h16]
      rfl
    · have e : ∀ k, row C X r k = 0 := fun k => (dif_neg hr).trans (if_neg h16)
      simp only [e, act_zero]
      pointwise
      rw [dif_neg hr, dif_neg (by omega), Finset.sum_eq_zero fun k _ => zero_mul _, zero_add]

/-- The reference's result, entry by entry. -/
theorem REF_at (C : FVec Ideal S16x1024 .f32) (X : FVec Ideal S1024 .f32) (W : FVec Ideal S4x1024x6144 .f32) (B : FVec Ideal S4x6144 .f32)
    (l : Fin 4) (r : Fin 24) (n : Fin 6144) :
    REF C X W B (ix3 l r n) = (∑ k : Fin 1024, act (row C X r k) * W (ix3 l k n)) + B (ix2 l n) := by
  obtain rfl | rfl | rfl | rfl : l = 0 ∨ l = 1 ∨ l = 2 ∨ l = 3 := by omega
  all_goals
    unfold REF
    pointwise
    rw [LAY_at]
    pointwise

/-- Where every window's block lies at each grid point: four blocks of columns per layer. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] ∧ t.val / 4 < 4 :=
  (by decide +kernel : ∀ t : Fin grid0.N, _)

/-- Every point reads the whole of the rows. -/
theorem rows_blk (t : Fin cfg0.N) (r : Fin 24) (k : Fin 1024) : iblk m c 0 t (ix2 r k)
    = row (m ((c : Thread nD τ).loc main_arg0)) (m ((c : Thread nD τ).loc main_arg1)) r k := by
  have h : iblk m c 0 t (ix2 r k) = V m c main_v5 (ix2 r k) := by
    blk_ext [iblk, idx t]
  exact h.trans (V_rows m c r k)

/-- The result array after the run is the reference's term of the argument arrays. -/
theorem final : (dats m 0 c).arrAt 3 cfg0.N
    = REF (m ((c : Thread nD τ).loc main_arg0)) (m ((c : Thread nD τ).loc main_arg1))
        (m ((c : Thread nD τ).loc main_arg2)) (m ((c : Thread nD τ).loc main_arg3)) := by
  refine (dats m 0 c).arrAt_eq_of_covers 3 _ (by decide +kernel) fun t hf y => ?_
  blk_simp
  rw [after0_3]
  frame_out
  have hl := (idx t).2.2.2.2
  have h2 : (y 2).val < 1536 := (y 2).isLt
  have e : ((View.whole main_v7).slice (win0_3.rect t)).emb y
      = (ix3 ⟨t.val / 4, hl⟩ (y 1) ⟨t.val % 4 * 1536 + (y 2).val, by omega⟩ : S4x24x6144.Idx) := by
    blk_ext [idx t]
  rw [e]
  refine Eq.trans ?_ (REF_at _ _ _ _ _ _ _).symm
  simp only [act]
  pointwise [k0_pay1]
  blk_point [iblk, V, idx t]
  · exact congrArg Ideal.logistic (rows_blk m c t (y 1) _)
  · exact congrArg (· * _) (rows_blk m c t (y 1) _)

end Cert.ModIdeal.Equal

end
-- ==== Proof.PrepPiece.lean ====
module

public import proofs.«01_k».proof.Proof.Gen.PrepIdeal.Value
public import Idealize.ShloMosaic.Lib.Pipeline.ValueKit
public import Idealize.ShloMosaic.Lib.Pipeline.ReadBack
public import Idealize.ShloMosaic.Lib.Pointwise

/-! The recurrence's preparation: what one stored piece of 256 tokens holds, entry by entry. -/

@[expose] public section

set_option maxRecDepth 16384

noncomputable section

open Idealize.ShloMosaic Idealize.ShloMosaic.TcCoe Idealize.SL.Sem
open Idealize.ShloMosaic.Pipeline (Dat)

namespace Cert.PrepIdeal.Equal

open Cert.PrepIdeal Cert.PrepIdeal.Gen

/-! ## The entries in closed form -/

/-- The convolution's neighbour at tap `k`: the row two before row `r` plus `k` if it is of the same segment, else zero. -/
def nb (U : Fin 4352 → EReal) (r : Fin 4352) (k : ℕ) : EReal :=
  if h : 2 ≤ r.val + k ∧ r.val + k < 4354 ∧ (r.val < 4096 ↔ r.val + k < 4098) then U ⟨r.val + k - 2, by omega⟩ else 0

/-- A neighbour of the same segment. -/
theorem nb_pos (U : Fin 4352 → EReal) (r : Fin 4352) (k : ℕ) (q : Fin 4352) (h : (r.val < 4096 ↔ q.val < 4096)) (e : q.val + 2 = r.val + k) : nb U r k = U q :=
  (dif_pos (by omega)).trans (congrArg U (Fin.ext (by show r.val + k - 2 = q.val; omega)))

/-- No neighbour of the same segment. -/
theorem nb_neg (U : Fin 4352 → EReal) (r : Fin 4352) (k : ℕ) (h : ¬(2 ≤ r.val + k ∧ r.val + k < 4354 ∧ (r.val < 4096 ↔ r.val + k < 4098))) : nb U r k = 0 :=
  dif_neg h

/-- The convolution over the five taps. -/
def conv (U : Fin 4352 → EReal) (w : Fin 5 → EReal) (r : Fin 4352) : EReal :=
  nb U r 0 * w 0 + nb U r 1 * w 1 + nb U r 2 * w 2 + nb U r 3 * w 3 + nb U r 4 * w 4

/-- The activation. -/
def act (x : EReal) : EReal := x * Ideal.logistic x

/-- The activated convolution at a sample, a row and a lane. -/
def Yat (Q : FVec Ideal S16x4352x1536 .bf16) (W : FVec Ideal S5x1536 .f32) (b : Fin 16) (r : Fin 4352) (n : Fin 1536) : EReal :=
  act (conv (fun q => Q (ix3 b q n)) (fun k => W (ix2 k n)) r)

/-- A head's lane. -/
def col (j : Fin 12) (l : Fin 128) : Fin 1536 := ⟨128 * j.val + l.val, by omega⟩

/-- A row over its norm. -/
def nrm (Y : Fin 128 → EReal) (l : Fin 128) : EReal :=
  Y l * Ideal.rsqrt (∑ x, Y x * Y x + Ideal.ofBits FTy.f32 897988541#32)

/-- A row rotated by the tables' angles. -/
def rot (Y C S : Fin 128 → EReal) (l : Fin 128) : EReal :=
  Y l * C l + (if h : l.val % 64 < 32 then Y ⟨l.val + 32, by omega⟩ else Y ⟨l.val - 32, by omega⟩) * S l

/-- The table of the cosines: ones over the context. -/
def tabC (C : FVec Ideal S4096x2x32 .f32) (r : Fin 4352) (l : Fin 128) : EReal :=
  if h : r.val < 4096 then C (ix3 ⟨r.val, h⟩ ⟨l.val / 64, by omega⟩ ⟨l.val % 32, by omega⟩) else 1

/-- The table of the signed sines: zeros over the context. -/
def tabS (S : FVec Ideal S4096x2x32 .f32) (r : Fin 4352) (l : Fin 128) : EReal :=
  if h : r.val < 4096 then
    if l.val % 64 < 32 then -S (ix3 ⟨r.val, h⟩ ⟨l.val / 64, by omega⟩ ⟨l.val % 32, by omega⟩)
    else S (ix3 ⟨r.val, h⟩ ⟨l.val / 64, by omega⟩ ⟨l.val % 32, by omega⟩)
  else 0

/-- The scale: the queries' heads have one. -/
def scl (j : Fin 12) : EReal := if j.val < 4 then Ideal.ofBits FTy.f32 1035273459#32 else 1

/-- The result at a sample, a row, a head and a lane. -/
def outE (Q : FVec Ideal S16x4352x1536 .bf16) (W : FVec Ideal S5x1536 .f32) (C S : FVec Ideal S4096x2x32 .f32)
    (b : Fin 16) (r : Fin 4352) (j : Fin 12) (l : Fin 128) : EReal :=
  if j.val < 8 then rot (nrm fun x => Yat Q W b r (col j x)) (tabC C r) (tabS S r) l * scl j else Yat Q W b r (col j l)

/-- The result. -/
def OUT (Q : FVec Ideal S16x4352x1536 .bf16) (W : FVec Ideal S5x1536 .f32) (C S : FVec Ideal S4096x2x32 .f32) : FVec Ideal S16x4352x1536 .f32 :=
  fun y => outE Q W C S (y 0) (y 1) ⟨(y 2).val / 128, by have : (y 2).val < 1536 := (y 2).isLt; omega⟩ ⟨(y 2).val % 128, Nat.mod_lt _ (by norm_num)⟩

/-! ## The piece's terms -/

/-- A piece's rows with sixteen on either side, those of the other segment set to zero. -/
def ext (s : BitVec 32) (a : Vec Ideal S1x16x128 .bf16) (b : Vec Ideal S1x256x128 .bf16) (d : Vec Ideal S1x16x128 .bf16) : FVec Ideal S288x128 .f32 :=
  select (andi (cmpi .sge (addi (broadcast S288x128 (Scalar.subi s 16#32)) (iota .tc S288x128 32 [0] iota_S288x128_d0_w32))
        (broadcast S288x128 (Scalar.select (Scalar.cmpi .slt s 4096#32) 0#32 4096#32)))
      (cmpi .slt (addi (broadcast S288x128 (Scalar.subi s 16#32)) (iota .tc S288x128 32 [0] iota_S288x128_d0_w32))
        (broadcast S288x128 (Scalar.select (Scalar.cmpi .slt s 4096#32) 4096#32 4352#32))))
    (concatenate S288x128 0 [⟨S16x128, extf .f32 (shapeCast S16x128 a shapeCasts_S1x16x128_S16x128) bitsLt_bf16_f32⟩,
      ⟨S256x128, extf .f32 (shapeCast S256x128 b shapeCasts_S1x256x128_S256x128) bitsLt_bf16_f32⟩,
      ⟨S16x128, extf .f32 (shapeCast S16x128 d shapeCasts_S1x16x128_S16x128) bitsLt_bf16_f32⟩] concatenates_S16x128_S256x128_S16x128_S288x128_d0)
    (broadcast S288x128 (Scalar.ofBits .f32 0x00000000#32))

/-- The convolution of such rows. -/
def taps (w : Vec Ideal S5x128 .f32) (e : FVec Ideal S288x128 .f32) : FVec Ideal S256x128 .f32 :=
  addf (addf (addf (addf (addf (broadcast S256x128 (Scalar.ofBits .f32 0x00000000#32))
    (mulf (extractStridedSlice S256x128 ![14, 0] e slices_S288x128_o14_0_S256x128) (broadcastTo S256x128 (extractStridedSlice S1x128 ![0, 0] w slices_S5x128_o0_0_S1x128) broadcasts_S1x128_S256x128)))
    (mulf (extractStridedSlice S256x128 ![15, 0] e slices_S288x128_o15_0_S256x128) (broadcastTo S256x128 (extractStridedSlice S1x128 ![1, 0] w slices_S5x128_o1_0_S1x128) broadcasts_S1x128_S256x128)))
    (mulf (extractStridedSlice S256x128 ![16, 0] e slices_S288x128_o16_0_S256x128) (broadcastTo S256x128 (extractStridedSlice S1x128 ![2, 0] w slices_S5x128_o2_0_S1x128) broadcasts_S1x128_S256x128)))
    (mulf (extractStridedSlice S256x128 ![17, 0] e slices_S288x128_o17_0_S256x128) (broadcastTo S256x128 (extractStridedSlice S1x128 ![3, 0] w slices_S5x128_o3_0_S1x128) broadcasts_S1x128_S256x128)))
    (mulf (extractStridedSlice S256x128 ![18, 0] e slices_S288x128_o18_0_S256x128) (broadcastTo S256x128 (extractStridedSlice S1x128 ![4, 0] w slices_S5x128_o4_0_S1x128) broadcasts_S1x128_S256x128))

/-- … and its activation. -/
def silu (w : Vec Ideal S5x128 .f32) (e : FVec Ideal S288x128 .f32) : FVec Ideal S256x128 .f32 :=
  mulf (taps w e) (logistic (taps w e))

/-- The activated rows over their norms. -/
def normed (y : FVec Ideal S256x128 .f32) : FVec Ideal S256x128 .f32 :=
  mulf y (broadcastTo S256x128 (rsqrt (addf (shapeCast S256x1 (multiReduction .add [1] S256 (mulf y y) 0x00000000#32 reduces_S256x128_S256 (.inl rfl) rfl) shapeCasts_S256_S256x1)
    (broadcast S256x1 (Scalar.ofBits .f32 0x358637BD#32)))) broadcasts_S256x1_S256x128)

/-- The normed rows rotated by the tables' angles and scaled. -/
def rotated (z : Ideal .f32) (y : FVec Ideal S256x128 .f32) (co si : Vec Ideal S256x128 .f32) : FVec Ideal S256x128 .f32 :=
  mulf (addf (mulf y (shapeCast S256x128 co shapeCasts_S256x128_S256x128))
    (mulf (select (cmpi .eq (andi (iota .tc S256x128 32 [1] iota_S256x128_d1_w32) (broadcast S256x128 32#32)) (broadcast S256x128 0#32))
      (dynamicRotate 1 96#32 none y rotates_S256x128_d1) (dynamicRotate 1 32#32 none y rotates_S256x128_d1))
      (shapeCast S256x128 si shapeCasts_S256x128_S256x128))) (broadcast S256x128 z)

/-! ## Their entries -/

/-- Which of the rows are of the piece's segment. -/
theorem mask : ∀ (c : Fin 17) (p : Fin 288),
    IntOp.andi (IntOp.cmpi CmpIPredicate.sge (IntOp.addi (Scalar.subi (BitVec.ofNat 32 (256 * c.val)) 16#32) (BitVec.ofNat 32 p.val))
          (Scalar.select (Scalar.cmpi CmpIPredicate.slt (BitVec.ofNat 32 (256 * c.val)) 4096#32) 0#32 4096#32))
        (IntOp.cmpi CmpIPredicate.slt (IntOp.addi (Scalar.subi (BitVec.ofNat 32 (256 * c.val)) 16#32) (BitVec.ofNat 32 p.val))
          (Scalar.select (Scalar.cmpi CmpIPredicate.slt (BitVec.ofNat 32 (256 * c.val)) 4096#32) 4096#32 4352#32))
      = if 16 ≤ 256 * c.val + p.val ∧ 256 * c.val + p.val < 4368 ∧ (c.val < 16 ↔ 256 * c.val + p.val < 4112) then 1#1 else 0#1 := by
  decide +kernel

/-- Which of the lanes are of a pair's first half. -/
theorem half : ∀ l : Fin 128, IntOp.cmpi CmpIPredicate.eq (IntOp.andi (BitVec.ofNat 32 l.val) 32#32) 0#32 = if l.val % 64 < 32 then 1#1 else 0#1 := by
  decide +kernel

section
variable (c : Fin 17) (U : Fin 4352 → EReal) (w : Vec Ideal S5x128 .f32) (a : Vec Ideal S1x16x128 .bf16) (b : Vec Ideal S1x256x128 .bf16) (d : Vec Ideal S1x16x128 .bf16) (l : Fin 128)
  (ha : ∀ (i : Fin 16) (q : Fin 4352), q.val + 16 = 256 * c.val + i.val → a (ix3 0 i l) = U q)
  (hb : ∀ (i : Fin 256) (q : Fin 4352), q.val = 256 * c.val + i.val → b (ix3 0 i l) = U q)
  (hd : ∀ (i : Fin 16) (q : Fin 4352), q.val = 256 * c.val + 256 + i.val → d (ix3 0 i l) = U q)
include ha hb hd

/-- The rows, entry by entry: row `14 + k + i` is the neighbour of row `i` at tap `k`. -/
theorem ext_at (i : Fin 256) (r : Fin 4352) (hr : r.val = 256 * c.val + i.val) (k : ℕ) (p : Fin 288) (hk : k < 5) (hp : p.val = 14 + k + i.val) :
    ext (BitVec.ofNat 32 (256 * c.val)) a b d (ix2 p l) = nb U r k := by
  unfold ext
  pointwise
  rw [mask]
  by_cases hm : 16 ≤ 256 * c.val + p.val ∧ 256 * c.val + p.val < 4368 ∧ (c.val < 16 ↔ 256 * c.val + p.val < 4112)
  · rw [if_pos hm]
    refine Eq.trans (if_pos rfl) ?_
    by_cases h1 : p.val < 16
    · rw [dif_pos h1, ha ⟨p.val, h1⟩ ⟨256 * c.val + p.val - 16, by omega⟩ (by dsimp only; omega)]
      exact (nb_pos U _ k _ (by dsimp only; omega) (by dsimp only; omega)).symm
    rw [dif_neg h1]
    by_cases h2 : p.val - 16 < 256
    · rw [dif_pos h2, hb ⟨p.val - 16, h2⟩ ⟨256 * c.val + (p.val - 16), by omega⟩ rfl]
      exact (nb_pos U _ k _ (by dsimp only; omega) (by dsimp only; omega)).symm
    · rw [dif_neg h2, hd ⟨p.val - 16 - 256, by omega⟩ ⟨256 * c.val + p.val - 16, by omega⟩ (by dsimp only; omega)]
      exact (nb_pos U _ k _ (by dsimp only; omega) (by dsimp only; omega)).symm
  · rw [if_neg hm]
    exact Eq.trans (if_neg (show ¬(0#1 : BitVec 1) = 1#1 by decide)) (nb_neg U _ k (by omega)).symm

/-- The activated convolution, entry by entry. -/
theorem silu_at (i : Fin 256) (r : Fin 4352) (hr : r.val = 256 * c.val + i.val) : silu w (ext (BitVec.ofNat 32 (256 * c.val)) a b d) (ix2 i l)
    = act (conv U (fun k => w (ix2 k l)) r) := by
  have e := ext_at c U a b d l ha hb hd i r hr
  unfold silu taps
  pointwise
  rw [e 0 _ (by omega) rfl, e 1 _ (by omega) rfl, e 2 _ (by omega) rfl, e 3 _ (by omega) rfl, e 4 _ (by omega) rfl]
  rfl
end

/-- The normed rows, entry by entry. -/
theorem normed_at (y : FVec Ideal S256x128 .f32) (i : Fin 256) (l : Fin 128) :
    normed y (ix2 i l) = nrm (fun x => y (ix2 i x)) l := by
  unfold normed nrm
  pointwise

/-- The rotated rows, entry by entry. -/
theorem rotated_at (z : Ideal .f32) (y : FVec Ideal S256x128 .f32) (co si : Vec Ideal S256x128 .f32) (i : Fin 256) (l : Fin 128) :
    rotated z y co si (ix2 i l) = rot (fun x => y (ix2 i x)) (fun x => co (ix2 i x)) (fun x => si (ix2 i x)) l * z := by
  unfold rotated rot
  pointwise
  rw [half]
  by_cases h : l.val % 64 < 32
  · rw [if_pos h, dif_pos h]
    refine congrArg (fun q => (_ + q * _) * z) (Eq.trans (if_pos rfl) (congrArg (fun q => y (ix2 i q)) (Fin.ext ?_)))
    show (l.val + 128 - 96) % 128 = l.val + 32
    omega
  · rw [if_neg h, dif_neg h]
    refine congrArg (fun q => (_ + q * _) * z) (Eq.trans (if_neg (show ¬(0#1 : BitVec 1) = 1#1 by decide)) (congrArg (fun q => y (ix2 i q)) (Fin.ext ?_)))
    show (l.val + 128 - 32) % 128 = l.val - 32
    omega

/-- A piece of the values. -/
def vPiece (s : BitVec 32) (w : Vec Ideal S5x128 .f32) (a : Vec Ideal S1x16x128 .bf16) (b : Vec Ideal S1x256x128 .bf16) (d : Vec Ideal S1x16x128 .bf16) : FVec Ideal S1x256x128 .f32 :=
  shapeCast S1x256x128 (silu w (ext s a b d)) shapeCasts_S256x128_S1x256x128

/-- A piece of the queries or the keys. -/
def qkPiece (z : Ideal .f32) (s : BitVec 32) (w : Vec Ideal S5x128 .f32) (a : Vec Ideal S1x16x128 .bf16) (b : Vec Ideal S1x256x128 .bf16) (d : Vec Ideal S1x16x128 .bf16)
    (co si : Vec Ideal S256x128 .f32) : FVec Ideal S1x256x128 .f32 :=
  shapeCast S1x256x128 (rotated z (normed (silu w (ext s a b d))) co si) shapeCasts_S256x128_S1x256x128

end Cert.PrepIdeal.Equal

end
-- ==== Proof.PrepValue.lean ====
module

public import proofs.«01_k».proof.Proof.PrepPiece
public import Idealize.ShloMosaic.Lib.Pipeline.ValueKit
public import Idealize.ShloMosaic.Lib.Pipeline.ReadBack

/-! The recurrence's preparation call: its result array is the closed form of its arguments. -/

@[expose] public section

set_option maxRecDepth 16384

noncomputable section

open Idealize.ShloMosaic Idealize.ShloMosaic.TcCoe Idealize.SL.Sem
open Idealize.ShloMosaic.Pipeline (Dat)

namespace Cert.PrepIdeal.Equal

open Cert.PrepIdeal Cert.PrepIdeal.Gen

variable (m : (ℓ : Loc nD τ sig) → Buf (Elt Ideal) ℓ) (c : Dev nD)

/-- Where every window's block lies at each grid point: a head's lanes of a sample. -/
theorem idx : ∀ t : Fin cfg0.N, win0_0.index t = ![t.val / 12, 0, t.val % 12] ∧ win0_1.index t = ![0, t.val % 12]
    ∧ win0_2.index t = ![0, 0] ∧ win0_3.index t = ![0, 0] ∧ win0_4.index t = ![t.val / 12, 0, t.val % 12] ∧ t.val / 12 < 16
    ∧ (grid0.coords t 1).val = t.val % 12 :=
  (by decide +kernel : ∀ t : Fin grid0.N, _)

/-- The point's sample. -/
def smp (t : Fin cfg0.N) : Fin 16 := ⟨t.val / 12, (idx t).2.2.2.2.2.1⟩

/-- The point's head. -/
def hed (t : Fin cfg0.N) : Fin 12 := ⟨t.val % 12, Nat.mod_lt _ (by norm_num)⟩

/-- The host's table of the cosines. -/
theorem V_cos (r : Fin 4352) (l : Fin 128) : (V m c main_v17 (ix2 r l) : EReal) = tabC (m ((c : Thread nD τ).loc main_arg2)) r l := by
  simp only [V, hostOps0]
  after_results_simp
  pointwise
  after_results_simp
  pointwise
  unfold tabC
  refine dite_congr rfl (fun hr => ?_) fun _ => rfl
  split_ifs <;> exact congrArg₂ (fun (g : Fin 2) (f : Fin 32) => (m ((c : Thread nD τ).loc main_arg2) (ix3 (⟨r.val, hr⟩ : Fin 4096) g f) : EReal)) (Fin.ext (by simp; omega)) (Fin.ext (by dsimp only; omega))

/-- The host's table of the signed sines. -/
theorem V_sin (r : Fin 4352) (l : Fin 128) : (V m c main_v19 (ix2 r l) : EReal) = tabS (m ((c : Thread nD τ).loc main_arg3)) r l := by
  simp only [V, hostOps0]
  after_results_simp
  pointwise
  after_results_simp
  pointwise
  unfold tabS
  refine dite_congr rfl (fun hr => ?_) fun _ => rfl
  split_ifs <;> first
    | omega
    | (refine Eq.trans ?_ (if_pos (by omega)).symm
       refine congrArg (Neg.neg : EReal → EReal) ?_
       exact congrArg₂ (fun (g : Fin 2) (f : Fin 32) => (m ((c : Thread nD τ).loc main_arg3) (ix3 (⟨r.val, hr⟩ : Fin 4096) g f) : EReal)) (Fin.ext (by simp; omega)) (Fin.ext (by dsimp only; omega)))
    | (refine Eq.trans ?_ (if_neg (by omega)).symm
       exact congrArg₂ (fun (g : Fin 2) (f : Fin 32) => (m ((c : Thread nD τ).loc main_arg3) (ix3 (⟨r.val, hr⟩ : Fin 4096) g f) : EReal)) (Fin.ext (by simp; omega)) (Fin.ext (by dsimp only; omega)))

/-- The scale at a point. -/
theorem scale_at : ∀ t : Fin cfg0.N, Scalar.cmpi .slt (BitVec.ofNat 32 (grid0.coords t 1).val) 4#32 = if t.val % 12 < 4 then 1#1 else 0#1 :=
  (by decide +kernel : ∀ t : Fin grid0.N, _)

/-- The scale of the point's head. -/
theorem scale_head (t : Fin cfg0.N) : (k0_pay1 (grid0.coords t) : Ideal .f32) = scl (hed t) := by
  unfold k0_pay1 scl hed
  dsimp only
  rw [scale_at]
  split_ifs
  · rfl
  · exact Ideal.ofBits_one_f32

/-- Rows of the point's block are rows of the point's sample, at the lanes of its head. -/
theorem rows_ld (t : Fin cfg0.N) (o n : ℕ) (inb) (i : Fin n) (l : Fin 128) (q : Fin 4352) (h : q.val = o + i.val) :
    View.ld (iblk m c 0 t) (Rect.unit (s := S1x4352x128) ![0, o, 0] ![1, n, 128] inb) (ix3 (0 : Fin 1) i l)
      = (m ((c : Thread nD τ).loc main_arg0)) (ix3 (smp t) q (col (hed t) l)) := by
  have e : q = ⟨o + i.val, by omega⟩ := Fin.ext h
  rw [e]
  pointwise
  blk_ext [iblk, V, idx t, smp, hed, col]

/-- The point's block of taps. -/
theorem taps_blk (t : Fin cfg0.N) (k : Fin 5) (l : Fin 128) :
    iblk m c 1 t (ix2 k l) = (m ((c : Thread nD τ).loc main_arg1)) (ix2 k (col (hed t) l)) := by
  blk_ext [iblk, V, idx t, hed, col]

/-- The rows of the two tables. -/
theorem tabs_ld (t : Fin cfg0.N) (o : ℕ) (inb) (inb') (i : Fin 256) (l : Fin 128) (q : Fin 4352) (h : q.val = o + i.val) :
    View.ld (iblk m c 2 t) (Rect.unit (s := S4352x128) ![o, 0] ![256, 128] inb) (ix2 i l) = tabC (m ((c : Thread nD τ).loc main_arg2)) q l
    ∧ View.ld (iblk m c 3 t) (Rect.unit (s := S4352x128) ![o, 0] ![256, 128] inb') (ix2 i l) = tabS (m ((c : Thread nD τ).loc main_arg3)) q l := by
  have e : q = ⟨o + i.val, by omega⟩ := Fin.ext h
  rw [← V_cos, ← V_sin, e]
  constructor
  · pointwise
    blk_ext [iblk, idx t]
  · pointwise
    blk_ext [iblk, idx t]

section
variable (t : Fin cfg0.N) (k : Fin 17) (oa ob od : ℕ) (inba) (inbb) (inbd)
  (hoa : k.val = 0 ∨ oa + 16 = 256 * k.val) (hob : ob = 256 * k.val) (hod : k.val = 16 ∨ od = 256 * k.val + 256)
include hoa hob hod

/-- The activated convolution of a piece's rows. -/
theorem silu_ld (i : Fin 256) (l : Fin 128) (r : Fin 4352) (hr : r.val = 256 * k.val + i.val) :
    silu (iblk m c 1 t) (ext (BitVec.ofNat 32 (256 * k.val)) (View.ld (iblk m c 0 t) (Rect.unit (s := S1x4352x128) ![0, oa, 0] ![1, 16, 128] inba))
      (View.ld (iblk m c 0 t) (Rect.unit (s := S1x4352x128) ![0, ob, 0] ![1, 256, 128] inbb))
      (View.ld (iblk m c 0 t) (Rect.unit (s := S1x4352x128) ![0, od, 0] ![1, 16, 128] inbd))) (ix2 i l)
    = Yat (m ((c : Thread nD τ).loc main_arg0)) (m ((c : Thread nD τ).loc main_arg1)) (smp t) r (col (hed t) l) := by
  refine (silu_at k (fun q => (m ((c : Thread nD τ).loc main_arg0)) (ix3 (smp t) q (col (hed t) l))) _ _ _ _ l
    (fun i q h => rows_ld m c t oa 16 inba i l q (by omega)) (fun i q h => rows_ld m c t ob 256 inbb i l q (by omega))
    (fun i q h => rows_ld m c t od 16 inbd i l q (by omega)) i r hr).trans ?_
  simp only [taps_blk]
  rfl

/-- A piece of the values. -/
theorem v_at (hj : ¬t.val % 12 ≤ 7) (x : S1x256x128.Idx) (r : Fin 4352) (hr : r.val = 256 * k.val + (x 1).val) :
    vPiece (BitVec.ofNat 32 (256 * k.val)) (iblk m c 1 t) (View.ld (iblk m c 0 t) (Rect.unit (s := S1x4352x128) ![0, oa, 0] ![1, 16, 128] inba))
      (View.ld (iblk m c 0 t) (Rect.unit (s := S1x4352x128) ![0, ob, 0] ![1, 256, 128] inbb))
      (View.ld (iblk m c 0 t) (Rect.unit (s := S1x4352x128) ![0, od, 0] ![1, 16, 128] inbd)) x
    = outE (m ((c : Thread nD τ).loc main_arg0)) (m ((c : Thread nD τ).loc main_arg1)) (m ((c : Thread nD τ).loc main_arg2)) (m ((c : Thread nD τ).loc main_arg3)) (smp t) r (hed t) (x 2) := by
  unfold vPiece outE
  rw [if_neg (show ¬(hed t).val < 8 by unfold hed; dsimp only; omega)]
  refine Eq.trans ?_ (silu_ld m c t k oa ob od inba inbb inbd hoa hob hod (x 1) (x 2) r hr)
  generalize silu _ _ = y
  pointwise

/-- A piece of the queries or the keys. -/
theorem qk_at (hj : t.val % 12 ≤ 7) (inbc) (inbs) (x : S1x256x128.Idx) (r : Fin 4352) (hr : r.val = 256 * k.val + (x 1).val) :
    qkPiece (k0_pay1 (grid0.coords t)) (BitVec.ofNat 32 (256 * k.val)) (iblk m c 1 t) (View.ld (iblk m c 0 t) (Rect.unit (s := S1x4352x128) ![0, oa, 0] ![1, 16, 128] inba))
      (View.ld (iblk m c 0 t) (Rect.unit (s := S1x4352x128) ![0, ob, 0] ![1, 256, 128] inbb))
      (View.ld (iblk m c 0 t) (Rect.unit (s := S1x4352x128) ![0, od, 0] ![1, 16, 128] inbd))
      (View.ld (iblk m c 2 t) (Rect.unit (s := S4352x128) ![ob, 0] ![256, 128] inbc)) (View.ld (iblk m c 3 t) (Rect.unit (s := S4352x128) ![ob, 0] ![256, 128] inbs)) x
    = outE (m ((c : Thread nD τ).loc main_arg0)) (m ((c : Thread nD τ).loc main_arg1)) (m ((c : Thread nD τ).loc main_arg2)) (m ((c : Thread nD τ).loc main_arg3)) (smp t) r (hed t) (x 2) := by
  have hx : (x 1).val < 256 := (x 1).isLt
  unfold qkPiece outE
  rw [if_pos (show (hed t).val < 8 by unfold hed; dsimp only; omega), scale_head]
  have e := fun l => silu_ld m c t k oa ob od inba inbb inbd hoa hob hod (x 1) l r hr
  have eC := fun l => (tabs_ld m c t ob inbc inbs (x 1) l r (by omega)).1
  have eS := fun l => (tabs_ld m c t ob inbc inbs (x 1) l r (by omega)).2
  generalize silu _ _ = y at e ⊢
  generalize View.ld (iblk m c 2 t) _ = co at eC ⊢
  generalize View.ld (iblk m c 3 t) _ = si at eS ⊢
  have er : rotated (scl (hed t)) (normed y) co si (ix2 (x 1) (x 2)) = _ := rotated_at _ _ _ _ _ _
  refine Eq.trans ?_ (er.trans ?_)
  · generalize rotated _ _ _ _ = z
    pointwise
  · have e1 : (fun l => normed y (ix2 (x 1) l)) = nrm _ := funext fun l => (normed_at y (x 1) l).trans (congrArg (nrm · l) (funext e))
    exact congrArg (· * scl (hed t)) (congrFun (congr (congr (congrArg rot e1) (funext eC)) (funext eS)) (x 2))
end

/-- The closed form at the cell a point's row and lane are written to. -/
theorem cell (t : Fin cfg0.N) (r : Fin 4352) (l : Fin 128) (y : S16x4352x1536.Idx) (h : y = ix3 (smp t) r (col (hed t) l)) :
    outE (m ((c : Thread nD τ).loc main_arg0)) (m ((c : Thread nD τ).loc main_arg1)) (m ((c : Thread nD τ).loc main_arg2)) (m ((c : Thread nD τ).loc main_arg3)) (smp t) r (hed t) l = OUT (m ((c : Thread nD τ).loc main_arg0)) (m ((c : Thread nD τ).loc main_arg1)) (m ((c : Thread nD τ).loc main_arg2)) (m ((c : Thread nD τ).loc main_arg3)) y := by
  subst h
  have e1 : (⟨(col (hed t) l).val / 128, by have := (col (hed t) l).isLt; omega⟩ : Fin 12) = hed t := Fin.ext (by unfold col; dsimp only; omega)
  have e2 : (⟨(col (hed t) l).val % 128, Nat.mod_lt _ (by norm_num)⟩ : Fin 128) = l := Fin.ext (by unfold col; dsimp only; omega)
  exact (congrArg₂ (fun j l => outE (m ((c : Thread nD τ).loc main_arg0)) (m ((c : Thread nD τ).loc main_arg1)) (m ((c : Thread nD τ).loc main_arg2)) (m ((c : Thread nD τ).loc main_arg3)) (smp t) r j l) e1 e2).symm

end Cert.PrepIdeal.Equal

end
-- ==== Proof.PrepA.lean ====
module

public import proofs.«01_k».proof.Proof.PrepValue
public import Idealize.ShloMosaic.Lib.Pipeline.ValueKit
public import Idealize.ShloMosaic.Lib.Pipeline.ReadBack

/-! What a point of the recurrence's preparation leaves in its block. -/

@[expose] public section

set_option maxRecDepth 16384

noncomputable section

open Idealize.ShloMosaic Idealize.ShloMosaic.TcCoe Idealize.SL.Sem
open Idealize.ShloMosaic.Pipeline (Dat)

namespace Cert.PrepIdeal.Equal

open Cert.PrepIdeal Cert.PrepIdeal.Gen

variable (m : (ℓ : Loc nD τ sig) → Buf (Elt Ideal) ℓ) (c : Dev nD)

/-- A piece of the queries or the keys at a cell of the block. -/
theorem qk_cell (t : Fin cfg0.N) (g : t.val % 12 ≤ 7) (x : S1x256x128.Idx) (y : S1x4352x128.Idx) (e2 : (y 2).val = (x 2).val) (k : Fin 17) (oa ob od : ℕ)
    (e1 : (y 1).val = ob + (x 1).val)
    (inba : ∀ a, (![0, oa, 0] : Fin 3 → ℕ) a + (![1, 16, 128] : Fin 3 → ℕ) a ≤ S1x4352x128.size a := by decide)
    (inbb : ∀ a, (![0, ob, 0] : Fin 3 → ℕ) a + (![1, 256, 128] : Fin 3 → ℕ) a ≤ S1x4352x128.size a := by decide)
    (inbd : ∀ a, (![0, od, 0] : Fin 3 → ℕ) a + (![1, 16, 128] : Fin 3 → ℕ) a ≤ S1x4352x128.size a := by decide)
    (inbc : ∀ a, (![ob, 0] : Fin 2 → ℕ) a + (![256, 128] : Fin 2 → ℕ) a ≤ S4352x128.size a := by decide)
    (hoa : k.val = 0 ∨ oa + 16 = 256 * k.val := by decide) (hob : ob = 256 * k.val := by decide) (hod : k.val = 16 ∨ od = 256 * k.val + 256 := by decide) :
    (qkPiece (k0_pay1 (grid0.coords t)) (BitVec.ofNat 32 (256 * k.val)) (iblk m c 1 t) (View.ld (iblk m c 0 t) (Rect.unit (s := S1x4352x128) ![0, oa, 0] ![1, 16, 128] inba)) (View.ld (iblk m c 0 t) (Rect.unit (s := S1x4352x128) ![0, ob, 0] ![1, 256, 128] inbb)) (View.ld (iblk m c 0 t) (Rect.unit (s := S1x4352x128) ![0, od, 0] ![1, 16, 128] inbd))
      (View.ld (iblk m c 2 t) (Rect.unit (s := S4352x128) ![ob, 0] ![256, 128] inbc)) (View.ld (iblk m c 3 t) (Rect.unit (s := S4352x128) ![ob, 0] ![256, 128] inbc)) x : EReal)
      = outE (m ((c : Thread nD τ).loc main_arg0)) (m ((c : Thread nD τ).loc main_arg1)) (m ((c : Thread nD τ).loc main_arg2)) (m ((c : Thread nD τ).loc main_arg3)) (smp t) (y 1) (hed t) (y 2) :=
  (qk_at m c t k oa ob od inba inbb inbd hoa hob hod g inbc inbc x (y 1) (hob ▸ e1)).trans (congrArg (outE _ _ _ _ (smp t) (y 1) (hed t)) (Fin.ext e2.symm))

set_option maxHeartbeats 4000000 in
/-- What a point leaves whose head is a query's or a key's. -/
theorem left_qk (t : Fin cfg0.N) (g : t.val % 12 ≤ 7) (y : S1x4352x128.Idx) :
    (outsAt0 m c t.val t.isLt y : EReal) = outE (m ((c : Thread nD τ).loc main_arg0)) (m ((c : Thread nD τ).loc main_arg1)) (m ((c : Thread nD τ).loc main_arg2)) (m ((c : Thread nD τ).loc main_arg3)) (smp t) (y 1) (hed t) (y 2) := by
  rw [outsAt0_A m c t g (by omega)]
  unfold out0_A_4
  frame_out
  canon_tiles x hx using View.cover_of_tiledL (s := S1x4352x128) _ ![1, 256, 128] (by sl_kernel_rfl) y
  · exact qk_cell m c t g x y hx2 16 4080 4096 4336 hx1
  · exact qk_cell m c t g x y hx2 15 3824 3840 4096 hx1
  · exact qk_cell m c t g x y hx2 14 3568 3584 3840 hx1
  · exact qk_cell m c t g x y hx2 13 3312 3328 3584 hx1
  · exact qk_cell m c t g x y hx2 12 3056 3072 3328 hx1
  · exact qk_cell m c t g x y hx2 11 2800 2816 3072 hx1
  · exact qk_cell m c t g x y hx2 10 2544 2560 2816 hx1
  · exact qk_cell m c t g x y hx2 9 2288 2304 2560 hx1
  · exact qk_cell m c t g x y hx2 8 2032 2048 2304 hx1
  · exact qk_cell m c t g x y hx2 7 1776 1792 2048 hx1
  · exact qk_cell m c t g x y hx2 6 1520 1536 1792 hx1
  · exact qk_cell m c t g x y hx2 5 1264 1280 1536 hx1
  · exact qk_cell m c t g x y hx2 4 1008 1024 1280 hx1
  · exact qk_cell m c t g x y hx2 3 752 768 1024 hx1
  · exact qk_cell m c t g x y hx2 2 496 512 768 hx1
  · exact qk_cell m c t g x y hx2 1 240 256 512 hx1
  · exact qk_cell m c t g x y hx2 0 0 0 256 (hx1.trans (Nat.zero_add _).symm)

end Cert.PrepIdeal.Equal

end
-- ==== Proof.PrepB.lean ====
module

public import proofs.«01_k».proof.Proof.PrepValue
public import Idealize.ShloMosaic.Lib.Pipeline.ValueKit
public import Idealize.ShloMosaic.Lib.Pipeline.ReadBack

/-! What a point of the recurrence's preparation leaves in its block. -/

@[expose] public section

set_option maxRecDepth 16384

noncomputable section

open Idealize.ShloMosaic Idealize.ShloMosaic.TcCoe Idealize.SL.Sem
open Idealize.ShloMosaic.Pipeline (Dat)

namespace Cert.PrepIdeal.Equal

open Cert.PrepIdeal Cert.PrepIdeal.Gen

variable (m : (ℓ : Loc nD τ sig) → Buf (Elt Ideal) ℓ) (c : Dev nD)

/-- A piece of the values at a cell of the block. -/
theorem v_cell (t : Fin cfg0.N) (g : ¬t.val % 12 ≤ 7) (x : S1x256x128.Idx) (y : S1x4352x128.Idx) (e2 : (y 2).val = (x 2).val) (k : Fin 17) (oa ob od : ℕ)
    (e1 : (y 1).val = ob + (x 1).val)
    (inba : ∀ a, (![0, oa, 0] : Fin 3 → ℕ) a + (![1, 16, 128] : Fin 3 → ℕ) a ≤ S1x4352x128.size a := by decide)
    (inbb : ∀ a, (![0, ob, 0] : Fin 3 → ℕ) a + (![1, 256, 128] : Fin 3 → ℕ) a ≤ S1x4352x128.size a := by decide)
    (inbd : ∀ a, (![0, od, 0] : Fin 3 → ℕ) a + (![1, 16, 128] : Fin 3 → ℕ) a ≤ S1x4352x128.size a := by decide)
    (hoa : k.val = 0 ∨ oa + 16 = 256 * k.val := by decide) (hob : ob = 256 * k.val := by decide) (hod : k.val = 16 ∨ od = 256 * k.val + 256 := by decide) :
    (vPiece (BitVec.ofNat 32 (256 * k.val)) (iblk m c 1 t) (View.ld (iblk m c 0 t) (Rect.unit (s := S1x4352x128) ![0, oa, 0] ![1, 16, 128] inba)) (View.ld (iblk m c 0 t) (Rect.unit (s := S1x4352x128) ![0, ob, 0] ![1, 256, 128] inbb)) (View.ld (iblk m c 0 t) (Rect.unit (s := S1x4352x128) ![0, od, 0] ![1, 16, 128] inbd)) x : EReal)
      = outE (m ((c : Thread nD τ).loc main_arg0)) (m ((c : Thread nD τ).loc main_arg1)) (m ((c : Thread nD τ).loc main_arg2)) (m ((c : Thread nD τ).loc main_arg3)) (smp t) (y 1) (hed t) (y 2) :=
  (v_at m c t k oa ob od inba inbb inbd hoa hob hod g x (y 1) (hob ▸ e1)).trans (congrArg (outE _ _ _ _ (smp t) (y 1) (hed t)) (Fin.ext e2.symm))

set_option maxHeartbeats 4000000 in
/-- What a point leaves whose head is a value's. -/
theorem left_v (t : Fin cfg0.N) (g : ¬t.val % 12 ≤ 7) (y : S1x4352x128.Idx) :
    (outsAt0 m c t.val t.isLt y : EReal) = outE (m ((c : Thread nD τ).loc main_arg0)) (m ((c : Thread nD τ).loc main_arg1)) (m ((c : Thread nD τ).loc main_arg2)) (m ((c : Thread nD τ).loc main_arg3)) (smp t) (y 1) (hed t) (y 2) := by
  rw [outsAt0_B m c t g (by omega)]
  unfold out0_B_4
  frame_out
  canon_tiles x hx using View.cover_of_tiledL (s := S1x4352x128) _ ![1, 256, 128] (by sl_kernel_rfl) y
  · exact v_cell m c t g x y hx2 16 4080 4096 4336 hx1
  · exact v_cell m c t g x y hx2 15 3824 3840 4096 hx1
  · exact v_cell m c t g x y hx2 14 3568 3584 3840 hx1
  · exact v_cell m c t g x y hx2 13 3312 3328 3584 hx1
  · exact v_cell m c t g x y hx2 12 3056 3072 3328 hx1
  · exact v_cell m c t g x y hx2 11 2800 2816 3072 hx1
  · exact v_cell m c t g x y hx2 10 2544 2560 2816 hx1
  · exact v_cell m c t g x y hx2 9 2288 2304 2560 hx1
  · exact v_cell m c t g x y hx2 8 2032 2048 2304 hx1
  · exact v_cell m c t g x y hx2 7 1776 1792 2048 hx1
  · exact v_cell m c t g x y hx2 6 1520 1536 1792 hx1
  · exact v_cell m c t g x y hx2 5 1264 1280 1536 hx1
  · exact v_cell m c t g x y hx2 4 1008 1024 1280 hx1
  · exact v_cell m c t g x y hx2 3 752 768 1024 hx1
  · exact v_cell m c t g x y hx2 2 496 512 768 hx1
  · exact v_cell m c t g x y hx2 1 240 256 512 hx1
  · exact v_cell m c t g x y hx2 0 0 0 256 (hx1.trans (Nat.zero_add _).symm)

end Cert.PrepIdeal.Equal

end
-- ==== Proof.PrepFinal.lean ====
module

public import proofs.«01_k».proof.Proof.PrepA
public import proofs.«01_k».proof.Proof.PrepB

/-! The recurrence's preparation call: its result array is the closed form of its arguments. -/

@[expose] public section

set_option maxRecDepth 16384

noncomputable section

open Idealize.ShloMosaic Idealize.ShloMosaic.TcCoe Idealize.SL.Sem
open Idealize.ShloMosaic.Pipeline (Dat)

namespace Cert.PrepIdeal.Equal

open Cert.PrepIdeal Cert.PrepIdeal.Gen

variable (m : (ℓ : Loc nD τ sig) → Buf (Elt Ideal) ℓ) (c : Dev nD)

/-- The result array after the run is the closed form. -/
theorem final : (dats m 0 c).arrAt 4 cfg0.N = OUT (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4]
  have e : ((View.whole main_v20).slice (win0_4.rect t)).emb y = (ix3 (smp t) (y 1) (col (hed t) (y 2)) : S16x4352x1536.Idx) := by
    blk_ext [idx t, smp, hed, col]
  refine Eq.trans ?_ (cell m c t (y 1) (y 2) _ e)
  by_cases g : t.val % 12 ≤ 7
  · exact left_qk m c t g y
  · exact left_v m c t g y

end Cert.PrepIdeal.Equal

end
-- ==== Proof.PrepConv.lean ====
module

public import proofs.«01_k».proof.Proof.PrepPiece
public import proofs.«01_k».proof.Proof.Gen.PrepRefIdeal.Run

@[expose] public section

set_option maxRecDepth 16384

noncomputable section

open Idealize.ShloMosaic Idealize.ShloMosaic.TcCoe Idealize.SL.Sem

namespace Cert.PrepRefIdeal.Equal

open Cert.PrepRefIdeal Cert.PrepRefIdeal.Gen Cert.PrepRefIdeal.Value
open Cert.PrepIdeal.Equal

variable (V0 : Valuation τ sig (Elt Ideal))

abbrev aQ : FVec Ideal S16x4352x1536 .bf16 := V0 (Proc.devRef .tc main_arg0)
abbrev aW : FVec Ideal S5x1536 .f32 := V0 (Proc.devRef .tc main_arg1)
abbrev aC : FVec Ideal S4096x2x32 .f32 := V0 (Proc.devRef .tc main_arg2)
abbrev aS : FVec Ideal S4096x2x32 .f32 := V0 (Proc.devRef .tc main_arg3)

/-- The integer zero as a number. -/
theorem zero_int : (FloatOps.sitofp (F := Ideal) FTy.f32 (0#32) : EReal) = 0 := by
  show (((0#32 : BitVec 32).toInt : ℝ) : EReal) = 0
  simp

/-- The image's padded rows are the convolution's neighbours. -/
theorem v2_at (b : Fin 16) (r : Fin 4096) (n : Fin 1536) (k : ℕ) (p : Fin 4100) (hk : k < 5) (hp : p.val = k + r.val) :
    (res_main_v2 V0 (ix3 b p n) : EReal) = nb (fun q => aQ V0 (ix3 b q n)) ⟨r.val, by omega⟩ k := by
  unfold res_main_v2 res_main_v0
  pointwise
  by_cases h : 2 ≤ p.val ∧ p.val - 2 < 4096
  · rw [dif_pos h]
    exact (nb_pos (fun q => aQ V0 (ix3 b q n)) ⟨r.val, by omega⟩ k ⟨p.val - 2, by omega⟩ (by dsimp only; omega) (by dsimp only; omega)).symm
  · rw [dif_neg h]
    exact zero_int.trans (nb_neg _ _ k (by dsimp only; omega)).symm

/-- The context's padded rows are the convolution's neighbours. -/
theorem v109_at (b : Fin 16) (r : Fin 256) (n : Fin 1536) (k : ℕ) (p : Fin 260) (hk : k < 5) (hp : p.val = k + r.val) :
    (res_main_v109 V0 (ix3 b p n) : EReal) = nb (fun q => aQ V0 (ix3 b q n)) ⟨4096 + r.val, by omega⟩ k := by
  unfold res_main_v109 res_main_v0
  pointwise
  by_cases h : 2 ≤ p.val ∧ p.val - 2 < 256
  · rw [dif_pos h]
    exact (nb_pos (fun q => aQ V0 (ix3 b q n)) ⟨4096 + r.val, by omega⟩ k ⟨4096 + (p.val - 2), by omega⟩ (by dsimp only; omega) (by dsimp only; omega)).symm
  · rw [dif_neg h]
    exact zero_int.trans (nb_neg _ _ k (by dsimp only; omega)).symm

/-- The image's activated convolution. -/
theorem v39_at (b : Fin 16) (r : Fin 4096) (n : Fin 1536) :
    (res_main_v39 V0 (ix3 b r n) : EReal) = Yat (aQ V0) (aW V0) b ⟨r.val, by omega⟩ n := by
  have e := v2_at V0 b r n
  have h : (res_main_v38 V0 (ix3 b r n) : EReal) = conv (fun q => aQ V0 (ix3 b q n)) (fun k => aW V0 (ix2 k n)) ⟨r.val, by omega⟩ := by
    unfold res_main_v38
    pointwise
    rw [e 0 _ (by omega) (Nat.zero_add _).symm, e 1 _ (by omega) rfl, e 2 _ (by omega) rfl, e 3 _ (by omega) rfl, e 4 _ (by omega) rfl]
    rfl
  unfold res_main_v39
  pointwise
  rw [h]
  rfl

/-- The context's activated convolution. -/
theorem v146_at (b : Fin 16) (r : Fin 256) (n : Fin 1536) :
    (res_main_v146 V0 (ix3 b r n) : EReal) = Yat (aQ V0) (aW V0) b ⟨4096 + r.val, by omega⟩ n := by
  have e := v109_at V0 b r n
  have h : (res_main_v145 V0 (ix3 b r n) : EReal) = conv (fun q => aQ V0 (ix3 b q n)) (fun k => aW V0 (ix2 k n)) ⟨4096 + r.val, by omega⟩ := by
    unfold res_main_v145
    pointwise
    rw [e 0 _ (by omega) (Nat.zero_add _).symm, e 1 _ (by omega) rfl, e 2 _ (by omega) rfl, e 3 _ (by omega) rfl, e 4 _ (by omega) rfl]
    rfl
  unfold res_main_v146
  pointwise
  rw [h]
  rfl

/-- A head's row of the activated convolution. -/
abbrev Yrow (b : Fin 16) (r : Fin 4352) (j : Fin 12) : Fin 128 → EReal := fun x => Yat (aQ V0) (aW V0) b r (col j x)

/-- The image's queries. -/
theorem v43_at (b : Fin 16) (r : Fin 4096) (h : Fin 4) (l : Fin 128) :
    (res_main_v43 V0 (ix4 b r h l) : EReal) = Yrow V0 b ⟨r.val, by omega⟩ ⟨h.val, by omega⟩ l := by
  unfold res_main_v43
  pointwise
  rw [v39_at]
  exact congrArg (Yat _ _ b _) (Fin.ext (by simp only [col]; omega))

/-- The image's keys. -/
theorem v52_at (b : Fin 16) (r : Fin 4096) (h : Fin 4) (l : Fin 128) :
    (res_main_v52 V0 (ix4 b r h l) : EReal) = Yrow V0 b ⟨r.val, by omega⟩ ⟨4 + h.val, by omega⟩ l := by
  unfold res_main_v52
  pointwise
  rw [v39_at]
  exact congrArg (Yat _ _ b _) (Fin.ext (by simp only [col]; omega))

/-- The context's queries. -/
theorem v150_at (b : Fin 16) (r : Fin 256) (h : Fin 4) (l : Fin 128) :
    (res_main_v150 V0 (ix4 b r h l) : EReal) = Yrow V0 b ⟨4096 + r.val, by omega⟩ ⟨h.val, by omega⟩ l := by
  unfold res_main_v150
  pointwise
  rw [v146_at]
  exact congrArg (Yat _ _ b _) (Fin.ext (by simp only [col]; omega))

/-- The context's keys. -/
theorem v159_at (b : Fin 16) (r : Fin 256) (h : Fin 4) (l : Fin 128) :
    (res_main_v159 V0 (ix4 b r h l) : EReal) = Yrow V0 b ⟨4096 + r.val, by omega⟩ ⟨4 + h.val, by omega⟩ l := by
  unfold res_main_v159
  pointwise
  rw [v146_at]
  exact congrArg (Yat _ _ b _) (Fin.ext (by simp only [col]; omega))

end Cert.PrepRefIdeal.Equal

end
-- ==== Proof.PrepRows.lean ====
module

public import proofs.«01_k».proof.Proof.PrepConv

@[expose] public section

set_option maxRecDepth 16384

noncomputable section

open Idealize.ShloMosaic Idealize.ShloMosaic.TcCoe Idealize.SL.Sem

namespace Cert.PrepRefIdeal.Equal

open Cert.PrepRefIdeal Cert.PrepRefIdeal.Gen Cert.PrepRefIdeal.Value
open Cert.PrepIdeal.Equal

variable (V0 : Valuation τ sig (Elt Ideal))

/-- The heads' lanes by the rotary's coordinates. -/
theorem to6 (X : FVec Ideal S16x4096x4x128 .f32) (b : Fin 16) (r : Fin 4096) (h : Fin 4) (g e : Fin 2) (f : Fin 32) :
    (shapeCast S16x4096x4x2x2x32 X shapeCasts_S16x4096x4x128_S16x4096x4x2x2x32 (ix6 b r h g e f) : EReal) = X (ix4 b r h ⟨g.val * 64 + e.val * 32 + f.val, by omega⟩) := by
  pointwise

/-- The image's rows over their norms. -/
theorem nrm_img (X : FVec Ideal S16x4096x4x128 .f32) (b : Fin 16) (r : Fin 4096) (h : Fin 4) (l : Fin 128) :
    (mulf X (broadcastInDim S16x4096x4x128 ![0, 1, 2, 3] bcast_S16x4096x4x1_S16x4096x4x128_0_1_2_3 (Host.rsqrt (addf (broadcastInDim S16x4096x4x1 ![0, 1, 2] bcast_S16x4096x4_S16x4096x4x1_0_1_2 (Host.reduceAdd (mulf X X) (constant S_ .f32 0x00000000#32) reducesTo_S16x4096x4x128_S16x4096x4_d3 h_S_)) (broadcastInDim S16x4096x4x1 ![] bcast_S_S16x4096x4x1 (constant S_ .f32 0x358637BD#32))))) (ix4 b r h l) : EReal)
      = nrm (fun x => X (ix4 b r h x)) l := by
  pointwise
  rfl

/-- The context's rows over their norms. -/
theorem nrm_ctx (X : FVec Ideal S16x256x4x128 .f32) (b : Fin 16) (r : Fin 256) (h : Fin 4) (l : Fin 128) :
    (mulf X (broadcastInDim S16x256x4x128 ![0, 1, 2, 3] bcast_S16x256x4x1_S16x256x4x128_0_1_2_3 (Host.rsqrt (addf (broadcastInDim S16x256x4x1 ![0, 1, 2] bcast_S16x256x4_S16x256x4x1_0_1_2 (Host.reduceAdd (mulf X X) (constant S_ .f32 0x00000000#32) reducesTo_S16x256x4x128_S16x256x4_d3 h_S_)) (broadcastInDim S16x256x4x1 ![] bcast_S_S16x256x4x1 (constant S_ .f32 0x358637BD#32))))) (ix4 b r h l) : EReal)
      = nrm (fun x => X (ix4 b r h x)) l := by
  pointwise
  rfl

/-- The image's normed queries, by the rotary's coordinates. -/
theorem v63_at (b : Fin 16) (r : Fin 4096) (h : Fin 4) (g e : Fin 2) (f : Fin 32) :
    (res_main_v63 V0 (ix6 b r h g e f) : EReal) = nrm (Yrow V0 b ⟨r.val, by omega⟩ ⟨h.val, by omega⟩) ⟨g.val * 64 + e.val * 32 + f.val, by omega⟩ :=
  (to6 _ b r h g e f).trans ((nrm_img _ b r h _).trans (congrArg (nrm · _) (funext fun x => v43_at V0 b r h x)))

/-- The image's normed keys, by the rotary's coordinates. -/
theorem v84_at (b : Fin 16) (r : Fin 4096) (h : Fin 4) (g e : Fin 2) (f : Fin 32) :
    (res_main_v84 V0 (ix6 b r h g e f) : EReal) = nrm (Yrow V0 b ⟨r.val, by omega⟩ ⟨4 + h.val, by omega⟩) ⟨g.val * 64 + e.val * 32 + f.val, by omega⟩ :=
  (to6 _ b r h g e f).trans ((nrm_img _ b r h _).trans (congrArg (nrm · _) (funext fun x => v52_at V0 b r h x)))

/-- The queries' first halves. -/
theorem v65_at (b : Fin 16) (r : Fin 4096) (h : Fin 4) (g : Fin 2) (f : Fin 32) :
    (res_main_v65 V0 (ix5 b r h g f) : EReal) = nrm (Yrow V0 b ⟨r.val, by omega⟩ ⟨h.val, by omega⟩) ⟨g.val * 64 + f.val, by omega⟩ := by
  unfold res_main_v65
  pointwise
  exact (v63_at V0 b r h g 0 f).trans (congrArg (nrm _) (Fin.ext (by simp)))

/-- The queries' second halves. -/
theorem v67_at (b : Fin 16) (r : Fin 4096) (h : Fin 4) (g : Fin 2) (f : Fin 32) :
    (res_main_v67 V0 (ix5 b r h g f) : EReal) = nrm (Yrow V0 b ⟨r.val, by omega⟩ ⟨h.val, by omega⟩) ⟨g.val * 64 + 32 + f.val, by omega⟩ := by
  unfold res_main_v67
  pointwise
  exact (v63_at V0 b r h g 1 f).trans (congrArg (nrm _) (Fin.ext (by simp)))

/-- The keys' first halves. -/
theorem v86_at (b : Fin 16) (r : Fin 4096) (h : Fin 4) (g : Fin 2) (f : Fin 32) :
    (res_main_v86 V0 (ix5 b r h g f) : EReal) = nrm (Yrow V0 b ⟨r.val, by omega⟩ ⟨4 + h.val, by omega⟩) ⟨g.val * 64 + f.val, by omega⟩ := by
  unfold res_main_v86
  pointwise
  exact (v84_at V0 b r h g 0 f).trans (congrArg (nrm _) (Fin.ext (by simp)))

/-- The keys' second halves. -/
theorem v88_at (b : Fin 16) (r : Fin 4096) (h : Fin 4) (g : Fin 2) (f : Fin 32) :
    (res_main_v88 V0 (ix5 b r h g f) : EReal) = nrm (Yrow V0 b ⟨r.val, by omega⟩ ⟨4 + h.val, by omega⟩) ⟨g.val * 64 + 32 + f.val, by omega⟩ := by
  unfold res_main_v88
  pointwise
  exact (v84_at V0 b r h g 1 f).trans (congrArg (nrm _) (Fin.ext (by simp)))

/-- The angles' cosines and sines, spread over the heads. -/
theorem angles (r : Fin 4096) (g : Fin 2) (f : Fin 32) :
    (res_main_v61 V0 (ix5 0 r 0 g f) : EReal) = aC V0 (ix3 r g f) ∧ (res_main_v62 V0 (ix5 0 r 0 g f) : EReal) = aS V0 (ix3 r g f)
      ∧ (res_main_v82 V0 (ix5 0 r 0 g f) : EReal) = aC V0 (ix3 r g f) ∧ (res_main_v83 V0 (ix5 0 r 0 g f) : EReal) = aS V0 (ix3 r g f) := by
  unfold res_main_v61 res_main_v62 res_main_v82 res_main_v83
  pointwise

/-- The reference's rotation of an image row is the table's. -/
theorem img_rot (Y : Fin 128 → EReal) (C S : FVec Ideal S4096x2x32 .f32) (r : Fin 4352) (l : Fin 128) (q : Fin 4096) (hq : q.val = r.val) (g : Fin 2) (f : Fin 32) (m : ℕ)
    (hg : g.val = l.val / 64) (hf : f.val = l.val % 32) (hm : m = l.val / 32 % 2) :
    (if h : m < 1 then Y ⟨g.val * 64 + f.val, by omega⟩ * C (ix3 q g f) - Y ⟨g.val * 64 + 32 + f.val, by omega⟩ * S (ix3 q g f)
      else Y ⟨g.val * 64 + 32 + f.val, by omega⟩ * C (ix3 q g f) + Y ⟨g.val * 64 + f.val, by omega⟩ * S (ix3 q g f))
    = rot Y (tabC C r) (tabS S r) l := by
  have hr : r.val < 4096 := by omega
  have eq : q = ⟨r.val, hr⟩ := Fin.ext hq
  have eg : g = ⟨l.val / 64, by omega⟩ := Fin.ext hg
  have ef : f = ⟨l.val % 32, by omega⟩ := Fin.ext hf
  unfold rot tabC tabS
  rw [dif_pos hr, dif_pos hr, ← eq, ← eg, ← ef]
  by_cases h : l.val % 64 < 32
  · rw [dif_pos (by omega), dif_pos h, if_pos h, mul_neg, ← sub_eq_add_neg]
    congr 3 <;> exact Fin.ext (by dsimp only; omega)
  · rw [dif_neg (by omega), dif_neg h, if_neg h]
    congr 3 <;> exact Fin.ext (by dsimp only; omega)

/-- A row of the context is left as it is. -/
theorem ctx_rot (Y : Fin 128 → EReal) (C S : FVec Ideal S4096x2x32 .f32) (r : Fin 4352) (l : Fin 128) (hr : ¬r.val < 4096) :
    Y l = rot Y (tabC C r) (tabS S r) l := by
  unfold rot tabC tabS
  rw [dif_neg hr, dif_neg hr, mul_one, mul_zero, add_zero]

/-- The rotary's halves side by side, by the heads' lanes. -/
theorem halves (A B : FVec Ideal S16x4096x4x2x32 .f32) (b : Fin 16) (r : Fin 4096) (h : Fin 4) (l : Fin 128) :
    (shapeCast S16x4096x4x128 (concatenate S16x4096x4x2x2x32 4 [⟨S16x4096x4x2x1x32, (broadcastInDim S16x4096x4x2x1x32 ![0, 1, 2, 3, 5] bcast_S16x4096x4x2x32_S16x4096x4x2x1x32_0_1_2_3_5 A : FVec Ideal S16x4096x4x2x1x32 .f32)⟩, ⟨S16x4096x4x2x1x32, (broadcastInDim S16x4096x4x2x1x32 ![0, 1, 2, 3, 5] bcast_S16x4096x4x2x32_S16x4096x4x2x1x32_0_1_2_3_5 B : FVec Ideal S16x4096x4x2x1x32 .f32)⟩] concatenates_S16x4096x4x2x1x32_S16x4096x4x2x1x32_S16x4096x4x2x2x32_d4) shapeCasts_S16x4096x4x2x2x32_S16x4096x4x128 (ix4 b r h l) : EReal)
      = if h' : l.val / 32 % 2 < 1 then A (ix5 b r h ⟨l.val / 64, by omega⟩ ⟨l.val % 32, by omega⟩) else B (ix5 b r h ⟨l.val / 64, by omega⟩ ⟨l.val % 32, by omega⟩) := by
  pointwise

/-- The image's heads side by side. -/
theorem flat_img (X : FVec Ideal S16x4096x4x128 .f32) (b : Fin 16) (r : Fin 4096) (n : Fin 512) :
    (shapeCast S16x4096x512 X shapeCasts_S16x4096x4x128_S16x4096x512 (ix3 b r n) : EReal) = X (ix4 b r ⟨n.val / 128, by omega⟩ ⟨n.val % 128, by omega⟩) := by
  pointwise

/-- The context's heads side by side. -/
theorem flat_ctx (X : FVec Ideal S16x256x4x128 .f32) (b : Fin 16) (r : Fin 256) (n : Fin 512) :
    (shapeCast S16x256x512 X shapeCasts_S16x256x4x128_S16x256x512 (ix3 b r n) : EReal) = X (ix4 b r ⟨n.val / 128, by omega⟩ ⟨n.val % 128, by omega⟩) := by
  pointwise

/-- The image's queries, keys and values side by side, over the context's. -/
theorem parts (q k v : FVec Ideal S16x4096x512 .f32) (q' k' v' : FVec Ideal S16x256x512 .f32) (b : Fin 16) (r : Fin 4352) (n : Fin 1536) :
    ((concatenate S16x4352x1536 1 [⟨S16x4096x1536, (concatenate S16x4096x1536 2 [⟨S16x4096x512, q⟩, ⟨S16x4096x512, k⟩, ⟨S16x4096x512, v⟩] concatenates_S16x4096x512_S16x4096x512_S16x4096x512_S16x4096x1536_d2 : FVec Ideal S16x4096x1536 .f32)⟩,
      ⟨S16x256x1536, (concatenate S16x256x1536 2 [⟨S16x256x512, q'⟩, ⟨S16x256x512, k'⟩, ⟨S16x256x512, v'⟩] concatenates_S16x256x512_S16x256x512_S16x256x512_S16x256x1536_d2 : FVec Ideal S16x256x1536 .f32)⟩] concatenates_S16x4096x1536_S16x256x1536_S16x4352x1536_d1 : FVec Ideal S16x4352x1536 .f32) (ix3 b r n) : EReal)
      = if hr : r.val < 4096 then
          if h : n.val < 512 then q (ix3 b ⟨r.val, hr⟩ ⟨n.val, h⟩) else if h : n.val - 512 < 512 then k (ix3 b ⟨r.val, hr⟩ ⟨n.val - 512, h⟩) else v (ix3 b ⟨r.val, hr⟩ ⟨n.val - 512 - 512, by omega⟩)
        else if h : n.val < 512 then q' (ix3 b ⟨r.val - 4096, by omega⟩ ⟨n.val, h⟩) else if h : n.val - 512 < 512 then k' (ix3 b ⟨r.val - 4096, by omega⟩ ⟨n.val - 512, h⟩) else v' (ix3 b ⟨r.val - 4096, by omega⟩ ⟨n.val - 512 - 512, by omega⟩) := by
  pointwise

end Cert.PrepRefIdeal.Equal

end
-- ==== Proof.PrepRef.lean ====
module

public import proofs.«01_k».proof.Proof.PrepRows

@[expose] public section

set_option maxRecDepth 16384

noncomputable section

open Idealize.ShloMosaic Idealize.ShloMosaic.TcCoe Idealize.SL.Sem

namespace Cert.PrepRefIdeal.Equal

open Cert.PrepRefIdeal Cert.PrepRefIdeal.Gen Cert.PrepRefIdeal.Value
open Cert.PrepIdeal.Equal

variable (V0 : Valuation τ sig (Elt Ideal))

/-- A head of the image's rotated queries or keys, from its normed halves. -/
theorem head_rot (A B : FVec Ideal S16x4096x4x2x32 .f32) (P T : FVec Ideal S1x4096x1x2x32 .f32) (Y : Fin 128 → EReal) (C S : FVec Ideal S4096x2x32 .f32)
    (b : Fin 16) (r : Fin 4352) (q : Fin 4096) (hq : q.val = r.val) (h : Fin 4) (l : Fin 128)
    (hA : ∀ g f, (A (ix5 b q h g f) : EReal) = Y ⟨g.val * 64 + f.val, by omega⟩) (hB : ∀ g f, (B (ix5 b q h g f) : EReal) = Y ⟨g.val * 64 + 32 + f.val, by omega⟩)
    (hP : ∀ g f, (P (ix5 0 q 0 g f) : EReal) = C (ix3 q g f)) (hT : ∀ g f, (T (ix5 0 q 0 g f) : EReal) = S (ix3 q g f)) :
    (shapeCast S16x4096x4x128 (concatenate S16x4096x4x2x2x32 4 [⟨S16x4096x4x2x1x32, (broadcastInDim S16x4096x4x2x1x32 ![0, 1, 2, 3, 5] bcast_S16x4096x4x2x32_S16x4096x4x2x1x32_0_1_2_3_5 (subf (mulf A (broadcastInDim S16x4096x4x2x32 ![0, 1, 2, 3, 4] bcast_S1x4096x1x2x32_S16x4096x4x2x32_0_1_2_3_4 P)) (mulf B (broadcastInDim S16x4096x4x2x32 ![0, 1, 2, 3, 4] bcast_S1x4096x1x2x32_S16x4096x4x2x32_0_1_2_3_4 T))) : FVec Ideal S16x4096x4x2x1x32 .f32)⟩,
      ⟨S16x4096x4x2x1x32, (broadcastInDim S16x4096x4x2x1x32 ![0, 1, 2, 3, 5] bcast_S16x4096x4x2x32_S16x4096x4x2x1x32_0_1_2_3_5 (addf (mulf B (broadcastInDim S16x4096x4x2x32 ![0, 1, 2, 3, 4] bcast_S1x4096x1x2x32_S16x4096x4x2x32_0_1_2_3_4 P)) (mulf A (broadcastInDim S16x4096x4x2x32 ![0, 1, 2, 3, 4] bcast_S1x4096x1x2x32_S16x4096x4x2x32_0_1_2_3_4 T))) : FVec Ideal S16x4096x4x2x1x32 .f32)⟩] concatenates_S16x4096x4x2x1x32_S16x4096x4x2x1x32_S16x4096x4x2x2x32_d4) shapeCasts_S16x4096x4x2x2x32_S16x4096x4x128 (ix4 b q h l) : EReal)
      = rot Y (tabC C r) (tabS S r) l := by
  refine (halves _ _ b q h l).trans ?_
  pointwise
  simp only [hA, hB, hP, hT]
  exact img_rot Y C S r l q hq ⟨l.val / 64, by omega⟩ ⟨l.val % 32, by omega⟩ _ rfl rfl rfl

/-- The reference's result, entry by entry. -/
theorem res_at (b : Fin 16) (r : Fin 4352) (j : Fin 12) (l : Fin 128) :
    (res_main_v173 V0 (ix3 b r (col j l)) : EReal) = outE (aQ V0) (aW V0) (aC V0) (aS V0) b r j l := by
  generalize hn : col j l = n
  have hv : n.val = 128 * j.val + l.val := by rw [← hn]; rfl
  refine (parts _ _ _ _ _ _ b r n).trans ?_
  have same : ∀ (R : Fin 4352) (J : Fin 12) (L : Fin 128), R = r → J = j → L = l →
      nrm (fun x => Yat (aQ V0) (aW V0) b R (col J x)) L = nrm (fun x => Yat (aQ V0) (aW V0) b r (col j x)) l := by
    rintro _ _ _ rfl rfl rfl; rfl
  have turned : ∀ (J : Fin 12) (L : Fin 128), J = j → L = l →
      rot (nrm fun x => Yat (aQ V0) (aW V0) b r (col J x)) (tabC (aC V0) r) (tabS (aS V0) r) L
        = rot (nrm fun x => Yat (aQ V0) (aW V0) b r (col j x)) (tabC (aC V0) r) (tabS (aS V0) r) l := by
    rintro _ _ rfl rfl; rfl
  unfold outE scl
  by_cases hr : r.val < 4096
  · rw [dif_pos hr]
    by_cases h1 : n.val < 512
    · have hj : j.val < 4 := by omega
      have el : (⟨n.val % 128, by omega⟩ : Fin 128) = l := Fin.ext (by dsimp only; omega)
      have ej : (⟨n.val / 128, by omega⟩ : Fin 12) = j := Fin.ext (by dsimp only; omega)
      rw [dif_pos h1, if_pos (by omega), if_pos hj]
      refine (flat_img _ b ⟨r.val, hr⟩ ⟨n.val, h1⟩).trans (congrArg (· * _) ?_)
      refine (head_rot _ _ _ _ _ _ _ b r ⟨r.val, hr⟩ rfl _ _ (fun g f => v65_at V0 b _ _ g f) (fun g f => v67_at V0 b _ _ g f)
        (fun g f => (angles V0 _ g f).1) (fun g f => (angles V0 _ g f).2.1)).trans (turned _ _ ej el)
    rw [dif_neg h1]
    by_cases h2 : n.val - 512 < 512
    · have el : (⟨(n.val - 512) % 128, by omega⟩ : Fin 128) = l := Fin.ext (by dsimp only; omega)
      have ej : (⟨4 + (n.val - 512) / 128, by omega⟩ : Fin 12) = j := Fin.ext (by dsimp only; omega)
      rw [dif_pos h2, if_pos (by omega), if_neg (by omega), mul_one]
      refine (flat_img _ b ⟨r.val, hr⟩ ⟨n.val - 512, h2⟩).trans ?_
      refine (head_rot _ _ _ _ _ _ _ b r ⟨r.val, hr⟩ rfl _ _ (fun g f => v86_at V0 b _ _ g f) (fun g f => v88_at V0 b _ _ g f)
        (fun g f => (angles V0 _ g f).2.2.1) (fun g f => (angles V0 _ g f).2.2.2)).trans (turned _ _ ej el)
    · rw [dif_neg h2, if_neg (by omega), hn]
      refine Eq.trans ?_ (v39_at V0 b ⟨r.val, hr⟩ n)
      generalize res_main_v39 V0 = X
      pointwise
      exact congrArg (fun q => X (ix3 b _ q)) (Fin.ext (by dsimp only; omega))
  · rw [dif_neg hr]
    have er : (⟨4096 + (r.val - 4096), by omega⟩ : Fin 4352) = r := Fin.ext (by dsimp only; omega)
    by_cases h1 : n.val < 512
    · have hj : j.val < 4 := by omega
      have el : (⟨n.val % 128, by omega⟩ : Fin 128) = l := Fin.ext (by dsimp only; omega)
      have ej : (⟨n.val / 128, by omega⟩ : Fin 12) = j := Fin.ext (by dsimp only; omega)
      rw [dif_pos h1, if_pos (by omega), if_pos hj, ← ctx_rot _ _ _ _ _ hr]
      refine (flat_ctx _ b ⟨r.val - 4096, by omega⟩ ⟨n.val, h1⟩).trans (congrArg (· * _) ?_)
      refine (nrm_ctx _ b _ _ _).trans ?_
      exact (congrArg (nrm · _) (funext fun x => v150_at V0 b _ _ x)).trans (same _ _ _ er ej el)
    rw [dif_neg h1]
    by_cases h2 : n.val - 512 < 512
    · have el : (⟨(n.val - 512) % 128, by omega⟩ : Fin 128) = l := Fin.ext (by dsimp only; omega)
      have ej : (⟨4 + (n.val - 512) / 128, by omega⟩ : Fin 12) = j := Fin.ext (by dsimp only; omega)
      rw [dif_pos h2, if_pos (by omega), if_neg (by omega), mul_one, ← ctx_rot _ _ _ _ _ hr]
      refine (flat_ctx _ b ⟨r.val - 4096, by omega⟩ ⟨n.val - 512, h2⟩).trans ?_
      refine (nrm_ctx _ b _ _ _).trans ?_
      exact (congrArg (nrm · _) (funext fun x => v159_at V0 b _ _ x)).trans (same _ _ _ er ej el)
    · rw [dif_neg h2, if_neg (by omega), hn]
      refine Eq.trans ?_ ((v146_at V0 b ⟨r.val - 4096, by omega⟩ n).trans (congrArg (fun q => Yat (aQ V0) (aW V0) b q n) er))
      generalize res_main_v146 V0 = X
      pointwise
      have ek : (⟨1024 + (n.val - 512 - 512), by omega⟩ : Fin 1536) = n := Fin.ext (by dsimp only; omega)
      refine congrArg X ?_
      rw [ek]

/-- The reference's result. -/
theorem res0 : res_main_v173 V0 = OUT (aQ V0) (aW V0) (aC V0) (aS V0) := by
  funext y
  have hy : (y 2).val < 1536 := (y 2).isLt
  refine Eq.trans ?_ (res_at V0 (y 0) (y 1) ⟨(y 2).val / 128, by omega⟩ ⟨(y 2).val % 128, Nat.mod_lt _ (by norm_num)⟩)
  refine congrArg (res_main_v173 V0) (funext fun a => ?_)
  match a with
  | ⟨0, _⟩ => rfl
  | ⟨1, _⟩ => rfl
  | ⟨2, _⟩ => exact Fin.ext (by show (y 2).val = 128 * ((y 2).val / 128) + (y 2).val % 128; omega)

end Cert.PrepRefIdeal.Equal

end
-- ==== Proof.lean ====
module

public import proofs.«01_k».proof.Defs
public import proofs.«01_k».proof.Proof.Gen.Ffn.Frame
public import proofs.«01_k».proof.Proof.Gen.FfnIdeal.Value
public import proofs.«01_k».proof.Proof.Gen.FfnRefIdeal.Run
public import proofs.«01_k».proof.Proof.FfnValue
public import proofs.«01_k».proof.Proof.Gen.Merge.Frame
public import proofs.«01_k».proof.Proof.Gen.MergeIdeal.Value
public import proofs.«01_k».proof.Proof.Gen.MergeRefIdeal.Run
public import proofs.«01_k».proof.Proof.MergeValue
public import proofs.«01_k».proof.Proof.Gen.Proj.Frame
public import proofs.«01_k».proof.Proof.Gen.ProjIdeal.Value
public import proofs.«01_k».proof.Proof.Gen.ProjRefIdeal.Run
public import proofs.«01_k».proof.Proof.ProjValue
public import proofs.«01_k».proof.Proof.Gen.Pre_finite_inputs
public import proofs.«01_k».proof.Proof.Gen.Scan.Frame
public import proofs.«01_k».proof.Proof.Gen.ScanIdeal.Value
public import proofs.«01_k».proof.Proof.Gen.ScanRefIdeal.Run
public import proofs.«01_k».proof.Proof.ScanValue
public import proofs.«01_k».proof.Proof.ScanRefValue
public import proofs.«01_k».proof.Proof.Gen.Mod.Frame
public import proofs.«01_k».proof.Proof.Gen.ModIdeal.Value
public import proofs.«01_k».proof.Proof.Gen.ModRefIdeal.Run
public import proofs.«01_k».proof.Proof.ModValue
public import proofs.«01_k».proof.Proof.Gen.Prep.Frame
public import proofs.«01_k».proof.Proof.Gen.PrepIdeal.Value
public import proofs.«01_k».proof.Proof.Gen.PrepRefIdeal.Run
public import proofs.«01_k».proof.Proof.PrepFinal
public import proofs.«01_k».proof.Proof.PrepRef
public import Idealize.ShloMosaic.Adequacy
public import Idealize.ShloMosaic.Init
public import Idealize.ShloMosaic.Lib.Quiescent

@[expose] public section

noncomputable section

namespace Cert.Proof

open Idealize.ShloMosaic Idealize.SL.Sem

/-- The reference of `Ffn` runs and leaves its arguments alone. -/
theorem quiescent_FfnRefIdeal : quiescent_FfnRefIdeal := fun m ρ _ =>
  (θ_run Cert.FfnRefIdeal.defs _ _).mono (fun r h => ⟨fun c => (h c).2, sem_eq_zero_of_no_sems (by decide) r.2⟩)
    (Cert.FfnRefIdeal.Value.run (F := Ideal) m ρ)

/-- The expert feed-forward call and its reference end with one result. -/
theorem algebraic_FfnIdeal_FfnRefIdeal : algebraic_FfnIdeal_FfnRefIdeal := by
  intro m ρ m' ρ' _ hagree
  refine ⟨_, Cert.FfnIdeal.Value.run_blocks (F := Ideal) m ρ, ?_⟩
  refine (θ_run Cert.FfnRefIdeal.defs _ _).mono (fun _ h c => ⟨?_, (h c).2⟩) (Cert.FfnRefIdeal.Value.run (F := Ideal) m' ρ')
  rw [(h c).1]
  simp only [hagree c]
  exact (Cert.FfnIdeal.Equal.final m c).symm

/-- The reference of `Merge` runs and leaves its arguments alone. -/
theorem quiescent_MergeRefIdeal : quiescent_MergeRefIdeal := fun m ρ _ =>
  (θ_run Cert.MergeRefIdeal.defs _ _).mono (fun r h => ⟨fun c => (h c).2.2.2, sem_eq_zero_of_no_sems (by decide) r.2⟩)
    (Cert.MergeRefIdeal.Value.run (F := Ideal) m ρ)

/-- The merge call and its reference end with the same three results. -/
theorem algebraic_MergeIdeal_MergeRefIdeal : algebraic_MergeIdeal_MergeRefIdeal := by
  intro m ρ m' ρ' _ hagree
  refine ⟨_, _, _, Cert.MergeIdeal.Value.run_blocks (F := Ideal) m ρ, ?_⟩
  refine (θ_run Cert.MergeRefIdeal.defs _ _).mono (fun _ h c => ⟨?_, ?_, ?_, (h c).2.2.2⟩) (Cert.MergeRefIdeal.Value.run (F := Ideal) m' ρ')
  · rw [(h c).1, Cert.MergeIdeal.Equal.final15, Cert.MergeIdeal.Equal.res0]
    simp only [hagree c]
  · rw [(h c).2.1, Cert.MergeIdeal.Equal.final16, Cert.MergeIdeal.Equal.res1]
    simp only [hagree c]
  · rw [(h c).2.2.1, Cert.MergeIdeal.Equal.final17, Cert.MergeIdeal.Equal.res2]
    simp only [hagree c]

/-- The reference of `Proj` runs and leaves its arguments alone, also under the precondition. -/
theorem quiescent_ProjRefIdeal : quiescent_ProjRefIdeal ∧ quiescent_ProjRefIdeal_pre_finite_inputs := by
  constructor <;> exact fun m ρ _ => (θ_run Cert.ProjRefIdeal.defs _ _).mono (fun r h => ⟨fun c => (h c).2.2.2.2.2.2, sem_eq_zero_of_no_sems (by decide) r.2⟩)
    (Cert.ProjRefIdeal.Value.run (F := Ideal) m ρ)

/-- The input projection and its reference end with the same six results, wherever the modulation's rows, the norm's weights and the
queries' and keys' columns are finite. -/
theorem algebraic_ProjIdeal_ProjRefIdeal_pre_finite_inputs : algebraic_ProjIdeal_ProjRefIdeal_pre_finite_inputs := by
  intro m ρ m' ρ' hpre hagree
  refine ⟨_, _, _, _, _, _, Cert.ProjIdeal.Value.run_blocks (F := Ideal) m ρ, ?_⟩
  refine (θ_run Cert.ProjRefIdeal.defs _ _).mono (fun _ h c => ⟨?_, ?_, ?_, ?_, ?_, ?_, (h c).2.2.2.2.2.2⟩) (Cert.ProjRefIdeal.Value.run (F := Ideal) m' ρ')
  · refine (h c).1.trans ((Cert.ProjIdeal.Equal.res_RA m' c).trans ?_)
    rw [Cert.ProjIdeal.Equal.final9]
    unfold Cert.ProjIdeal.Equal.PRJ
    simp only [hagree c]
  · refine (h c).2.1.trans ((Cert.ProjIdeal.Equal.res_RZ m' c).trans ?_)
    rw [Cert.ProjIdeal.Equal.final10]
    unfold Cert.ProjIdeal.Equal.PRJ
    simp only [hagree c]
  · refine (h c).2.2.1.trans ((Cert.ProjIdeal.Equal.res_RU m' c).trans ?_)
    rw [Cert.ProjIdeal.Equal.final11]
    unfold Cert.ProjIdeal.Equal.PRJ
    simp only [hagree c]
  · refine (h c).2.2.2.1.trans ((Cert.ProjIdeal.Equal.res_RN m' c).trans ?_)
    rw [Cert.ProjIdeal.Equal.final12 m hpre]
    unfold Cert.ProjIdeal.Equal.PRJ
    simp only [hagree c]
  · refine (h c).2.2.2.2.1.trans ((Cert.ProjIdeal.Equal.res_RG m' c).trans ?_)
    rw [Cert.ProjIdeal.Equal.final13]
    unfold Cert.ProjIdeal.Equal.PRJ
    simp only [hagree c]
  · refine (h c).2.2.2.2.2.1.trans ((Cert.ProjIdeal.Equal.res_RB m' c).trans ?_)
    rw [Cert.ProjIdeal.Equal.final14]
    unfold Cert.ProjIdeal.Equal.PRJ
    simp only [hagree c]

/-- The reference of `Scan` runs and leaves its arguments alone. -/
theorem quiescent_ScanRefIdeal : quiescent_ScanRefIdeal := fun m ρ _ =>
  (θ_run Cert.ScanRefIdeal.defs _ _).mono (fun r h => ⟨fun c => (h c).2.2, sem_eq_zero_of_no_sems (by decide) r.2⟩)
    (Cert.ScanRefIdeal.Value.run (F := Ideal) m ρ)

/-- The recurrence's call and its reference end with the same two results. -/
theorem algebraic_ScanIdeal_ScanRefIdeal : algebraic_ScanIdeal_ScanRefIdeal := by
  intro m ρ m' ρ' _ hagree
  refine ⟨_, _, Cert.ScanIdeal.Value.run_blocks (F := Ideal) m ρ, ?_⟩
  refine (θ_run Cert.ScanRefIdeal.defs _ _).mono (fun _ h c => ⟨?_, ?_, (h c).2.2⟩) (Cert.ScanRefIdeal.Value.run (F := Ideal) m' ρ')
  · rw [(h c).1, Cert.ScanRefIdeal.Chain.ref_f]
    simp only [hagree c]
    exact (Cert.ScanIdeal.Equal.final_f m c).symm
  · rw [(h c).2.1, Cert.ScanRefIdeal.Chain.ref_b]
    simp only [hagree c]
    exact (Cert.ScanIdeal.Equal.final_b m c).symm

/-- The reference of `Mod` runs and leaves its arguments alone. -/
theorem quiescent_ModRefIdeal : quiescent_ModRefIdeal := fun m ρ _ =>
  (θ_run Cert.ModRefIdeal.defs _ _).mono (fun r h => ⟨fun c => (h c).2, sem_eq_zero_of_no_sems (by decide) r.2⟩)
    (Cert.ModRefIdeal.Value.run (F := Ideal) m ρ)

/-- The modulation call and its reference end with one result. -/
theorem algebraic_ModIdeal_ModRefIdeal : algebraic_ModIdeal_ModRefIdeal := by
  intro m ρ m' ρ' _ hagree
  refine ⟨_, Cert.ModIdeal.Value.run_blocks (F := Ideal) m ρ, ?_⟩
  refine (θ_run Cert.ModRefIdeal.defs _ _).mono (fun _ h c => ⟨?_, (h c).2⟩) (Cert.ModRefIdeal.Value.run (F := Ideal) m' ρ')
  rw [(h c).1, Cert.ModIdeal.Equal.final, Cert.ModIdeal.Equal.res0]
  simp only [hagree c]

/-- The reference of `Prep` runs and leaves its arguments alone. -/
theorem quiescent_PrepRefIdeal : quiescent_PrepRefIdeal := fun m ρ _ =>
  (θ_run Cert.PrepRefIdeal.defs _ _).mono (fun r h => ⟨fun c => (h c).2, sem_eq_zero_of_no_sems (by decide) r.2⟩)
    (Cert.PrepRefIdeal.Value.run (F := Ideal) m ρ)

/-- The recurrence's preparation call and its reference end with one result. -/
theorem algebraic_PrepIdeal_PrepRefIdeal : algebraic_PrepIdeal_PrepRefIdeal := by
  intro m ρ m' ρ' _ hagree
  refine ⟨_, Cert.PrepIdeal.Value.run_blocks (F := Ideal) m ρ, ?_⟩
  refine (θ_run Cert.PrepRefIdeal.defs _ _).mono (fun _ h c => ⟨?_, (h c).2⟩) (Cert.PrepRefIdeal.Value.run (F := Ideal) m' ρ')
  obtain ⟨e0, e1, e2, e3⟩ := hagree c
  rw [(h c).1, Cert.PrepIdeal.Equal.final, Cert.PrepRefIdeal.Equal.res0, ← e0, ← e1, ← e2, ← e3]

/-- Every claim of the certificate. -/
theorem claim : Cert.Claim := ⟨Cert.Ffn.Gen.facts,
  Cert.FfnIdeal.Gen.facts,
  Cert.FfnRefIdeal.Gen.facts,
  Cert.Merge.Gen.facts,
  Cert.MergeIdeal.Gen.facts,
  Cert.MergeRefIdeal.Gen.facts,
  Cert.Proj.Gen.facts,
  Cert.ProjIdeal.Gen.facts,
  Cert.ProjRefIdeal.Gen.facts,
  Cert.Scan.Gen.facts,
  Cert.ScanIdeal.Gen.facts,
  Cert.ScanRefIdeal.Gen.facts,
  Cert.Mod.Gen.facts,
  Cert.ModIdeal.Gen.facts,
  Cert.ModRefIdeal.Gen.facts,
  Cert.Prep.Gen.facts,
  Cert.PrepIdeal.Gen.facts,
  Cert.PrepRefIdeal.Gen.facts,
  Cert.Pre_finite_inputs.Gen.facts,
  fun m ρ _ => Cert.Ffn.Gen.frame m ρ,
  fun m ρ _ => Cert.FfnIdeal.Gen.frame m ρ,
  quiescent_FfnRefIdeal,
  fun m ρ _ => Cert.Merge.Gen.frame m ρ,
  fun m ρ _ => Cert.MergeIdeal.Gen.frame m ρ,
  quiescent_MergeRefIdeal,
  fun m ρ _ => Cert.Proj.Gen.frame m ρ,
  fun m ρ _ => Cert.ProjIdeal.Gen.frame m ρ,
  fun m ρ _ => Cert.ProjIdeal.Gen.frame m ρ,
  quiescent_ProjRefIdeal.1,
  quiescent_ProjRefIdeal.2,
  fun m ρ _ => Cert.Scan.Gen.frame m ρ,
  fun m ρ _ => Cert.ScanIdeal.Gen.frame m ρ,
  quiescent_ScanRefIdeal,
  fun m ρ _ => Cert.Mod.Gen.frame m ρ,
  fun m ρ _ => Cert.ModIdeal.Gen.frame m ρ,
  quiescent_ModRefIdeal,
  fun m ρ _ => Cert.Prep.Gen.frame m ρ,
  fun m ρ _ => Cert.PrepIdeal.Gen.frame m ρ,
  quiescent_PrepRefIdeal,
  (trivial : preserves_Ffn_FfnIdeal),
  algebraic_FfnIdeal_FfnRefIdeal,
  (trivial : preserves_Merge_MergeIdeal),
  algebraic_MergeIdeal_MergeRefIdeal,
  (trivial : preserves_Proj_ProjIdeal),
  algebraic_ProjIdeal_ProjRefIdeal_pre_finite_inputs,
  (trivial : preserves_Scan_ScanIdeal),
  algebraic_ScanIdeal_ScanRefIdeal,
  (trivial : preserves_Mod_ModIdeal),
  algebraic_ModIdeal_ModRefIdeal,
  (trivial : preserves_Prep_PrepIdeal),
  algebraic_PrepIdeal_PrepRefIdeal⟩

end Cert.Proof

end
